-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4, 1024]⟩ ⟨2, ![64, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S4x1024 : Shape := ⟨2, ![4, 1024]⟩
abbrev S2x16x4x512 : Shape := ⟨4, ![2, 16, 4, 512]⟩
abbrev S2x4x512 : Shape := ⟨3, ![2, 4, 512]⟩
abbrev S2x16 : Shape := ⟨2, ![2, 16]⟩
abbrev S2 : Shape := ⟨1, ![2]⟩
abbrev S1 : Shape := ⟨1, ![1]⟩
abbrev S_ : Shape := ⟨0, ![]⟩
abbrev S64x512 : Shape := ⟨2, ![64, 512]⟩
abbrev S512x2048 : Shape := ⟨2, ![512, 2048]⟩
abbrev S64x2048 : Shape := ⟨2, ![64, 2048]⟩
abbrev S2048x512 : Shape := ⟨2, ![2048, 512]⟩
abbrev S16x4x512 : Shape := ⟨3, ![16, 4, 512]⟩
abbrev S1x16x4x512 : Shape := ⟨4, ![1, 16, 4, 512]⟩
abbrev S1x1x4x512 : Shape := ⟨4, ![1, 1, 4, 512]⟩
abbrev S4x512 : Shape := ⟨2, ![4, 512]⟩
abbrev S1x1 : Shape := ⟨2, ![1, 1]⟩
abbrev S1x4x512 : Shape := ⟨3, ![1, 4, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S4x1024, .f32⟩
  | .local _ .vmem, ⟨0, _⟩ => ⟨S64x1024, .f32⟩
  | .local _ .vmem, ⟨1, _⟩ => ⟨S4x1024, .f32⟩
  | .local _ .vmem, ⟨2, _⟩ => ⟨S1024x2048, .f32⟩
  | .local _ .vmem, ⟨3, _⟩ => ⟨S2048x1024, .f32⟩
  | .local _ .vmem, ⟨4, _⟩ => ⟨S2x16x4x512, .bf16⟩
  | .local _ .vmem, ⟨5, _⟩ => ⟨S2x4x512, .bf16⟩
  | .local _ .vmem, ⟨6, _⟩ => ⟨S2x16x4x512, .bf16⟩
  | .local _ .vmem, ⟨7, _⟩ => ⟨S2x16x4x512, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1 : BitVec 32 := 0#32
  let v8 : BitVec 1 := Scalar.cmpi .ne v2 c0_i32_1
  let v9 : BitVec 32 := Scalar.extui v8
  let c0_i32_2 : BitVec 32 := 0#32
  let v10 : BitVec 1 := Scalar.cmpi .ne v9 c0_i32_2
  v10

def k0_dev1 : Nat :=
  let c0_i32_1427 : BitVec 32 := 0#32
  let c0_i32_1425 : BitVec 32 := 0#32
  let c1_i32_1426 : BitVec 32 := 1#32
  let v2136 : BitVec 32 := Scalar.muli c0_i32_1425 c1_i32_1426
  let v2137 : BitVec 32 := Scalar.addi c0_i32_1427 v2136
  v2137.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v11 : BitVec 1 := Scalar.cmpi .ne v2 c1_i32_3
  let v12 : BitVec 32 := Scalar.extui v11
  let c0_i32_4 : BitVec 32 := 0#32
  let v13 : BitVec 1 := Scalar.cmpi .ne v12 c0_i32_4
  v13

def k0_dev2 : Nat :=
  let c0_i32_1427 : BitVec 32 := 0#32
  let c1_i32_1425 : BitVec 32 := 1#32
  let c1_i32_1426 : BitVec 32 := 1#32
  let v2136 : BitVec 32 := Scalar.muli c1_i32_1425 c1_i32_1426
  let v2137 : BitVec 32 := Scalar.addi c0_i32_1427 v2136
  v2137.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v14 : BitVec 1 := Scalar.cmpi .ne v2 c2_i32
  let v15 : BitVec 32 := Scalar.extui v14
  let c0_i32_5 : BitVec 32 := 0#32
  let v16 : BitVec 1 := Scalar.cmpi .ne v15 c0_i32_5
  v16

def k0_dev3 : Nat :=
  let c0_i32_1427 : BitVec 32 := 0#32
  let c2_i32_1425 : BitVec 32 := 2#32
  let c1_i32_1426 : BitVec 32 := 1#32
  let v2136 : BitVec 32 := Scalar.muli c2_i32_1425 c1_i32_1426
  let v2137 : BitVec 32 := Scalar.addi c0_i32_1427 v2136
  v2137.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v17 : BitVec 1 := Scalar.cmpi .ne v2 c3_i32
  let v18 : BitVec 32 := Scalar.extui v17
  let c0_i32_6 : BitVec 32 := 0#32
  let v19 : BitVec 1 := Scalar.cmpi .ne v18 c0_i32_6
  v19

def k0_dev4 : Nat :=
  let c0_i32_1427 : BitVec 32 := 0#32
  let c3_i32_1425 : BitVec 32 := 3#32
  let c1_i32_1426 : BitVec 32 := 1#32
  let v2136 : BitVec 32 := Scalar.muli c3_i32_1425 c1_i32_1426
  let v2137 : BitVec 32 := Scalar.addi c0_i32_1427 v2136
  v2137.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v20 : BitVec 1 := Scalar.cmpi .ne v2 c4_i32
  let v21 : BitVec 32 := Scalar.extui v20
  let c0_i32_7 : BitVec 32 := 0#32
  let v22 : BitVec 1 := Scalar.cmpi .ne v21 c0_i32_7
  v22

def k0_dev5 : Nat :=
  let c0_i32_1427 : BitVec 32 := 0#32
  let c4_i32_1425 : BitVec 32 := 4#32
  let c1_i32_1426 : BitVec 32 := 1#32
  let v2136 : BitVec 32 := Scalar.muli c4_i32_1425 c1_i32_1426
  let v2137 : BitVec 32 := Scalar.addi c0_i32_1427 v2136
  v2137.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v23 : BitVec 1 := Scalar.cmpi .ne v2 c5_i32
  let v24 : BitVec 32 := Scalar.extui v23
  let c0_i32_8 : BitVec 32 := 0#32
  let v25 : BitVec 1 := Scalar.cmpi .ne v24 c0_i32_8
  v25

def k0_dev6 : Nat :=
  let c0_i32_1427 : BitVec 32 := 0#32
  let c5_i32_1425 : BitVec 32 := 5#32
  let c1_i32_1426 : BitVec 32 := 1#32
  let v2136 : BitVec 32 := Scalar.muli c5_i32_1425 c1_i32_1426
  let v2137 : BitVec 32 := Scalar.addi c0_i32_1427 v2136
  v2137.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v26 : BitVec 1 := Scalar.cmpi .ne v2 c6_i32
  let v27 : BitVec 32 := Scalar.extui v26
  let c0_i32_9 : BitVec 32 := 0#32
  let v28 : BitVec 1 := Scalar.cmpi .ne v27 c0_i32_9
  v28

def k0_dev7 : Nat :=
  let c0_i32_1427 : BitVec 32 := 0#32
  let c6_i32_1425 : BitVec 32 := 6#32
  let c1_i32_1426 : BitVec 32 := 1#32
  let v2136 : BitVec 32 := Scalar.muli c6_i32_1425 c1_i32_1426
  let v2137 : BitVec 32 := Scalar.addi c0_i32_1427 v2136
  v2137.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v29 : BitVec 1 := Scalar.cmpi .ne v2 c7_i32
  let v30 : BitVec 32 := Scalar.extui v29
  let c0_i32_10 : BitVec 32 := 0#32
  let v31 : BitVec 1 := Scalar.cmpi .ne v30 c0_i32_10
  v31

def k0_dev8 : Nat :=
  let c0_i32_1427 : BitVec 32 := 0#32
  let c7_i32_1425 : BitVec 32 := 7#32
  let c1_i32_1426 : BitVec 32 := 1#32
  let v2136 : BitVec 32 := Scalar.muli c7_i32_1425 c1_i32_1426
  let v2137 : BitVec 32 := Scalar.addi c0_i32_1427 v2136
  v2137.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 1 := Scalar.cmpi .ne v2 c8_i32
  let v33 : BitVec 32 := Scalar.extui v32
  let c0_i32_11 : BitVec 32 := 0#32
  let v34 : BitVec 1 := Scalar.cmpi .ne v33 c0_i32_11
  v34

def k0_dev9 : Nat :=
  let c0_i32_1427 : BitVec 32 := 0#32
  let c8_i32_1425 : BitVec 32 := 8#32
  let c1_i32_1426 : BitVec 32 := 1#32
  let v2136 : BitVec 32 := Scalar.muli c8_i32_1425 c1_i32_1426
  let v2137 : BitVec 32 := Scalar.addi c0_i32_1427 v2136
  v2137.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v35 : BitVec 1 := Scalar.cmpi .ne v2 c9_i32
  let v36 : BitVec 32 := Scalar.extui v35
  let c0_i32_12 : BitVec 32 := 0#32
  let v37 : BitVec 1 := Scalar.cmpi .ne v36 c0_i32_12
  v37

def k0_dev10 : Nat :=
  let c0_i32_1427 : BitVec 32 := 0#32
  let c9_i32_1425 : BitVec 32 := 9#32
  let c1_i32_1426 : BitVec 32 := 1#32
  let v2136 : BitVec 32 := Scalar.muli c9_i32_1425 c1_i32_1426
  let v2137 : BitVec 32 := Scalar.addi c0_i32_1427 v2136
  v2137.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v38 : BitVec 1 := Scalar.cmpi .ne v2 c10_i32
  let v39 : BitVec 32 := Scalar.extui v38
  let c0_i32_13 : BitVec 32 := 0#32
  let v40 : BitVec 1 := Scalar.cmpi .ne v39 c0_i32_13
  v40

def k0_dev11 : Nat :=
  let c0_i32_1427 : BitVec 32 := 0#32
  let c10_i32_1425 : BitVec 32 := 10#32
  let c1_i32_1426 : BitVec 32 := 1#32
  let v2136 : BitVec 32 := Scalar.muli c10_i32_1425 c1_i32_1426
  let v2137 : BitVec 32 := Scalar.addi c0_i32_1427 v2136
  v2137.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v41 : BitVec 1 := Scalar.cmpi .ne v2 c11_i32
  let v42 : BitVec 32 := Scalar.extui v41
  let c0_i32_14 : BitVec 32 := 0#32
  let v43 : BitVec 1 := Scalar.cmpi .ne v42 c0_i32_14
  v43

def k0_dev12 : Nat :=
  let c0_i32_1427 : BitVec 32 := 0#32
  let c11_i32_1425 : BitVec 32 := 11#32
  let c1_i32_1426 : BitVec 32 := 1#32
  let v2136 : BitVec 32 := Scalar.muli c11_i32_1425 c1_i32_1426
  let v2137 : BitVec 32 := Scalar.addi c0_i32_1427 v2136
  v2137.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v44 : BitVec 1 := Scalar.cmpi .ne v2 c12_i32
  let v45 : BitVec 32 := Scalar.extui v44
  let c0_i32_15 : BitVec 32 := 0#32
  let v46 : BitVec 1 := Scalar.cmpi .ne v45 c0_i32_15
  v46

def k0_dev13 : Nat :=
  let c0_i32_1427 : BitVec 32 := 0#32
  let c12_i32_1425 : BitVec 32 := 12#32
  let c1_i32_1426 : BitVec 32 := 1#32
  let v2136 : BitVec 32 := Scalar.muli c12_i32_1425 c1_i32_1426
  let v2137 : BitVec 32 := Scalar.addi c0_i32_1427 v2136
  v2137.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v47 : BitVec 1 := Scalar.cmpi .ne v2 c13_i32
  let v48 : BitVec 32 := Scalar.extui v47
  let c0_i32_16 : BitVec 32 := 0#32
  let v49 : BitVec 1 := Scalar.cmpi .ne v48 c0_i32_16
  v49

def k0_dev14 : Nat :=
  let c0_i32_1427 : BitVec 32 := 0#32
  let c13_i32_1425 : BitVec 32 := 13#32
  let c1_i32_1426 : BitVec 32 := 1#32
  let v2136 : BitVec 32 := Scalar.muli c13_i32_1425 c1_i32_1426
  let v2137 : BitVec 32 := Scalar.addi c0_i32_1427 v2136
  v2137.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v50 : BitVec 1 := Scalar.cmpi .ne v2 c14_i32
  let v51 : BitVec 32 := Scalar.extui v50
  let c0_i32_17 : BitVec 32 := 0#32
  let v52 : BitVec 1 := Scalar.cmpi .ne v51 c0_i32_17
  v52

def k0_dev15 : Nat :=
  let c0_i32_1427 : BitVec 32 := 0#32
  let c14_i32_1425 : BitVec 32 := 14#32
  let c1_i32_1426 : BitVec 32 := 1#32
  let v2136 : BitVec 32 := Scalar.muli c14_i32_1425 c1_i32_1426
  let v2137 : BitVec 32 := Scalar.addi c0_i32_1427 v2136
  v2137.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v53 : BitVec 1 := Scalar.cmpi .ne v2 c15_i32
  let v54 : BitVec 32 := Scalar.extui v53
  let c0_i32_18 : BitVec 32 := 0#32
  let v55 : BitVec 1 := Scalar.cmpi .ne v54 c0_i32_18
  v55

def k0_dev16 : Nat :=
  let c0_i32_1427 : BitVec 32 := 0#32
  let c15_i32_1425 : BitVec 32 := 15#32
  let c1_i32_1426 : BitVec 32 := 1#32
  let v2136 : BitVec 32 := Scalar.muli c15_i32_1425 c1_i32_1426
  let v2137 : BitVec 32 := Scalar.addi c0_i32_1427 v2136
  v2137.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_39 : BitVec 32 := 0#32
  let v92 : BitVec 1 := Scalar.cmpi .ne v2 c0_i32_39
  let v93 : BitVec 32 := Scalar.extui v92
  let c0_i32_40 : BitVec 32 := 0#32
  let v94 : BitVec 1 := Scalar.cmpi .ne v93 c0_i32_40
  v94

def k0_off1 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off2 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev17 : Nat :=
  let c0_i32_1432 : BitVec 32 := 0#32
  let c0_i32_1430 : BitVec 32 := 0#32
  let c1_i32_1431 : BitVec 32 := 1#32
  let v2136 : BitVec 32 := Scalar.muli c0_i32_1430 c1_i32_1431
  let v2137 : BitVec 32 := Scalar.addi c0_i32_1432 v2136
  v2137.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_43 : BitVec 32 := 1#32
  let v98 : BitVec 1 := Scalar.cmpi .ne v2 c1_i32_43
  let v99 : BitVec 32 := Scalar.extui v98
  let c0_i32_44 : BitVec 32 := 0#32
  let v100 : BitVec 1 := Scalar.cmpi .ne v99 c0_i32_44
  v100

def k0_off3 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off4 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev18 : Nat :=
  let c0_i32_1432 : BitVec 32 := 0#32
  let c1_i32_1430 : BitVec 32 := 1#32
  let c1_i32_1431 : BitVec 32 := 1#32
  let v2136 : BitVec 32 := Scalar.muli c1_i32_1430 c1_i32_1431
  let v2137 : BitVec 32 := Scalar.addi c0_i32_1432 v2136
  v2137.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_47 : BitVec 32 := 2#32
  let v104 : BitVec 1 := Scalar.cmpi .ne v2 c2_i32_47
  let v105 : BitVec 32 := Scalar.extui v104
  let c0_i32_48 : BitVec 32 := 0#32
  let v106 : BitVec 1 := Scalar.cmpi .ne v105 c0_i32_48
  v106

def k0_off5 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off6 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev19 : Nat :=
  let c0_i32_1432 : BitVec 32 := 0#32
  let c2_i32_1430 : BitVec 32 := 2#32
  let c1_i32_1431 : BitVec 32 := 1#32
  let v2136 : BitVec 32 := Scalar.muli c2_i32_1430 c1_i32_1431
  let v2137 : BitVec 32 := Scalar.addi c0_i32_1432 v2136
  v2137.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_51 : BitVec 32 := 3#32
  let v110 : BitVec 1 := Scalar.cmpi .ne v2 c3_i32_51
  let v111 : BitVec 32 := Scalar.extui v110
  let c0_i32_52 : BitVec 32 := 0#32
  let v112 : BitVec 1 := Scalar.cmpi .ne v111 c0_i32_52
  v112

def k0_off7 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off8 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev20 : Nat :=
  let c0_i32_1432 : BitVec 32 := 0#32
  let c3_i32_1430 : BitVec 32 := 3#32
  let c1_i32_1431 : BitVec 32 := 1#32
  let v2136 : BitVec 32 := Scalar.muli c3_i32_1430 c1_i32_1431
  let v2137 : BitVec 32 := Scalar.addi c0_i32_1432 v2136
  v2137.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_55 : BitVec 32 := 4#32
  let v116 : BitVec 1 := Scalar.cmpi .ne v2 c4_i32_55
  let v117 : BitVec 32 := Scalar.extui v116
  let c0_i32_56 : BitVec 32 := 0#32
  let v118 : BitVec 1 := Scalar.cmpi .ne v117 c0_i32_56
  v118

def k0_off9 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off10 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev21 : Nat :=
  let c0_i32_1432 : BitVec 32 := 0#32
  let c4_i32_1430 : BitVec 32 := 4#32
  let c1_i32_1431 : BitVec 32 := 1#32
  let v2136 : BitVec 32 := Scalar.muli c4_i32_1430 c1_i32_1431
  let v2137 : BitVec 32 := Scalar.addi c0_i32_1432 v2136
  v2137.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_59 : BitVec 32 := 5#32
  let v122 : BitVec 1 := Scalar.cmpi .ne v2 c5_i32_59
  let v123 : BitVec 32 := Scalar.extui v122
  let c0_i32_60 : BitVec 32 := 0#32
  let v124 : BitVec 1 := Scalar.cmpi .ne v123 c0_i32_60
  v124

def k0_off11 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off12 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev22 : Nat :=
  let c0_i32_1432 : BitVec 32 := 0#32
  let c5_i32_1430 : BitVec 32 := 5#32
  let c1_i32_1431 : BitVec 32 := 1#32
  let v2136 : BitVec 32 := Scalar.muli c5_i32_1430 c1_i32_1431
  let v2137 : BitVec 32 := Scalar.addi c0_i32_1432 v2136
  v2137.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_63 : BitVec 32 := 6#32
  let v128 : BitVec 1 := Scalar.cmpi .ne v2 c6_i32_63
  let v129 : BitVec 32 := Scalar.extui v128
  let c0_i32_64 : BitVec 32 := 0#32
  let v130 : BitVec 1 := Scalar.cmpi .ne v129 c0_i32_64
  v130

def k0_off13 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off14 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev23 : Nat :=
  let c0_i32_1432 : BitVec 32 := 0#32
  let c6_i32_1430 : BitVec 32 := 6#32
  let c1_i32_1431 : BitVec 32 := 1#32
  let v2136 : BitVec 32 := Scalar.muli c6_i32_1430 c1_i32_1431
  let v2137 : BitVec 32 := Scalar.addi c0_i32_1432 v2136
  v2137.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_67 : BitVec 32 := 7#32
  let v134 : BitVec 1 := Scalar.cmpi .ne v2 c7_i32_67
  let v135 : BitVec 32 := Scalar.extui v134
  let c0_i32_68 : BitVec 32 := 0#32
  let v136 : BitVec 1 := Scalar.cmpi .ne v135 c0_i32_68
  v136

def k0_off15 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off16 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev24 : Nat :=
  let c0_i32_1432 : BitVec 32 := 0#32
  let c7_i32_1430 : BitVec 32 := 7#32
  let c1_i32_1431 : BitVec 32 := 1#32
  let v2136 : BitVec 32 := Scalar.muli c7_i32_1430 c1_i32_1431
  let v2137 : BitVec 32 := Scalar.addi c0_i32_1432 v2136
  v2137.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_71 : BitVec 32 := 8#32
  let v140 : BitVec 1 := Scalar.cmpi .ne v2 c8_i32_71
  let v141 : BitVec 32 := Scalar.extui v140
  let c0_i32_72 : BitVec 32 := 0#32
  let v142 : BitVec 1 := Scalar.cmpi .ne v141 c0_i32_72
  v142

def k0_off17 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off18 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev25 : Nat :=
  let c0_i32_1432 : BitVec 32 := 0#32
  let c8_i32_1430 : BitVec 32 := 8#32
  let c1_i32_1431 : BitVec 32 := 1#32
  let v2136 : BitVec 32 := Scalar.muli c8_i32_1430 c1_i32_1431
  let v2137 : BitVec 32 := Scalar.addi c0_i32_1432 v2136
  v2137.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_75 : BitVec 32 := 9#32
  let v146 : BitVec 1 := Scalar.cmpi .ne v2 c9_i32_75
  let v147 : BitVec 32 := Scalar.extui v146
  let c0_i32_76 : BitVec 32 := 0#32
  let v148 : BitVec 1 := Scalar.cmpi .ne v147 c0_i32_76
  v148

def k0_off19 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off20 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev26 : Nat :=
  let c0_i32_1432 : BitVec 32 := 0#32
  let c9_i32_1430 : BitVec 32 := 9#32
  let c1_i32_1431 : BitVec 32 := 1#32
  let v2136 : BitVec 32 := Scalar.muli c9_i32_1430 c1_i32_1431
  let v2137 : BitVec 32 := Scalar.addi c0_i32_1432 v2136
  v2137.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_79 : BitVec 32 := 10#32
  let v152 : BitVec 1 := Scalar.cmpi .ne v2 c10_i32_79
  let v153 : BitVec 32 := Scalar.extui v152
  let c0_i32_80 : BitVec 32 := 0#32
  let v154 : BitVec 1 := Scalar.cmpi .ne v153 c0_i32_80
  v154

def k0_off21 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off22 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev27 : Nat :=
  let c0_i32_1432 : BitVec 32 := 0#32
  let c10_i32_1430 : BitVec 32 := 10#32
  let c1_i32_1431 : BitVec 32 := 1#32
  let v2136 : BitVec 32 := Scalar.muli c10_i32_1430 c1_i32_1431
  let v2137 : BitVec 32 := Scalar.addi c0_i32_1432 v2136
  v2137.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_83 : BitVec 32 := 11#32
  let v158 : BitVec 1 := Scalar.cmpi .ne v2 c11_i32_83
  let v159 : BitVec 32 := Scalar.extui v158
  let c0_i32_84 : BitVec 32 := 0#32
  let v160 : BitVec 1 := Scalar.cmpi .ne v159 c0_i32_84
  v160

def k0_off23 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off24 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev28 : Nat :=
  let c0_i32_1432 : BitVec 32 := 0#32
  let c11_i32_1430 : BitVec 32 := 11#32
  let c1_i32_1431 : BitVec 32 := 1#32
  let v2136 : BitVec 32 := Scalar.muli c11_i32_1430 c1_i32_1431
  let v2137 : BitVec 32 := Scalar.addi c0_i32_1432 v2136
  v2137.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_87 : BitVec 32 := 12#32
  let v164 : BitVec 1 := Scalar.cmpi .ne v2 c12_i32_87
  let v165 : BitVec 32 := Scalar.extui v164
  let c0_i32_88 : BitVec 32 := 0#32
  let v166 : BitVec 1 := Scalar.cmpi .ne v165 c0_i32_88
  v166

def k0_off25 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off26 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev29 : Nat :=
  let c0_i32_1432 : BitVec 32 := 0#32
  let c12_i32_1430 : BitVec 32 := 12#32
  let c1_i32_1431 : BitVec 32 := 1#32
  let v2136 : BitVec 32 := Scalar.muli c12_i32_1430 c1_i32_1431
  let v2137 : BitVec 32 := Scalar.addi c0_i32_1432 v2136
  v2137.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_91 : BitVec 32 := 13#32
  let v170 : BitVec 1 := Scalar.cmpi .ne v2 c13_i32_91
  let v171 : BitVec 32 := Scalar.extui v170
  let c0_i32_92 : BitVec 32 := 0#32
  let v172 : BitVec 1 := Scalar.cmpi .ne v171 c0_i32_92
  v172

def k0_off27 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off28 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev30 : Nat :=
  let c0_i32_1432 : BitVec 32 := 0#32
  let c13_i32_1430 : BitVec 32 := 13#32
  let c1_i32_1431 : BitVec 32 := 1#32
  let v2136 : BitVec 32 := Scalar.muli c13_i32_1430 c1_i32_1431
  let v2137 : BitVec 32 := Scalar.addi c0_i32_1432 v2136
  v2137.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_95 : BitVec 32 := 14#32
  let v176 : BitVec 1 := Scalar.cmpi .ne v2 c14_i32_95
  let v177 : BitVec 32 := Scalar.extui v176
  let c0_i32_96 : BitVec 32 := 0#32
  let v178 : BitVec 1 := Scalar.cmpi .ne v177 c0_i32_96
  v178

def k0_off29 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off30 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev31 : Nat :=
  let c0_i32_1432 : BitVec 32 := 0#32
  let c14_i32_1430 : BitVec 32 := 14#32
  let c1_i32_1431 : BitVec 32 := 1#32
  let v2136 : BitVec 32 := Scalar.muli c14_i32_1430 c1_i32_1431
  let v2137 : BitVec 32 := Scalar.addi c0_i32_1432 v2136
  v2137.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_99 : BitVec 32 := 15#32
  let v182 : BitVec 1 := Scalar.cmpi .ne v2 c15_i32_99
  let v183 : BitVec 32 := Scalar.extui v182
  let c0_i32_100 : BitVec 32 := 0#32
  let v184 : BitVec 1 := Scalar.cmpi .ne v183 c0_i32_100
  v184

def k0_off31 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off32 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev32 : Nat :=
  let c0_i32_1432 : BitVec 32 := 0#32
  let c15_i32_1430 : BitVec 32 := 15#32
  let c1_i32_1431 : BitVec 32 := 1#32
  let v2136 : BitVec 32 := Scalar.muli c15_i32_1430 c1_i32_1431
  let v2137 : BitVec 32 := Scalar.addi c0_i32_1432 v2136
  v2137.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_107 : BitVec 32 := 0#32
  let v195 : BitVec 1 := Scalar.cmpi .ne v2 c0_i32_107
  let v196 : BitVec 32 := Scalar.extui v195
  let c0_i32_108 : BitVec 32 := 0#32
  let v197 : BitVec 1 := Scalar.cmpi .ne v196 c0_i32_108
  v197

def k0_off33 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off34 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev33 : Nat :=
  let c0_i32_1432 : BitVec 32 := 0#32
  let c0_i32_1430 : BitVec 32 := 0#32
  let c1_i32_1431 : BitVec 32 := 1#32
  let v2136 : BitVec 32 := Scalar.muli c0_i32_1430 c1_i32_1431
  let v2137 : BitVec 32 := Scalar.addi c0_i32_1432 v2136
  v2137.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_111 : BitVec 32 := 1#32
  let v201 : BitVec 1 := Scalar.cmpi .ne v2 c1_i32_111
  let v202 : BitVec 32 := Scalar.extui v201
  let c0_i32_112 : BitVec 32 := 0#32
  let v203 : BitVec 1 := Scalar.cmpi .ne v202 c0_i32_112
  v203

def k0_off35 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off36 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev34 : Nat :=
  let c0_i32_1432 : BitVec 32 := 0#32
  let c1_i32_1430 : BitVec 32 := 1#32
  let c1_i32_1431 : BitVec 32 := 1#32
  let v2136 : BitVec 32 := Scalar.muli c1_i32_1430 c1_i32_1431
  let v2137 : BitVec 32 := Scalar.addi c0_i32_1432 v2136
  v2137.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_115 : BitVec 32 := 2#32
  let v207 : BitVec 1 := Scalar.cmpi .ne v2 c2_i32_115
  let v208 : BitVec 32 := Scalar.extui v207
  let c0_i32_116 : BitVec 32 := 0#32
  let v209 : BitVec 1 := Scalar.cmpi .ne v208 c0_i32_116
  v209

def k0_off37 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off38 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev35 : Nat :=
  let c0_i32_1432 : BitVec 32 := 0#32
  let c2_i32_1430 : BitVec 32 := 2#32
  let c1_i32_1431 : BitVec 32 := 1#32
  let v2136 : BitVec 32 := Scalar.muli c2_i32_1430 c1_i32_1431
  let v2137 : BitVec 32 := Scalar.addi c0_i32_1432 v2136
  v2137.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_119 : BitVec 32 := 3#32
  let v213 : BitVec 1 := Scalar.cmpi .ne v2 c3_i32_119
  let v214 : BitVec 32 := Scalar.extui v213
  let c0_i32_120 : BitVec 32 := 0#32
  let v215 : BitVec 1 := Scalar.cmpi .ne v214 c0_i32_120
  v215

def k0_off39 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off40 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev36 : Nat :=
  let c0_i32_1432 : BitVec 32 := 0#32
  let c3_i32_1430 : BitVec 32 := 3#32
  let c1_i32_1431 : BitVec 32 := 1#32
  let v2136 : BitVec 32 := Scalar.muli c3_i32_1430 c1_i32_1431
  let v2137 : BitVec 32 := Scalar.addi c0_i32_1432 v2136
  v2137.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_123 : BitVec 32 := 4#32
  let v219 : BitVec 1 := Scalar.cmpi .ne v2 c4_i32_123
  let v220 : BitVec 32 := Scalar.extui v219
  let c0_i32_124 : BitVec 32 := 0#32
  let v221 : BitVec 1 := Scalar.cmpi .ne v220 c0_i32_124
  v221

def k0_off41 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off42 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev37 : Nat :=
  let c0_i32_1432 : BitVec 32 := 0#32
  let c4_i32_1430 : BitVec 32 := 4#32
  let c1_i32_1431 : BitVec 32 := 1#32
  let v2136 : BitVec 32 := Scalar.muli c4_i32_1430 c1_i32_1431
  let v2137 : BitVec 32 := Scalar.addi c0_i32_1432 v2136
  v2137.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_127 : BitVec 32 := 5#32
  let v225 : BitVec 1 := Scalar.cmpi .ne v2 c5_i32_127
  let v226 : BitVec 32 := Scalar.extui v225
  let c0_i32_128 : BitVec 32 := 0#32
  let v227 : BitVec 1 := Scalar.cmpi .ne v226 c0_i32_128
  v227

def k0_off43 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off44 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev38 : Nat :=
  let c0_i32_1432 : BitVec 32 := 0#32
  let c5_i32_1430 : BitVec 32 := 5#32
  let c1_i32_1431 : BitVec 32 := 1#32
  let v2136 : BitVec 32 := Scalar.muli c5_i32_1430 c1_i32_1431
  let v2137 : BitVec 32 := Scalar.addi c0_i32_1432 v2136
  v2137.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_131 : BitVec 32 := 6#32
  let v231 : BitVec 1 := Scalar.cmpi .ne v2 c6_i32_131
  let v232 : BitVec 32 := Scalar.extui v231
  let c0_i32_132 : BitVec 32 := 0#32
  let v233 : BitVec 1 := Scalar.cmpi .ne v232 c0_i32_132
  v233

def k0_off45 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off46 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev39 : Nat :=
  let c0_i32_1432 : BitVec 32 := 0#32
  let c6_i32_1430 : BitVec 32 := 6#32
  let c1_i32_1431 : BitVec 32 := 1#32
  let v2136 : BitVec 32 := Scalar.muli c6_i32_1430 c1_i32_1431
  let v2137 : BitVec 32 := Scalar.addi c0_i32_1432 v2136
  v2137.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_135 : BitVec 32 := 7#32
  let v237 : BitVec 1 := Scalar.cmpi .ne v2 c7_i32_135
  let v238 : BitVec 32 := Scalar.extui v237
  let c0_i32_136 : BitVec 32 := 0#32
  let v239 : BitVec 1 := Scalar.cmpi .ne v238 c0_i32_136
  v239

def k0_off47 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off48 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev40 : Nat :=
  let c0_i32_1432 : BitVec 32 := 0#32
  let c7_i32_1430 : BitVec 32 := 7#32
  let c1_i32_1431 : BitVec 32 := 1#32
  let v2136 : BitVec 32 := Scalar.muli c7_i32_1430 c1_i32_1431
  let v2137 : BitVec 32 := Scalar.addi c0_i32_1432 v2136
  v2137.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_139 : BitVec 32 := 8#32
  let v243 : BitVec 1 := Scalar.cmpi .ne v2 c8_i32_139
  let v244 : BitVec 32 := Scalar.extui v243
  let c0_i32_140 : BitVec 32 := 0#32
  let v245 : BitVec 1 := Scalar.cmpi .ne v244 c0_i32_140
  v245

def k0_off49 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off50 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev41 : Nat :=
  let c0_i32_1432 : BitVec 32 := 0#32
  let c8_i32_1430 : BitVec 32 := 8#32
  let c1_i32_1431 : BitVec 32 := 1#32
  let v2136 : BitVec 32 := Scalar.muli c8_i32_1430 c1_i32_1431
  let v2137 : BitVec 32 := Scalar.addi c0_i32_1432 v2136
  v2137.toNat
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_143 : BitVec 32 := 9#32
  let v249 : BitVec 1 := Scalar.cmpi .ne v2 c9_i32_143
  let v250 : BitVec 32 := Scalar.extui v249
  let c0_i32_144 : BitVec 32 := 0#32
  let v251 : BitVec 1 := Scalar.cmpi .ne v250 c0_i32_144
  v251

def k0_off51 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off52 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev42 : Nat :=
  let c0_i32_1432 : BitVec 32 := 0#32
  let c9_i32_1430 : BitVec 32 := 9#32
  let c1_i32_1431 : BitVec 32 := 1#32
  let v2136 : BitVec 32 := Scalar.muli c9_i32_1430 c1_i32_1431
  let v2137 : BitVec 32 := Scalar.addi c0_i32_1432 v2136
  v2137.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_147 : BitVec 32 := 10#32
  let v255 : BitVec 1 := Scalar.cmpi .ne v2 c10_i32_147
  let v256 : BitVec 32 := Scalar.extui v255
  let c0_i32_148 : BitVec 32 := 0#32
  let v257 : BitVec 1 := Scalar.cmpi .ne v256 c0_i32_148
  v257

def k0_off53 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off54 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev43 : Nat :=
  let c0_i32_1432 : BitVec 32 := 0#32
  let c10_i32_1430 : BitVec 32 := 10#32
  let c1_i32_1431 : BitVec 32 := 1#32
  let v2136 : BitVec 32 := Scalar.muli c10_i32_1430 c1_i32_1431
  let v2137 : BitVec 32 := Scalar.addi c0_i32_1432 v2136
  v2137.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_151 : BitVec 32 := 11#32
  let v261 : BitVec 1 := Scalar.cmpi .ne v2 c11_i32_151
  let v262 : BitVec 32 := Scalar.extui v261
  let c0_i32_152 : BitVec 32 := 0#32
  let v263 : BitVec 1 := Scalar.cmpi .ne v262 c0_i32_152
  v263

def k0_off55 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off56 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev44 : Nat :=
  let c0_i32_1432 : BitVec 32 := 0#32
  let c11_i32_1430 : BitVec 32 := 11#32
  let c1_i32_1431 : BitVec 32 := 1#32
  let v2136 : BitVec 32 := Scalar.muli c11_i32_1430 c1_i32_1431
  let v2137 : BitVec 32 := Scalar.addi c0_i32_1432 v2136
  v2137.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_155 : BitVec 32 := 12#32
  let v267 : BitVec 1 := Scalar.cmpi .ne v2 c12_i32_155
  let v268 : BitVec 32 := Scalar.extui v267
  let c0_i32_156 : BitVec 32 := 0#32
  let v269 : BitVec 1 := Scalar.cmpi .ne v268 c0_i32_156
  v269

def k0_off57 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off58 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev45 : Nat :=
  let c0_i32_1432 : BitVec 32 := 0#32
  let c12_i32_1430 : BitVec 32 := 12#32
  let c1_i32_1431 : BitVec 32 := 1#32
  let v2136 : BitVec 32 := Scalar.muli c12_i32_1430 c1_i32_1431
  let v2137 : BitVec 32 := Scalar.addi c0_i32_1432 v2136
  v2137.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_159 : BitVec 32 := 13#32
  let v273 : BitVec 1 := Scalar.cmpi .ne v2 c13_i32_159
  let v274 : BitVec 32 := Scalar.extui v273
  let c0_i32_160 : BitVec 32 := 0#32
  let v275 : BitVec 1 := Scalar.cmpi .ne v274 c0_i32_160
  v275

def k0_off59 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off60 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev46 : Nat :=
  let c0_i32_1432 : BitVec 32 := 0#32
  let c13_i32_1430 : BitVec 32 := 13#32
  let c1_i32_1431 : BitVec 32 := 1#32
  let v2136 : BitVec 32 := Scalar.muli c13_i32_1430 c1_i32_1431
  let v2137 : BitVec 32 := Scalar.addi c0_i32_1432 v2136
  v2137.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_163 : BitVec 32 := 14#32
  let v279 : BitVec 1 := Scalar.cmpi .ne v2 c14_i32_163
  let v280 : BitVec 32 := Scalar.extui v279
  let c0_i32_164 : BitVec 32 := 0#32
  let v281 : BitVec 1 := Scalar.cmpi .ne v280 c0_i32_164
  v281

def k0_off61 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off62 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev47 : Nat :=
  let c0_i32_1432 : BitVec 32 := 0#32
  let c14_i32_1430 : BitVec 32 := 14#32
  let c1_i32_1431 : BitVec 32 := 1#32
  let v2136 : BitVec 32 := Scalar.muli c14_i32_1430 c1_i32_1431
  let v2137 : BitVec 32 := Scalar.addi c0_i32_1432 v2136
  v2137.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_167 : BitVec 32 := 15#32
  let v285 : BitVec 1 := Scalar.cmpi .ne v2 c15_i32_167
  let v286 : BitVec 32 := Scalar.extui v285
  let c0_i32_168 : BitVec 32 := 0#32
  let v287 : BitVec 1 := Scalar.cmpi .ne v286 c0_i32_168
  v287

def k0_off63 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off64 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev48 : Nat :=
  let c0_i32_1432 : BitVec 32 := 0#32
  let c15_i32_1430 : BitVec 32 := 15#32
  let c1_i32_1431 : BitVec 32 := 1#32
  let v2136 : BitVec 32 := Scalar.muli c15_i32_1430 c1_i32_1431
  let v2137 : BitVec 32 := Scalar.addi c0_i32_1432 v2136
  v2137.toNat
def k0_cond114 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_244 : BitVec 32 := 0#32
  let v397 : BitVec 1 := Scalar.cmpi .ne v2 c0_i32_244
  let v398 : BitVec 32 := Scalar.extui v397
  let c0_i32_245 : BitVec 32 := 0#32
  let v399 : BitVec 1 := Scalar.cmpi .ne v398 c0_i32_245
  v399

def k0_off65 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off66 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev49 : Nat :=
  let c0_i32_1431 : BitVec 32 := 0#32
  let c0_i32_1429 : BitVec 32 := 0#32
  let c1_i32_1430 : BitVec 32 := 1#32
  let v2136 : BitVec 32 := Scalar.muli c0_i32_1429 c1_i32_1430
  let v2137 : BitVec 32 := Scalar.addi c0_i32_1431 v2136
  v2137.toNat
def k0_cond116 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_248 : BitVec 32 := 1#32
  let v403 : BitVec 1 := Scalar.cmpi .ne v2 c1_i32_248
  let v404 : BitVec 32 := Scalar.extui v403
  let c0_i32_249 : BitVec 32 := 0#32
  let v405 : BitVec 1 := Scalar.cmpi .ne v404 c0_i32_249
  v405

def k0_off67 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off68 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev50 : Nat :=
  let c0_i32_1431 : BitVec 32 := 0#32
  let c1_i32_1429 : BitVec 32 := 1#32
  let c1_i32_1430 : BitVec 32 := 1#32
  let v2136 : BitVec 32 := Scalar.muli c1_i32_1429 c1_i32_1430
  let v2137 : BitVec 32 := Scalar.addi c0_i32_1431 v2136
  v2137.toNat
def k0_cond118 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_252 : BitVec 32 := 2#32
  let v409 : BitVec 1 := Scalar.cmpi .ne v2 c2_i32_252
  let v410 : BitVec 32 := Scalar.extui v409
  let c0_i32_253 : BitVec 32 := 0#32
  let v411 : BitVec 1 := Scalar.cmpi .ne v410 c0_i32_253
  v411

def k0_off69 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off70 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev51 : Nat :=
  let c0_i32_1431 : BitVec 32 := 0#32
  let c2_i32_1429 : BitVec 32 := 2#32
  let c1_i32_1430 : BitVec 32 := 1#32
  let v2136 : BitVec 32 := Scalar.muli c2_i32_1429 c1_i32_1430
  let v2137 : BitVec 32 := Scalar.addi c0_i32_1431 v2136
  v2137.toNat
def k0_cond120 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_256 : BitVec 32 := 3#32
  let v415 : BitVec 1 := Scalar.cmpi .ne v2 c3_i32_256
  let v416 : BitVec 32 := Scalar.extui v415
  let c0_i32_257 : BitVec 32 := 0#32
  let v417 : BitVec 1 := Scalar.cmpi .ne v416 c0_i32_257
  v417

def k0_off71 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off72 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev52 : Nat :=
  let c0_i32_1431 : BitVec 32 := 0#32
  let c3_i32_1429 : BitVec 32 := 3#32
  let c1_i32_1430 : BitVec 32 := 1#32
  let v2136 : BitVec 32 := Scalar.muli c3_i32_1429 c1_i32_1430
  let v2137 : BitVec 32 := Scalar.addi c0_i32_1431 v2136
  v2137.toNat
def k0_cond122 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_260 : BitVec 32 := 4#32
  let v421 : BitVec 1 := Scalar.cmpi .ne v2 c4_i32_260
  let v422 : BitVec 32 := Scalar.extui v421
  let c0_i32_261 : BitVec 32 := 0#32
  let v423 : BitVec 1 := Scalar.cmpi .ne v422 c0_i32_261
  v423

def k0_off73 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off74 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev53 : Nat :=
  let c0_i32_1431 : BitVec 32 := 0#32
  let c4_i32_1429 : BitVec 32 := 4#32
  let c1_i32_1430 : BitVec 32 := 1#32
  let v2136 : BitVec 32 := Scalar.muli c4_i32_1429 c1_i32_1430
  let v2137 : BitVec 32 := Scalar.addi c0_i32_1431 v2136
  v2137.toNat
def k0_cond124 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_264 : BitVec 32 := 5#32
  let v427 : BitVec 1 := Scalar.cmpi .ne v2 c5_i32_264
  let v428 : BitVec 32 := Scalar.extui v427
  let c0_i32_265 : BitVec 32 := 0#32
  let v429 : BitVec 1 := Scalar.cmpi .ne v428 c0_i32_265
  v429

def k0_off75 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off76 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev54 : Nat :=
  let c0_i32_1431 : BitVec 32 := 0#32
  let c5_i32_1429 : BitVec 32 := 5#32
  let c1_i32_1430 : BitVec 32 := 1#32
  let v2136 : BitVec 32 := Scalar.muli c5_i32_1429 c1_i32_1430
  let v2137 : BitVec 32 := Scalar.addi c0_i32_1431 v2136
  v2137.toNat
def k0_cond126 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_268 : BitVec 32 := 6#32
  let v433 : BitVec 1 := Scalar.cmpi .ne v2 c6_i32_268
  let v434 : BitVec 32 := Scalar.extui v433
  let c0_i32_269 : BitVec 32 := 0#32
  let v435 : BitVec 1 := Scalar.cmpi .ne v434 c0_i32_269
  v435

def k0_off77 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off78 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev55 : Nat :=
  let c0_i32_1431 : BitVec 32 := 0#32
  let c6_i32_1429 : BitVec 32 := 6#32
  let c1_i32_1430 : BitVec 32 := 1#32
  let v2136 : BitVec 32 := Scalar.muli c6_i32_1429 c1_i32_1430
  let v2137 : BitVec 32 := Scalar.addi c0_i32_1431 v2136
  v2137.toNat
def k0_cond128 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_272 : BitVec 32 := 7#32
  let v439 : BitVec 1 := Scalar.cmpi .ne v2 c7_i32_272
  let v440 : BitVec 32 := Scalar.extui v439
  let c0_i32_273 : BitVec 32 := 0#32
  let v441 : BitVec 1 := Scalar.cmpi .ne v440 c0_i32_273
  v441

def k0_off79 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off80 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev56 : Nat :=
  let c0_i32_1431 : BitVec 32 := 0#32
  let c7_i32_1429 : BitVec 32 := 7#32
  let c1_i32_1430 : BitVec 32 := 1#32
  let v2136 : BitVec 32 := Scalar.muli c7_i32_1429 c1_i32_1430
  let v2137 : BitVec 32 := Scalar.addi c0_i32_1431 v2136
  v2137.toNat
def k0_cond130 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_276 : BitVec 32 := 8#32
  let v445 : BitVec 1 := Scalar.cmpi .ne v2 c8_i32_276
  let v446 : BitVec 32 := Scalar.extui v445
  let c0_i32_277 : BitVec 32 := 0#32
  let v447 : BitVec 1 := Scalar.cmpi .ne v446 c0_i32_277
  v447

def k0_off81 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off82 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev57 : Nat :=
  let c0_i32_1431 : BitVec 32 := 0#32
  let c8_i32_1429 : BitVec 32 := 8#32
  let c1_i32_1430 : BitVec 32 := 1#32
  let v2136 : BitVec 32 := Scalar.muli c8_i32_1429 c1_i32_1430
  let v2137 : BitVec 32 := Scalar.addi c0_i32_1431 v2136
  v2137.toNat
def k0_cond132 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_280 : BitVec 32 := 9#32
  let v451 : BitVec 1 := Scalar.cmpi .ne v2 c9_i32_280
  let v452 : BitVec 32 := Scalar.extui v451
  let c0_i32_281 : BitVec 32 := 0#32
  let v453 : BitVec 1 := Scalar.cmpi .ne v452 c0_i32_281
  v453

def k0_off83 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off84 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev58 : Nat :=
  let c0_i32_1431 : BitVec 32 := 0#32
  let c9_i32_1429 : BitVec 32 := 9#32
  let c1_i32_1430 : BitVec 32 := 1#32
  let v2136 : BitVec 32 := Scalar.muli c9_i32_1429 c1_i32_1430
  let v2137 : BitVec 32 := Scalar.addi c0_i32_1431 v2136
  v2137.toNat
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_284 : BitVec 32 := 10#32
  let v457 : BitVec 1 := Scalar.cmpi .ne v2 c10_i32_284
  let v458 : BitVec 32 := Scalar.extui v457
  let c0_i32_285 : BitVec 32 := 0#32
  let v459 : BitVec 1 := Scalar.cmpi .ne v458 c0_i32_285
  v459

def k0_off85 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off86 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev59 : Nat :=
  let c0_i32_1431 : BitVec 32 := 0#32
  let c10_i32_1429 : BitVec 32 := 10#32
  let c1_i32_1430 : BitVec 32 := 1#32
  let v2136 : BitVec 32 := Scalar.muli c10_i32_1429 c1_i32_1430
  let v2137 : BitVec 32 := Scalar.addi c0_i32_1431 v2136
  v2137.toNat
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_288 : BitVec 32 := 11#32
  let v463 : BitVec 1 := Scalar.cmpi .ne v2 c11_i32_288
  let v464 : BitVec 32 := Scalar.extui v463
  let c0_i32_289 : BitVec 32 := 0#32
  let v465 : BitVec 1 := Scalar.cmpi .ne v464 c0_i32_289
  v465

def k0_off87 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off88 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev60 : Nat :=
  let c0_i32_1431 : BitVec 32 := 0#32
  let c11_i32_1429 : BitVec 32 := 11#32
  let c1_i32_1430 : BitVec 32 := 1#32
  let v2136 : BitVec 32 := Scalar.muli c11_i32_1429 c1_i32_1430
  let v2137 : BitVec 32 := Scalar.addi c0_i32_1431 v2136
  v2137.toNat
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_292 : BitVec 32 := 12#32
  let v469 : BitVec 1 := Scalar.cmpi .ne v2 c12_i32_292
  let v470 : BitVec 32 := Scalar.extui v469
  let c0_i32_293 : BitVec 32 := 0#32
  let v471 : BitVec 1 := Scalar.cmpi .ne v470 c0_i32_293
  v471

def k0_off89 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off90 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev61 : Nat :=
  let c0_i32_1431 : BitVec 32 := 0#32
  let c12_i32_1429 : BitVec 32 := 12#32
  let c1_i32_1430 : BitVec 32 := 1#32
  let v2136 : BitVec 32 := Scalar.muli c12_i32_1429 c1_i32_1430
  let v2137 : BitVec 32 := Scalar.addi c0_i32_1431 v2136
  v2137.toNat
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_296 : BitVec 32 := 13#32
  let v475 : BitVec 1 := Scalar.cmpi .ne v2 c13_i32_296
  let v476 : BitVec 32 := Scalar.extui v475
  let c0_i32_297 : BitVec 32 := 0#32
  let v477 : BitVec 1 := Scalar.cmpi .ne v476 c0_i32_297
  v477

def k0_off91 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off92 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev62 : Nat :=
  let c0_i32_1431 : BitVec 32 := 0#32
  let c13_i32_1429 : BitVec 32 := 13#32
  let c1_i32_1430 : BitVec 32 := 1#32
  let v2136 : BitVec 32 := Scalar.muli c13_i32_1429 c1_i32_1430
  let v2137 : BitVec 32 := Scalar.addi c0_i32_1431 v2136
  v2137.toNat
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_300 : BitVec 32 := 14#32
  let v481 : BitVec 1 := Scalar.cmpi .ne v2 c14_i32_300
  let v482 : BitVec 32 := Scalar.extui v481
  let c0_i32_301 : BitVec 32 := 0#32
  let v483 : BitVec 1 := Scalar.cmpi .ne v482 c0_i32_301
  v483

def k0_off93 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off94 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev63 : Nat :=
  let c0_i32_1431 : BitVec 32 := 0#32
  let c14_i32_1429 : BitVec 32 := 14#32
  let c1_i32_1430 : BitVec 32 := 1#32
  let v2136 : BitVec 32 := Scalar.muli c14_i32_1429 c1_i32_1430
  let v2137 : BitVec 32 := Scalar.addi c0_i32_1431 v2136
  v2137.toNat
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_304 : BitVec 32 := 15#32
  let v487 : BitVec 1 := Scalar.cmpi .ne v2 c15_i32_304
  let v488 : BitVec 32 := Scalar.extui v487
  let c0_i32_305 : BitVec 32 := 0#32
  let v489 : BitVec 1 := Scalar.cmpi .ne v488 c0_i32_305
  v489

def k0_off95 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off96 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev64 : Nat :=
  let c0_i32_1431 : BitVec 32 := 0#32
  let c15_i32_1429 : BitVec 32 := 15#32
  let c1_i32_1430 : BitVec 32 := 1#32
  let v2136 : BitVec 32 := Scalar.muli c15_i32_1429 c1_i32_1430
  let v2137 : BitVec 32 := Scalar.addi c0_i32_1431 v2136
  v2137.toNat
def k0_cond178 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_380 : BitVec 32 := 0#32
  let v597 : BitVec 1 := Scalar.cmpi .ne v2 c0_i32_380
  let v598 : BitVec 32 := Scalar.extui v597
  let c0_i32_381 : BitVec 32 := 0#32
  let v599 : BitVec 1 := Scalar.cmpi .ne v598 c0_i32_381
  v599

def k0_off97 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off98 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev65 : Nat :=
  let c0_i32_1431 : BitVec 32 := 0#32
  let c0_i32_1429 : BitVec 32 := 0#32
  let c1_i32_1430 : BitVec 32 := 1#32
  let v2136 : BitVec 32 := Scalar.muli c0_i32_1429 c1_i32_1430
  let v2137 : BitVec 32 := Scalar.addi c0_i32_1431 v2136
  v2137.toNat
def k0_cond180 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_384 : BitVec 32 := 1#32
  let v603 : BitVec 1 := Scalar.cmpi .ne v2 c1_i32_384
  let v604 : BitVec 32 := Scalar.extui v603
  let c0_i32_385 : BitVec 32 := 0#32
  let v605 : BitVec 1 := Scalar.cmpi .ne v604 c0_i32_385
  v605

def k0_off99 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off100 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev66 : Nat :=
  let c0_i32_1431 : BitVec 32 := 0#32
  let c1_i32_1429 : BitVec 32 := 1#32
  let c1_i32_1430 : BitVec 32 := 1#32
  let v2136 : BitVec 32 := Scalar.muli c1_i32_1429 c1_i32_1430
  let v2137 : BitVec 32 := Scalar.addi c0_i32_1431 v2136
  v2137.toNat
def k0_cond182 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_388 : BitVec 32 := 2#32
  let v609 : BitVec 1 := Scalar.cmpi .ne v2 c2_i32_388
  let v610 : BitVec 32 := Scalar.extui v609
  let c0_i32_389 : BitVec 32 := 0#32
  let v611 : BitVec 1 := Scalar.cmpi .ne v610 c0_i32_389
  v611

def k0_off101 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off102 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev67 : Nat :=
  let c0_i32_1431 : BitVec 32 := 0#32
  let c2_i32_1429 : BitVec 32 := 2#32
  let c1_i32_1430 : BitVec 32 := 1#32
  let v2136 : BitVec 32 := Scalar.muli c2_i32_1429 c1_i32_1430
  let v2137 : BitVec 32 := Scalar.addi c0_i32_1431 v2136
  v2137.toNat
def k0_cond184 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_392 : BitVec 32 := 3#32
  let v615 : BitVec 1 := Scalar.cmpi .ne v2 c3_i32_392
  let v616 : BitVec 32 := Scalar.extui v615
  let c0_i32_393 : BitVec 32 := 0#32
  let v617 : BitVec 1 := Scalar.cmpi .ne v616 c0_i32_393
  v617

def k0_off103 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off104 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev68 : Nat :=
  let c0_i32_1431 : BitVec 32 := 0#32
  let c3_i32_1429 : BitVec 32 := 3#32
  let c1_i32_1430 : BitVec 32 := 1#32
  let v2136 : BitVec 32 := Scalar.muli c3_i32_1429 c1_i32_1430
  let v2137 : BitVec 32 := Scalar.addi c0_i32_1431 v2136
  v2137.toNat
def k0_cond186 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_396 : BitVec 32 := 4#32
  let v621 : BitVec 1 := Scalar.cmpi .ne v2 c4_i32_396
  let v622 : BitVec 32 := Scalar.extui v621
  let c0_i32_397 : BitVec 32 := 0#32
  let v623 : BitVec 1 := Scalar.cmpi .ne v622 c0_i32_397
  v623

def k0_off105 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off106 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev69 : Nat :=
  let c0_i32_1431 : BitVec 32 := 0#32
  let c4_i32_1429 : BitVec 32 := 4#32
  let c1_i32_1430 : BitVec 32 := 1#32
  let v2136 : BitVec 32 := Scalar.muli c4_i32_1429 c1_i32_1430
  let v2137 : BitVec 32 := Scalar.addi c0_i32_1431 v2136
  v2137.toNat
def k0_cond188 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_400 : BitVec 32 := 5#32
  let v627 : BitVec 1 := Scalar.cmpi .ne v2 c5_i32_400
  let v628 : BitVec 32 := Scalar.extui v627
  let c0_i32_401 : BitVec 32 := 0#32
  let v629 : BitVec 1 := Scalar.cmpi .ne v628 c0_i32_401
  v629

def k0_off107 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off108 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev70 : Nat :=
  let c0_i32_1431 : BitVec 32 := 0#32
  let c5_i32_1429 : BitVec 32 := 5#32
  let c1_i32_1430 : BitVec 32 := 1#32
  let v2136 : BitVec 32 := Scalar.muli c5_i32_1429 c1_i32_1430
  let v2137 : BitVec 32 := Scalar.addi c0_i32_1431 v2136
  v2137.toNat
def k0_cond190 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_404 : BitVec 32 := 6#32
  let v633 : BitVec 1 := Scalar.cmpi .ne v2 c6_i32_404
  let v634 : BitVec 32 := Scalar.extui v633
  let c0_i32_405 : BitVec 32 := 0#32
  let v635 : BitVec 1 := Scalar.cmpi .ne v634 c0_i32_405
  v635

def k0_off109 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off110 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev71 : Nat :=
  let c0_i32_1431 : BitVec 32 := 0#32
  let c6_i32_1429 : BitVec 32 := 6#32
  let c1_i32_1430 : BitVec 32 := 1#32
  let v2136 : BitVec 32 := Scalar.muli c6_i32_1429 c1_i32_1430
  let v2137 : BitVec 32 := Scalar.addi c0_i32_1431 v2136
  v2137.toNat
def k0_cond192 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_408 : BitVec 32 := 7#32
  let v639 : BitVec 1 := Scalar.cmpi .ne v2 c7_i32_408
  let v640 : BitVec 32 := Scalar.extui v639
  let c0_i32_409 : BitVec 32 := 0#32
  let v641 : BitVec 1 := Scalar.cmpi .ne v640 c0_i32_409
  v641

def k0_off111 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off112 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev72 : Nat :=
  let c0_i32_1431 : BitVec 32 := 0#32
  let c7_i32_1429 : BitVec 32 := 7#32
  let c1_i32_1430 : BitVec 32 := 1#32
  let v2136 : BitVec 32 := Scalar.muli c7_i32_1429 c1_i32_1430
  let v2137 : BitVec 32 := Scalar.addi c0_i32_1431 v2136
  v2137.toNat
def k0_cond194 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_412 : BitVec 32 := 8#32
  let v645 : BitVec 1 := Scalar.cmpi .ne v2 c8_i32_412
  let v646 : BitVec 32 := Scalar.extui v645
  let c0_i32_413 : BitVec 32 := 0#32
  let v647 : BitVec 1 := Scalar.cmpi .ne v646 c0_i32_413
  v647

def k0_off113 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off114 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev73 : Nat :=
  let c0_i32_1431 : BitVec 32 := 0#32
  let c8_i32_1429 : BitVec 32 := 8#32
  let c1_i32_1430 : BitVec 32 := 1#32
  let v2136 : BitVec 32 := Scalar.muli c8_i32_1429 c1_i32_1430
  let v2137 : BitVec 32 := Scalar.addi c0_i32_1431 v2136
  v2137.toNat
def k0_cond196 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_416 : BitVec 32 := 9#32
  let v651 : BitVec 1 := Scalar.cmpi .ne v2 c9_i32_416
  let v652 : BitVec 32 := Scalar.extui v651
  let c0_i32_417 : BitVec 32 := 0#32
  let v653 : BitVec 1 := Scalar.cmpi .ne v652 c0_i32_417
  v653

def k0_off115 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off116 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev74 : Nat :=
  let c0_i32_1431 : BitVec 32 := 0#32
  let c9_i32_1429 : BitVec 32 := 9#32
  let c1_i32_1430 : BitVec 32 := 1#32
  let v2136 : BitVec 32 := Scalar.muli c9_i32_1429 c1_i32_1430
  let v2137 : BitVec 32 := Scalar.addi c0_i32_1431 v2136
  v2137.toNat
def k0_cond198 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_420 : BitVec 32 := 10#32
  let v657 : BitVec 1 := Scalar.cmpi .ne v2 c10_i32_420
  let v658 : BitVec 32 := Scalar.extui v657
  let c0_i32_421 : BitVec 32 := 0#32
  let v659 : BitVec 1 := Scalar.cmpi .ne v658 c0_i32_421
  v659

def k0_off117 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off118 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev75 : Nat :=
  let c0_i32_1431 : BitVec 32 := 0#32
  let c10_i32_1429 : BitVec 32 := 10#32
  let c1_i32_1430 : BitVec 32 := 1#32
  let v2136 : BitVec 32 := Scalar.muli c10_i32_1429 c1_i32_1430
  let v2137 : BitVec 32 := Scalar.addi c0_i32_1431 v2136
  v2137.toNat
def k0_cond200 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_424 : BitVec 32 := 11#32
  let v663 : BitVec 1 := Scalar.cmpi .ne v2 c11_i32_424
  let v664 : BitVec 32 := Scalar.extui v663
  let c0_i32_425 : BitVec 32 := 0#32
  let v665 : BitVec 1 := Scalar.cmpi .ne v664 c0_i32_425
  v665

def k0_off119 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off120 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev76 : Nat :=
  let c0_i32_1431 : BitVec 32 := 0#32
  let c11_i32_1429 : BitVec 32 := 11#32
  let c1_i32_1430 : BitVec 32 := 1#32
  let v2136 : BitVec 32 := Scalar.muli c11_i32_1429 c1_i32_1430
  let v2137 : BitVec 32 := Scalar.addi c0_i32_1431 v2136
  v2137.toNat
def k0_cond202 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_428 : BitVec 32 := 12#32
  let v669 : BitVec 1 := Scalar.cmpi .ne v2 c12_i32_428
  let v670 : BitVec 32 := Scalar.extui v669
  let c0_i32_429 : BitVec 32 := 0#32
  let v671 : BitVec 1 := Scalar.cmpi .ne v670 c0_i32_429
  v671

def k0_off121 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off122 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev77 : Nat :=
  let c0_i32_1431 : BitVec 32 := 0#32
  let c12_i32_1429 : BitVec 32 := 12#32
  let c1_i32_1430 : BitVec 32 := 1#32
  let v2136 : BitVec 32 := Scalar.muli c12_i32_1429 c1_i32_1430
  let v2137 : BitVec 32 := Scalar.addi c0_i32_1431 v2136
  v2137.toNat
def k0_cond204 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_432 : BitVec 32 := 13#32
  let v675 : BitVec 1 := Scalar.cmpi .ne v2 c13_i32_432
  let v676 : BitVec 32 := Scalar.extui v675
  let c0_i32_433 : BitVec 32 := 0#32
  let v677 : BitVec 1 := Scalar.cmpi .ne v676 c0_i32_433
  v677

def k0_off123 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off124 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev78 : Nat :=
  let c0_i32_1431 : BitVec 32 := 0#32
  let c13_i32_1429 : BitVec 32 := 13#32
  let c1_i32_1430 : BitVec 32 := 1#32
  let v2136 : BitVec 32 := Scalar.muli c13_i32_1429 c1_i32_1430
  let v2137 : BitVec 32 := Scalar.addi c0_i32_1431 v2136
  v2137.toNat
def k0_cond206 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_436 : BitVec 32 := 14#32
  let v681 : BitVec 1 := Scalar.cmpi .ne v2 c14_i32_436
  let v682 : BitVec 32 := Scalar.extui v681
  let c0_i32_437 : BitVec 32 := 0#32
  let v683 : BitVec 1 := Scalar.cmpi .ne v682 c0_i32_437
  v683

def k0_off125 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off126 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev79 : Nat :=
  let c0_i32_1431 : BitVec 32 := 0#32
  let c14_i32_1429 : BitVec 32 := 14#32
  let c1_i32_1430 : BitVec 32 := 1#32
  let v2136 : BitVec 32 := Scalar.muli c14_i32_1429 c1_i32_1430
  let v2137 : BitVec 32 := Scalar.addi c0_i32_1431 v2136
  v2137.toNat
def k0_cond208 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_440 : BitVec 32 := 15#32
  let v687 : BitVec 1 := Scalar.cmpi .ne v2 c15_i32_440
  let v688 : BitVec 32 := Scalar.extui v687
  let c0_i32_441 : BitVec 32 := 0#32
  let v689 : BitVec 1 := Scalar.cmpi .ne v688 c0_i32_441
  v689

def k0_off127 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off128 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev80 : Nat :=
  let c0_i32_1431 : BitVec 32 := 0#32
  let c15_i32_1429 : BitVec 32 := 15#32
  let c1_i32_1430 : BitVec 32 := 1#32
  let v2136 : BitVec 32 := Scalar.muli c15_i32_1429 c1_i32_1430
  let v2137 : BitVec 32 := Scalar.addi c0_i32_1431 v2136
  v2137.toNat
def k0_cond258 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_563 : BitVec 32 := 0#32
  let v868 : BitVec 1 := Scalar.cmpi .ne v2 c0_i32_563
  let v869 : BitVec 32 := Scalar.extui v868
  let c0_i32_564 : BitVec 32 := 0#32
  let v870 : BitVec 1 := Scalar.cmpi .ne v869 c0_i32_564
  v870

def k0_off129 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off130 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev81 : Nat :=
  let c0_i32_1432 : BitVec 32 := 0#32
  let c0_i32_1430 : BitVec 32 := 0#32
  let c1_i32_1431 : BitVec 32 := 1#32
  let v2136 : BitVec 32 := Scalar.muli c0_i32_1430 c1_i32_1431
  let v2137 : BitVec 32 := Scalar.addi c0_i32_1432 v2136
  v2137.toNat
def k0_cond260 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_567 : BitVec 32 := 1#32
  let v874 : BitVec 1 := Scalar.cmpi .ne v2 c1_i32_567
  let v875 : BitVec 32 := Scalar.extui v874
  let c0_i32_568 : BitVec 32 := 0#32
  let v876 : BitVec 1 := Scalar.cmpi .ne v875 c0_i32_568
  v876

def k0_off131 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off132 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev82 : Nat :=
  let c0_i32_1432 : BitVec 32 := 0#32
  let c1_i32_1430 : BitVec 32 := 1#32
  let c1_i32_1431 : BitVec 32 := 1#32
  let v2136 : BitVec 32 := Scalar.muli c1_i32_1430 c1_i32_1431
  let v2137 : BitVec 32 := Scalar.addi c0_i32_1432 v2136
  v2137.toNat
def k0_cond262 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_571 : BitVec 32 := 2#32
  let v880 : BitVec 1 := Scalar.cmpi .ne v2 c2_i32_571
  let v881 : BitVec 32 := Scalar.extui v880
  let c0_i32_572 : BitVec 32 := 0#32
  let v882 : BitVec 1 := Scalar.cmpi .ne v881 c0_i32_572
  v882

def k0_off133 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off134 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev83 : Nat :=
  let c0_i32_1432 : BitVec 32 := 0#32
  let c2_i32_1430 : BitVec 32 := 2#32
  let c1_i32_1431 : BitVec 32 := 1#32
  let v2136 : BitVec 32 := Scalar.muli c2_i32_1430 c1_i32_1431
  let v2137 : BitVec 32 := Scalar.addi c0_i32_1432 v2136
  v2137.toNat
def k0_cond264 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_575 : BitVec 32 := 3#32
  let v886 : BitVec 1 := Scalar.cmpi .ne v2 c3_i32_575
  let v887 : BitVec 32 := Scalar.extui v886
  let c0_i32_576 : BitVec 32 := 0#32
  let v888 : BitVec 1 := Scalar.cmpi .ne v887 c0_i32_576
  v888

def k0_off135 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off136 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev84 : Nat :=
  let c0_i32_1432 : BitVec 32 := 0#32
  let c3_i32_1430 : BitVec 32 := 3#32
  let c1_i32_1431 : BitVec 32 := 1#32
  let v2136 : BitVec 32 := Scalar.muli c3_i32_1430 c1_i32_1431
  let v2137 : BitVec 32 := Scalar.addi c0_i32_1432 v2136
  v2137.toNat
def k0_cond266 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_579 : BitVec 32 := 4#32
  let v892 : BitVec 1 := Scalar.cmpi .ne v2 c4_i32_579
  let v893 : BitVec 32 := Scalar.extui v892
  let c0_i32_580 : BitVec 32 := 0#32
  let v894 : BitVec 1 := Scalar.cmpi .ne v893 c0_i32_580
  v894

def k0_off137 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off138 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev85 : Nat :=
  let c0_i32_1432 : BitVec 32 := 0#32
  let c4_i32_1430 : BitVec 32 := 4#32
  let c1_i32_1431 : BitVec 32 := 1#32
  let v2136 : BitVec 32 := Scalar.muli c4_i32_1430 c1_i32_1431
  let v2137 : BitVec 32 := Scalar.addi c0_i32_1432 v2136
  v2137.toNat
def k0_cond268 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_583 : BitVec 32 := 5#32
  let v898 : BitVec 1 := Scalar.cmpi .ne v2 c5_i32_583
  let v899 : BitVec 32 := Scalar.extui v898
  let c0_i32_584 : BitVec 32 := 0#32
  let v900 : BitVec 1 := Scalar.cmpi .ne v899 c0_i32_584
  v900

def k0_off139 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off140 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev86 : Nat :=
  let c0_i32_1432 : BitVec 32 := 0#32
  let c5_i32_1430 : BitVec 32 := 5#32
  let c1_i32_1431 : BitVec 32 := 1#32
  let v2136 : BitVec 32 := Scalar.muli c5_i32_1430 c1_i32_1431
  let v2137 : BitVec 32 := Scalar.addi c0_i32_1432 v2136
  v2137.toNat
def k0_cond270 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_587 : BitVec 32 := 6#32
  let v904 : BitVec 1 := Scalar.cmpi .ne v2 c6_i32_587
  let v905 : BitVec 32 := Scalar.extui v904
  let c0_i32_588 : BitVec 32 := 0#32
  let v906 : BitVec 1 := Scalar.cmpi .ne v905 c0_i32_588
  v906

def k0_off141 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off142 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev87 : Nat :=
  let c0_i32_1432 : BitVec 32 := 0#32
  let c6_i32_1430 : BitVec 32 := 6#32
  let c1_i32_1431 : BitVec 32 := 1#32
  let v2136 : BitVec 32 := Scalar.muli c6_i32_1430 c1_i32_1431
  let v2137 : BitVec 32 := Scalar.addi c0_i32_1432 v2136
  v2137.toNat
def k0_cond272 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_591 : BitVec 32 := 7#32
  let v910 : BitVec 1 := Scalar.cmpi .ne v2 c7_i32_591
  let v911 : BitVec 32 := Scalar.extui v910
  let c0_i32_592 : BitVec 32 := 0#32
  let v912 : BitVec 1 := Scalar.cmpi .ne v911 c0_i32_592
  v912

def k0_off143 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off144 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev88 : Nat :=
  let c0_i32_1432 : BitVec 32 := 0#32
  let c7_i32_1430 : BitVec 32 := 7#32
  let c1_i32_1431 : BitVec 32 := 1#32
  let v2136 : BitVec 32 := Scalar.muli c7_i32_1430 c1_i32_1431
  let v2137 : BitVec 32 := Scalar.addi c0_i32_1432 v2136
  v2137.toNat
def k0_cond274 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_595 : BitVec 32 := 8#32
  let v916 : BitVec 1 := Scalar.cmpi .ne v2 c8_i32_595
  let v917 : BitVec 32 := Scalar.extui v916
  let c0_i32_596 : BitVec 32 := 0#32
  let v918 : BitVec 1 := Scalar.cmpi .ne v917 c0_i32_596
  v918

def k0_off145 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off146 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev89 : Nat :=
  let c0_i32_1432 : BitVec 32 := 0#32
  let c8_i32_1430 : BitVec 32 := 8#32
  let c1_i32_1431 : BitVec 32 := 1#32
  let v2136 : BitVec 32 := Scalar.muli c8_i32_1430 c1_i32_1431
  let v2137 : BitVec 32 := Scalar.addi c0_i32_1432 v2136
  v2137.toNat
def k0_cond276 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_599 : BitVec 32 := 9#32
  let v922 : BitVec 1 := Scalar.cmpi .ne v2 c9_i32_599
  let v923 : BitVec 32 := Scalar.extui v922
  let c0_i32_600 : BitVec 32 := 0#32
  let v924 : BitVec 1 := Scalar.cmpi .ne v923 c0_i32_600
  v924

def k0_off147 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off148 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev90 : Nat :=
  let c0_i32_1432 : BitVec 32 := 0#32
  let c9_i32_1430 : BitVec 32 := 9#32
  let c1_i32_1431 : BitVec 32 := 1#32
  let v2136 : BitVec 32 := Scalar.muli c9_i32_1430 c1_i32_1431
  let v2137 : BitVec 32 := Scalar.addi c0_i32_1432 v2136
  v2137.toNat
def k0_cond278 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_603 : BitVec 32 := 10#32
  let v928 : BitVec 1 := Scalar.cmpi .ne v2 c10_i32_603
  let v929 : BitVec 32 := Scalar.extui v928
  let c0_i32_604 : BitVec 32 := 0#32
  let v930 : BitVec 1 := Scalar.cmpi .ne v929 c0_i32_604
  v930

def k0_off149 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off150 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev91 : Nat :=
  let c0_i32_1432 : BitVec 32 := 0#32
  let c10_i32_1430 : BitVec 32 := 10#32
  let c1_i32_1431 : BitVec 32 := 1#32
  let v2136 : BitVec 32 := Scalar.muli c10_i32_1430 c1_i32_1431
  let v2137 : BitVec 32 := Scalar.addi c0_i32_1432 v2136
  v2137.toNat
def k0_cond280 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_607 : BitVec 32 := 11#32
  let v934 : BitVec 1 := Scalar.cmpi .ne v2 c11_i32_607
  let v935 : BitVec 32 := Scalar.extui v934
  let c0_i32_608 : BitVec 32 := 0#32
  let v936 : BitVec 1 := Scalar.cmpi .ne v935 c0_i32_608
  v936

def k0_off151 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off152 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev92 : Nat :=
  let c0_i32_1432 : BitVec 32 := 0#32
  let c11_i32_1430 : BitVec 32 := 11#32
  let c1_i32_1431 : BitVec 32 := 1#32
  let v2136 : BitVec 32 := Scalar.muli c11_i32_1430 c1_i32_1431
  let v2137 : BitVec 32 := Scalar.addi c0_i32_1432 v2136
  v2137.toNat
def k0_cond282 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_611 : BitVec 32 := 12#32
  let v940 : BitVec 1 := Scalar.cmpi .ne v2 c12_i32_611
  let v941 : BitVec 32 := Scalar.extui v940
  let c0_i32_612 : BitVec 32 := 0#32
  let v942 : BitVec 1 := Scalar.cmpi .ne v941 c0_i32_612
  v942

def k0_off153 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off154 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev93 : Nat :=
  let c0_i32_1432 : BitVec 32 := 0#32
  let c12_i32_1430 : BitVec 32 := 12#32
  let c1_i32_1431 : BitVec 32 := 1#32
  let v2136 : BitVec 32 := Scalar.muli c12_i32_1430 c1_i32_1431
  let v2137 : BitVec 32 := Scalar.addi c0_i32_1432 v2136
  v2137.toNat
def k0_cond284 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_615 : BitVec 32 := 13#32
  let v946 : BitVec 1 := Scalar.cmpi .ne v2 c13_i32_615
  let v947 : BitVec 32 := Scalar.extui v946
  let c0_i32_616 : BitVec 32 := 0#32
  let v948 : BitVec 1 := Scalar.cmpi .ne v947 c0_i32_616
  v948

def k0_off155 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off156 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev94 : Nat :=
  let c0_i32_1432 : BitVec 32 := 0#32
  let c13_i32_1430 : BitVec 32 := 13#32
  let c1_i32_1431 : BitVec 32 := 1#32
  let v2136 : BitVec 32 := Scalar.muli c13_i32_1430 c1_i32_1431
  let v2137 : BitVec 32 := Scalar.addi c0_i32_1432 v2136
  v2137.toNat
def k0_cond286 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_619 : BitVec 32 := 14#32
  let v952 : BitVec 1 := Scalar.cmpi .ne v2 c14_i32_619
  let v953 : BitVec 32 := Scalar.extui v952
  let c0_i32_620 : BitVec 32 := 0#32
  let v954 : BitVec 1 := Scalar.cmpi .ne v953 c0_i32_620
  v954

def k0_off157 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off158 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev95 : Nat :=
  let c0_i32_1432 : BitVec 32 := 0#32
  let c14_i32_1430 : BitVec 32 := 14#32
  let c1_i32_1431 : BitVec 32 := 1#32
  let v2136 : BitVec 32 := Scalar.muli c14_i32_1430 c1_i32_1431
  let v2137 : BitVec 32 := Scalar.addi c0_i32_1432 v2136
  v2137.toNat
def k0_cond288 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_623 : BitVec 32 := 15#32
  let v958 : BitVec 1 := Scalar.cmpi .ne v2 c15_i32_623
  let v959 : BitVec 32 := Scalar.extui v958
  let c0_i32_624 : BitVec 32 := 0#32
  let v960 : BitVec 1 := Scalar.cmpi .ne v959 c0_i32_624
  v960

def k0_off159 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off160 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev96 : Nat :=
  let c0_i32_1432 : BitVec 32 := 0#32
  let c15_i32_1430 : BitVec 32 := 15#32
  let c1_i32_1431 : BitVec 32 := 1#32
  let v2136 : BitVec 32 := Scalar.muli c15_i32_1430 c1_i32_1431
  let v2137 : BitVec 32 := Scalar.addi c0_i32_1432 v2136
  v2137.toNat
def k0_cond306 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_664 : BitVec 32 := 0#32
  let v1019 : BitVec 1 := Scalar.cmpi .ne v2 c0_i32_664
  let v1020 : BitVec 32 := Scalar.extui v1019
  let c0_i32_665 : BitVec 32 := 0#32
  let v1021 : BitVec 1 := Scalar.cmpi .ne v1020 c0_i32_665
  v1021

def k0_off161 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off162 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev97 : Nat :=
  let c0_i32_1432 : BitVec 32 := 0#32
  let c0_i32_1430 : BitVec 32 := 0#32
  let c1_i32_1431 : BitVec 32 := 1#32
  let v2136 : BitVec 32 := Scalar.muli c0_i32_1430 c1_i32_1431
  let v2137 : BitVec 32 := Scalar.addi c0_i32_1432 v2136
  v2137.toNat
def k0_cond308 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_668 : BitVec 32 := 1#32
  let v1025 : BitVec 1 := Scalar.cmpi .ne v2 c1_i32_668
  let v1026 : BitVec 32 := Scalar.extui v1025
  let c0_i32_669 : BitVec 32 := 0#32
  let v1027 : BitVec 1 := Scalar.cmpi .ne v1026 c0_i32_669
  v1027

def k0_off163 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off164 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev98 : Nat :=
  let c0_i32_1432 : BitVec 32 := 0#32
  let c1_i32_1430 : BitVec 32 := 1#32
  let c1_i32_1431 : BitVec 32 := 1#32
  let v2136 : BitVec 32 := Scalar.muli c1_i32_1430 c1_i32_1431
  let v2137 : BitVec 32 := Scalar.addi c0_i32_1432 v2136
  v2137.toNat
def k0_cond310 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_672 : BitVec 32 := 2#32
  let v1031 : BitVec 1 := Scalar.cmpi .ne v2 c2_i32_672
  let v1032 : BitVec 32 := Scalar.extui v1031
  let c0_i32_673 : BitVec 32 := 0#32
  let v1033 : BitVec 1 := Scalar.cmpi .ne v1032 c0_i32_673
  v1033

def k0_off165 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off166 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev99 : Nat :=
  let c0_i32_1432 : BitVec 32 := 0#32
  let c2_i32_1430 : BitVec 32 := 2#32
  let c1_i32_1431 : BitVec 32 := 1#32
  let v2136 : BitVec 32 := Scalar.muli c2_i32_1430 c1_i32_1431
  let v2137 : BitVec 32 := Scalar.addi c0_i32_1432 v2136
  v2137.toNat
def k0_cond312 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_676 : BitVec 32 := 3#32
  let v1037 : BitVec 1 := Scalar.cmpi .ne v2 c3_i32_676
  let v1038 : BitVec 32 := Scalar.extui v1037
  let c0_i32_677 : BitVec 32 := 0#32
  let v1039 : BitVec 1 := Scalar.cmpi .ne v1038 c0_i32_677
  v1039

def k0_off167 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off168 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev100 : Nat :=
  let c0_i32_1432 : BitVec 32 := 0#32
  let c3_i32_1430 : BitVec 32 := 3#32
  let c1_i32_1431 : BitVec 32 := 1#32
  let v2136 : BitVec 32 := Scalar.muli c3_i32_1430 c1_i32_1431
  let v2137 : BitVec 32 := Scalar.addi c0_i32_1432 v2136
  v2137.toNat
def k0_cond314 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_680 : BitVec 32 := 4#32
  let v1043 : BitVec 1 := Scalar.cmpi .ne v2 c4_i32_680
  let v1044 : BitVec 32 := Scalar.extui v1043
  let c0_i32_681 : BitVec 32 := 0#32
  let v1045 : BitVec 1 := Scalar.cmpi .ne v1044 c0_i32_681
  v1045

def k0_off169 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off170 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev101 : Nat :=
  let c0_i32_1432 : BitVec 32 := 0#32
  let c4_i32_1430 : BitVec 32 := 4#32
  let c1_i32_1431 : BitVec 32 := 1#32
  let v2136 : BitVec 32 := Scalar.muli c4_i32_1430 c1_i32_1431
  let v2137 : BitVec 32 := Scalar.addi c0_i32_1432 v2136
  v2137.toNat
def k0_cond316 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_684 : BitVec 32 := 5#32
  let v1049 : BitVec 1 := Scalar.cmpi .ne v2 c5_i32_684
  let v1050 : BitVec 32 := Scalar.extui v1049
  let c0_i32_685 : BitVec 32 := 0#32
  let v1051 : BitVec 1 := Scalar.cmpi .ne v1050 c0_i32_685
  v1051

def k0_off171 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off172 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev102 : Nat :=
  let c0_i32_1432 : BitVec 32 := 0#32
  let c5_i32_1430 : BitVec 32 := 5#32
  let c1_i32_1431 : BitVec 32 := 1#32
  let v2136 : BitVec 32 := Scalar.muli c5_i32_1430 c1_i32_1431
  let v2137 : BitVec 32 := Scalar.addi c0_i32_1432 v2136
  v2137.toNat
def k0_cond318 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_688 : BitVec 32 := 6#32
  let v1055 : BitVec 1 := Scalar.cmpi .ne v2 c6_i32_688
  let v1056 : BitVec 32 := Scalar.extui v1055
  let c0_i32_689 : BitVec 32 := 0#32
  let v1057 : BitVec 1 := Scalar.cmpi .ne v1056 c0_i32_689
  v1057

def k0_off173 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off174 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev103 : Nat :=
  let c0_i32_1432 : BitVec 32 := 0#32
  let c6_i32_1430 : BitVec 32 := 6#32
  let c1_i32_1431 : BitVec 32 := 1#32
  let v2136 : BitVec 32 := Scalar.muli c6_i32_1430 c1_i32_1431
  let v2137 : BitVec 32 := Scalar.addi c0_i32_1432 v2136
  v2137.toNat
def k0_cond320 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_692 : BitVec 32 := 7#32
  let v1061 : BitVec 1 := Scalar.cmpi .ne v2 c7_i32_692
  let v1062 : BitVec 32 := Scalar.extui v1061
  let c0_i32_693 : BitVec 32 := 0#32
  let v1063 : BitVec 1 := Scalar.cmpi .ne v1062 c0_i32_693
  v1063

def k0_off175 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off176 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev104 : Nat :=
  let c0_i32_1432 : BitVec 32 := 0#32
  let c7_i32_1430 : BitVec 32 := 7#32
  let c1_i32_1431 : BitVec 32 := 1#32
  let v2136 : BitVec 32 := Scalar.muli c7_i32_1430 c1_i32_1431
  let v2137 : BitVec 32 := Scalar.addi c0_i32_1432 v2136
  v2137.toNat
def k0_cond322 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_696 : BitVec 32 := 8#32
  let v1067 : BitVec 1 := Scalar.cmpi .ne v2 c8_i32_696
  let v1068 : BitVec 32 := Scalar.extui v1067
  let c0_i32_697 : BitVec 32 := 0#32
  let v1069 : BitVec 1 := Scalar.cmpi .ne v1068 c0_i32_697
  v1069

def k0_off177 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off178 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev105 : Nat :=
  let c0_i32_1432 : BitVec 32 := 0#32
  let c8_i32_1430 : BitVec 32 := 8#32
  let c1_i32_1431 : BitVec 32 := 1#32
  let v2136 : BitVec 32 := Scalar.muli c8_i32_1430 c1_i32_1431
  let v2137 : BitVec 32 := Scalar.addi c0_i32_1432 v2136
  v2137.toNat
def k0_cond324 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_700 : BitVec 32 := 9#32
  let v1073 : BitVec 1 := Scalar.cmpi .ne v2 c9_i32_700
  let v1074 : BitVec 32 := Scalar.extui v1073
  let c0_i32_701 : BitVec 32 := 0#32
  let v1075 : BitVec 1 := Scalar.cmpi .ne v1074 c0_i32_701
  v1075

def k0_off179 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off180 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev106 : Nat :=
  let c0_i32_1432 : BitVec 32 := 0#32
  let c9_i32_1430 : BitVec 32 := 9#32
  let c1_i32_1431 : BitVec 32 := 1#32
  let v2136 : BitVec 32 := Scalar.muli c9_i32_1430 c1_i32_1431
  let v2137 : BitVec 32 := Scalar.addi c0_i32_1432 v2136
  v2137.toNat
def k0_cond326 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_704 : BitVec 32 := 10#32
  let v1079 : BitVec 1 := Scalar.cmpi .ne v2 c10_i32_704
  let v1080 : BitVec 32 := Scalar.extui v1079
  let c0_i32_705 : BitVec 32 := 0#32
  let v1081 : BitVec 1 := Scalar.cmpi .ne v1080 c0_i32_705
  v1081

def k0_off181 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off182 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev107 : Nat :=
  let c0_i32_1432 : BitVec 32 := 0#32
  let c10_i32_1430 : BitVec 32 := 10#32
  let c1_i32_1431 : BitVec 32 := 1#32
  let v2136 : BitVec 32 := Scalar.muli c10_i32_1430 c1_i32_1431
  let v2137 : BitVec 32 := Scalar.addi c0_i32_1432 v2136
  v2137.toNat
def k0_cond328 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_708 : BitVec 32 := 11#32
  let v1085 : BitVec 1 := Scalar.cmpi .ne v2 c11_i32_708
  let v1086 : BitVec 32 := Scalar.extui v1085
  let c0_i32_709 : BitVec 32 := 0#32
  let v1087 : BitVec 1 := Scalar.cmpi .ne v1086 c0_i32_709
  v1087

def k0_off183 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off184 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev108 : Nat :=
  let c0_i32_1432 : BitVec 32 := 0#32
  let c11_i32_1430 : BitVec 32 := 11#32
  let c1_i32_1431 : BitVec 32 := 1#32
  let v2136 : BitVec 32 := Scalar.muli c11_i32_1430 c1_i32_1431
  let v2137 : BitVec 32 := Scalar.addi c0_i32_1432 v2136
  v2137.toNat
def k0_cond330 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_712 : BitVec 32 := 12#32
  let v1091 : BitVec 1 := Scalar.cmpi .ne v2 c12_i32_712
  let v1092 : BitVec 32 := Scalar.extui v1091
  let c0_i32_713 : BitVec 32 := 0#32
  let v1093 : BitVec 1 := Scalar.cmpi .ne v1092 c0_i32_713
  v1093

def k0_off185 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off186 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev109 : Nat :=
  let c0_i32_1432 : BitVec 32 := 0#32
  let c12_i32_1430 : BitVec 32 := 12#32
  let c1_i32_1431 : BitVec 32 := 1#32
  let v2136 : BitVec 32 := Scalar.muli c12_i32_1430 c1_i32_1431
  let v2137 : BitVec 32 := Scalar.addi c0_i32_1432 v2136
  v2137.toNat
def k0_cond332 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_716 : BitVec 32 := 13#32
  let v1097 : BitVec 1 := Scalar.cmpi .ne v2 c13_i32_716
  let v1098 : BitVec 32 := Scalar.extui v1097
  let c0_i32_717 : BitVec 32 := 0#32
  let v1099 : BitVec 1 := Scalar.cmpi .ne v1098 c0_i32_717
  v1099

def k0_off187 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off188 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev110 : Nat :=
  let c0_i32_1432 : BitVec 32 := 0#32
  let c13_i32_1430 : BitVec 32 := 13#32
  let c1_i32_1431 : BitVec 32 := 1#32
  let v2136 : BitVec 32 := Scalar.muli c13_i32_1430 c1_i32_1431
  let v2137 : BitVec 32 := Scalar.addi c0_i32_1432 v2136
  v2137.toNat
def k0_cond334 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_720 : BitVec 32 := 14#32
  let v1103 : BitVec 1 := Scalar.cmpi .ne v2 c14_i32_720
  let v1104 : BitVec 32 := Scalar.extui v1103
  let c0_i32_721 : BitVec 32 := 0#32
  let v1105 : BitVec 1 := Scalar.cmpi .ne v1104 c0_i32_721
  v1105

def k0_off189 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off190 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev111 : Nat :=
  let c0_i32_1432 : BitVec 32 := 0#32
  let c14_i32_1430 : BitVec 32 := 14#32
  let c1_i32_1431 : BitVec 32 := 1#32
  let v2136 : BitVec 32 := Scalar.muli c14_i32_1430 c1_i32_1431
  let v2137 : BitVec 32 := Scalar.addi c0_i32_1432 v2136
  v2137.toNat
def k0_cond336 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_724 : BitVec 32 := 15#32
  let v1109 : BitVec 1 := Scalar.cmpi .ne v2 c15_i32_724
  let v1110 : BitVec 32 := Scalar.extui v1109
  let c0_i32_725 : BitVec 32 := 0#32
  let v1111 : BitVec 1 := Scalar.cmpi .ne v1110 c0_i32_725
  v1111

def k0_off191 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off192 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev112 : Nat :=
  let c0_i32_1432 : BitVec 32 := 0#32
  let c15_i32_1430 : BitVec 32 := 15#32
  let c1_i32_1431 : BitVec 32 := 1#32
  let v2136 : BitVec 32 := Scalar.muli c15_i32_1430 c1_i32_1431
  let v2137 : BitVec 32 := Scalar.addi c0_i32_1432 v2136
  v2137.toNat
def k0_cond370 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_801 : BitVec 32 := 0#32
  let v1221 : BitVec 1 := Scalar.cmpi .ne v2 c0_i32_801
  let v1222 : BitVec 32 := Scalar.extui v1221
  let c0_i32_802 : BitVec 32 := 0#32
  let v1223 : BitVec 1 := Scalar.cmpi .ne v1222 c0_i32_802
  v1223

def k0_off193 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off194 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev113 : Nat :=
  let c0_i32_1431 : BitVec 32 := 0#32
  let c0_i32_1429 : BitVec 32 := 0#32
  let c1_i32_1430 : BitVec 32 := 1#32
  let v2136 : BitVec 32 := Scalar.muli c0_i32_1429 c1_i32_1430
  let v2137 : BitVec 32 := Scalar.addi c0_i32_1431 v2136
  v2137.toNat
def k0_cond372 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_805 : BitVec 32 := 1#32
  let v1227 : BitVec 1 := Scalar.cmpi .ne v2 c1_i32_805
  let v1228 : BitVec 32 := Scalar.extui v1227
  let c0_i32_806 : BitVec 32 := 0#32
  let v1229 : BitVec 1 := Scalar.cmpi .ne v1228 c0_i32_806
  v1229

def k0_off195 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off196 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev114 : Nat :=
  let c0_i32_1431 : BitVec 32 := 0#32
  let c1_i32_1429 : BitVec 32 := 1#32
  let c1_i32_1430 : BitVec 32 := 1#32
  let v2136 : BitVec 32 := Scalar.muli c1_i32_1429 c1_i32_1430
  let v2137 : BitVec 32 := Scalar.addi c0_i32_1431 v2136
  v2137.toNat
def k0_cond374 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_809 : BitVec 32 := 2#32
  let v1233 : BitVec 1 := Scalar.cmpi .ne v2 c2_i32_809
  let v1234 : BitVec 32 := Scalar.extui v1233
  let c0_i32_810 : BitVec 32 := 0#32
  let v1235 : BitVec 1 := Scalar.cmpi .ne v1234 c0_i32_810
  v1235

def k0_off197 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off198 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev115 : Nat :=
  let c0_i32_1431 : BitVec 32 := 0#32
  let c2_i32_1429 : BitVec 32 := 2#32
  let c1_i32_1430 : BitVec 32 := 1#32
  let v2136 : BitVec 32 := Scalar.muli c2_i32_1429 c1_i32_1430
  let v2137 : BitVec 32 := Scalar.addi c0_i32_1431 v2136
  v2137.toNat
def k0_cond376 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_813 : BitVec 32 := 3#32
  let v1239 : BitVec 1 := Scalar.cmpi .ne v2 c3_i32_813
  let v1240 : BitVec 32 := Scalar.extui v1239
  let c0_i32_814 : BitVec 32 := 0#32
  let v1241 : BitVec 1 := Scalar.cmpi .ne v1240 c0_i32_814
  v1241

def k0_off199 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off200 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev116 : Nat :=
  let c0_i32_1431 : BitVec 32 := 0#32
  let c3_i32_1429 : BitVec 32 := 3#32
  let c1_i32_1430 : BitVec 32 := 1#32
  let v2136 : BitVec 32 := Scalar.muli c3_i32_1429 c1_i32_1430
  let v2137 : BitVec 32 := Scalar.addi c0_i32_1431 v2136
  v2137.toNat
def k0_cond378 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_817 : BitVec 32 := 4#32
  let v1245 : BitVec 1 := Scalar.cmpi .ne v2 c4_i32_817
  let v1246 : BitVec 32 := Scalar.extui v1245
  let c0_i32_818 : BitVec 32 := 0#32
  let v1247 : BitVec 1 := Scalar.cmpi .ne v1246 c0_i32_818
  v1247

def k0_off201 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off202 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev117 : Nat :=
  let c0_i32_1431 : BitVec 32 := 0#32
  let c4_i32_1429 : BitVec 32 := 4#32
  let c1_i32_1430 : BitVec 32 := 1#32
  let v2136 : BitVec 32 := Scalar.muli c4_i32_1429 c1_i32_1430
  let v2137 : BitVec 32 := Scalar.addi c0_i32_1431 v2136
  v2137.toNat
def k0_cond380 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_821 : BitVec 32 := 5#32
  let v1251 : BitVec 1 := Scalar.cmpi .ne v2 c5_i32_821
  let v1252 : BitVec 32 := Scalar.extui v1251
  let c0_i32_822 : BitVec 32 := 0#32
  let v1253 : BitVec 1 := Scalar.cmpi .ne v1252 c0_i32_822
  v1253

def k0_off203 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off204 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev118 : Nat :=
  let c0_i32_1431 : BitVec 32 := 0#32
  let c5_i32_1429 : BitVec 32 := 5#32
  let c1_i32_1430 : BitVec 32 := 1#32
  let v2136 : BitVec 32 := Scalar.muli c5_i32_1429 c1_i32_1430
  let v2137 : BitVec 32 := Scalar.addi c0_i32_1431 v2136
  v2137.toNat
def k0_cond382 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_825 : BitVec 32 := 6#32
  let v1257 : BitVec 1 := Scalar.cmpi .ne v2 c6_i32_825
  let v1258 : BitVec 32 := Scalar.extui v1257
  let c0_i32_826 : BitVec 32 := 0#32
  let v1259 : BitVec 1 := Scalar.cmpi .ne v1258 c0_i32_826
  v1259

def k0_off205 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off206 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev119 : Nat :=
  let c0_i32_1431 : BitVec 32 := 0#32
  let c6_i32_1429 : BitVec 32 := 6#32
  let c1_i32_1430 : BitVec 32 := 1#32
  let v2136 : BitVec 32 := Scalar.muli c6_i32_1429 c1_i32_1430
  let v2137 : BitVec 32 := Scalar.addi c0_i32_1431 v2136
  v2137.toNat
def k0_cond384 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_829 : BitVec 32 := 7#32
  let v1263 : BitVec 1 := Scalar.cmpi .ne v2 c7_i32_829
  let v1264 : BitVec 32 := Scalar.extui v1263
  let c0_i32_830 : BitVec 32 := 0#32
  let v1265 : BitVec 1 := Scalar.cmpi .ne v1264 c0_i32_830
  v1265

def k0_off207 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off208 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev120 : Nat :=
  let c0_i32_1431 : BitVec 32 := 0#32
  let c7_i32_1429 : BitVec 32 := 7#32
  let c1_i32_1430 : BitVec 32 := 1#32
  let v2136 : BitVec 32 := Scalar.muli c7_i32_1429 c1_i32_1430
  let v2137 : BitVec 32 := Scalar.addi c0_i32_1431 v2136
  v2137.toNat
def k0_cond386 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_833 : BitVec 32 := 8#32
  let v1269 : BitVec 1 := Scalar.cmpi .ne v2 c8_i32_833
  let v1270 : BitVec 32 := Scalar.extui v1269
  let c0_i32_834 : BitVec 32 := 0#32
  let v1271 : BitVec 1 := Scalar.cmpi .ne v1270 c0_i32_834
  v1271

def k0_off209 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off210 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev121 : Nat :=
  let c0_i32_1431 : BitVec 32 := 0#32
  let c8_i32_1429 : BitVec 32 := 8#32
  let c1_i32_1430 : BitVec 32 := 1#32
  let v2136 : BitVec 32 := Scalar.muli c8_i32_1429 c1_i32_1430
  let v2137 : BitVec 32 := Scalar.addi c0_i32_1431 v2136
  v2137.toNat
def k0_cond388 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_837 : BitVec 32 := 9#32
  let v1275 : BitVec 1 := Scalar.cmpi .ne v2 c9_i32_837
  let v1276 : BitVec 32 := Scalar.extui v1275
  let c0_i32_838 : BitVec 32 := 0#32
  let v1277 : BitVec 1 := Scalar.cmpi .ne v1276 c0_i32_838
  v1277

def k0_off211 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off212 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev122 : Nat :=
  let c0_i32_1431 : BitVec 32 := 0#32
  let c9_i32_1429 : BitVec 32 := 9#32
  let c1_i32_1430 : BitVec 32 := 1#32
  let v2136 : BitVec 32 := Scalar.muli c9_i32_1429 c1_i32_1430
  let v2137 : BitVec 32 := Scalar.addi c0_i32_1431 v2136
  v2137.toNat
def k0_cond390 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_841 : BitVec 32 := 10#32
  let v1281 : BitVec 1 := Scalar.cmpi .ne v2 c10_i32_841
  let v1282 : BitVec 32 := Scalar.extui v1281
  let c0_i32_842 : BitVec 32 := 0#32
  let v1283 : BitVec 1 := Scalar.cmpi .ne v1282 c0_i32_842
  v1283

def k0_off213 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off214 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev123 : Nat :=
  let c0_i32_1431 : BitVec 32 := 0#32
  let c10_i32_1429 : BitVec 32 := 10#32
  let c1_i32_1430 : BitVec 32 := 1#32
  let v2136 : BitVec 32 := Scalar.muli c10_i32_1429 c1_i32_1430
  let v2137 : BitVec 32 := Scalar.addi c0_i32_1431 v2136
  v2137.toNat
def k0_cond392 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_845 : BitVec 32 := 11#32
  let v1287 : BitVec 1 := Scalar.cmpi .ne v2 c11_i32_845
  let v1288 : BitVec 32 := Scalar.extui v1287
  let c0_i32_846 : BitVec 32 := 0#32
  let v1289 : BitVec 1 := Scalar.cmpi .ne v1288 c0_i32_846
  v1289

def k0_off215 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off216 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev124 : Nat :=
  let c0_i32_1431 : BitVec 32 := 0#32
  let c11_i32_1429 : BitVec 32 := 11#32
  let c1_i32_1430 : BitVec 32 := 1#32
  let v2136 : BitVec 32 := Scalar.muli c11_i32_1429 c1_i32_1430
  let v2137 : BitVec 32 := Scalar.addi c0_i32_1431 v2136
  v2137.toNat
def k0_cond394 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_849 : BitVec 32 := 12#32
  let v1293 : BitVec 1 := Scalar.cmpi .ne v2 c12_i32_849
  let v1294 : BitVec 32 := Scalar.extui v1293
  let c0_i32_850 : BitVec 32 := 0#32
  let v1295 : BitVec 1 := Scalar.cmpi .ne v1294 c0_i32_850
  v1295

def k0_off217 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off218 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev125 : Nat :=
  let c0_i32_1431 : BitVec 32 := 0#32
  let c12_i32_1429 : BitVec 32 := 12#32
  let c1_i32_1430 : BitVec 32 := 1#32
  let v2136 : BitVec 32 := Scalar.muli c12_i32_1429 c1_i32_1430
  let v2137 : BitVec 32 := Scalar.addi c0_i32_1431 v2136
  v2137.toNat
def k0_cond396 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_853 : BitVec 32 := 13#32
  let v1299 : BitVec 1 := Scalar.cmpi .ne v2 c13_i32_853
  let v1300 : BitVec 32 := Scalar.extui v1299
  let c0_i32_854 : BitVec 32 := 0#32
  let v1301 : BitVec 1 := Scalar.cmpi .ne v1300 c0_i32_854
  v1301

def k0_off219 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off220 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev126 : Nat :=
  let c0_i32_1431 : BitVec 32 := 0#32
  let c13_i32_1429 : BitVec 32 := 13#32
  let c1_i32_1430 : BitVec 32 := 1#32
  let v2136 : BitVec 32 := Scalar.muli c13_i32_1429 c1_i32_1430
  let v2137 : BitVec 32 := Scalar.addi c0_i32_1431 v2136
  v2137.toNat
def k0_cond398 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_857 : BitVec 32 := 14#32
  let v1305 : BitVec 1 := Scalar.cmpi .ne v2 c14_i32_857
  let v1306 : BitVec 32 := Scalar.extui v1305
  let c0_i32_858 : BitVec 32 := 0#32
  let v1307 : BitVec 1 := Scalar.cmpi .ne v1306 c0_i32_858
  v1307

def k0_off221 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off222 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev127 : Nat :=
  let c0_i32_1431 : BitVec 32 := 0#32
  let c14_i32_1429 : BitVec 32 := 14#32
  let c1_i32_1430 : BitVec 32 := 1#32
  let v2136 : BitVec 32 := Scalar.muli c14_i32_1429 c1_i32_1430
  let v2137 : BitVec 32 := Scalar.addi c0_i32_1431 v2136
  v2137.toNat
def k0_cond400 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_861 : BitVec 32 := 15#32
  let v1311 : BitVec 1 := Scalar.cmpi .ne v2 c15_i32_861
  let v1312 : BitVec 32 := Scalar.extui v1311
  let c0_i32_862 : BitVec 32 := 0#32
  let v1313 : BitVec 1 := Scalar.cmpi .ne v1312 c0_i32_862
  v1313

def k0_off223 (d0 : Dev nD) : Fin 2 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off224 (d0 : Dev nD) : Fin 4 → Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![0, v2.toNat, 0, 0]
def k0_dev128 : Nat :=
  let c0_i32_1431 : BitVec 32 := 0#32
  let c15_i32_1429 : BitVec 32 := 15#32
  let c1_i32_1430 : BitVec 32 := 1#32
  let v2136 : BitVec 32 := Scalar.muli c15_i32_1429 c1_i32_1430
  let v2137 : BitVec 32 := Scalar.addi c0_i32_1431 v2136
  v2137.toNat
def k0_cond434 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_937 : BitVec 32 := 0#32
  let v1421 : BitVec 1 := Scalar.cmpi .ne v2 c0_i32_937
  let v1422 : BitVec 32 := Scalar.extui v1421
  let c0_i32_938 : BitVec 32 := 0#32
  let v1423 : BitVec 1 := Scalar.cmpi .ne v1422 c0_i32_938
  v1423

def k0_off225 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off226 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev129 : Nat :=
  let c0_i32_1431 : BitVec 32 := 0#32
  let c0_i32_1429 : BitVec 32 := 0#32
  let c1_i32_1430 : BitVec 32 := 1#32
  let v2136 : BitVec 32 := Scalar.muli c0_i32_1429 c1_i32_1430
  let v2137 : BitVec 32 := Scalar.addi c0_i32_1431 v2136
  v2137.toNat
def k0_cond436 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_941 : BitVec 32 := 1#32
  let v1427 : BitVec 1 := Scalar.cmpi .ne v2 c1_i32_941
  let v1428 : BitVec 32 := Scalar.extui v1427
  let c0_i32_942 : BitVec 32 := 0#32
  let v1429 : BitVec 1 := Scalar.cmpi .ne v1428 c0_i32_942
  v1429

def k0_off227 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off228 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev130 : Nat :=
  let c0_i32_1431 : BitVec 32 := 0#32
  let c1_i32_1429 : BitVec 32 := 1#32
  let c1_i32_1430 : BitVec 32 := 1#32
  let v2136 : BitVec 32 := Scalar.muli c1_i32_1429 c1_i32_1430
  let v2137 : BitVec 32 := Scalar.addi c0_i32_1431 v2136
  v2137.toNat
def k0_cond438 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_945 : BitVec 32 := 2#32
  let v1433 : BitVec 1 := Scalar.cmpi .ne v2 c2_i32_945
  let v1434 : BitVec 32 := Scalar.extui v1433
  let c0_i32_946 : BitVec 32 := 0#32
  let v1435 : BitVec 1 := Scalar.cmpi .ne v1434 c0_i32_946
  v1435

def k0_off229 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off230 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev131 : Nat :=
  let c0_i32_1431 : BitVec 32 := 0#32
  let c2_i32_1429 : BitVec 32 := 2#32
  let c1_i32_1430 : BitVec 32 := 1#32
  let v2136 : BitVec 32 := Scalar.muli c2_i32_1429 c1_i32_1430
  let v2137 : BitVec 32 := Scalar.addi c0_i32_1431 v2136
  v2137.toNat
def k0_cond440 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_949 : BitVec 32 := 3#32
  let v1439 : BitVec 1 := Scalar.cmpi .ne v2 c3_i32_949
  let v1440 : BitVec 32 := Scalar.extui v1439
  let c0_i32_950 : BitVec 32 := 0#32
  let v1441 : BitVec 1 := Scalar.cmpi .ne v1440 c0_i32_950
  v1441

def k0_off231 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off232 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev132 : Nat :=
  let c0_i32_1431 : BitVec 32 := 0#32
  let c3_i32_1429 : BitVec 32 := 3#32
  let c1_i32_1430 : BitVec 32 := 1#32
  let v2136 : BitVec 32 := Scalar.muli c3_i32_1429 c1_i32_1430
  let v2137 : BitVec 32 := Scalar.addi c0_i32_1431 v2136
  v2137.toNat
def k0_cond442 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_953 : BitVec 32 := 4#32
  let v1445 : BitVec 1 := Scalar.cmpi .ne v2 c4_i32_953
  let v1446 : BitVec 32 := Scalar.extui v1445
  let c0_i32_954 : BitVec 32 := 0#32
  let v1447 : BitVec 1 := Scalar.cmpi .ne v1446 c0_i32_954
  v1447

def k0_off233 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off234 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev133 : Nat :=
  let c0_i32_1431 : BitVec 32 := 0#32
  let c4_i32_1429 : BitVec 32 := 4#32
  let c1_i32_1430 : BitVec 32 := 1#32
  let v2136 : BitVec 32 := Scalar.muli c4_i32_1429 c1_i32_1430
  let v2137 : BitVec 32 := Scalar.addi c0_i32_1431 v2136
  v2137.toNat
def k0_cond444 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_957 : BitVec 32 := 5#32
  let v1451 : BitVec 1 := Scalar.cmpi .ne v2 c5_i32_957
  let v1452 : BitVec 32 := Scalar.extui v1451
  let c0_i32_958 : BitVec 32 := 0#32
  let v1453 : BitVec 1 := Scalar.cmpi .ne v1452 c0_i32_958
  v1453

def k0_off235 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off236 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev134 : Nat :=
  let c0_i32_1431 : BitVec 32 := 0#32
  let c5_i32_1429 : BitVec 32 := 5#32
  let c1_i32_1430 : BitVec 32 := 1#32
  let v2136 : BitVec 32 := Scalar.muli c5_i32_1429 c1_i32_1430
  let v2137 : BitVec 32 := Scalar.addi c0_i32_1431 v2136
  v2137.toNat
def k0_cond446 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_961 : BitVec 32 := 6#32
  let v1457 : BitVec 1 := Scalar.cmpi .ne v2 c6_i32_961
  let v1458 : BitVec 32 := Scalar.extui v1457
  let c0_i32_962 : BitVec 32 := 0#32
  let v1459 : BitVec 1 := Scalar.cmpi .ne v1458 c0_i32_962
  v1459

def k0_off237 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off238 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev135 : Nat :=
  let c0_i32_1431 : BitVec 32 := 0#32
  let c6_i32_1429 : BitVec 32 := 6#32
  let c1_i32_1430 : BitVec 32 := 1#32
  let v2136 : BitVec 32 := Scalar.muli c6_i32_1429 c1_i32_1430
  let v2137 : BitVec 32 := Scalar.addi c0_i32_1431 v2136
  v2137.toNat
def k0_cond448 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_965 : BitVec 32 := 7#32
  let v1463 : BitVec 1 := Scalar.cmpi .ne v2 c7_i32_965
  let v1464 : BitVec 32 := Scalar.extui v1463
  let c0_i32_966 : BitVec 32 := 0#32
  let v1465 : BitVec 1 := Scalar.cmpi .ne v1464 c0_i32_966
  v1465

def k0_off239 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off240 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev136 : Nat :=
  let c0_i32_1431 : BitVec 32 := 0#32
  let c7_i32_1429 : BitVec 32 := 7#32
  let c1_i32_1430 : BitVec 32 := 1#32
  let v2136 : BitVec 32 := Scalar.muli c7_i32_1429 c1_i32_1430
  let v2137 : BitVec 32 := Scalar.addi c0_i32_1431 v2136
  v2137.toNat
def k0_cond450 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_969 : BitVec 32 := 8#32
  let v1469 : BitVec 1 := Scalar.cmpi .ne v2 c8_i32_969
  let v1470 : BitVec 32 := Scalar.extui v1469
  let c0_i32_970 : BitVec 32 := 0#32
  let v1471 : BitVec 1 := Scalar.cmpi .ne v1470 c0_i32_970
  v1471

def k0_off241 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off242 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev137 : Nat :=
  let c0_i32_1431 : BitVec 32 := 0#32
  let c8_i32_1429 : BitVec 32 := 8#32
  let c1_i32_1430 : BitVec 32 := 1#32
  let v2136 : BitVec 32 := Scalar.muli c8_i32_1429 c1_i32_1430
  let v2137 : BitVec 32 := Scalar.addi c0_i32_1431 v2136
  v2137.toNat
def k0_cond452 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_973 : BitVec 32 := 9#32
  let v1475 : BitVec 1 := Scalar.cmpi .ne v2 c9_i32_973
  let v1476 : BitVec 32 := Scalar.extui v1475
  let c0_i32_974 : BitVec 32 := 0#32
  let v1477 : BitVec 1 := Scalar.cmpi .ne v1476 c0_i32_974
  v1477

def k0_off243 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off244 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev138 : Nat :=
  let c0_i32_1431 : BitVec 32 := 0#32
  let c9_i32_1429 : BitVec 32 := 9#32
  let c1_i32_1430 : BitVec 32 := 1#32
  let v2136 : BitVec 32 := Scalar.muli c9_i32_1429 c1_i32_1430
  let v2137 : BitVec 32 := Scalar.addi c0_i32_1431 v2136
  v2137.toNat
def k0_cond454 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_977 : BitVec 32 := 10#32
  let v1481 : BitVec 1 := Scalar.cmpi .ne v2 c10_i32_977
  let v1482 : BitVec 32 := Scalar.extui v1481
  let c0_i32_978 : BitVec 32 := 0#32
  let v1483 : BitVec 1 := Scalar.cmpi .ne v1482 c0_i32_978
  v1483

def k0_off245 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off246 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev139 : Nat :=
  let c0_i32_1431 : BitVec 32 := 0#32
  let c10_i32_1429 : BitVec 32 := 10#32
  let c1_i32_1430 : BitVec 32 := 1#32
  let v2136 : BitVec 32 := Scalar.muli c10_i32_1429 c1_i32_1430
  let v2137 : BitVec 32 := Scalar.addi c0_i32_1431 v2136
  v2137.toNat
def k0_cond456 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_981 : BitVec 32 := 11#32
  let v1487 : BitVec 1 := Scalar.cmpi .ne v2 c11_i32_981
  let v1488 : BitVec 32 := Scalar.extui v1487
  let c0_i32_982 : BitVec 32 := 0#32
  let v1489 : BitVec 1 := Scalar.cmpi .ne v1488 c0_i32_982
  v1489

def k0_off247 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off248 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev140 : Nat :=
  let c0_i32_1431 : BitVec 32 := 0#32
  let c11_i32_1429 : BitVec 32 := 11#32
  let c1_i32_1430 : BitVec 32 := 1#32
  let v2136 : BitVec 32 := Scalar.muli c11_i32_1429 c1_i32_1430
  let v2137 : BitVec 32 := Scalar.addi c0_i32_1431 v2136
  v2137.toNat
def k0_cond458 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_985 : BitVec 32 := 12#32
  let v1493 : BitVec 1 := Scalar.cmpi .ne v2 c12_i32_985
  let v1494 : BitVec 32 := Scalar.extui v1493
  let c0_i32_986 : BitVec 32 := 0#32
  let v1495 : BitVec 1 := Scalar.cmpi .ne v1494 c0_i32_986
  v1495

def k0_off249 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off250 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev141 : Nat :=
  let c0_i32_1431 : BitVec 32 := 0#32
  let c12_i32_1429 : BitVec 32 := 12#32
  let c1_i32_1430 : BitVec 32 := 1#32
  let v2136 : BitVec 32 := Scalar.muli c12_i32_1429 c1_i32_1430
  let v2137 : BitVec 32 := Scalar.addi c0_i32_1431 v2136
  v2137.toNat
def k0_cond460 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_989 : BitVec 32 := 13#32
  let v1499 : BitVec 1 := Scalar.cmpi .ne v2 c13_i32_989
  let v1500 : BitVec 32 := Scalar.extui v1499
  let c0_i32_990 : BitVec 32 := 0#32
  let v1501 : BitVec 1 := Scalar.cmpi .ne v1500 c0_i32_990
  v1501

def k0_off251 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off252 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev142 : Nat :=
  let c0_i32_1431 : BitVec 32 := 0#32
  let c13_i32_1429 : BitVec 32 := 13#32
  let c1_i32_1430 : BitVec 32 := 1#32
  let v2136 : BitVec 32 := Scalar.muli c13_i32_1429 c1_i32_1430
  let v2137 : BitVec 32 := Scalar.addi c0_i32_1431 v2136
  v2137.toNat
def k0_cond462 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_993 : BitVec 32 := 14#32
  let v1505 : BitVec 1 := Scalar.cmpi .ne v2 c14_i32_993
  let v1506 : BitVec 32 := Scalar.extui v1505
  let c0_i32_994 : BitVec 32 := 0#32
  let v1507 : BitVec 1 := Scalar.cmpi .ne v1506 c0_i32_994
  v1507

def k0_off253 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off254 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev143 : Nat :=
  let c0_i32_1431 : BitVec 32 := 0#32
  let c14_i32_1429 : BitVec 32 := 14#32
  let c1_i32_1430 : BitVec 32 := 1#32
  let v2136 : BitVec 32 := Scalar.muli c14_i32_1429 c1_i32_1430
  let v2137 : BitVec 32 := Scalar.addi c0_i32_1431 v2136
  v2137.toNat
def k0_cond464 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_997 : BitVec 32 := 15#32
  let v1511 : BitVec 1 := Scalar.cmpi .ne v2 c15_i32_997
  let v1512 : BitVec 32 := Scalar.extui v1511
  let c0_i32_998 : BitVec 32 := 0#32
  let v1513 : BitVec 1 := Scalar.cmpi .ne v1512 c0_i32_998
  v1513

def k0_off255 (d0 : Dev nD) : Fin 2 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off256 (d0 : Dev nD) : Fin 4 → Nat :=
  let c1_i32_1425 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1432 : BitVec 32 := 0#32
  let c0_i32_1433 : BitVec 32 := 0#32
  ![1, v2.toNat, 0, 0]
def k0_dev144 : Nat :=
  let c0_i32_1431 : BitVec 32 := 0#32
  let c15_i32_1429 : BitVec 32 := 15#32
  let c1_i32_1430 : BitVec 32 := 1#32
  let v2136 : BitVec 32 := Scalar.muli c15_i32_1429 c1_i32_1430
  let v2137 : BitVec 32 := Scalar.addi c0_i32_1431 v2136
  v2137.toNat
def k0_cond514 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1119 : BitVec 32 := 0#32
  let v1690 : BitVec 1 := Scalar.cmpi .ne v2 c0_i32_1119
  let v1691 : BitVec 32 := Scalar.extui v1690
  let c0_i32_1120 : BitVec 32 := 0#32
  let v1692 : BitVec 1 := Scalar.cmpi .ne v1691 c0_i32_1120
  v1692

def k0_off257 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off258 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev145 : Nat :=
  let c0_i32_1432 : BitVec 32 := 0#32
  let c0_i32_1430 : BitVec 32 := 0#32
  let c1_i32_1431 : BitVec 32 := 1#32
  let v2136 : BitVec 32 := Scalar.muli c0_i32_1430 c1_i32_1431
  let v2137 : BitVec 32 := Scalar.addi c0_i32_1432 v2136
  v2137.toNat
def k0_cond516 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1123 : BitVec 32 := 1#32
  let v1696 : BitVec 1 := Scalar.cmpi .ne v2 c1_i32_1123
  let v1697 : BitVec 32 := Scalar.extui v1696
  let c0_i32_1124 : BitVec 32 := 0#32
  let v1698 : BitVec 1 := Scalar.cmpi .ne v1697 c0_i32_1124
  v1698

def k0_off259 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off260 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev146 : Nat :=
  let c0_i32_1432 : BitVec 32 := 0#32
  let c1_i32_1430 : BitVec 32 := 1#32
  let c1_i32_1431 : BitVec 32 := 1#32
  let v2136 : BitVec 32 := Scalar.muli c1_i32_1430 c1_i32_1431
  let v2137 : BitVec 32 := Scalar.addi c0_i32_1432 v2136
  v2137.toNat
def k0_cond518 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1127 : BitVec 32 := 2#32
  let v1702 : BitVec 1 := Scalar.cmpi .ne v2 c2_i32_1127
  let v1703 : BitVec 32 := Scalar.extui v1702
  let c0_i32_1128 : BitVec 32 := 0#32
  let v1704 : BitVec 1 := Scalar.cmpi .ne v1703 c0_i32_1128
  v1704

def k0_off261 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off262 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev147 : Nat :=
  let c0_i32_1432 : BitVec 32 := 0#32
  let c2_i32_1430 : BitVec 32 := 2#32
  let c1_i32_1431 : BitVec 32 := 1#32
  let v2136 : BitVec 32 := Scalar.muli c2_i32_1430 c1_i32_1431
  let v2137 : BitVec 32 := Scalar.addi c0_i32_1432 v2136
  v2137.toNat
def k0_cond520 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1131 : BitVec 32 := 3#32
  let v1708 : BitVec 1 := Scalar.cmpi .ne v2 c3_i32_1131
  let v1709 : BitVec 32 := Scalar.extui v1708
  let c0_i32_1132 : BitVec 32 := 0#32
  let v1710 : BitVec 1 := Scalar.cmpi .ne v1709 c0_i32_1132
  v1710

def k0_off263 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off264 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev148 : Nat :=
  let c0_i32_1432 : BitVec 32 := 0#32
  let c3_i32_1430 : BitVec 32 := 3#32
  let c1_i32_1431 : BitVec 32 := 1#32
  let v2136 : BitVec 32 := Scalar.muli c3_i32_1430 c1_i32_1431
  let v2137 : BitVec 32 := Scalar.addi c0_i32_1432 v2136
  v2137.toNat
def k0_cond522 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1135 : BitVec 32 := 4#32
  let v1714 : BitVec 1 := Scalar.cmpi .ne v2 c4_i32_1135
  let v1715 : BitVec 32 := Scalar.extui v1714
  let c0_i32_1136 : BitVec 32 := 0#32
  let v1716 : BitVec 1 := Scalar.cmpi .ne v1715 c0_i32_1136
  v1716

def k0_off265 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off266 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev149 : Nat :=
  let c0_i32_1432 : BitVec 32 := 0#32
  let c4_i32_1430 : BitVec 32 := 4#32
  let c1_i32_1431 : BitVec 32 := 1#32
  let v2136 : BitVec 32 := Scalar.muli c4_i32_1430 c1_i32_1431
  let v2137 : BitVec 32 := Scalar.addi c0_i32_1432 v2136
  v2137.toNat
def k0_cond524 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1139 : BitVec 32 := 5#32
  let v1720 : BitVec 1 := Scalar.cmpi .ne v2 c5_i32_1139
  let v1721 : BitVec 32 := Scalar.extui v1720
  let c0_i32_1140 : BitVec 32 := 0#32
  let v1722 : BitVec 1 := Scalar.cmpi .ne v1721 c0_i32_1140
  v1722

def k0_off267 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off268 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev150 : Nat :=
  let c0_i32_1432 : BitVec 32 := 0#32
  let c5_i32_1430 : BitVec 32 := 5#32
  let c1_i32_1431 : BitVec 32 := 1#32
  let v2136 : BitVec 32 := Scalar.muli c5_i32_1430 c1_i32_1431
  let v2137 : BitVec 32 := Scalar.addi c0_i32_1432 v2136
  v2137.toNat
def k0_cond526 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1143 : BitVec 32 := 6#32
  let v1726 : BitVec 1 := Scalar.cmpi .ne v2 c6_i32_1143
  let v1727 : BitVec 32 := Scalar.extui v1726
  let c0_i32_1144 : BitVec 32 := 0#32
  let v1728 : BitVec 1 := Scalar.cmpi .ne v1727 c0_i32_1144
  v1728

def k0_off269 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off270 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev151 : Nat :=
  let c0_i32_1432 : BitVec 32 := 0#32
  let c6_i32_1430 : BitVec 32 := 6#32
  let c1_i32_1431 : BitVec 32 := 1#32
  let v2136 : BitVec 32 := Scalar.muli c6_i32_1430 c1_i32_1431
  let v2137 : BitVec 32 := Scalar.addi c0_i32_1432 v2136
  v2137.toNat
def k0_cond528 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1147 : BitVec 32 := 7#32
  let v1732 : BitVec 1 := Scalar.cmpi .ne v2 c7_i32_1147
  let v1733 : BitVec 32 := Scalar.extui v1732
  let c0_i32_1148 : BitVec 32 := 0#32
  let v1734 : BitVec 1 := Scalar.cmpi .ne v1733 c0_i32_1148
  v1734

def k0_off271 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off272 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev152 : Nat :=
  let c0_i32_1432 : BitVec 32 := 0#32
  let c7_i32_1430 : BitVec 32 := 7#32
  let c1_i32_1431 : BitVec 32 := 1#32
  let v2136 : BitVec 32 := Scalar.muli c7_i32_1430 c1_i32_1431
  let v2137 : BitVec 32 := Scalar.addi c0_i32_1432 v2136
  v2137.toNat
def k0_cond530 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1151 : BitVec 32 := 8#32
  let v1738 : BitVec 1 := Scalar.cmpi .ne v2 c8_i32_1151
  let v1739 : BitVec 32 := Scalar.extui v1738
  let c0_i32_1152 : BitVec 32 := 0#32
  let v1740 : BitVec 1 := Scalar.cmpi .ne v1739 c0_i32_1152
  v1740

def k0_off273 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off274 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev153 : Nat :=
  let c0_i32_1432 : BitVec 32 := 0#32
  let c8_i32_1430 : BitVec 32 := 8#32
  let c1_i32_1431 : BitVec 32 := 1#32
  let v2136 : BitVec 32 := Scalar.muli c8_i32_1430 c1_i32_1431
  let v2137 : BitVec 32 := Scalar.addi c0_i32_1432 v2136
  v2137.toNat
def k0_cond532 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1155 : BitVec 32 := 9#32
  let v1744 : BitVec 1 := Scalar.cmpi .ne v2 c9_i32_1155
  let v1745 : BitVec 32 := Scalar.extui v1744
  let c0_i32_1156 : BitVec 32 := 0#32
  let v1746 : BitVec 1 := Scalar.cmpi .ne v1745 c0_i32_1156
  v1746

def k0_off275 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off276 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev154 : Nat :=
  let c0_i32_1432 : BitVec 32 := 0#32
  let c9_i32_1430 : BitVec 32 := 9#32
  let c1_i32_1431 : BitVec 32 := 1#32
  let v2136 : BitVec 32 := Scalar.muli c9_i32_1430 c1_i32_1431
  let v2137 : BitVec 32 := Scalar.addi c0_i32_1432 v2136
  v2137.toNat
def k0_cond534 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1159 : BitVec 32 := 10#32
  let v1750 : BitVec 1 := Scalar.cmpi .ne v2 c10_i32_1159
  let v1751 : BitVec 32 := Scalar.extui v1750
  let c0_i32_1160 : BitVec 32 := 0#32
  let v1752 : BitVec 1 := Scalar.cmpi .ne v1751 c0_i32_1160
  v1752

def k0_off277 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off278 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev155 : Nat :=
  let c0_i32_1432 : BitVec 32 := 0#32
  let c10_i32_1430 : BitVec 32 := 10#32
  let c1_i32_1431 : BitVec 32 := 1#32
  let v2136 : BitVec 32 := Scalar.muli c10_i32_1430 c1_i32_1431
  let v2137 : BitVec 32 := Scalar.addi c0_i32_1432 v2136
  v2137.toNat
def k0_cond536 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1163 : BitVec 32 := 11#32
  let v1756 : BitVec 1 := Scalar.cmpi .ne v2 c11_i32_1163
  let v1757 : BitVec 32 := Scalar.extui v1756
  let c0_i32_1164 : BitVec 32 := 0#32
  let v1758 : BitVec 1 := Scalar.cmpi .ne v1757 c0_i32_1164
  v1758

def k0_off279 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off280 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev156 : Nat :=
  let c0_i32_1432 : BitVec 32 := 0#32
  let c11_i32_1430 : BitVec 32 := 11#32
  let c1_i32_1431 : BitVec 32 := 1#32
  let v2136 : BitVec 32 := Scalar.muli c11_i32_1430 c1_i32_1431
  let v2137 : BitVec 32 := Scalar.addi c0_i32_1432 v2136
  v2137.toNat
def k0_cond538 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1167 : BitVec 32 := 12#32
  let v1762 : BitVec 1 := Scalar.cmpi .ne v2 c12_i32_1167
  let v1763 : BitVec 32 := Scalar.extui v1762
  let c0_i32_1168 : BitVec 32 := 0#32
  let v1764 : BitVec 1 := Scalar.cmpi .ne v1763 c0_i32_1168
  v1764

def k0_off281 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off282 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev157 : Nat :=
  let c0_i32_1432 : BitVec 32 := 0#32
  let c12_i32_1430 : BitVec 32 := 12#32
  let c1_i32_1431 : BitVec 32 := 1#32
  let v2136 : BitVec 32 := Scalar.muli c12_i32_1430 c1_i32_1431
  let v2137 : BitVec 32 := Scalar.addi c0_i32_1432 v2136
  v2137.toNat
def k0_cond540 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1171 : BitVec 32 := 13#32
  let v1768 : BitVec 1 := Scalar.cmpi .ne v2 c13_i32_1171
  let v1769 : BitVec 32 := Scalar.extui v1768
  let c0_i32_1172 : BitVec 32 := 0#32
  let v1770 : BitVec 1 := Scalar.cmpi .ne v1769 c0_i32_1172
  v1770

def k0_off283 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off284 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev158 : Nat :=
  let c0_i32_1432 : BitVec 32 := 0#32
  let c13_i32_1430 : BitVec 32 := 13#32
  let c1_i32_1431 : BitVec 32 := 1#32
  let v2136 : BitVec 32 := Scalar.muli c13_i32_1430 c1_i32_1431
  let v2137 : BitVec 32 := Scalar.addi c0_i32_1432 v2136
  v2137.toNat
def k0_cond542 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1175 : BitVec 32 := 14#32
  let v1774 : BitVec 1 := Scalar.cmpi .ne v2 c14_i32_1175
  let v1775 : BitVec 32 := Scalar.extui v1774
  let c0_i32_1176 : BitVec 32 := 0#32
  let v1776 : BitVec 1 := Scalar.cmpi .ne v1775 c0_i32_1176
  v1776

def k0_off285 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off286 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev159 : Nat :=
  let c0_i32_1432 : BitVec 32 := 0#32
  let c14_i32_1430 : BitVec 32 := 14#32
  let c1_i32_1431 : BitVec 32 := 1#32
  let v2136 : BitVec 32 := Scalar.muli c14_i32_1430 c1_i32_1431
  let v2137 : BitVec 32 := Scalar.addi c0_i32_1432 v2136
  v2137.toNat
def k0_cond544 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1179 : BitVec 32 := 15#32
  let v1780 : BitVec 1 := Scalar.cmpi .ne v2 c15_i32_1179
  let v1781 : BitVec 32 := Scalar.extui v1780
  let c0_i32_1180 : BitVec 32 := 0#32
  let v1782 : BitVec 1 := Scalar.cmpi .ne v1781 c0_i32_1180
  v1782

def k0_off287 (d0 : Dev nD) : Fin 2 → Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off288 (d0 : Dev nD) : Fin 4 → Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![0, v2.toNat, 0, 0]
def k0_dev160 : Nat :=
  let c0_i32_1432 : BitVec 32 := 0#32
  let c15_i32_1430 : BitVec 32 := 15#32
  let c1_i32_1431 : BitVec 32 := 1#32
  let v2136 : BitVec 32 := Scalar.muli c15_i32_1430 c1_i32_1431
  let v2137 : BitVec 32 := Scalar.addi c0_i32_1432 v2136
  v2137.toNat
def k0_cond562 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1220 : BitVec 32 := 0#32
  let v1841 : BitVec 1 := Scalar.cmpi .ne v2 c0_i32_1220
  let v1842 : BitVec 32 := Scalar.extui v1841
  let c0_i32_1221 : BitVec 32 := 0#32
  let v1843 : BitVec 1 := Scalar.cmpi .ne v1842 c0_i32_1221
  v1843

def k0_off289 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off290 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev161 : Nat :=
  let c0_i32_1432 : BitVec 32 := 0#32
  let c0_i32_1430 : BitVec 32 := 0#32
  let c1_i32_1431 : BitVec 32 := 1#32
  let v2136 : BitVec 32 := Scalar.muli c0_i32_1430 c1_i32_1431
  let v2137 : BitVec 32 := Scalar.addi c0_i32_1432 v2136
  v2137.toNat
def k0_cond564 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1224 : BitVec 32 := 1#32
  let v1847 : BitVec 1 := Scalar.cmpi .ne v2 c1_i32_1224
  let v1848 : BitVec 32 := Scalar.extui v1847
  let c0_i32_1225 : BitVec 32 := 0#32
  let v1849 : BitVec 1 := Scalar.cmpi .ne v1848 c0_i32_1225
  v1849

def k0_off291 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off292 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev162 : Nat :=
  let c0_i32_1432 : BitVec 32 := 0#32
  let c1_i32_1430 : BitVec 32 := 1#32
  let c1_i32_1431 : BitVec 32 := 1#32
  let v2136 : BitVec 32 := Scalar.muli c1_i32_1430 c1_i32_1431
  let v2137 : BitVec 32 := Scalar.addi c0_i32_1432 v2136
  v2137.toNat
def k0_cond566 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1228 : BitVec 32 := 2#32
  let v1853 : BitVec 1 := Scalar.cmpi .ne v2 c2_i32_1228
  let v1854 : BitVec 32 := Scalar.extui v1853
  let c0_i32_1229 : BitVec 32 := 0#32
  let v1855 : BitVec 1 := Scalar.cmpi .ne v1854 c0_i32_1229
  v1855

def k0_off293 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off294 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev163 : Nat :=
  let c0_i32_1432 : BitVec 32 := 0#32
  let c2_i32_1430 : BitVec 32 := 2#32
  let c1_i32_1431 : BitVec 32 := 1#32
  let v2136 : BitVec 32 := Scalar.muli c2_i32_1430 c1_i32_1431
  let v2137 : BitVec 32 := Scalar.addi c0_i32_1432 v2136
  v2137.toNat
def k0_cond568 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1232 : BitVec 32 := 3#32
  let v1859 : BitVec 1 := Scalar.cmpi .ne v2 c3_i32_1232
  let v1860 : BitVec 32 := Scalar.extui v1859
  let c0_i32_1233 : BitVec 32 := 0#32
  let v1861 : BitVec 1 := Scalar.cmpi .ne v1860 c0_i32_1233
  v1861

def k0_off295 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off296 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev164 : Nat :=
  let c0_i32_1432 : BitVec 32 := 0#32
  let c3_i32_1430 : BitVec 32 := 3#32
  let c1_i32_1431 : BitVec 32 := 1#32
  let v2136 : BitVec 32 := Scalar.muli c3_i32_1430 c1_i32_1431
  let v2137 : BitVec 32 := Scalar.addi c0_i32_1432 v2136
  v2137.toNat
def k0_cond570 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1236 : BitVec 32 := 4#32
  let v1865 : BitVec 1 := Scalar.cmpi .ne v2 c4_i32_1236
  let v1866 : BitVec 32 := Scalar.extui v1865
  let c0_i32_1237 : BitVec 32 := 0#32
  let v1867 : BitVec 1 := Scalar.cmpi .ne v1866 c0_i32_1237
  v1867

def k0_off297 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off298 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev165 : Nat :=
  let c0_i32_1432 : BitVec 32 := 0#32
  let c4_i32_1430 : BitVec 32 := 4#32
  let c1_i32_1431 : BitVec 32 := 1#32
  let v2136 : BitVec 32 := Scalar.muli c4_i32_1430 c1_i32_1431
  let v2137 : BitVec 32 := Scalar.addi c0_i32_1432 v2136
  v2137.toNat
def k0_cond572 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1240 : BitVec 32 := 5#32
  let v1871 : BitVec 1 := Scalar.cmpi .ne v2 c5_i32_1240
  let v1872 : BitVec 32 := Scalar.extui v1871
  let c0_i32_1241 : BitVec 32 := 0#32
  let v1873 : BitVec 1 := Scalar.cmpi .ne v1872 c0_i32_1241
  v1873

def k0_off299 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off300 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev166 : Nat :=
  let c0_i32_1432 : BitVec 32 := 0#32
  let c5_i32_1430 : BitVec 32 := 5#32
  let c1_i32_1431 : BitVec 32 := 1#32
  let v2136 : BitVec 32 := Scalar.muli c5_i32_1430 c1_i32_1431
  let v2137 : BitVec 32 := Scalar.addi c0_i32_1432 v2136
  v2137.toNat
def k0_cond574 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1244 : BitVec 32 := 6#32
  let v1877 : BitVec 1 := Scalar.cmpi .ne v2 c6_i32_1244
  let v1878 : BitVec 32 := Scalar.extui v1877
  let c0_i32_1245 : BitVec 32 := 0#32
  let v1879 : BitVec 1 := Scalar.cmpi .ne v1878 c0_i32_1245
  v1879

def k0_off301 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off302 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev167 : Nat :=
  let c0_i32_1432 : BitVec 32 := 0#32
  let c6_i32_1430 : BitVec 32 := 6#32
  let c1_i32_1431 : BitVec 32 := 1#32
  let v2136 : BitVec 32 := Scalar.muli c6_i32_1430 c1_i32_1431
  let v2137 : BitVec 32 := Scalar.addi c0_i32_1432 v2136
  v2137.toNat
def k0_cond576 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1248 : BitVec 32 := 7#32
  let v1883 : BitVec 1 := Scalar.cmpi .ne v2 c7_i32_1248
  let v1884 : BitVec 32 := Scalar.extui v1883
  let c0_i32_1249 : BitVec 32 := 0#32
  let v1885 : BitVec 1 := Scalar.cmpi .ne v1884 c0_i32_1249
  v1885

def k0_off303 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off304 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev168 : Nat :=
  let c0_i32_1432 : BitVec 32 := 0#32
  let c7_i32_1430 : BitVec 32 := 7#32
  let c1_i32_1431 : BitVec 32 := 1#32
  let v2136 : BitVec 32 := Scalar.muli c7_i32_1430 c1_i32_1431
  let v2137 : BitVec 32 := Scalar.addi c0_i32_1432 v2136
  v2137.toNat
def k0_cond578 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1252 : BitVec 32 := 8#32
  let v1889 : BitVec 1 := Scalar.cmpi .ne v2 c8_i32_1252
  let v1890 : BitVec 32 := Scalar.extui v1889
  let c0_i32_1253 : BitVec 32 := 0#32
  let v1891 : BitVec 1 := Scalar.cmpi .ne v1890 c0_i32_1253
  v1891

def k0_off305 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off306 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev169 : Nat :=
  let c0_i32_1432 : BitVec 32 := 0#32
  let c8_i32_1430 : BitVec 32 := 8#32
  let c1_i32_1431 : BitVec 32 := 1#32
  let v2136 : BitVec 32 := Scalar.muli c8_i32_1430 c1_i32_1431
  let v2137 : BitVec 32 := Scalar.addi c0_i32_1432 v2136
  v2137.toNat
def k0_cond580 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1256 : BitVec 32 := 9#32
  let v1895 : BitVec 1 := Scalar.cmpi .ne v2 c9_i32_1256
  let v1896 : BitVec 32 := Scalar.extui v1895
  let c0_i32_1257 : BitVec 32 := 0#32
  let v1897 : BitVec 1 := Scalar.cmpi .ne v1896 c0_i32_1257
  v1897

def k0_off307 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off308 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev170 : Nat :=
  let c0_i32_1432 : BitVec 32 := 0#32
  let c9_i32_1430 : BitVec 32 := 9#32
  let c1_i32_1431 : BitVec 32 := 1#32
  let v2136 : BitVec 32 := Scalar.muli c9_i32_1430 c1_i32_1431
  let v2137 : BitVec 32 := Scalar.addi c0_i32_1432 v2136
  v2137.toNat
def k0_cond582 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1260 : BitVec 32 := 10#32
  let v1901 : BitVec 1 := Scalar.cmpi .ne v2 c10_i32_1260
  let v1902 : BitVec 32 := Scalar.extui v1901
  let c0_i32_1261 : BitVec 32 := 0#32
  let v1903 : BitVec 1 := Scalar.cmpi .ne v1902 c0_i32_1261
  v1903

def k0_off309 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off310 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev171 : Nat :=
  let c0_i32_1432 : BitVec 32 := 0#32
  let c10_i32_1430 : BitVec 32 := 10#32
  let c1_i32_1431 : BitVec 32 := 1#32
  let v2136 : BitVec 32 := Scalar.muli c10_i32_1430 c1_i32_1431
  let v2137 : BitVec 32 := Scalar.addi c0_i32_1432 v2136
  v2137.toNat
def k0_cond584 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1264 : BitVec 32 := 11#32
  let v1907 : BitVec 1 := Scalar.cmpi .ne v2 c11_i32_1264
  let v1908 : BitVec 32 := Scalar.extui v1907
  let c0_i32_1265 : BitVec 32 := 0#32
  let v1909 : BitVec 1 := Scalar.cmpi .ne v1908 c0_i32_1265
  v1909

def k0_off311 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off312 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev172 : Nat :=
  let c0_i32_1432 : BitVec 32 := 0#32
  let c11_i32_1430 : BitVec 32 := 11#32
  let c1_i32_1431 : BitVec 32 := 1#32
  let v2136 : BitVec 32 := Scalar.muli c11_i32_1430 c1_i32_1431
  let v2137 : BitVec 32 := Scalar.addi c0_i32_1432 v2136
  v2137.toNat
def k0_cond586 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1268 : BitVec 32 := 12#32
  let v1913 : BitVec 1 := Scalar.cmpi .ne v2 c12_i32_1268
  let v1914 : BitVec 32 := Scalar.extui v1913
  let c0_i32_1269 : BitVec 32 := 0#32
  let v1915 : BitVec 1 := Scalar.cmpi .ne v1914 c0_i32_1269
  v1915

def k0_off313 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off314 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev173 : Nat :=
  let c0_i32_1432 : BitVec 32 := 0#32
  let c12_i32_1430 : BitVec 32 := 12#32
  let c1_i32_1431 : BitVec 32 := 1#32
  let v2136 : BitVec 32 := Scalar.muli c12_i32_1430 c1_i32_1431
  let v2137 : BitVec 32 := Scalar.addi c0_i32_1432 v2136
  v2137.toNat
def k0_cond588 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1272 : BitVec 32 := 13#32
  let v1919 : BitVec 1 := Scalar.cmpi .ne v2 c13_i32_1272
  let v1920 : BitVec 32 := Scalar.extui v1919
  let c0_i32_1273 : BitVec 32 := 0#32
  let v1921 : BitVec 1 := Scalar.cmpi .ne v1920 c0_i32_1273
  v1921

def k0_off315 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off316 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev174 : Nat :=
  let c0_i32_1432 : BitVec 32 := 0#32
  let c13_i32_1430 : BitVec 32 := 13#32
  let c1_i32_1431 : BitVec 32 := 1#32
  let v2136 : BitVec 32 := Scalar.muli c13_i32_1430 c1_i32_1431
  let v2137 : BitVec 32 := Scalar.addi c0_i32_1432 v2136
  v2137.toNat
def k0_cond590 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1276 : BitVec 32 := 14#32
  let v1925 : BitVec 1 := Scalar.cmpi .ne v2 c14_i32_1276
  let v1926 : BitVec 32 := Scalar.extui v1925
  let c0_i32_1277 : BitVec 32 := 0#32
  let v1927 : BitVec 1 := Scalar.cmpi .ne v1926 c0_i32_1277
  v1927

def k0_off317 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off318 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev175 : Nat :=
  let c0_i32_1432 : BitVec 32 := 0#32
  let c14_i32_1430 : BitVec 32 := 14#32
  let c1_i32_1431 : BitVec 32 := 1#32
  let v2136 : BitVec 32 := Scalar.muli c14_i32_1430 c1_i32_1431
  let v2137 : BitVec 32 := Scalar.addi c0_i32_1432 v2136
  v2137.toNat
def k0_cond592 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1280 : BitVec 32 := 15#32
  let v1931 : BitVec 1 := Scalar.cmpi .ne v2 c15_i32_1280
  let v1932 : BitVec 32 := Scalar.extui v1931
  let c0_i32_1281 : BitVec 32 := 0#32
  let v1933 : BitVec 1 := Scalar.cmpi .ne v1932 c0_i32_1281
  v1933

def k0_off319 (d0 : Dev nD) : Fin 2 → Nat :=
  let c1_i32_1427 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off320 (d0 : Dev nD) : Fin 4 → Nat :=
  let c1_i32_1426 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1434 : BitVec 32 := 0#32
  ![1, v2.toNat, 0, 0]
def k0_dev176 : Nat :=
  let c0_i32_1432 : BitVec 32 := 0#32
  let c15_i32_1430 : BitVec 32 := 15#32
  let c1_i32_1431 : BitVec 32 := 1#32
  let v2136 : BitVec 32 := Scalar.muli c15_i32_1430 c1_i32_1431
  let v2137 : BitVec 32 := Scalar.addi c0_i32_1432 v2136
  v2137.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x32768 : Shape := ⟨2, ![1024, 32768]⟩
abbrev S32768x1024 : Shape := ⟨2, ![32768, 1024]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x32768, .f32⟩
  | .hbm, ⟨2, _⟩ => ⟨S32768x1024, .f32⟩
  | .hbm, ⟨3, _⟩ => ⟨S1024x32768, .f32⟩
  | .hbm, ⟨4, _⟩ => ⟨S32768x1024, .f32⟩
  | .hbm, ⟨5, _⟩ => ⟨S1024x32768, .f32⟩
  | .hbm, ⟨6, _⟩ => ⟨S32768x1024, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x1024, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x1024, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Slots.lean ====
/-
The geometry of the exchange buffers: one slot of a `2 × 16 × 4 × 512` buffer per pair (chunk, device), the whole chunk of
sixteen slots, and what reading one says about reading the other. Everything is stated of an arbitrary memref of that shape, so
that it serves the partial products and both receive buffers alike.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A two-chunk exchange buffer. -/
abbrev M4 : Type := Memref sig .tc .vmem S2x16x4x512 .bf16

/-! ### Indices -/

/-- The element `x` of the slot of chunk `ck` and device `q`. -/
def mk4 (ck : Fin 2) (q : Dev nD) (x : S4x512.Idx) : S2x16x4x512.Idx :=
  Fin.cons (α := fun i => Fin (S2x16x4x512.size i)) ck (Fin.cons (α := fun i => Fin (S16x4x512.size i)) q x)

/-- The element `z` of chunk `ck`. -/
def mkC (ck : Fin 2) (z : S1x16x4x512.Idx) : S2x16x4x512.Idx :=
  Fin.cons (α := fun i => Fin (S2x16x4x512.size i)) ck (fun i : Fin 3 => z i.succ)

/-- The element of a chunk that is the element `x` of its slot `q`. -/
def mk1 (q : Dev nD) (x : S4x512.Idx) : S1x16x4x512.Idx :=
  Fin.cons (α := fun i => Fin (S1x16x4x512.size i)) (0 : Fin 1) (Fin.cons (α := fun i => Fin (S16x4x512.size i)) q x)

/-- The place inside its slot of an element of a chunk. -/
def tl (z : S1x16x4x512.Idx) : S4x512.Idx := fun i : Fin 2 => z i.succ.succ

theorem mkC_mk1 (ck : Fin 2) (q : Dev nD) (x : S4x512.Idx) : mkC ck (mk1 q x) = mk4 ck q x := rfl

theorem mk4_tl (ck : Fin 2) (z : S1x16x4x512.Idx) : mk4 ck (z 1) (tl z) = mkC ck z := by
  funext i
  match i with
  | ⟨0, _⟩ => rfl
  | ⟨1, _⟩ => rfl
  | ⟨2, _⟩ => rfl
  | ⟨3, _⟩ => rfl

theorem mk1_one (q : Dev nD) (x : S4x512.Idx) : mk1 q x 1 = q := rfl
theorem tl_mk1 (q : Dev nD) (x : S4x512.Idx) : tl (mk1 q x) = x := rfl

theorem mk4_zero (ck : Fin 2) (q : Dev nD) (x : S4x512.Idx) : mk4 ck q x 0 = ck := rfl
theorem mk4_one (ck : Fin 2) (q : Dev nD) (x : S4x512.Idx) : mk4 ck q x 1 = q := rfl
theorem mkC_zero (ck : Fin 2) (z : S1x16x4x512.Idx) : mkC ck z 0 = ck := rfl

theorem mk4_inj {ck ck' : Fin 2} {q q' : Dev nD} {x x' : S4x512.Idx} (h : mk4 ck q x = mk4 ck' q' x') : ck = ck' ∧ q = q' ∧ x = x' := by
  refine ⟨congrFun h 0, congrFun h 1, ?_⟩
  funext i
  exact congrFun h i.succ.succ

/-! ### Views -/

theorem inb_slot (ck : Fin 2) (q : Dev nD) : ∀ i, (![ck.val, q.val, 0, 0] : Fin 4 → ℕ) i + S1x1x4x512.size i ≤ S2x16x4x512.size i := by
  have h1 := ck.isLt
  have h2 := q.isLt
  intro i
  match i with
  | ⟨0, _⟩ => show ck.val + 1 ≤ 2; omega
  | ⟨1, _⟩ => show q.val + 1 ≤ 16; have : q.val < 16 := h2; omega
  | ⟨2, _⟩ => exact le_rfl
  | ⟨3, _⟩ => exact le_rfl

theorem inb_chunk (ck : Fin 2) : ∀ i, (![ck.val, 0, 0, 0] : Fin 4 → ℕ) i + S1x16x4x512.size i ≤ S2x16x4x512.size i := by
  have h1 := ck.isLt
  intro i
  match i with
  | ⟨0, _⟩ => show ck.val + 1 ≤ 2; omega
  | ⟨1, _⟩ => exact le_rfl
  | ⟨2, _⟩ => exact le_rfl
  | ⟨3, _⟩ => exact le_rfl

/-- The rectangle of one slot, and of one chunk. -/
abbrev sRect (ck : Fin 2) (q : Dev nD) : Rect S2x16x4x512 := Rect.unit (s := S2x16x4x512) ![ck.val, q.val, 0, 0] S1x1x4x512.size (inb_slot ck q)
abbrev cRect (ck : Fin 2) : Rect S2x16x4x512 := Rect.unit (s := S2x16x4x512) ![ck.val, 0, 0, 0] S1x16x4x512.size (inb_chunk ck)

/-- One slot, as the transfers name it. -/
abbrev slot (M : M4) (ck : Fin 2) (q : Dev nD) : Memref sig .tc .vmem S4x512 .bf16 :=
  (M.slice (sRect ck q) (fun _ => rfl)).squeeze S4x512 squeezes_S1x1x4x512_S4x512

/-- Dropping the two leading axes of length one of a slot. -/
theorem reshape_slot (h : S4x512.numel = S1x1x4x512.numel) (x : S4x512.Idx) :
    Shape.reshapeEquiv (s := S1x1x4x512) h x
      = Fin.cons (α := fun i => Fin (S1x1x4x512.size i)) (0 : Fin 1) (Fin.cons (α := fun i => Fin (S1x4x512.size i)) (0 : Fin 1) x) := by
  refine Shape.reshapeEquiv_eq_of_rowMajor h ?_
  rw [Shape.rowMajor_val_four, Shape.rowMajor_val_two]
  show ((0 * _ + 0) * _ + (x 0).val) * _ + (x 1).val = _
  rw [Nat.zero_mul, Nat.zero_add, Nat.zero_mul, Nat.zero_add]
  rfl

/-- The place of a slot's element in the buffer. -/
theorem slot_emb (M : M4) (ck : Fin 2) (q : Dev nD) (x : S4x512.Idx) : (slot M ck q).view.emb x = M.view.emb (mk4 ck q x) := by
  show M.view.emb ((sRect ck q).emb (Shape.reshapeEquiv _ x)) = _
  rw [reshape_slot]
  congr 1
  funext i
  apply Fin.ext
  rw [Rect.emb_apply]
  match i with
  | ⟨0, _⟩ => exact Nat.add_zero _
  | ⟨1, _⟩ => exact Nat.add_zero _
  | ⟨2, _⟩ => show 0 + 1 * (x 0).val = (x 0).val; omega
  | ⟨3, _⟩ => show 0 + 1 * (x 1).val = (x 1).val; omega

/-- The place of a chunk's element in the buffer. -/
theorem chunk_emb (ck : Fin 2) (z : S1x16x4x512.Idx) : (cRect ck).emb z = mkC ck z := by
  funext i
  apply Fin.ext
  rw [Rect.emb_apply]
  have h0 : (z 0).val = 0 := by have := (z 0).isLt; change (z 0).val < 1 at this; omega
  match i with
  | ⟨0, _⟩ => show ck.val + 1 * (z 0).val = ck.val; omega
  | ⟨1, _⟩ => show 0 + 1 * (z 1).val = (z 1).val; omega
  | ⟨2, _⟩ => show 0 + 1 * (z 2).val = (z 2).val; omega
  | ⟨3, _⟩ => show 0 + 1 * (z 3).val = (z 3).val; omega

theorem slot_read (M : M4) (ck : Fin 2) (q : Dev nD) (f : M.view.ref.ty.Contents (Elt F)) :
    (slot M ck q).view.read (Elt F) f = fun x => M.view.read (Elt F) f (mk4 ck q x) := by
  funext x
  rw [View.read_apply, View.read_apply]
  exact congrArg (fun i => _root_.cast _ (f i)) (slot_emb M ck q x)

theorem chunk_read (M : M4) (ck : Fin 2) (f : M.view.ref.ty.Contents (Elt F)) :
    (M.access (cRect ck)).read (Elt F) f = fun z => M.view.read (Elt F) f (mkC ck z) := by
  funext z
  show M.view.read (Elt F) f ((cRect ck).emb z) = _
  rw [chunk_emb]

/-! ### Sets of elements -/

abbrev sSet (M : M4) (ck : Fin 2) (q : Dev nD) := (slot M ck q).view.set
abbrev cSet (M : M4) (ck : Fin 2) := (M.access (cRect ck)).set

theorem mem_sSet {M : M4} {ck : Fin 2} {q : Dev nD} {i} : i ∈ sSet M ck q ↔ ∃ x, M.view.emb (mk4 ck q x) = i := by
  show i ∈ Finset.univ.map _ ↔ _
  simp only [Finset.mem_map, Finset.mem_univ, true_and]
  exact exists_congr fun x => by rw [← slot_emb M ck q x]

theorem mem_cSet {M : M4} {ck : Fin 2} {i} : i ∈ cSet M ck ↔ ∃ z, M.view.emb (mkC ck z) = i := by
  show i ∈ Finset.univ.map _ ↔ _
  simp only [Finset.mem_map, Finset.mem_univ, true_and]
  refine exists_congr fun z => ?_
  rw [← chunk_emb ck z]
  exact Iff.rfl

theorem sSet_disjoint (M : M4) {ck ck' : Fin 2} {q q' : Dev nD} (h : (ck, q) ≠ (ck', q')) : Disjoint (sSet M ck q) (sSet M ck' q') := by
  rw [Finset.disjoint_left]
  intro i hi hi'
  obtain ⟨x, hx⟩ := mem_sSet.1 hi
  obtain ⟨x', hx'⟩ := mem_sSet.1 hi'
  have e := mk4_inj (M.view.emb.injective (hx.trans hx'.symm))
  exact h (Prod.ext e.1 e.2.1)

theorem cSet_eq (M : M4) (ck : Fin 2) : cSet M ck = (Finset.univ : Finset (Dev nD)).biUnion fun q => sSet M ck q := by
  ext i
  rw [mem_cSet]
  simp only [Finset.mem_biUnion, Finset.mem_univ, true_and]
  constructor
  · rintro ⟨z, hz⟩
    exact ⟨z 1, mem_sSet.2 ⟨tl z, by rw [mk4_tl]; exact hz⟩⟩
  · rintro ⟨q, hq⟩
    obtain ⟨x, hx⟩ := mem_sSet.1 hq
    exact ⟨mk1 q x, hx⟩

theorem set_eq (M : M4) : M.view.set = (Finset.univ : Finset (Fin 2)).biUnion fun ck => cSet M ck := by
  ext i
  simp only [Finset.mem_biUnion, Finset.mem_univ, true_and]
  constructor
  · intro h
    obtain ⟨j, -, hj⟩ := Finset.mem_map.1 h
    refine ⟨j 0, mem_cSet.2 ⟨Fin.cons (α := fun i => Fin (S1x16x4x512.size i)) (0 : Fin 1) (fun i : Fin 3 => j i.succ), ?_⟩⟩
    rw [← hj]
    congr 1
    funext a
    match a with
    | ⟨0, _⟩ => rfl
    | ⟨1, _⟩ => rfl
    | ⟨2, _⟩ => rfl
    | ⟨3, _⟩ => rfl
  · rintro ⟨ck, h⟩
    obtain ⟨z, hz⟩ := mem_cSet.1 h
    exact Finset.mem_map.2 ⟨_, Finset.mem_univ _, hz⟩

theorem cSet_disjoint (M : M4) {ck ck' : Fin 2} (h : ck ≠ ck') : Disjoint (cSet M ck) (cSet M ck') := by
  rw [Finset.disjoint_left]
  intro i hi hi'
  obtain ⟨x, hx⟩ := mem_cSet.1 hi
  obtain ⟨x', hx'⟩ := mem_cSet.1 hi'
  exact h (congrFun (M.view.emb.injective (hx.trans hx'.symm)) 0)

end Cert.KernelIdeal.Mlp
-- ==== Proof.Vals.lean ====
/-
What the kernel computes, device by device, written with the program's own pure steps: the weights a device holds, its hidden
activations layer by layer, the partial products it sends, the sums it forms and the rows it ends with.
-/
module

public import proofs.«01_k».proof.Proof.Slots

@[expose] public section

noncomputable section

namespace Cert.KernelIdeal.Mlp

open Cert.KernelIdeal Cert.KernelIdeal.Gen
open Idealize.ShloMosaic
open Idealize.ShloMosaic.TcCoe

variable {F : FTy → Type} [FloatOps F]

/-- One slot's worth of values, and one chunk's. -/
abbrev SlotV (F : FTy → Type) : Type := Vec F S4x512 .bf16
abbrev ChunkV (F : FTy → Type) : Type := Vec F S1x16x4x512 .bf16

/-! ### The pure steps -/

/-- The first layer's activations, from the two halves of the input. -/
def hid0 (x0 x1 : Vec F S64x512 .f32) (w : Vec F S1024x2048 .f32) : FVec F S64x2048 .bf16 := k0_pay2 (k0_pay1 x0) x1 w

/-- A later layer's activations, from the two gathered chunks. -/
def hidS (w : Vec F S1024x2048 .f32) (a0 a1 : ChunkV F) : FVec F S64x2048 .bf16 := k0_pay75 (k0_pay73 w) (k0_pay74 (k0_pay73 w) a0) a1

/-- The partial product of one chunk of columns. -/
def part0 (h : FVec F S64x2048 .bf16) (w : Vec F S2048x1024 .f32) : FVec F S1x16x4x512 .bf16 :=
  have v82 : FVec F S2048x512 .bf16 := extractStridedSlice S2048x512 ![0, 0] (k0_pay3 w) slices_S2048x1024_o0_0_S2048x512
  have cst : FVec F S64x512 .f32 := constant S64x512 .f32 0x00000000#32
  have v83 : FVec F S64x512 .f32 := matmul dot_S64x2048_S2048x512_S64x512_1_0_0_1_n_n none h v82 cst
  have v84 : FVec F S16x4x512 .f32 := shapeCast S16x4x512 v83 shapeCasts_S64x512_S16x4x512
  have v85 : FVec F S16x4x512 .bf16 := truncf .bf16 v84 bitsLt_bf16_f32
  shapeCast S1x16x4x512 v85 shapeCasts_S16x4x512_S1x16x4x512

def part1 (h : FVec F S64x2048 .bf16) (w : Vec F S2048x1024 .f32) : FVec F S1x16x4x512 .bf16 := k0_pay21 h (k0_pay3 w)

def partP (ck : Fin 2) (h : FVec F S64x2048 .bf16) (w : Vec F S2048x1024 .f32) : ChunkV F :=
  match ck with
  | 0 => part0 h w
  | 1 => part1 h w

/-- The sum of a chunk's sixteen slots. -/
def sumP (v : ChunkV F) : FVec F S1x4x512 .bf16 := k0_pay38 v

/-- The sum of a chunk's sixteen slots, unrounded: the result's columns. -/
def outP (v : ChunkV F) : FVec F S4x512 .f32 := k0_pay186 v

/-! ### One layer's exchange -/

section Layer

variable (h : Dev nD → FVec F S64x2048 .bf16) (w : Dev nD → Vec F S2048x1024 .f32)

/-- What device `c` sends device `q` of chunk `ck`. -/
def partOf (c : Dev nD) (ck : Fin 2) (q : Dev nD) : SlotV F := fun x => partP ck (h c) (w c) (mk1 q x)

/-- The chunk device `c` gathers in the reduce-scatter: slot `q` from device `q`. -/
def rsOf (c : Dev nD) (ck : Fin 2) : ChunkV F := fun z => partOf h w (z 1) ck c (tl z)

/-- The sum device `c` forms of it. -/
def yOf (c : Dev nD) (ck : Fin 2) : SlotV F := fun x =>
  sumP (rsOf h w c ck) (Fin.cons (α := fun i => Fin (S1x4x512.size i)) (0 : Fin 1) x)

/-- The chunk every device gathers in the all-gather. -/
def agOf (ck : Fin 2) : ChunkV F := fun z => yOf h w (z 1) ck (tl z)

end Layer

/-! ### The run, from the launch memory -/

section Run

variable (m : (ℓ : Loc nD τ sig) → Buf (Elt F) ℓ)

/-- The input and the weights on device `c`. -/
def xIn (c : Dev nD) : Vec F S64x1024 .f32 := m ((c : Thread nD τ).loc main_arg0)
def winOf (l : ℕ) (c : Dev nD) : Vec F S1024x2048 .f32 :=
  match l with
  | 0 => m ((c : Thread nD τ).loc main_arg1)
  | 1 => m ((c : Thread nD τ).loc main_arg3)
  | _ => m ((c : Thread nD τ).loc main_arg5)
def woutOf (l : ℕ) (c : Dev nD) : Vec F S2048x1024 .f32 :=
  match l with
  | 0 => m ((c : Thread nD τ).loc main_arg2)
  | 1 => m ((c : Thread nD τ).loc main_arg4)
  | _ => m ((c : Thread nD τ).loc main_arg6)

/-- The two halves of the input. -/
def xHalf (c : Dev nD) (ck : Fin 2) : Vec F S64x512 .f32 :=
  match ck with
  | 0 => (Memref.whole cc0_stg0_0 : Memref sig .tc .vmem S64x1024 .f32).view.readAt (Elt F) (Rect.unit (s := S64x1024) ![0, 0] S64x512.size inb_S64x1024_S64x512_0_0).toLoadRect (xIn m c)
  | 1 => (Memref.whole cc0_stg0_0 : Memref sig .tc .vmem S64x1024 .f32).view.readAt (Elt F) (Rect.unit (s := S64x1024) ![0, 512] S64x512.size inb_S64x1024_S64x512_0_512).toLoadRect (xIn m c)

/-- The activations of layer `l` on device `c`. -/
def hid (l : ℕ) (c : Dev nD) : FVec F S64x2048 .bf16 :=
  match l with
  | 0 => hid0 (xHalf m c 0) (xHalf m c 1) (winOf m 0 c)
  | l + 1 => hidS (winOf m (l + 1) c) (agOf (fun c => hid l c) (fun c => woutOf m l c) 0) (agOf (fun c => hid l c) (fun c => woutOf m l c) 1)

def partV (l : ℕ) (c : Dev nD) (ck : Fin 2) (q : Dev nD) : SlotV F := partOf (hid m l) (woutOf m l) c ck q
def rsV (l : ℕ) (c : Dev nD) (ck : Fin 2) : ChunkV F := rsOf (hid m l) (woutOf m l) c ck
def yV (l : ℕ) (c : Dev nD) (ck : Fin 2) : SlotV F := yOf (hid m l) (woutOf m l) c ck
def agV (l : ℕ) (ck : Fin 2) : ChunkV F := agOf (hid m l) (woutOf m l) ck
def outV (c : Dev nD) (ck : Fin 2) : FVec F S4x512 .f32 := outP (rsV m 2 c ck)

theorem hid_zero (c : Dev nD) : hid m 0 c = hid0 (xHalf m c 0) (xHalf m c 1) (winOf m 0 c) := by rw [hid]
theorem hid_succ (l : ℕ) (c : Dev nD) : hid m (l + 1) c = hidS (winOf m (l + 1) c) (agV m l 0) (agV m l 1) := by rw [hid]; rfl

/-- What device `c` sends device `q` of chunk `ck` in exchange `j`: even exchanges reduce and scatter, odd ones gather. -/
def srcV (j : ℕ) (c : Dev nD) (ck : Fin 2) (q : Dev nD) : SlotV F := if j % 2 = 0 then partV m (j / 2) c ck q else yV m (j / 2) c ck

/-- The result on device `c`: each half of the columns from its own chunk. -/
def resV (c : Dev nD) : Vec F S4x1024 .f32 := fun i =>
  outV m c (if (i 1).val < 512 then 0 else 1) (fun a : Fin 2 => match a with
    | ⟨0, _⟩ => (i 0 : Fin 4)
    | ⟨1, _⟩ => (⟨(i 1).val % 512, Nat.mod_lt _ (by decide)⟩ : Fin 512))

end Run

end Cert.KernelIdeal.Mlp
-- ==== Proof.Sched.lean ====
/-
The protocol: every semaphore the sixteen devices share, who pays it how much in which round, and what comes with the payment.

Exchange `j` (0 … 4) has every device send every other one slot of each of two chunks. The even exchanges reduce and scatter, into
the buffer `rs`; the odd ones gather, into `ag`. A device's send in exchange `j` hands over the slot's values and, for `j < 4`, the
right to fill the sender's own slot in exchange `j + 1`; so the entry barrier is needed only once, for exchange 0.
-/
module

public import proofs.«01_k».proof.Proof.Vals
public import Idealize.ShloMosaic.Lib.Transfers

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A duty is named by the device that pays it (by `0` where there is only one). -/
abbrev D : Type := Dev nD
abbrev UB : Type := URounds (GSem nD τ sig) D
abbrev UU : Type := UR sig nD τ × UB

/-- The program's resources: waits are indexed by their level. -/
local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ### Buffers -/

abbrev xM : Memref sig .tc .vmem S64x1024 .f32 := Memref.whole cc0_stg0_0
abbrev oM : Memref sig .tc .vmem S4x1024 .f32 := Memref.whole cc0_stg1_0
abbrev wiM : Memref sig .tc .vmem S1024x2048 .f32 := Memref.whole cc0_scratch0
abbrev woM : Memref sig .tc .vmem S2048x1024 .f32 := Memref.whole cc0_scratch1
abbrev pM : M4 := Memref.whole cc0_scratch2
abbrev yM : Memref sig .tc .vmem S2x4x512 .bf16 := Memref.whole cc0_scratch3
abbrev rM : M4 := Memref.whole cc0_scratch4
abbrev aM : M4 := Memref.whole cc0_scratch5

/-- The buffer exchange `j` fills. -/
def bM (j : ℕ) : M4 := if j % 2 = 0 then rM else aM

theorem inb_y (ck : Fin 2) : ∀ i, (![ck.val, 0, 0] : Fin 3 → ℕ) i + S1x4x512.size i ≤ S2x4x512.size i := by
  have h1 := ck.isLt
  intro i
  match i with
  | ⟨0, _⟩ => show ck.val + 1 ≤ 2; omega
  | ⟨1, _⟩ => exact le_rfl
  | ⟨2, _⟩ => exact le_rfl

abbrev yRect (ck : Fin 2) : Rect S2x4x512 := Rect.unit (s := S2x4x512) ![ck.val, 0, 0] S1x4x512.size (inb_y ck)
/-- One chunk of the sums, as the transfers name it. -/
abbrev ySl (ck : Fin 2) : Memref sig .tc .vmem S4x512 .bf16 :=
  (yM.slice (yRect ck) (fun _ => rfl)).squeeze S4x512 squeezes_S1x4x512_S4x512

/-! ### Semaphores -/

abbrev barS : Sem sig := (SemArray.scalar (sig.barrier 0 rfl) : Sems sig S_).sem

/-- The semaphore of chunk `ck` and device `q`: of the sends (`a = 0`), of the arrivals in `rs` (`1`) and in `ag` (`2`). -/
def xS (a : Fin 3) (ck : Fin 2) (q : Dev nD) : DmaSem sig := ⟨2 + 32 * a.val + 16 * ck.val + q.val, by
  have h1 := a.isLt; have h2 := ck.isLt; have h3 : q.val < 16 := q.isLt
  show _ < 100
  omega⟩
/-- The semaphore of the weight loads. -/
def wS (i : Fin 2) : DmaSem sig := ⟨98 + i.val, by have h := i.isLt; show _ < 100; omega⟩

/-- Which semaphore array exchange `j` arrives on. -/
def jA (j : ℕ) : Fin 3 := if j % 2 = 0 then 1 else 2

abbrev barC (c : Dev nD) : GSem nD τ sig := ((c : Thread nD τ), .reg barS)
abbrev sndC (c : Dev nD) (ck : Fin 2) (q : Dev nD) : GSem nD τ sig := ((c : Thread nD τ), .dma (xS 0 ck q))
abbrev rcvC (c : Dev nD) (j : ℕ) (ck : Fin 2) (q : Dev nD) : GSem nD τ sig := ((c : Thread nD τ), .dma (xS (jA j) ck q))
abbrev ldC (c : Dev nD) (i : Fin 2) : GSem nD τ sig := ((c : Thread nD τ), .dma (wS i))

/-- Reading a semaphore's number back. -/
def dA (i : DmaSem sig) : ℕ := (i.val - 2) / 32
def dCk (i : DmaSem sig) : Fin 2 := ⟨(i.val - 2) / 16 % 2, Nat.mod_lt _ (by decide)⟩
def dQ (i : DmaSem sig) : Dev nD := ⟨(i.val - 2) % 16, Nat.mod_lt _ (by decide)⟩

theorem xS_lt (a : Fin 3) (ck : Fin 2) (q : Dev nD) : ¬ (xS a ck q).val < 2 ∧ (xS a ck q).val < 98 := by
  have h1 := a.isLt; have h2 := ck.isLt; have h3 : q.val < 16 := q.isLt
  show ¬ (2 + 32 * a.val + 16 * ck.val + q.val) < 2 ∧ 2 + 32 * a.val + 16 * ck.val + q.val < 98
  omega
theorem dA_xS (a : Fin 3) (ck : Fin 2) (q : Dev nD) : dA (xS a ck q) = a.val := by
  have h1 := a.isLt; have h2 := ck.isLt; have h3 : q.val < 16 := q.isLt
  show (2 + 32 * a.val + 16 * ck.val + q.val - 2) / 32 = a.val
  omega
theorem dCk_xS (a : Fin 3) (ck : Fin 2) (q : Dev nD) : dCk (xS a ck q) = ck := by
  have h1 := a.isLt; have h2 := ck.isLt; have h3 : q.val < 16 := q.isLt
  apply Fin.ext
  show (2 + 32 * a.val + 16 * ck.val + q.val - 2) / 16 % 2 = ck.val
  omega
theorem dQ_xS (a : Fin 3) (ck : Fin 2) (q : Dev nD) : dQ (xS a ck q) = q := by
  have h1 := a.isLt; have h2 := ck.isLt; have h3 : q.val < 16 := q.isLt
  apply Fin.ext
  show (2 + 32 * a.val + 16 * ck.val + q.val - 2) % 16 = q.val
  omega
theorem xS_inj {a a' : Fin 3} {ck ck' : Fin 2} {q q' : Dev nD} (h : xS a ck q = xS a' ck' q') : a = a' ∧ ck = ck' ∧ q = q' :=
  ⟨Fin.ext (by rw [← dA_xS a ck q, h, dA_xS]), by rw [← dCk_xS a ck q, h, dCk_xS], by rw [← dQ_xS a ck q, h, dQ_xS]⟩
theorem wS_val (i : Fin 2) : (wS i).val = 98 + i.val := rfl
theorem xS_ne_wS (a : Fin 3) (ck : Fin 2) (q : Dev nD) (i : Fin 2) : xS a ck q ≠ wS i := by
  intro h
  have := (xS_lt a ck q).2
  rw [h, wS_val] at this
  omega

/-- What one slot's transfer credits. -/
abbrev NB : ℕ := (slot rM 0 0).view.dmaCredit
/-- What a weight load credits. -/
def NW (i : Fin 2) : ℕ := match i with | 0 => wiM.view.dmaCredit | 1 => woM.view.dmaCredit

theorem NB_pos : 0 < NB := View.dmaCredit_pos _ (by decide)
theorem NW_pos (i : Fin 2) : 0 < NW i := by
  match i with
  | 0 => exact View.dmaCredit_pos _ (by decide)
  | 1 => exact View.dmaCredit_pos _ (by decide)

theorem credit_p (ck : Fin 2) (q : Dev nD) : (slot pM ck q).view.dmaCredit = NB := rfl
theorem credit_r (ck : Fin 2) (q : Dev nD) : (slot rM ck q).view.dmaCredit = NB := rfl
theorem credit_a (ck : Fin 2) (q : Dev nD) : (slot aM ck q).view.dmaCredit = NB := rfl
theorem credit_y (ck : Fin 2) : (ySl ck).view.dmaCredit = NB := rfl
theorem credit_b (j : ℕ) (ck : Fin 2) (q : Dev nD) : (slot (bM j) ck q).view.dmaCredit = NB := by
  unfold bM; split <;> rfl

/-! ### What is held -/

/-- One slot of `M` on device `c`, holding `v`; holding something. -/
def slotV (M : M4) (c : Dev nD) (ck : Fin 2) (q : Dev nD) (v : SlotV F) : sProp 𝕄 :=
  iprop(∃ f, ⌜(slot M ck q).view.read (Elt F) f = v⌝ ∗ (slot M ck q).view.loc (c : Thread nD τ) ↦[(slot M ck q).view.set]{fullShare} f)
def slotA (M : M4) (c : Dev nD) (ck : Fin 2) (q : Dev nD) : sProp 𝕄 :=
  iprop(∃ f, (slot M ck q).view.loc (c : Thread nD τ) ↦[(slot M ck q).view.set]{fullShare} f)

instance slotV_storable (M : M4) (c : Dev nD) (ck : Fin 2) (q : Dev nD) (v : SlotV F) : BI.Storable (upEmb : UEmb _ 𝕄) (slotV M c ck q v) := by
  unfold slotV; infer_instance
instance slotA_storable (M : M4) (c : Dev nD) (ck : Fin 2) (q : Dev nD) : BI.Storable (upEmb : UEmb _ 𝕄) (slotA (F := F) M c ck q) := by
  unfold slotA; infer_instance

section Pay

variable (m : (ℓ : Loc nD τ sig) → Buf (Elt F) ℓ)

/-- The buffer of sums, were it to hold layer `l`'s. -/
def yBuf (l : ℕ) (c : Dev nD) : Buf (Elt F) ((ySl 0).view.loc (c : Thread nD τ)) := fun i : S2x4x512.Idx => yV m l c (i 0) (fun a : Fin 2 => i a.succ)

/-- The share of a chunk of sums lent to the send to device `q`. -/
def piece (q : Dev nD) : PosShare TreeShare := Transfers.dealOf fullShare Finset.univ q

/-- A share of chunk `ck` of the sums of layer `l` on device `c`. -/
def yPts (π : PosShare TreeShare) (l : ℕ) (c : Dev nD) (ck : Fin 2) : sProp 𝕄 :=
  (ySl ck).view.loc (c : Thread nD τ) ↦[(ySl ck).view.set]{π} (yBuf m l c)

/-- What device `c` lends exchange `j`'s send of chunk `ck` to device `q`. -/
def Src (j : ℕ) (c : Dev nD) (ck : Fin 2) (q : Dev nD) : sProp 𝕄 :=
  if j % 2 = 0 then slotV pM c ck q (partV m (j / 2) c ck q) else yPts m (piece q) (j / 2) c ck

/-- The right to fill, in exchange `j`, device `c`'s slot on device `q`. -/
def Perm (j : ℕ) (c : Dev nD) (ck : Fin 2) (q : Dev nD) : sProp 𝕄 := iprop(slotA (bM j) q ck c ∗ reached ER (rcvC q j ck c) (j / 2))

/-- What arrives on device `c` from device `q` in exchange `j`. -/
def recvPay (j : ℕ) (c : Dev nD) (ck : Fin 2) (q : Dev nD) : sProp 𝕄 :=
  iprop(slotV (bM j) c ck q (srcV m j q ck c) ∗ if j < 4 then Perm (j + 1) c ck q else emp)

/-- What device `q`'s barrier signal brings device `c`. -/
def barPay (c q : Dev nD) : sProp 𝕄 := iprop(Perm 0 c 0 q ∗ Perm 0 c 1 q)

/-- What a weight load brings: the loaded buffer, and the weights back. -/
def winPts (l : ℕ) (c : Dev nD) : sProp 𝕄 :=
  match l with
  | 0 => ((c : Thread nD τ).loc main_arg1) ↦{fullShare} m ((c : Thread nD τ).loc main_arg1)
  | 1 => ((c : Thread nD τ).loc main_arg3) ↦{fullShare} m ((c : Thread nD τ).loc main_arg3)
  | _ => ((c : Thread nD τ).loc main_arg5) ↦{fullShare} m ((c : Thread nD τ).loc main_arg5)
def woutPts (l : ℕ) (c : Dev nD) : sProp 𝕄 :=
  match l with
  | 0 => ((c : Thread nD τ).loc main_arg2) ↦{fullShare} m ((c : Thread nD τ).loc main_arg2)
  | 1 => ((c : Thread nD τ).loc main_arg4) ↦{fullShare} m ((c : Thread nD τ).loc main_arg4)
  | _ => ((c : Thread nD τ).loc main_arg6) ↦{fullShare} m ((c : Thread nD τ).loc main_arg6)
def wiPts (l : ℕ) (c : Dev nD) : sProp 𝕄 := ((c : Thread nD τ).loc cc0_scratch0) ↦{fullShare} (winOf m l c)
def woPts (l : ℕ) (c : Dev nD) : sProp 𝕄 := ((c : Thread nD τ).loc cc0_scratch1) ↦{fullShare} (woutOf m l c)
def loadPay (i : Fin 2) (l : ℕ) (c : Dev nD) : sProp 𝕄 :=
  match i with
  | 0 => iprop(wiPts m l c ∗ winPts m l c)
  | 1 => iprop(woPts m l c ∗ woutPts m l c)

instance yPts_storable (π : PosShare TreeShare) (l : ℕ) (c : Dev nD) (ck : Fin 2) : BI.Storable (upEmb : UEmb _ 𝕄) (yPts m π l c ck) := by
  unfold yPts; infer_instance
instance Src_storable (j : ℕ) (c : Dev nD) (ck : Fin 2) (q : Dev nD) : BI.Storable (upEmb : UEmb _ 𝕄) (Src m j c ck q) := by
  unfold Src; split <;> infer_instance
instance Perm_storable (j : ℕ) (c : Dev nD) (ck : Fin 2) (q : Dev nD) : BI.Storable (upEmb : UEmb _ 𝕄) (Perm (F := F) j c ck q) := by
  unfold Perm; infer_instance
instance recvPay_storable (j : ℕ) (c : Dev nD) (ck : Fin 2) (q : Dev nD) : BI.Storable (upEmb : UEmb _ 𝕄) (recvPay m j c ck q) := by
  unfold recvPay; split <;> infer_instance
instance barPay_storable (c q : Dev nD) : BI.Storable (upEmb : UEmb _ 𝕄) (barPay (F := F) c q) := by
  unfold barPay; infer_instance
instance loadPay_storable (i : Fin 2) (l : ℕ) (c : Dev nD) : BI.Storable (upEmb : UEmb _ 𝕄) (loadPay m i l c) := by
  unfold loadPay wiPts winPts woPts woutPts; (repeat' split) <;> infer_instance

/-! ### The schedule -/

/-- How many rounds the semaphores of an array see. -/
def roundsOf (a : ℕ) : ℕ := if a = 0 then 5 else if a = 1 then 3 else 2

def dutiesOf (c : Dev nD) (s : SemLoc sig) (r : ℕ) : Finset D :=
  match s with
  | .reg b => if b = barS ∧ r = 0 then Finset.univ.erase c else ∅
  | .dma i => if i.val < 2 then ∅ else if i.val < 98 then (if dQ i = c then ∅ else if r < roundsOf (dA i) then {0} else ∅) else if r < 3 then {0} else ∅

def amountOf (s : SemLoc sig) : ℕ :=
  match s with
  | .reg _ => 1
  | .dma i => if i.val < 98 then NB else if i.val = 98 then NW 0 else NW 1

def payOf (c : Dev nD) (s : SemLoc sig) (r : ℕ) (d : D) : sProp 𝕄 :=
  match s with
  | .reg _ => barPay c d
  | .dma i =>
    if i.val < 98 then (if dA i = 0 then Src m r c (dCk i) (dQ i) else recvPay m (2 * r + (dA i - 1)) c (dCk i) (dQ i))
    else if i.val = 98 then loadPay m 0 r c else loadPay m 1 r c

def Rd : Rounds.Schedule (GSem nD τ sig) D 𝕄 where
  duties g r := if g.1.2 = .tc then dutiesOf g.1.1 g.2 r else ∅
  unitless _ := False
  amount g _ _ := amountOf g.2
  payload g r d := payOf m g.1.1 g.2 r d
  amount_pos g _ _ _ := by
    unfold amountOf
    have h0 := NB_pos; have h1 := NW_pos 0; have h2 := NW_pos 1
    (repeat' split) <;> omega

instance Rd_payload_storable (g : GSem nD τ sig) (r : ℕ) (d : D) : BI.Storable (upEmb : UEmb _ 𝕄) ((Rd m).payload g r d) := by
  show BI.Storable upEmb (payOf m g.1.1 g.2 r d)
  unfold payOf
  (repeat' split) <;> infer_instance

variable (c : Dev nD)

theorem duties_bar : (Rd m).duties (barC c) 0 = Finset.univ.erase c := by
  show (if (Proc.tc : Proc τ) = .tc then dutiesOf c (.reg barS) 0 else ∅) = _
  rw [if_pos rfl]; unfold dutiesOf; exact if_pos ⟨rfl, rfl⟩

theorem duties_x (a : Fin 3) (ck : Fin 2) {q : Dev nD} (hq : q ≠ c) {r : ℕ} (hr : r < roundsOf a.val) :
    (Rd m).duties ((c : Thread nD τ), .dma (xS a ck q)) r = {0} := by
  show (if (Proc.tc : Proc τ) = .tc then dutiesOf c (.dma (xS a ck q)) r else ∅) = _
  rw [if_pos rfl]
  unfold dutiesOf
  dsimp only
  rw [if_neg (xS_lt a ck q).1, if_pos (xS_lt a ck q).2, dQ_xS, dA_xS, if_neg hq, if_pos hr]

theorem duties_w (i : Fin 2) {r : ℕ} (hr : r < 3) : (Rd m).duties (ldC c i) r = {0} := by
  show (if (Proc.tc : Proc τ) = .tc then dutiesOf c (.dma (wS i)) r else ∅) = _
  rw [if_pos rfl]
  unfold dutiesOf
  dsimp only
  have h := wS_val i
  rw [if_neg (by omega), if_neg (by omega), if_pos hr]

theorem amount_x (a : Fin 3) (ck : Fin 2) (q : Dev nD) (r : ℕ) (d : D) : (Rd m).amount ((c : Thread nD τ), .dma (xS a ck q)) r d = NB := if_pos (xS_lt a ck q).2
theorem amount_bar (r : ℕ) (d : D) : (Rd m).amount (barC c) r d = 1 := rfl
theorem amount_w (i : Fin 2) (r : ℕ) (d : D) : (Rd m).amount (ldC c i) r d = NW i := by
  match i with
  | 0 => show amountOf (.dma (wS 0)) = _; unfold amountOf; dsimp only; rw [if_neg (show ¬ (wS 0).val < 98 by decide), if_pos (show (wS 0).val = 98 by decide)]
  | 1 => show amountOf (.dma (wS 1)) = _; unfold amountOf; dsimp only; rw [if_neg (show ¬ (wS 1).val < 98 by decide), if_neg (show ¬ (wS 1).val = 98 by decide)]

theorem expect_bar : (Rd m).expect (barC c) 0 = 15 := by
  unfold Schedule.expect Schedule.amountOf
  rw [duties_bar, Finset.sum_congr rfl fun d _ => amount_bar m c 0 d, Finset.sum_const, Finset.card_erase_of_mem (Finset.mem_univ _), Finset.card_univ, smul_eq_mul]
  rfl
theorem expect_x (a : Fin 3) (ck : Fin 2) {q : Dev nD} (hq : q ≠ c) {r : ℕ} (hr : r < roundsOf a.val) :
    (Rd m).expect ((c : Thread nD τ), .dma (xS a ck q)) r = NB := by
  unfold Schedule.expect Schedule.amountOf; rw [duties_x m c a ck hq hr, Finset.sum_singleton, amount_x]
theorem expect_w (i : Fin 2) {r : ℕ} (hr : r < 3) : (Rd m).expect (ldC c i) r = NW i := by
  unfold Schedule.expect Schedule.amountOf; rw [duties_w m c i hr, Finset.sum_singleton, amount_w]

theorem payload_bar (d : D) : (Rd m).payload (barC c) 0 d = barPay c d := rfl
theorem payload_snd (ck : Fin 2) (q : Dev nD) (r : ℕ) (d : D) : (Rd m).payload (sndC c ck q) r d = Src m r c ck q := by
  show payOf m c (.dma (xS 0 ck q)) r d = _
  unfold payOf
  dsimp only
  rw [if_pos (xS_lt 0 ck q).2, dA_xS, dCk_xS, dQ_xS]
  exact if_pos rfl
theorem jA_val (j : ℕ) : (jA j).val = 1 + j % 2 := by
  unfold jA
  split
  · show 1 = _; omega
  · show 2 = _; omega
theorem payload_rcv (j : ℕ) (ck : Fin 2) (q : Dev nD) (d : D) : (Rd m).payload (rcvC c j ck q) (j / 2) d = recvPay m j c ck q := by
  show payOf m c (.dma (xS (jA j) ck q)) (j / 2) d = _
  unfold payOf
  dsimp only
  have h : 2 * (j / 2) + (1 + j % 2 - 1) = j := by omega
  rw [if_pos (xS_lt _ ck q).2, dA_xS, dCk_xS, dQ_xS, jA_val, if_neg (by omega), h]
theorem payload_w (i : Fin 2) (r : ℕ) (d : D) : (Rd m).payload (ldC c i) r d = loadPay m i r c := by
  match i with
  | 0 => show payOf m c (.dma (wS 0)) r d = _; unfold payOf; dsimp only; rw [if_neg (show ¬ (wS 0).val < 98 by decide), if_pos (show (wS 0).val = 98 by decide)]
  | 1 => show payOf m c (.dma (wS 1)) r d = _; unfold payOf; dsimp only; rw [if_neg (show ¬ (wS 1).val < 98 by decide), if_neg (show ¬ (wS 1).val = 98 by decide)]

/-- Exchange `j < 5` is within its cell's rounds. -/
theorem rounds_rcv {j : ℕ} (hj : j < 5) : j / 2 < roundsOf (jA j).val := by
  rw [jA_val]; unfold roundsOf; split
  · omega
  · split <;> omega

/-- Past a cell's last round it has no duties. -/
theorem duties_x_done (a : Fin 3) (ck : Fin 2) (q : Dev nD) {r : ℕ} (hr : roundsOf a.val ≤ r) :
    (Rd m).duties ((c : Thread nD τ), .dma (xS a ck q)) r = ∅ := by
  show (if (Proc.tc : Proc τ) = .tc then dutiesOf c (.dma (xS a ck q)) r else ∅) = _
  rw [if_pos rfl]
  unfold dutiesOf
  dsimp only
  rw [if_neg (xS_lt a ck q).1, if_pos (xS_lt a ck q).2, dQ_xS, dA_xS, if_neg (by omega : ¬ r < roundsOf a.val), ite_self]
theorem duties_x_self (a : Fin 3) (ck : Fin 2) (r : ℕ) :
    (Rd m).duties ((c : Thread nD τ), .dma (xS a ck c)) r = ∅ := by
  show (if (Proc.tc : Proc τ) = .tc then dutiesOf c (.dma (xS a ck c)) r else ∅) = _
  rw [if_pos rfl]
  unfold dutiesOf
  dsimp only
  rw [if_neg (xS_lt a ck c).1, if_pos (xS_lt a ck c).2, dQ_xS, if_pos rfl]
theorem duties_w_done (i : Fin 2) {r : ℕ} (hr : 3 ≤ r) : (Rd m).duties (ldC c i) r = ∅ := by
  show (if (Proc.tc : Proc τ) = .tc then dutiesOf c (.dma (wS i)) r else ∅) = _
  rw [if_pos rfl]
  unfold dutiesOf
  dsimp only
  have h := wS_val i
  rw [if_neg (by omega), if_neg (by omega), if_neg (by omega)]
theorem duties_bar_done {r : ℕ} (hr : 1 ≤ r) : (Rd m).duties (barC c) r = ∅ := by
  show (if (Proc.tc : Proc τ) = .tc then dutiesOf c (.reg barS) r else ∅) = _
  rw [if_pos rfl]; unfold dutiesOf; exact if_neg fun h => by omega

theorem rest_bar : bigSep ((Rd m).duties (barC c) 0 \ ∅) (fun d => (Rd m).payload (barC c) 0 d) = bigSep (Finset.univ.erase c) (barPay c) := by
  rw [Finset.sdiff_empty, duties_bar]; rfl
theorem rest_snd (ck : Fin 2) {q : Dev nD} (hq : q ≠ c) {r : ℕ} (hr : r < 5) :
    bigSep ((Rd m).duties (sndC c ck q) r \ ∅) (fun d => (Rd m).payload (sndC c ck q) r d) = Src m r c ck q := by
  rw [Finset.sdiff_empty, duties_x m c 0 ck hq (r := r) hr, bigSep_singleton, payload_snd]
theorem rest_rcv {j : ℕ} (hj : j < 5) (ck : Fin 2) {q : Dev nD} (hq : q ≠ c) :
    bigSep ((Rd m).duties (rcvC c j ck q) (j / 2) \ ∅) (fun d => (Rd m).payload (rcvC c j ck q) (j / 2) d) = recvPay m j c ck q := by
  rw [Finset.sdiff_empty, duties_x m c _ ck hq (rounds_rcv hj), bigSep_singleton, payload_rcv]
theorem rest_w (i : Fin 2) {r : ℕ} (hr : r < 3) : bigSep ((Rd m).duties (ldC c i) r \ ∅) (fun d => (Rd m).payload (ldC c i) r d) = loadPay m i r c := by
  rw [Finset.sdiff_empty, duties_w m c i hr, bigSep_singleton, payload_w]

end Pay

/-! ### What a device owes -/

/-- The `k`-th thing device `c` does for another: sixteen barrier signals, then sixteen sends per exchange and chunk. -/
def unitOf (c : Dev nD) (k : ℕ) : CellTallies nD τ sig ℕ :=
  if k % 16 = c.val then 0
  else if k < 16 then tallyAt (barC ⟨k % 16, Nat.mod_lt _ (by decide)⟩) 1 1
  else tallyAt (rcvC ⟨k % 16, Nat.mod_lt _ (by decide)⟩ ((k / 16 - 1) / 2) ⟨(k / 16 - 1) % 2, Nat.mod_lt _ (by decide)⟩ c) (2 + (k / 16 - 1) / 2) NB

/-- What it still owes having done the first `n`. -/
def owed (c : Dev nD) (n : ℕ) : CellTallies nD τ sig ℕ := ∑ k ∈ Finset.Ico n 176, unitOf c k

theorem owed_step (c : Dev nD) {n : ℕ} (hn : n < 176) : owed c n = owed c (n + 1) + unitOf c n := by
  unfold owed
  have e : Finset.Ico n 176 = insert n (Finset.Ico (n + 1) 176) := by
    ext k
    rw [Finset.mem_insert, Finset.mem_Ico, Finset.mem_Ico]
    omega
  rw [e, Finset.sum_insert (by rw [Finset.mem_Ico]; omega), add_comm]

theorem owed_end (c : Dev nD) : owed c 176 = 0 := by unfold owed; rw [Finset.Ico_self, Finset.sum_empty]

theorem unit_self (c : Dev nD) {n : ℕ} (h : n % 16 = c.val) : unitOf c n = 0 := if_pos h

theorem unit_bar (c q : Dev nD) (h : q ≠ c) : unitOf c q.val = tallyAt (barC q) 1 1 := by
  have hq : q.val < 16 := q.isLt
  have e : q.val % 16 = q.val := Nat.mod_eq_of_lt hq
  unfold unitOf
  rw [if_neg (fun he => h (Fin.ext (e.symm.trans he))), if_pos hq]
  congr 1
  exact congrArg barC (Fin.ext e)

/-- The place of exchange `j`, chunk `ck`, device `p` in that order. -/
def nOf (j : ℕ) (ck : Fin 2) (p : ℕ) : ℕ := 16 * (2 * j + ck.val + 1) + p

theorem unit_snd (c : Dev nD) (j : ℕ) (ck : Fin 2) (q : Dev nD) (h : q ≠ c) : unitOf c (nOf j ck q.val) = tallyAt (rcvC q j ck c) (2 + j) NB := by
  have hq : q.val < 16 := q.isLt
  have hk := ck.isLt
  have e : nOf j ck q.val % 16 = q.val := by unfold nOf; omega
  have e1 : (nOf j ck q.val / 16 - 1) / 2 = j := by unfold nOf; omega
  have e2 : (nOf j ck q.val / 16 - 1) % 2 = ck.val := by unfold nOf; omega
  unfold unitOf
  rw [if_neg (fun he => h (Fin.ext (e.symm.trans he))), if_neg (by unfold nOf; omega), e1]
  congr 1
  have a1 : (⟨nOf j ck q.val % 16, Nat.mod_lt _ (by decide)⟩ : Dev nD) = q := Fin.ext e
  have a2 : (⟨(nOf j ck q.val / 16 - 1) % 2, Nat.mod_lt _ (by decide)⟩ : Fin 2) = ck := Fin.ext e2
  rw [a1, a2]

/-! ### Levels -/

/-- The indices a cell may be waited at, and the level of each: the index itself. -/
def L (g : GSem nD τ sig) : Finset ℕ := if g.1.2 = .tc then Finset.range 8 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 8 := if_pos rfl

/-- The level the `k`-th thing is done at. -/
def lvl (k : ℕ) : ℕ := if k < 16 then 1 else 2 + (k / 16 - 1) / 2

theorem unit_pos {c : Dev nD} {k : ℕ} (hk : k < 176) {g : GSem nD τ sig} {i : ℕ} (h : 0 < unitOf c k g i) : i ∈ L g ∧ i = lvl k := by
  unfold unitOf at h
  split at h
  · exact absurd h (Nat.lt_irrefl 0)
  · split at h
    · rename_i h16
      obtain ⟨rfl, rfl⟩ := Pipeline.tallyAt_pos h
      exact ⟨by rw [L_tc]; decide, by unfold lvl; rw [if_pos h16]⟩
    · rename_i h16
      obtain ⟨rfl, rfl⟩ := Pipeline.tallyAt_pos h
      exact ⟨by rw [L_tc, Finset.mem_range]; omega, by unfold lvl; rw [if_neg h16]⟩

theorem owed_pos {c : Dev nD} {n : ℕ} {g : GSem nD τ sig} {i : ℕ} (h : 0 < owed c n g i) : i ∈ L g ∧ ∃ k, n ≤ k ∧ k < 176 ∧ i = lvl k := by
  unfold owed at h
  obtain ⟨k, hk, h'⟩ := Pipeline.sum_pos_exists h
  rw [Finset.mem_Ico] at hk
  exact ⟨(unit_pos hk.2 h').1, k, hk.1, hk.2, (unit_pos hk.2 h').2⟩

theorem lvl_mono {k k' : ℕ} (h : k ≤ k') : lvl k ≤ lvl k' := by
  have := Nat.div_le_div_right (c := 16) h
  unfold lvl; split <;> split <;> omega

/-- A wait at a level below everything still owed. -/
theorem may (c : Dev nD) (sm : SemLoc sig) (i n : ℕ) (hi : i < 8) (h : i < lvl n) : (levAts L lv : sProp 𝕄) ⊢ MayWait (c : Thread nD τ) sm i (owed c n) :=
  Pipeline.mayWait_of_levAts (by rw [L_tc, Finset.mem_range]; exact hi) fun g i' hg => by
    obtain ⟨hL, k, hk, -, rfl⟩ := owed_pos hg
    exact ⟨hL, lt_of_lt_of_le h (lvl_mono hk)⟩

end Cert.KernelIdeal.Mlp
-- ==== Proof.Steps.lean ====
/-
One step of the protocol at a time: a send, the two kinds of wait, a slot copied locally, a barrier signal, a weight load.
Each is stated on what the device holds for the one partner concerned.
-/
module

public import proofs.«01_k».proof.Proof.Sched
public import proofs.«01_k».proof.Proof.Gen.KernelIdeal.Points

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The program `p`, run on device `c`, ends with `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ### What every step may look at -/

/-- The shared semaphores of a device, numbered: the barrier, the exchanges' 96, the loads' two. -/
def csem (k : Fin 99) : SemLoc sig := if h : k.val = 0 then .reg barS else .dma ⟨k.val + 1, by have := k.isLt; show _ < 100; omega⟩
def kcell (x : Dev nD × Fin 99) : GSem nD τ sig := ((x.1 : Thread nD τ), csem x.2)

section Steps

variable (m : (ℓ : Loc nD τ sig) → Buf (Elt F) ℓ) (K : Dev nD × Fin 99 → ℕ)

def Inv : sProp 𝕄 := bigSep Finset.univ fun x => cellInv ER (Rd m) (K x) (kcell x)
instance Inv_persistent : Persistent (Inv m K) := by unfold Inv; infer_instance

def Ctx : sProp 𝕄 := iprop(Inv m K ∗ levAts L lv)
instance Ctx_persistent : Persistent (Ctx m K) := by unfold Ctx; infer_instance

theorem inv_at (x : Dev nD × Fin 99) : Ctx m K ⊢ cellInv ER (Rd m) (K x) (kcell x) := by
  have h : (Inv m K : sProp 𝕄) ⊢ cellInv ER (Rd m) (K x) (kcell x) := bigSep_elim (Finset.mem_univ x)
  unfold Ctx
  iintro ⟨#H, -⟩
  iapply h $$ H

theorem csem_x (a : Fin 3) (ck : Fin 2) (q : Dev nD) (h) : csem ⟨1 + 32 * a.val + 16 * ck.val + q.val, h⟩ = .dma (xS a ck q) := by
  unfold csem xS
  rw [dif_neg (by show ¬ 1 + 32 * a.val + 16 * ck.val + q.val = 0; omega)]
  congr 1
  apply Fin.ext
  show 1 + 32 * a.val + 16 * ck.val + q.val + 1 = 2 + 32 * a.val + 16 * ck.val + q.val
  omega
theorem csem_w (i : Fin 2) (h) : csem ⟨97 + i.val, h⟩ = .dma (wS i) := by
  unfold csem wS
  rw [dif_neg (by show ¬ 97 + i.val = 0; omega)]
  congr 1
  apply Fin.ext
  show 97 + i.val + 1 = 98 + i.val
  omega

theorem inv_x (c : Dev nD) (a : Fin 3) (ck : Fin 2) (q : Dev nD) : Ctx m K ⊢ iprop(∃ κ, cellInv ER (Rd m) κ ((c : Thread nD τ), .dma (xS a ck q))) := by
  have h1 := a.isLt; have h2 := ck.isLt; have h3 : q.val < 16 := q.isLt
  have h : 1 + 32 * a.val + 16 * ck.val + q.val < 99 := by omega
  have e : kcell (c, ⟨1 + 32 * a.val + 16 * ck.val + q.val, h⟩) = ((c : Thread nD τ), .dma (xS a ck q)) := by
    unfold kcell; rw [csem_x]
  iintro #H
  ihave #H2 := (inv_at m K (c, ⟨1 + 32 * a.val + 16 * ck.val + q.val, h⟩)) $$ H
  rw [e]
  iexists (K (c, ⟨1 + 32 * a.val + 16 * ck.val + q.val, h⟩))
  iexact H2
theorem inv_w (c : Dev nD) (i : Fin 2) : Ctx m K ⊢ iprop(∃ κ, cellInv ER (Rd m) κ (ldC c i)) := by
  have h2 := i.isLt
  have h : 97 + i.val < 99 := by omega
  have e : kcell (c, ⟨97 + i.val, h⟩) = ldC c i := by unfold kcell; rw [csem_w]
  iintro #H
  ihave #H2 := (inv_at m K (c, ⟨97 + i.val, h⟩)) $$ H
  rw [e]
  iexists (K (c, ⟨97 + i.val, h⟩))
  iexact H2
theorem inv_bar (c : Dev nD) : Ctx m K ⊢ iprop(∃ κ, cellInv ER (Rd m) κ (barC c)) := by
  have e : kcell (c, 0) = barC c := rfl
  iintro #H
  ihave #H2 := (inv_at m K (c, 0)) $$ H
  rw [e]
  iexists (K (c, 0))
  iexact H2

variable (c : Dev nD)

theorem ctx_may (sm : SemLoc sig) (i n : ℕ) (hi : i < 8) (h : i < lvl n) : Ctx m K ⊢ MayWait (c : Thread nD τ) sm i (owed c n) := by
  unfold Ctx
  iintro ⟨-, #H⟩
  iapply (may c sm i n hi h)
  iexact H

/-! ### A send -/

/-- Between exchanges: the send semaphore of `(ck, q)` is at rest, for exchange `j`. -/
def Idle (j : ℕ) (ck : Fin 2) (q : Dev nD) : sProp 𝕄 := iprop(atPos ER (sndC c ck q) j ∅ 0 ∗ reached ER (sndC c ck q) j)
/-- The two payments of exchange `j`'s send of `(ck, q)`. -/
def Tok (j : ℕ) (ck : Fin 2) (q : Dev nD) : sProp 𝕄 := iprop(dutyTok ER (sndC c ck q) j 0 ∗ dutyTok ER (rcvC q j ck c) (j / 2) 0)
/-- The send is under way. -/
def Out (j : ℕ) (ck : Fin 2) (q : Dev nD) : sProp 𝕄 := iprop(cred (tallyAt (sndC c ck q) 0 NB) ∗ atPos ER (sndC c ck q) j ∅ 0)
/-- What the send gives away besides the values. -/
def Own (j : ℕ) (ck : Fin 2) (q : Dev nD) : sProp 𝕄 := if j < 4 then Perm (j + 1) q ck c else iprop(emp)

/-- What device `c` has outstanding, having done the first `n` things. -/
def Debt (n : ℕ) : sProp 𝕄 := iprop(∃ W, owes (c : Thread nD τ) (owed c n) W)

theorem send_core {j : ℕ} {ck : Fin 2} {q : Dev nD} (hq : q ≠ c) (hj : j < 5) {s d : Memref sig .tc .vmem S4x512 .bf16} {sS sR : DmaSem sig} {dev : Dev nD}
    (hd : d = slot (bM j) ck c) (hsS : sS = xS 0 ck q) (hsR : sR = xS (jA j) ck c) (hdev : dev = q)
    {hsc : (d : Memref sig (Dev.tc dev : Thread nD τ).2.kind .vmem S4x512 .bf16).view.ref.isScScratch = false} {hsrc : s.view.WordExact} {hdst : d.view.WordExact}
    {hsem : DmaTarget.Typed .vmem (.dma sR) (.remote (Dev.tc dev : Thread nD τ) (d : Memref sig .tc .vmem S4x512 .bf16) (.dma sS) hsc)}
    (hs : Src m j c ck q ⊢ iprop(∃ π f, ⌜s.view.read (Elt F) f = srcV m j c ck q ∧ ((s.view.loc (c : Thread nD τ) ↦[s.view.set]{π} f) ⊢ Src m j c ck q)⌝
      ∗ s.view.loc (c : Thread nD τ) ↦[s.view.set]{π} f))
    {α : Type} {Q : α → sProp 𝕄} {k : PUnit → Prog (TpuEff nD τ sig (Elt F) Λ₀ .tc) α} :
    iprop(Ctx m K ∗ Debt c (nOf j ck q.val) ∗ Src m j c ck q ∗ Idle c j ck q ∗ Perm j c ck q ∗ Tok c j ck q ∗ Own c j ck q)
      ⊢ iprop(((Debt c (nOf j ck q.val + 1) ∗ Out c j ck q) -∗ WP c (k ⟨⟩) Q)
          -∗ WP c (.op (.enqueueDma s (.remote (Dev.tc dev : Thread nD τ) d (.dma sS) hsc) (.dma sR) hsrc hdst hsem) k) Q) := by
  subst hdev hsS hsR hd
  have hq' : dev.val < 16 := dev.isLt
  have hck := ck.isLt
  have hn : nOf j ck dev.val < 176 := by unfold nOf; omega
  unfold Debt Idle Perm Tok slotA
  iintro ⟨#HC, ⟨%W, HO⟩, HS, ⟨Hat, #HrS⟩, ⟨⟨%fd, Hd⟩, #HrR⟩, ⟨Ht1, Ht2⟩, HOwn⟩ Hk
  ihave ⟨%π, %fs, %hfs, HS⟩ := hs $$ HS
  ihave ⟨%κ₁, #HI1⟩ := (inv_x m K c 0 ck dev) $$ HC
  ihave ⟨%κ₂, #HI2⟩ := (inv_x m K dev (jA j) ck c) $$ HC
  iapply (Rounds.wp_send_pointsTo_with 𝒱₀ ER (Rd m) (c : Thread nD τ) none (κ₁ := κ₁) (κ₂ := κ₂) (c' := (Dev.tc dev : Thread nD τ))
    (src := s) (dst := slot (bM j) ck c)
    (r₁ := j) (r₂ := j / 2) (d₁ := 0) (d₂ := 0) (fs := fs) (fd := fd) (q := π) (F := Own c j ck dev) (sS := .dma (xS 0 ck dev)) (sem := .dma (xS (jA j) ck c)) (O₀ := owed c (nOf j ck dev.val))
    (by rw [duties_x m c 0 ck hq (show j < roundsOf 0 from hj)]; exact Finset.mem_singleton_self _)
    (by rw [duties_x m dev (jA j) ck (Ne.symm hq) (rounds_rcv hj)]; exact Finset.mem_singleton_self _)
    (2 + j) 0 NB (credit_b j ck c) (amount_x m c 0 ck dev j 0) (amount_x m dev (jA j) ck c (j / 2) 0)
    (owed c (nOf j ck dev.val + 1)) (by rw [owed_step c hn, unit_snd c j ck dev hq]) (W := W)
    (by rw [payload_snd]; exact hfs.2)
    (by
      rw [payload_rcv, hfs.1]
      unfold recvPay slotV Own
      iintro ⟨Hd, HF⟩
      isplitl [Hd]
      · iexists ((slot (bM j) ck c).view.write (Elt F) fd (srcV m j c ck dev) Finset.univ)
        isplitr
        · ipureintro
          exact View.read_write_univ _ _
        · iexact Hd
      · iexact HF)) $$ [HS Hd HOwn HO Ht1 Ht2]
  · isplitr; · iexact HI1
    isplitr; · iexact HI2
    isplitl [HS]; · iexact HS
    isplitl [Hd HOwn]
    · isplitl [Hd]; · iexact Hd
      iexact HOwn
    isplitl [HO]; · iexact HO
    isplitl [Ht1]; · iexact Ht1
    isplitr; · iexact HrS
    isplitl [Ht2]; · iexact Ht2
    iexact HrR
  iintro ⟨HC', HO⟩
  iapply Hk
  isplitl [HO]
  · iexists W; iexact HO
  · unfold Out
    isplitl [HC']; · iexact HC'
    iexact Hat

/-! ### The waits -/

/-- A wait for one slot's transfer at level `i`: the payload comes. -/
theorem wait_core {a : Fin 3} {ck : Fin 2} {q : Dev nD} (hq : q ≠ c) {r : ℕ} (hr : r < roundsOf a.val) {sm : DmaSem sig} (hsm : sm = xS a ck q)
    {i n : ℕ} (hi : i < 8) (hn : i < lvl n) {P : sProp 𝕄}
    (hP : bigSep ((Rd m).duties ((c : Thread nD τ), .dma (xS a ck q)) r \ ∅) (fun d => (Rd m).payload ((c : Thread nD τ), .dma (xS a ck q)) r d) = P)
    {s d : Memref sig .tc .vmem S4x512 .bf16} {hsrc : s.view.WordExact} {hdst : d.view.WordExact} (hd : d.view.dmaCredit = NB)
    {α : Type} {Q : α → sProp 𝕄} {k : PUnit → Prog (TpuEff nD τ sig (Elt F) Λ₀ .tc) α} :
    iprop(Ctx m K ∗ Debt c n ∗ cred (tallyAt ((c : Thread nD τ), .dma (xS a ck q)) i NB) ∗ atPos ER ((c : Thread nD τ), .dma (xS a ck q)) r ∅ 0)
      ⊢ iprop(((Debt c n ∗ P ∗ atPos ER ((c : Thread nD τ), .dma (xS a ck q)) (r + 1) ∅ 0 ∗ reached ER ((c : Thread nD τ), .dma (xS a ck q)) (r + 1)) -∗ WP c (k ⟨⟩) Q)
          -∗ WP c (.op (.waitDma2 sm s d hsrc hdst) k) Q) := by
  subst hsm
  unfold Debt
  iintro ⟨#HC, ⟨%W, HO⟩, HC1, Hat⟩ Hk
  ihave ⟨%κ, #HI⟩ := (inv_x m K c a ck q) $$ HC
  iapply (Rounds.wp_wait_rest_token 𝒱₀ ER (Rd m) (c : Thread nD τ) none (κ := κ)
      (wpE_waitDma2_eq 𝒱₀ (c : Thread nD τ) none Set.univ) (Set.mem_univ _) i (O := owed c n) (W := W) (R := r) (m := 0) (T := ∅)
      (by rw [Nat.zero_add, expect_x m c a ck hq hr, hd])) $$ [HC1 HO Hat]
  · isplitr; · iexact HI
    isplitl [HC1]; · rw [hd]; iexact HC1
    isplitl [HO]; · iexact HO
    isplitr; · iapply (ctx_may m K c _ i n hi hn); iexact HC
    iexact Hat
  iintro ⟨HO, Hat, #Hr, Hpay⟩
  ihave Hp := (Entails.of_eq hP) $$ Hpay
  iapply Hk
  isplitl [HO]; · iexists _; iexact HO
  isplitl [Hp]; · iexact Hp
  isplitl [Hat]; · iexact Hat
  iexact Hr

end Steps

end Cert.KernelIdeal.Mlp
-- ==== Proof.Blocks.lean ====
/-
The blocks the kernel repeats for each partner, as steps of a loop over the sixteen devices. A loop's state after `p` partners is
`loop A B p`: the first `p` are at `A`, the others still at `B`.
-/
module

public import proofs.«01_k».proof.Proof.Steps

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### Loops -/

def loop (A B : Dev nD → sProp 𝕄) (p : ℕ) : sProp 𝕄 := bigSep Finset.univ fun q : Dev nD => if q.val < p then A q else B q
/-- Halfway through partner `p`. -/
def loopM (A M B : Dev nD → sProp 𝕄) (p : ℕ) : sProp 𝕄 := bigSep Finset.univ fun q : Dev nD => if q.val < p then A q else if q.val = p then M q else B q

omit [FloatOps F] in
theorem loop_zero (A B : Dev nD → sProp 𝕄) : loop A B 0 = bigSep Finset.univ B := by
  unfold loop
  exact bigSep_congr fun q _ => if_neg (Nat.not_lt_zero _)
omit [FloatOps F] in
theorem loop_end (A B : Dev nD → sProp 𝕄) : loop A B 16 = bigSep Finset.univ A := by
  unfold loop
  exact bigSep_congr fun q _ => if_pos q.isLt

omit [FloatOps F] in
theorem loop_step (A B : Dev nD → sProp 𝕄) (q : Dev nD) : loop A B q.val ⊢ iprop(B q ∗ (A q -∗ loop A B (q.val + 1))) := by
  unfold loop
  rw [bigSep_univ_at (fun i : Dev nD => if i.val < q.val then A i else B i) q, bigSep_univ_at (fun i : Dev nD => if i.val < q.val + 1 then A i else B i) q,
    if_neg (Nat.lt_irrefl _), if_pos (Nat.lt_succ_self _)]
  have e : bigSep (Finset.univ.erase q) (fun i : Dev nD => if i.val < q.val then A i else B i) = bigSep (Finset.univ.erase q) (fun i : Dev nD => if i.val < q.val + 1 then A i else B i) :=
    bigSep_congr fun i hi => by
      have hne : i.val ≠ q.val := fun h => (Finset.mem_erase.mp hi).1 (Fin.ext h)
      by_cases h : i.val < q.val
      · rw [if_pos h, if_pos (by omega)]
      · rw [if_neg h, if_neg (by omega)]
  rw [e]
  iintro ⟨H1, H2⟩
  isplitl [H1]; · iexact H1
  iintro H3
  isplitl [H3]; · iexact H3
  iexact H2
omit [FloatOps F] in
theorem loop_stepM (A M B : Dev nD → sProp 𝕄) (q : Dev nD) : loop A B q.val ⊢ iprop(B q ∗ (M q -∗ loopM A M B q.val)) := by
  unfold loop loopM
  rw [bigSep_univ_at (fun i : Dev nD => if i.val < q.val then A i else B i) q, bigSep_univ_at (fun i : Dev nD => if i.val < q.val then A i else if i.val = q.val then M i else B i) q,
    if_neg (Nat.lt_irrefl _), if_neg (Nat.lt_irrefl _), if_pos rfl]
  have e : bigSep (Finset.univ.erase q) (fun i : Dev nD => if i.val < q.val then A i else B i)
      = bigSep (Finset.univ.erase q) (fun i : Dev nD => if i.val < q.val then A i else if i.val = q.val then M i else B i) :=
    bigSep_congr fun i hi => by
      have hne : i.val ≠ q.val := fun h => (Finset.mem_erase.mp hi).1 (Fin.ext h)
      rw [if_neg hne]
  rw [e]
  iintro ⟨H1, H2⟩
  isplitl [H1]; · iexact H1
  iintro H3
  isplitl [H3]; · iexact H3
  iexact H2
omit [FloatOps F] in
theorem loopM_step (A M B : Dev nD → sProp 𝕄) (q : Dev nD) : loopM A M B q.val ⊢ iprop(M q ∗ (A q -∗ loop A B (q.val + 1))) := by
  unfold loop loopM
  rw [bigSep_univ_at (fun i : Dev nD => if i.val < q.val + 1 then A i else B i) q, bigSep_univ_at (fun i : Dev nD => if i.val < q.val then A i else if i.val = q.val then M i else B i) q,
    if_pos (Nat.lt_succ_self _), if_neg (Nat.lt_irrefl _), if_pos rfl]
  have e : bigSep (Finset.univ.erase q) (fun i : Dev nD => if i.val < q.val + 1 then A i else B i)
      = bigSep (Finset.univ.erase q) (fun i : Dev nD => if i.val < q.val then A i else if i.val = q.val then M i else B i) :=
    bigSep_congr fun i hi => by
      have hne : i.val ≠ q.val := fun h => (Finset.mem_erase.mp hi).1 (Fin.ext h)
      rw [if_neg hne]
      by_cases h : i.val < q.val
      · rw [if_pos h, if_pos (by omega)]
      · rw [if_neg h, if_neg (by omega)]
  rw [e]
  iintro ⟨H1, H2⟩
  isplitl [H1]; · iexact H1
  iintro H3
  isplitl [H3]; · iexact H3
  iexact H2

/-! ### The kernel's conditions -/

/-- A device's place, as the kernel computes it. -/
abbrev myW (c : Dev nD) : BitVec 32 := Scalar.remsi (Scalar.divsi (Dev.word c) 1#32) 16#32

theorem cond_ne (c : Dev nD) (q : Dev nD) : Iff (Scalar.cmpi .ne (Scalar.extui (Scalar.cmpi .ne (myW c) (BitVec.ofNat 32 q.val)) : BitVec 32) 0#32 = 1#1) (q ≠ c) := by
  revert c q; decide
theorem cond_eq (c : Dev nD) (q : Dev nD) : Iff (Scalar.cmpi .ne (Scalar.extui (Scalar.cmpi .eq (myW c) (BitVec.ofNat 32 q.val)) : BitVec 32) 0#32 = 1#1) (q = c) := by
  revert c q; decide

/-! ### The kernel's views and semaphores -/

theorem slot_of (M : M4) {ck : Fin 2} {q : Dev nD} {off : Fin 4 → ℕ} (h : off = ![ck.val, q.val, 0, 0]) (inb : ∀ i, off i + S1x1x4x512.size i ≤ S2x16x4x512.size i) (hs) :
    (M.slice (Rect.unit (s := S2x16x4x512) off S1x1x4x512.size inb) hs).squeeze S4x512 squeezes_S1x1x4x512_S4x512 = slot M ck q := by
  subst h; rfl
theorem sem_of0 {ck : Fin 2} {q : Dev nD} {off : Fin 2 → ℕ} (h : off = ![ck.val, q.val]) (inb : ∀ i, off i + S1x1.size i ≤ S2x16.size i) :
    ((cc0_scratch6.slice (Rect.unit (s := S2x16) off S1x1.size inb)).squeeze S_ squeezes_S1x1_S_).sem = xS 0 ck q := by
  subst h; revert ck q; decide
theorem sem_of1 {ck : Fin 2} {q : Dev nD} {off : Fin 2 → ℕ} (h : off = ![ck.val, q.val]) (inb : ∀ i, off i + S1x1.size i ≤ S2x16.size i) :
    ((cc0_scratch7.slice (Rect.unit (s := S2x16) off S1x1.size inb)).squeeze S_ squeezes_S1x1_S_).sem = xS 1 ck q := by
  subst h; revert ck q; decide
theorem sem_of2 {ck : Fin 2} {q : Dev nD} {off : Fin 2 → ℕ} (h : off = ![ck.val, q.val]) (inb : ∀ i, off i + S1x1.size i ≤ S2x16.size i) :
    ((cc0_scratch8.slice (Rect.unit (s := S2x16) off S1x1.size inb)).squeeze S_ squeezes_S1x1_S_).sem = xS 2 ck q := by
  subst h; revert ck q; decide

omit [FloatOps F] in
theorem slot_set (M : M4) (ck : Fin 2) (q : Dev nD) : (slot M ck q).view.set = (M.access (sRect ck q)).set := View.set_reshape _ _
omit [FloatOps F] in
theorem slot_access (M : M4) (ck : Fin 2) (q : Dev nD) (f : M.view.ref.ty.Contents (Elt F)) (x : S4x512.Idx) :
    (slot M ck q).view.read (Elt F) f x = (M.access (sRect ck q)).read (Elt F) f (Shape.reshapeEquiv (s := S1x1x4x512) (by decide) x) := rfl
omit [FloatOps F] in
theorem y_set (ck : Fin 2) : (ySl ck).view.set = (yM.access (yRect ck)).set := View.set_reshape _ _
omit [FloatOps F] in
theorem y_access (ck : Fin 2) (f : (yM : Memref sig .tc .vmem S2x4x512 .bf16).view.ref.ty.Contents (Elt F)) (x : S4x512.Idx) :
    (ySl ck).view.read (Elt F) f x = (yM.access (yRect ck)).read (Elt F) f (Shape.reshapeEquiv (s := S1x4x512) (by decide) x) := rfl

theorem pay5_apply (v : Vec F S1x1x4x512 .bf16) (y : S1x1x4x512.Idx) : k0_pay5 v y = v y :=
  congrArg v (by rw [Shape.reshapeEquiv_reshapeEquiv, Shape.reshapeEquiv_self])
theorem pay39_apply (v : Vec F S1x4x512 .bf16) (x : S4x512.Idx) :
    k0_pay39 v (Shape.reshapeEquiv (s := S1x1x4x512) (by decide) x) = v (Shape.reshapeEquiv (s := S1x4x512) (by decide) x) :=
  congrArg v (by rw [Shape.reshapeEquiv_reshapeEquiv, Shape.reshapeEquiv_reshapeEquiv])

theorem y_read (m : (ℓ : Loc nD τ sig) → Buf (Elt F) ℓ) (l : ℕ) (c : Dev nD) (ck : Fin 2) (f : (yM : Memref sig .tc .vmem S2x4x512 .bf16).view.ref.ty.Contents (Elt F)) (hf : f = yBuf m l c) :
    (ySl ck).view.read (Elt F) f = yV m l c ck := by
  subst hf
  funext x
  rw [y_access]
  show yBuf m l c ((yRect ck).emb (Shape.reshapeEquiv (s := S1x4x512) _ x)) = _
  have e : Shape.reshapeEquiv (s := S1x4x512) (by decide : S4x512.numel = S1x4x512.numel) x = Fin.cons (α := fun i => Fin (S1x4x512.size i)) (0 : Fin 1) x := by
    refine Shape.reshapeEquiv_eq_of_rowMajor _ ?_
    rw [Shape.rowMajor_val_three, Shape.rowMajor_val_two]
    show (0 * _ + (x 0).val) * _ + (x 1).val = _
    rw [Nat.zero_mul, Nat.zero_add]
    rfl
  rw [e]
  unfold yBuf
  have h0 : (yRect ck).emb (Fin.cons (α := fun i => Fin (S1x4x512.size i)) (0 : Fin 1) x) 0 = ck := Fin.ext (by show ck.val + 1 * 0 = ck.val; omega)
  have h1 : (fun a : Fin 2 => (yRect ck).emb (Fin.cons (α := fun i => Fin (S1x4x512.size i)) (0 : Fin 1) x) a.succ) = x := by
    funext a
    match a with
    | ⟨0, _⟩ => exact Fin.ext (by show 0 + 1 * (x 0).val = (x 0).val; omega)
    | ⟨1, _⟩ => exact Fin.ext (by show 0 + 1 * (x 1).val = (x 1).val; omega)
  exact (congrArg₂ (fun a b => yV m l c a b) h0 h1)

/-! ### The states a partner goes through -/

section States

variable (m : (ℓ : Loc nD τ sig) → Buf (Elt F) ℓ) (K : Dev nD × Fin 99 → ℕ) (c : Dev nD) (j : ℕ) (ck : Fin 2) (q : Dev nD)

/-- Before exchange `j`'s send of chunk `ck` to `q`. -/
def BefS : sProp 𝕄 :=
  if q = c then iprop(Src m j c ck c ∗ slotA (bM j) c ck c)
  else iprop(Src m j c ck q ∗ Idle c j ck q ∗ Perm j c ck q ∗ Tok c j ck q ∗ Own c j ck q)
/-- After it. -/
def AftS : sProp 𝕄 :=
  if q = c then iprop(Src m j c ck c ∗ slotV (bM j) c ck c (srcV m j c ck c)) else Out c j ck q
/-- Between the local copy and the send. -/
def MidS : sProp 𝕄 := if q = c then AftS m c j ck q else BefS m c j ck q

/-- Before waiting for the send to be over. -/
def BefD : sProp 𝕄 := if q = c then Src m j c ck c else Out c j ck q
def AftD : sProp 𝕄 := if q = c then Src m j c ck c else iprop(Src m j c ck q ∗ Idle c (j + 1) ck q)

/-- Before waiting for exchange `j`'s chunk `ck` from `q`. -/
def BefW : sProp 𝕄 :=
  if q = c then slotV (bM j) c ck c (srcV m j c ck c)
  else iprop(cred (tallyAt (rcvC c j ck q) (2 + j) NB) ∗ atPos ER (rcvC c j ck q) (j / 2) ∅ 0)
def AftW : sProp 𝕄 :=
  if q = c then slotV (bM j) c ck c (srcV m j c ck c)
  else iprop(recvPay m j c ck q ∗ atPos ER (rcvC c j ck q) (j / 2 + 1) ∅ 0 ∗ reached ER (rcvC c j ck q) (j / 2 + 1))

end States

section Steps

variable (m : (ℓ : Loc nD τ sig) → Buf (Elt F) ℓ) (K : Dev nD × Fin 99 → ℕ) (c : Dev nD)

/-- A slot copied locally, in an even exchange. -/
theorem self_rs {j : ℕ} {ck : Fin 2} {p n : ℕ} (hp : p < 16) (hj : j % 2 = 0) {b : BitVec 1} (hb : Iff (b = 1#1) ((⟨p, hp⟩ : Dev nD) = c))
    {pay : Vec F S1x1x4x512 .bf16 → FVec F S1x1x4x512 .bf16} (hpay : ∀ v, pay v = k0_pay5 v)
    {hl1 : ∀ h : b = 1#1, (pM : M4).view.LoadsAt (sRect ck ⟨p, hp⟩).toLoadRect} {hl2 : ∀ h : b = 1#1, (rM : M4).view.LoadsAt (sRect ck ⟨p, hp⟩).toLoadRect}
    {hx : ∀ h : b = 1#1, ((rM : M4).access (sRect ck ⟨p, hp⟩)).Stores Finset.univ}
    {hm : ∀ h : b = 1#1, Or ((Finset.univ : Finset (sRect ck ⟨p, hp⟩).shape.Idx) = Finset.univ) (∀ a, (sRect ck ⟨p, hp⟩).stride a = 1)}
    {R : sProp 𝕄} {α : Type} {Q : α → sProp 𝕄} {k : Prog (TpuEff nD τ sig (Elt F) Λ₀ .tc) α}
    (H : iprop(Ctx m K ∗ Debt c n ∗ loopM (AftS m c j ck) (MidS m c j ck) (BefS m c j ck) p ∗ R) ⊢ WP c k Q) :
    iprop(Ctx m K ∗ Debt c n ∗ loop (AftS m c j ck) (BefS m c j ck) p ∗ R)
      ⊢ WP c (if h : b = 1#1 then (do
          let v : Vec F S1x1x4x512 .bf16 ← Prog.lift (.load pM (sRect ck ⟨p, hp⟩).toLoadRect (hl1 h))
          let _w : Vec F S1x1x4x512 .bf16 ← Prog.lift (.load rM (sRect ck ⟨p, hp⟩).toLoadRect (hl2 h))
          Prog.lift (.store rM (sRect ck ⟨p, hp⟩) (pay v) Finset.univ (hx h) (hm h))
          k) else k) Q := by
  by_cases h : b = 1#1
  · rw [dif_pos h]
    have hc : (⟨p, hp⟩ : Dev nD) = c := hb.mp h
    subst hc
    simp only [Prog.lift, Prog.bind_op, Prog.bind_ret, Prog.pure_eq_ret]
    have hbM : bM j = rM := if_pos hj
    have hB : BefS m (⟨p, hp⟩ : Dev nD) j ck ⟨p, hp⟩ ⊢ iprop((∃ f, ⌜(slot pM ck ⟨p, hp⟩).view.read (Elt F) f = partV m (j / 2) ⟨p, hp⟩ ck ⟨p, hp⟩⌝
          ∗ (slot pM ck ⟨p, hp⟩).view.loc ((⟨p, hp⟩ : Dev nD) : Thread nD τ) ↦[(slot pM ck ⟨p, hp⟩).view.set]{fullShare} f)
        ∗ ∃ g, (slot rM ck ⟨p, hp⟩).view.loc ((⟨p, hp⟩ : Dev nD) : Thread nD τ) ↦[(slot rM ck ⟨p, hp⟩).view.set]{fullShare} g) := by
      unfold BefS Src slotA slotV
      rw [if_pos rfl, if_pos hj, hbM]
    have hA : ∀ f g, (slot pM ck ⟨p, hp⟩).view.read (Elt F) f = partV m (j / 2) ⟨p, hp⟩ ck ⟨p, hp⟩ →
        (slot rM ck ⟨p, hp⟩).view.read (Elt F) g = srcV m j ⟨p, hp⟩ ck ⟨p, hp⟩ →
        iprop(((slot pM ck ⟨p, hp⟩).view.loc ((⟨p, hp⟩ : Dev nD) : Thread nD τ) ↦[(slot pM ck ⟨p, hp⟩).view.set]{fullShare} f)
          ∗ (slot rM ck ⟨p, hp⟩).view.loc ((⟨p, hp⟩ : Dev nD) : Thread nD τ) ↦[(slot rM ck ⟨p, hp⟩).view.set]{fullShare} g)
        ⊢ MidS m (⟨p, hp⟩ : Dev nD) j ck ⟨p, hp⟩ := by
      intro f g hf hg
      unfold MidS AftS Src slotV
      rw [if_pos rfl, if_pos rfl, if_pos hj, hbM]
      iintro ⟨H1, H2⟩
      isplitl [H1]
      · iexists f
        isplitr; · ipureintro; exact hf
        iexact H1
      · iexists g
        isplitr; · ipureintro; exact hg
        iexact H2
    iintro ⟨#HC, HD, HL, HR⟩
    ihave ⟨HB, HL⟩ := (loop_stepM (AftS m ⟨p, hp⟩ j ck) (MidS m ⟨p, hp⟩ j ck) (BefS m ⟨p, hp⟩ j ck) ⟨p, hp⟩) $$ HL
    ihave ⟨⟨%f, %hf, HS⟩, ⟨%g, Hd⟩⟩ := hB $$ HB
    iapply (wp_load_rect 𝒱₀ (((⟨p, hp⟩ : Dev nD)) : Thread nD τ) none Set.univ (m := pM) (r := sRect ck ⟨p, hp⟩) (S := (slot pM ck ⟨p, hp⟩).view.set) (by rw [slot_set])) $$ [HS]
    · iexact HS
    iintro HS
    iapply (wp_load_rect 𝒱₀ (((⟨p, hp⟩ : Dev nD)) : Thread nD τ) none Set.univ (m := rM) (r := sRect ck ⟨p, hp⟩) (S := (slot rM ck ⟨p, hp⟩).view.set) (by rw [slot_set])) $$ [Hd]
    · iexact Hd
    iintro Hd
    iapply (wp_store 𝒱₀ (((⟨p, hp⟩ : Dev nD)) : Thread nD τ) none Set.univ (m := rM) (r := sRect ck ⟨p, hp⟩) (S := (slot rM ck ⟨p, hp⟩).view.set) (by rw [slot_set, View.setOn_univ])) $$ [Hd]
    · iexact Hd
    iintro Hd
    iapply H
    isplitr; · iexact HC
    isplitl [HD]; · iexact HD
    isplitr [HR]
    · iapply HL
      iapply (hA f (((rM : M4).access (sRect ck ⟨p, hp⟩)).write (Elt F) g (pay (((pM : M4).access (sRect ck ⟨p, hp⟩)).read (Elt F) f)) Finset.univ) hf (by
          funext x
          refine (slot_access rM ck ⟨p, hp⟩ _ x).trans ?_
          refine (congrFun (View.read_write_univ _ _) _).trans ?_
          rw [hpay]
          refine (pay5_apply _ _).trans ?_
          refine (slot_access pM ck ⟨p, hp⟩ f x).symm.trans ?_
          rw [hf]
          exact (congrFun (if_pos hj) x).symm)) $$ [HS Hd]
      isplitl [HS]; · iexact HS
      iexact Hd
    · iexact HR
  · rw [dif_neg h]
    have hc : ¬ (⟨p, hp⟩ : Dev nD) = c := fun e => h (hb.mpr e)
    iintro ⟨#HC, HD, HL, HR⟩
    ihave ⟨HB, HL⟩ := (loop_stepM (AftS m c j ck) (MidS m c j ck) (BefS m c j ck) ⟨p, hp⟩) $$ HL
    iapply H
    isplitr; · iexact HC
    isplitl [HD]; · iexact HD
    isplitr [HR]
    · iapply HL
      unfold MidS
      rw [if_neg hc]
      iexact HB
    · iexact HR

/-- A chunk of sums copied locally, in an odd exchange. -/
theorem self_ag {j : ℕ} {ck : Fin 2} {p n : ℕ} (hp : p < 16) (hj : j % 2 ≠ 0) {b : BitVec 1} (hb : Iff (b = 1#1) ((⟨p, hp⟩ : Dev nD) = c))
    {pay : Vec F S1x4x512 .bf16 → FVec F S1x1x4x512 .bf16} (hpay : ∀ v, pay v = k0_pay39 v)
    {hl1 : ∀ h : b = 1#1, (yM : Memref sig .tc .vmem S2x4x512 .bf16).view.LoadsAt (yRect ck).toLoadRect} {hl2 : ∀ h : b = 1#1, (aM : M4).view.LoadsAt (sRect ck ⟨p, hp⟩).toLoadRect}
    {hx : ∀ h : b = 1#1, ((aM : M4).access (sRect ck ⟨p, hp⟩)).Stores Finset.univ}
    {hm : ∀ h : b = 1#1, Or ((Finset.univ : Finset (sRect ck ⟨p, hp⟩).shape.Idx) = Finset.univ) (∀ a, (sRect ck ⟨p, hp⟩).stride a = 1)}
    {R : sProp 𝕄} {α : Type} {Q : α → sProp 𝕄} {k : Prog (TpuEff nD τ sig (Elt F) Λ₀ .tc) α}
    (H : iprop(Ctx m K ∗ Debt c n ∗ loopM (AftS m c j ck) (MidS m c j ck) (BefS m c j ck) p ∗ R) ⊢ WP c k Q) :
    iprop(Ctx m K ∗ Debt c n ∗ loop (AftS m c j ck) (BefS m c j ck) p ∗ R)
      ⊢ WP c (if h : b = 1#1 then (do
          let v : Vec F S1x4x512 .bf16 ← Prog.lift (.load yM (yRect ck).toLoadRect (hl1 h))
          let _w : Vec F S1x1x4x512 .bf16 ← Prog.lift (.load aM (sRect ck ⟨p, hp⟩).toLoadRect (hl2 h))
          Prog.lift (.store aM (sRect ck ⟨p, hp⟩) (pay v) Finset.univ (hx h) (hm h))
          k) else k) Q := by
  by_cases h : b = 1#1
  · rw [dif_pos h]
    have hc : (⟨p, hp⟩ : Dev nD) = c := hb.mp h
    subst hc
    simp only [Prog.lift, Prog.bind_op, Prog.bind_ret, Prog.pure_eq_ret]
    have hbM : bM j = aM := if_neg hj
    have hB : BefS m (⟨p, hp⟩ : Dev nD) j ck ⟨p, hp⟩ ⊢ iprop(((ySl ck).view.loc ((⟨p, hp⟩ : Dev nD) : Thread nD τ) ↦[(ySl ck).view.set]{piece ⟨p, hp⟩} (yBuf m (j / 2) ⟨p, hp⟩))
        ∗ ∃ g, (slot aM ck ⟨p, hp⟩).view.loc ((⟨p, hp⟩ : Dev nD) : Thread nD τ) ↦[(slot aM ck ⟨p, hp⟩).view.set]{fullShare} g) := by
      unfold BefS Src slotA yPts
      rw [if_pos rfl, if_neg hj, hbM]
    have hA : ∀ g, (slot aM ck ⟨p, hp⟩).view.read (Elt F) g = srcV m j ⟨p, hp⟩ ck ⟨p, hp⟩ →
        iprop(((ySl ck).view.loc ((⟨p, hp⟩ : Dev nD) : Thread nD τ) ↦[(ySl ck).view.set]{piece ⟨p, hp⟩} (yBuf m (j / 2) ⟨p, hp⟩))
          ∗ (slot aM ck ⟨p, hp⟩).view.loc ((⟨p, hp⟩ : Dev nD) : Thread nD τ) ↦[(slot aM ck ⟨p, hp⟩).view.set]{fullShare} g)
        ⊢ MidS m (⟨p, hp⟩ : Dev nD) j ck ⟨p, hp⟩ := by
      intro g hg
      unfold MidS AftS Src slotV yPts
      rw [if_pos rfl, if_pos rfl, if_neg hj, hbM]
      iintro ⟨H1, H2⟩
      isplitl [H1]
      · iexact H1
      · iexists g
        isplitr; · ipureintro; exact hg
        iexact H2
    iintro ⟨#HC, HD, HL, HR⟩
    ihave ⟨HB, HL⟩ := (loop_stepM (AftS m ⟨p, hp⟩ j ck) (MidS m ⟨p, hp⟩ j ck) (BefS m ⟨p, hp⟩ j ck) ⟨p, hp⟩) $$ HL
    ihave ⟨HS, ⟨%g, Hd⟩⟩ := hB $$ HB
    iapply (wp_load_rect 𝒱₀ (((⟨p, hp⟩ : Dev nD)) : Thread nD τ) none Set.univ (m := yM) (r := yRect ck) (S := (ySl ck).view.set) (by rw [y_set])) $$ [HS]
    · iexact HS
    iintro HS
    iapply (wp_load_rect 𝒱₀ (((⟨p, hp⟩ : Dev nD)) : Thread nD τ) none Set.univ (m := aM) (r := sRect ck ⟨p, hp⟩) (S := (slot aM ck ⟨p, hp⟩).view.set) (by rw [slot_set])) $$ [Hd]
    · iexact Hd
    iintro Hd
    iapply (wp_store 𝒱₀ (((⟨p, hp⟩ : Dev nD)) : Thread nD τ) none Set.univ (m := aM) (r := sRect ck ⟨p, hp⟩) (S := (slot aM ck ⟨p, hp⟩).view.set) (by rw [slot_set, View.setOn_univ])) $$ [Hd]
    · iexact Hd
    iintro Hd
    iapply H
    isplitr; · iexact HC
    isplitl [HD]; · iexact HD
    isplitr [HR]
    · iapply HL
      iapply (hA (((aM : M4).access (sRect ck ⟨p, hp⟩)).write (Elt F) g (pay (((yM : Memref sig .tc .vmem S2x4x512 .bf16).access (yRect ck)).read (Elt F) (yBuf m (j / 2) ⟨p, hp⟩))) Finset.univ) (by
          funext x
          refine (slot_access aM ck ⟨p, hp⟩ _ x).trans ?_
          refine (congrFun (View.read_write_univ _ _) _).trans ?_
          rw [hpay]
          refine (pay39_apply _ _).trans ?_
          refine (y_access ck _ x).symm.trans ?_
          refine (congrFun (y_read m (j / 2) ⟨p, hp⟩ ck _ rfl) x).trans ?_
          exact (congrFun (if_neg hj) x).symm)) $$ [HS Hd]
      isplitl [HS]; · iexact HS
      iexact Hd
    · iexact HR
  · rw [dif_neg h]
    have hc : ¬ (⟨p, hp⟩ : Dev nD) = c := fun e => h (hb.mpr e)
    iintro ⟨#HC, HD, HL, HR⟩
    ihave ⟨HB, HL⟩ := (loop_stepM (AftS m c j ck) (MidS m c j ck) (BefS m c j ck) ⟨p, hp⟩) $$ HL
    iapply H
    isplitr; · iexact HC
    isplitl [HD]; · iexact HD
    isplitr [HR]
    · iapply HL
      unfold MidS
      rw [if_neg hc]
      iexact HB
    · iexact HR

/-- What a send of an even exchange reads. -/
theorem src_rs {j : ℕ} (hj : j % 2 = 0) {ck : Fin 2} {q : Dev nD} {s : Memref sig .tc .vmem S4x512 .bf16} (hs : s = slot pM ck q) :
    Src m j c ck q ⊢ iprop(∃ π f, ⌜s.view.read (Elt F) f = srcV m j c ck q ∧ ((s.view.loc (c : Thread nD τ) ↦[s.view.set]{π} f) ⊢ Src m j c ck q)⌝
      ∗ s.view.loc (c : Thread nD τ) ↦[s.view.set]{π} f) := by
  subst hs
  have e : srcV m j c ck q = partV m (j / 2) c ck q := if_pos hj
  unfold Src slotV
  rw [if_pos hj, e]
  iintro ⟨%f, %hf, H⟩
  iexists fullShare
  iexists f
  isplitr
  · ipureintro
    refine ⟨hf, ?_⟩
    iintro H
    iexists f
    isplitr; · ipureintro; exact hf
    iexact H
  · iexact H
/-- What a send of an odd exchange reads. -/
theorem src_ag {j : ℕ} (hj : j % 2 ≠ 0) {ck : Fin 2} {q : Dev nD} {s : Memref sig .tc .vmem S4x512 .bf16} (hs : s = ySl ck) :
    Src m j c ck q ⊢ iprop(∃ π f, ⌜s.view.read (Elt F) f = srcV m j c ck q ∧ ((s.view.loc (c : Thread nD τ) ↦[s.view.set]{π} f) ⊢ Src m j c ck q)⌝
      ∗ s.view.loc (c : Thread nD τ) ↦[s.view.set]{π} f) := by
  subst hs
  have e : srcV m j c ck q = yV m (j / 2) c ck := if_neg hj
  unfold Src yPts
  rw [if_neg hj, e]
  iintro H
  iexists (piece q)
  iexists (yBuf m (j / 2) c)
  isplitr
  · ipureintro
    exact ⟨y_read m (j / 2) c ck _ rfl, BI.Entails.refl _⟩
  · iexact H

theorem debt_self {n : ℕ} (hn : n < 176) (h : n % 16 = c.val) : Debt (F := F) c n ⊢ Debt c (n + 1) := by
  unfold Debt
  rw [owed_step c hn, unit_self c h, add_zero]

/-- A send to partner `p`. -/
theorem send_step {j : ℕ} {ck : Fin 2} {p : ℕ} (hp : p < 16) (hj : j < 5) {b : BitVec 1} (hb : Iff (b = 1#1) ((⟨p, hp⟩ : Dev nD) ≠ c))
    {s d : b = 1#1 → Memref sig .tc .vmem S4x512 .bf16} {sS sR : b = 1#1 → DmaSem sig} {dev : b = 1#1 → Dev nD}
    (hd : ∀ h, d h = slot (bM j) ck c) (hsS : ∀ h, sS h = xS 0 ck ⟨p, hp⟩) (hsR : ∀ h, sR h = xS (jA j) ck c) (hdev : ∀ h, dev h = ⟨p, hp⟩)
    (hs : ∀ h, Src m j c ck ⟨p, hp⟩ ⊢ iprop(∃ π f, ⌜(s h).view.read (Elt F) f = srcV m j c ck ⟨p, hp⟩
        ∧ (((s h).view.loc (c : Thread nD τ) ↦[(s h).view.set]{π} f) ⊢ Src m j c ck ⟨p, hp⟩)⌝ ∗ (s h).view.loc (c : Thread nD τ) ↦[(s h).view.set]{π} f))
    {hsc : ∀ h, (d h : Memref sig (Dev.tc (dev h) : Thread nD τ).2.kind .vmem S4x512 .bf16).view.ref.isScScratch = false} {hsrc : ∀ h, (s h).view.WordExact} {hdst : ∀ h, (d h).view.WordExact}
    {hsem : ∀ h, DmaTarget.Typed .vmem (.dma (sR h)) (.remote (Dev.tc (dev h) : Thread nD τ) (d h : Memref sig .tc .vmem S4x512 .bf16) (.dma (sS h)) (hsc h))}
    {R : sProp 𝕄} {α : Type} {Q : α → sProp 𝕄} {k : Prog (TpuEff nD τ sig (Elt F) Λ₀ .tc) α}
    (H : iprop(Ctx m K ∗ Debt c (nOf j ck (p + 1)) ∗ loop (AftS m c j ck) (BefS m c j ck) (p + 1) ∗ R) ⊢ WP c k Q) :
    iprop(Ctx m K ∗ Debt c (nOf j ck p) ∗ loopM (AftS m c j ck) (MidS m c j ck) (BefS m c j ck) p ∗ R)
      ⊢ WP c (if h : b = 1#1 then (do
          Prog.lift (.enqueueDma (s h) (.remote (Dev.tc (dev h) : Thread nD τ) (d h) (.dma (sS h)) (hsc h)) (.dma (sR h)) (hsrc h) (hdst h) (hsem h))
          k) else k) Q := by
  by_cases h : b = 1#1
  · rw [dif_pos h]
    have hc : (⟨p, hp⟩ : Dev nD) ≠ c := hb.mp h
    simp only [Prog.lift, Prog.bind_op, Prog.bind_ret, Prog.pure_eq_ret]
    have hB : MidS m c j ck ⟨p, hp⟩ ⊢ iprop(Src m j c ck ⟨p, hp⟩ ∗ Idle c j ck ⟨p, hp⟩ ∗ Perm j c ck ⟨p, hp⟩ ∗ Tok c j ck ⟨p, hp⟩ ∗ Own c j ck ⟨p, hp⟩) := by
      unfold MidS BefS
      rw [if_neg hc, if_neg hc]
    have hA : Out c j ck ⟨p, hp⟩ ⊢ AftS m c j ck ⟨p, hp⟩ := by
      unfold AftS
      rw [if_neg hc]
    iintro ⟨#HC, HD, HL, HR⟩
    ihave ⟨HB, HL⟩ := (loopM_step (AftS m c j ck) (MidS m c j ck) (BefS m c j ck) ⟨p, hp⟩) $$ HL
    ihave ⟨HS, HI, HP, HT, HW⟩ := hB $$ HB
    iapply (send_core m K c hc hj (hd h) (hsS h) (hsR h) (hdev h) (hs h)) $$ [HD HS HI HP HT HW]
    · isplitr; · iexact HC
      isplitl [HD]; · iexact HD
      isplitl [HS]; · iexact HS
      isplitl [HI]; · iexact HI
      isplitl [HP]; · iexact HP
      isplitl [HT]; · iexact HT
      iexact HW
    iintro ⟨HD, HO⟩
    iapply H
    isplitr; · iexact HC
    isplitl [HD]; · iexact HD
    isplitr [HR]
    · iapply HL
      iapply hA
      iexact HO
    · iexact HR
  · rw [dif_neg h]
    have hc : (⟨p, hp⟩ : Dev nD) = c := not_not.mp fun e => h (hb.mpr e)
    have hB : MidS m c j ck ⟨p, hp⟩ ⊢ AftS m c j ck ⟨p, hp⟩ := by
      unfold MidS
      rw [if_pos hc]
    iintro ⟨#HC, HD, HL, HR⟩
    ihave ⟨HB, HL⟩ := (loopM_step (AftS m c j ck) (MidS m c j ck) (BefS m c j ck) ⟨p, hp⟩) $$ HL
    iapply H
    isplitr; · iexact HC
    isplitl [HD]
    · iapply (debt_self c (n := nOf j ck p) (by have := ck.isLt; unfold nOf; omega) (by rw [← hc]; show nOf j ck p % 16 = p; unfold nOf; omega))
      iexact HD
    isplitr [HR]
    · iapply HL
      iapply hB
      iexact HB
    · iexact HR

/-- The same at the places the kernel computes, in an even exchange. -/
theorem send_rs {j : ℕ} {ck : Fin 2} {p : ℕ} {b : BitVec 1} {oS oR : Fin 2 → ℕ} {oD oP : Fin 4 → ℕ} {n : ℕ}
    {iS : ∀ h : b = 1#1, ∀ i, oS i + S1x1.size i ≤ S2x16.size i} {iR : ∀ h : b = 1#1, ∀ i, oR i + S1x1.size i ≤ S2x16.size i}
    {iD : ∀ h : b = 1#1, ∀ i, oD i + S1x1x4x512.size i ≤ S2x16x4x512.size i} {iP : ∀ h : b = 1#1, ∀ i, oP i + S1x1x4x512.size i ≤ S2x16x4x512.size i}
    {sD : ∀ h : b = 1#1, ∀ a, (Rect.unit (s := S2x16x4x512) oD S1x1x4x512.size (iD h)).stride a = 1} {sP : ∀ h : b = 1#1, ∀ a, (Rect.unit (s := S2x16x4x512) oP S1x1x4x512.size (iP h)).stride a = 1}
    {hn : ∀ h : b = 1#1, n < nD}
    {hsc : ∀ h, (((rM : M4).slice (Rect.unit (s := S2x16x4x512) oD S1x1x4x512.size (iD h)) (sD h)).squeeze S4x512 squeezes_S1x1x4x512_S4x512 : Memref sig (Dev.tc (⟨n, hn h⟩ : Dev nD) : Thread nD τ).2.kind .vmem S4x512 .bf16).view.ref.isScScratch = false}
    {hsrc : ∀ h, (((pM : M4).slice (Rect.unit (s := S2x16x4x512) oP S1x1x4x512.size (iP h)) (sP h)).squeeze S4x512 squeezes_S1x1x4x512_S4x512).view.WordExact}
    {hdst : ∀ h, (((rM : M4).slice (Rect.unit (s := S2x16x4x512) oD S1x1x4x512.size (iD h)) (sD h)).squeeze S4x512 squeezes_S1x1x4x512_S4x512).view.WordExact}
    {hsem : ∀ h, DmaTarget.Typed .vmem (.dma ((cc0_scratch7.slice (Rect.unit (s := S2x16) oR S1x1.size (iR h))).squeeze S_ squeezes_S1x1_S_).sem)
      (.remote (Dev.tc (⟨n, hn h⟩ : Dev nD) : Thread nD τ) (((rM : M4).slice (Rect.unit (s := S2x16x4x512) oD S1x1x4x512.size (iD h)) (sD h)).squeeze S4x512 squeezes_S1x1x4x512_S4x512 : Memref sig .tc .vmem S4x512 .bf16)
        (.dma ((cc0_scratch6.slice (Rect.unit (s := S2x16) oS S1x1.size (iS h))).squeeze S_ squeezes_S1x1_S_).sem) (hsc h))}
    {R : sProp 𝕄} {α : Type} {Q : α → sProp 𝕄} {k : Prog (TpuEff nD τ sig (Elt F) Λ₀ .tc) α}
    (hp : p < 16) (hj : j < 5) (hj2 : j % 2 = 0) (hb : Iff (b = 1#1) ((⟨p, hp⟩ : Dev nD) ≠ c)) (hnp : n = p)
    (hS : oS = ![ck.val, p]) (hR : oR = ![ck.val, c.val]) (hD : oD = ![ck.val, c.val, 0, 0]) (hP : oP = ![ck.val, p, 0, 0])
    (H : iprop(Ctx m K ∗ Debt c (nOf j ck (p + 1)) ∗ loop (AftS m c j ck) (BefS m c j ck) (p + 1) ∗ R) ⊢ WP c k Q) :
    iprop(Ctx m K ∗ Debt c (nOf j ck p) ∗ loopM (AftS m c j ck) (MidS m c j ck) (BefS m c j ck) p ∗ R)
      ⊢ WP c (if h : b = 1#1 then (do
          Prog.lift (.enqueueDma (((pM : M4).slice (Rect.unit (s := S2x16x4x512) oP S1x1x4x512.size (iP h)) (sP h)).squeeze S4x512 squeezes_S1x1x4x512_S4x512)
            (.remote (Dev.tc (⟨n, hn h⟩ : Dev nD) : Thread nD τ) (((rM : M4).slice (Rect.unit (s := S2x16x4x512) oD S1x1x4x512.size (iD h)) (sD h)).squeeze S4x512 squeezes_S1x1x4x512_S4x512)
              (.dma ((cc0_scratch6.slice (Rect.unit (s := S2x16) oS S1x1.size (iS h))).squeeze S_ squeezes_S1x1_S_).sem) (hsc h))
            (.dma ((cc0_scratch7.slice (Rect.unit (s := S2x16) oR S1x1.size (iR h))).squeeze S_ squeezes_S1x1_S_).sem) (hsrc h) (hdst h) (hsem h))
          k) else k) Q := by
  have hbM : bM j = rM := if_pos hj2
  have hjA : jA j = 1 := if_pos hj2
  exact send_step m K c hp hj hb (fun h => (slot_of rM hD (iD h) (sD h)).trans (congrArg (fun M => slot M ck c) hbM.symm)) (fun h => sem_of0 (q := ⟨p, hp⟩) hS (iS h))
    (fun h => (sem_of1 hR (iR h)).trans (congrArg (fun a => xS a ck c) hjA.symm)) (fun h => Fin.ext hnp) (fun h => src_rs m c hj2 (slot_of pM (q := ⟨p, hp⟩) hP (iP h) (sP h))) H

/-- The same in an odd exchange. -/
theorem send_ag {j : ℕ} {ck : Fin 2} {p : ℕ} {b : BitVec 1} {oS oR : Fin 2 → ℕ} {oD : Fin 4 → ℕ} {oP : Fin 3 → ℕ} {n : ℕ}
    {iS : ∀ h : b = 1#1, ∀ i, oS i + S1x1.size i ≤ S2x16.size i} {iR : ∀ h : b = 1#1, ∀ i, oR i + S1x1.size i ≤ S2x16.size i}
    {iD : ∀ h : b = 1#1, ∀ i, oD i + S1x1x4x512.size i ≤ S2x16x4x512.size i} {iP : ∀ h : b = 1#1, ∀ i, oP i + S1x4x512.size i ≤ S2x4x512.size i}
    {sD : ∀ h : b = 1#1, ∀ a, (Rect.unit (s := S2x16x4x512) oD S1x1x4x512.size (iD h)).stride a = 1} {sP : ∀ h : b = 1#1, ∀ a, (Rect.unit (s := S2x4x512) oP S1x4x512.size (iP h)).stride a = 1}
    {hn : ∀ h : b = 1#1, n < nD}
    {hsc : ∀ h, (((aM : M4).slice (Rect.unit (s := S2x16x4x512) oD S1x1x4x512.size (iD h)) (sD h)).squeeze S4x512 squeezes_S1x1x4x512_S4x512 : Memref sig (Dev.tc (⟨n, hn h⟩ : Dev nD) : Thread nD τ).2.kind .vmem S4x512 .bf16).view.ref.isScScratch = false}
    {hsrc : ∀ h, (((yM : Memref sig .tc .vmem S2x4x512 .bf16).slice (Rect.unit (s := S2x4x512) oP S1x4x512.size (iP h)) (sP h)).squeeze S4x512 squeezes_S1x4x512_S4x512).view.WordExact}
    {hdst : ∀ h, (((aM : M4).slice (Rect.unit (s := S2x16x4x512) oD S1x1x4x512.size (iD h)) (sD h)).squeeze S4x512 squeezes_S1x1x4x512_S4x512).view.WordExact}
    {hsem : ∀ h, DmaTarget.Typed .vmem (.dma ((cc0_scratch8.slice (Rect.unit (s := S2x16) oR S1x1.size (iR h))).squeeze S_ squeezes_S1x1_S_).sem)
      (.remote (Dev.tc (⟨n, hn h⟩ : Dev nD) : Thread nD τ) (((aM : M4).slice (Rect.unit (s := S2x16x4x512) oD S1x1x4x512.size (iD h)) (sD h)).squeeze S4x512 squeezes_S1x1x4x512_S4x512 : Memref sig .tc .vmem S4x512 .bf16)
        (.dma ((cc0_scratch6.slice (Rect.unit (s := S2x16) oS S1x1.size (iS h))).squeeze S_ squeezes_S1x1_S_).sem) (hsc h))}
    {R : sProp 𝕄} {α : Type} {Q : α → sProp 𝕄} {k : Prog (TpuEff nD τ sig (Elt F) Λ₀ .tc) α}
    (hp : p < 16) (hj : j < 5) (hj2 : j % 2 ≠ 0) (hb : Iff (b = 1#1) ((⟨p, hp⟩ : Dev nD) ≠ c)) (hnp : n = p)
    (hS : oS = ![ck.val, p]) (hR : oR = ![ck.val, c.val]) (hD : oD = ![ck.val, c.val, 0, 0]) (hP : oP = ![ck.val, 0, 0])
    (H : iprop(Ctx m K ∗ Debt c (nOf j ck (p + 1)) ∗ loop (AftS m c j ck) (BefS m c j ck) (p + 1) ∗ R) ⊢ WP c k Q) :
    iprop(Ctx m K ∗ Debt c (nOf j ck p) ∗ loopM (AftS m c j ck) (MidS m c j ck) (BefS m c j ck) p ∗ R)
      ⊢ WP c (if h : b = 1#1 then (do
          Prog.lift (.enqueueDma (((yM : Memref sig .tc .vmem S2x4x512 .bf16).slice (Rect.unit (s := S2x4x512) oP S1x4x512.size (iP h)) (sP h)).squeeze S4x512 squeezes_S1x4x512_S4x512)
            (.remote (Dev.tc (⟨n, hn h⟩ : Dev nD) : Thread nD τ) (((aM : M4).slice (Rect.unit (s := S2x16x4x512) oD S1x1x4x512.size (iD h)) (sD h)).squeeze S4x512 squeezes_S1x1x4x512_S4x512)
              (.dma ((cc0_scratch6.slice (Rect.unit (s := S2x16) oS S1x1.size (iS h))).squeeze S_ squeezes_S1x1_S_).sem) (hsc h))
            (.dma ((cc0_scratch8.slice (Rect.unit (s := S2x16) oR S1x1.size (iR h))).squeeze S_ squeezes_S1x1_S_).sem) (hsrc h) (hdst h) (hsem h))
          k) else k) Q := by
  have hbM : bM j = aM := if_neg hj2
  have hjA : jA j = 2 := if_neg hj2
  exact send_step m K c hp hj hb (fun h => (slot_of aM hD (iD h) (sD h)).trans (congrArg (fun M => slot M ck c) hbM.symm)) (fun h => sem_of0 (q := ⟨p, hp⟩) hS (iS h))
    (fun h => (sem_of2 hR (iR h)).trans (congrArg (fun a => xS a ck c) hjA.symm)) (fun h => Fin.ext hnp)
    (fun h => src_ag m c hj2 ((Memref.slice_unit_congr yM hP (iP h) (inb_y ck) (sP h) _ ▸ rfl : _ = ySl ck))) H

/-- Waiting for the send to partner `p` to be over. -/
theorem drain_step {j : ℕ} {ck : Fin 2} {p n : ℕ} (hp : p < 16) (hj : j < 5) {b : BitVec 1} (hb : Iff (b = 1#1) ((⟨p, hp⟩ : Dev nD) ≠ c))
    {s d : b = 1#1 → Memref sig .tc .vmem S4x512 .bf16} {sS : b = 1#1 → DmaSem sig} (hd : ∀ h, (d h).view.dmaCredit = NB) (hsS : ∀ h, sS h = xS 0 ck ⟨p, hp⟩)
    {hsrc : ∀ h, (s h).view.WordExact} {hdst : ∀ h, (d h).view.WordExact}
    {R : sProp 𝕄} {α : Type} {Q : α → sProp 𝕄} {k : Prog (TpuEff nD τ sig (Elt F) Λ₀ .tc) α}
    (H : iprop(Ctx m K ∗ Debt c n ∗ loop (AftD m c j ck) (BefD m c j ck) (p + 1) ∗ R) ⊢ WP c k Q) :
    iprop(Ctx m K ∗ Debt c n ∗ loop (AftD m c j ck) (BefD m c j ck) p ∗ R)
      ⊢ WP c (if h : b = 1#1 then (do
          Prog.lift (.waitDma2 (sS h) (s h) (d h) (hsrc h) (hdst h))
          k) else k) Q := by
  by_cases h : b = 1#1
  · rw [dif_pos h]
    have hc : (⟨p, hp⟩ : Dev nD) ≠ c := hb.mp h
    simp only [Prog.lift, Prog.bind_op, Prog.bind_ret, Prog.pure_eq_ret]
    have hB : BefD m c j ck ⟨p, hp⟩ ⊢ iprop(cred (tallyAt (sndC c ck ⟨p, hp⟩) 0 NB) ∗ atPos ER (sndC c ck ⟨p, hp⟩) j ∅ 0) := by
      unfold BefD Out
      rw [if_neg hc]
    have hA : iprop(Src m j c ck ⟨p, hp⟩ ∗ atPos ER (sndC c ck ⟨p, hp⟩) (j + 1) ∅ 0 ∗ reached ER (sndC c ck ⟨p, hp⟩) (j + 1)) ⊢ AftD m c j ck ⟨p, hp⟩ := by
      unfold AftD Idle
      rw [if_neg hc]
    iintro ⟨#HC, HD, HL, HR⟩
    ihave ⟨HB, HL⟩ := (loop_step (AftD m c j ck) (BefD m c j ck) ⟨p, hp⟩) $$ HL
    ihave ⟨HT, HP⟩ := hB $$ HB
    iapply (wait_core m K c (a := 0) hc (show j < roundsOf 0 from hj) (hsS h) (i := 0) (n := n) (by decide) (by unfold lvl; split <;> omega) (rest_snd m c ck hc hj) (hd h)) $$ [HD HT HP]
    · isplitr; · iexact HC
      isplitl [HD]; · iexact HD
      isplitl [HT]; · iexact HT
      iexact HP
    iintro ⟨HD, HO⟩
    iapply H
    isplitr; · iexact HC
    isplitl [HD]; · iexact HD
    isplitr [HR]
    · iapply HL
      iapply hA
      iexact HO
    · iexact HR
  · rw [dif_neg h]
    have hc : (⟨p, hp⟩ : Dev nD) = c := not_not.mp fun e => h (hb.mpr e)
    have hB : BefD m c j ck ⟨p, hp⟩ ⊢ AftD m c j ck ⟨p, hp⟩ := by
      unfold BefD AftD
      rw [if_pos hc, if_pos hc]
    iintro ⟨#HC, HD, HL, HR⟩
    ihave ⟨HB, HL⟩ := (loop_step (AftD m c j ck) (BefD m c j ck) ⟨p, hp⟩) $$ HL
    iapply H
    isplitr; · iexact HC
    isplitl [HD]; · iexact HD
    isplitr [HR]
    · iapply HL
      iapply hB
      iexact HB
    · iexact HR

/-- Waiting for what partner `p` sends. -/
theorem wait_step {j : ℕ} {ck : Fin 2} {p n : ℕ} (hp : p < 16) (hj : j < 5) (hn : 2 + j < lvl n) {b : BitVec 1} (hb : Iff (b = 1#1) ((⟨p, hp⟩ : Dev nD) ≠ c))
    {s d : b = 1#1 → Memref sig .tc .vmem S4x512 .bf16} {sS : b = 1#1 → DmaSem sig} (hd : ∀ h, (d h).view.dmaCredit = NB) (hsS : ∀ h, sS h = xS (jA j) ck ⟨p, hp⟩)
    {hsrc : ∀ h, (s h).view.WordExact} {hdst : ∀ h, (d h).view.WordExact}
    {R : sProp 𝕄} {α : Type} {Q : α → sProp 𝕄} {k : Prog (TpuEff nD τ sig (Elt F) Λ₀ .tc) α}
    (H : iprop(Ctx m K ∗ Debt c n ∗ loop (AftW m c j ck) (BefW m c j ck) (p + 1) ∗ R) ⊢ WP c k Q) :
    iprop(Ctx m K ∗ Debt c n ∗ loop (AftW m c j ck) (BefW m c j ck) p ∗ R)
      ⊢ WP c (if h : b = 1#1 then (do
          Prog.lift (.waitDma2 (sS h) (s h) (d h) (hsrc h) (hdst h))
          k) else k) Q := by
  by_cases h : b = 1#1
  · rw [dif_pos h]
    have hc : (⟨p, hp⟩ : Dev nD) ≠ c := hb.mp h
    simp only [Prog.lift, Prog.bind_op, Prog.bind_ret, Prog.pure_eq_ret]
    have hB : BefW m c j ck ⟨p, hp⟩ ⊢ iprop(cred (tallyAt (rcvC c j ck ⟨p, hp⟩) (2 + j) NB) ∗ atPos ER (rcvC c j ck ⟨p, hp⟩) (j / 2) ∅ 0) := by
      unfold BefW
      rw [if_neg hc]
    have hA : iprop(recvPay m j c ck ⟨p, hp⟩ ∗ atPos ER (rcvC c j ck ⟨p, hp⟩) (j / 2 + 1) ∅ 0 ∗ reached ER (rcvC c j ck ⟨p, hp⟩) (j / 2 + 1)) ⊢ AftW m c j ck ⟨p, hp⟩ := by
      unfold AftW
      rw [if_neg hc]
    iintro ⟨#HC, HD, HL, HR⟩
    ihave ⟨HB, HL⟩ := (loop_step (AftW m c j ck) (BefW m c j ck) ⟨p, hp⟩) $$ HL
    ihave ⟨HT, HP⟩ := hB $$ HB
    iapply (wait_core m K c (a := jA j) hc (rounds_rcv hj) (hsS h) (i := 2 + j) (n := n) (by omega) hn (rest_rcv m c hj ck hc) (hd h)) $$ [HD HT HP]
    · isplitr; · iexact HC
      isplitl [HD]; · iexact HD
      isplitl [HT]; · iexact HT
      iexact HP
    iintro ⟨HD, HO⟩
    iapply H
    isplitr; · iexact HC
    isplitl [HD]; · iexact HD
    isplitr [HR]
    · iapply HL
      iapply hA
      iexact HO
    · iexact HR
  · rw [dif_neg h]
    have hc : (⟨p, hp⟩ : Dev nD) = c := not_not.mp fun e => h (hb.mpr e)
    have hB : BefW m c j ck ⟨p, hp⟩ ⊢ AftW m c j ck ⟨p, hp⟩ := by
      unfold BefW AftW
      rw [if_pos hc, if_pos hc]
    iintro ⟨#HC, HD, HL, HR⟩
    ihave ⟨HB, HL⟩ := (loop_step (AftW m c j ck) (BefW m c j ck) ⟨p, hp⟩) $$ HL
    iapply H
    isplitr; · iexact HC
    isplitl [HD]; · iexact HD
    isplitr [HR]
    · iapply HL
      iapply hB
      iexact HB
    · iexact HR

end Steps

end Cert.KernelIdeal.Mlp
-- ==== Proof.Chain.lean ====
/-
A chunk's way through the five exchanges: what is held between the loops, and a chunk seen as sixteen slots.
-/
module

public import proofs.«01_k».proof.Proof.Blocks

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### What a chunk's exchanges need -/

section Chain

variable (m : (ℓ : Loc nD τ sig) → Buf (Elt F) ℓ) (c : Dev nD)

/-- One of each for the fifteen partners. -/
def GG (Φ : Dev nD → sProp 𝕄) : sProp 𝕄 := bigSep (Finset.univ.erase c) Φ

def Cr (j : ℕ) (ck : Fin 2) (q : Dev nD) : sProp 𝕄 := cred (tallyAt (rcvC c j ck q) (2 + j) NB)
def At (j : ℕ) (ck : Fin 2) (q : Dev nD) : sProp 𝕄 := atPos ER (rcvC c j ck q) (j / 2) ∅ 0
def PermR (j : ℕ) (ck : Fin 2) (q : Dev nD) : sProp 𝕄 := if j < 5 then Perm j c ck q else iprop(emp)
def OwnR (j : ℕ) (ck : Fin 2) (q : Dev nD) : sProp 𝕄 := iprop(slotA (bM (j + 1)) c ck q ∗ reached ER (rcvC c (j + 1) ck q) ((j + 1) / 2))
def KeepO (j : ℕ) (ck : Fin 2) (q : Dev nD) : sProp 𝕄 := if j < 4 then iprop(emp) else OwnR c j ck q
/-- What the last `n` exchanges use. -/
def Fut (ck : Fin 2) : ℕ → sProp 𝕄
  | 0 => iprop(emp)
  | n + 1 => iprop(GG c (Tok c (4 - n) ck) ∗ GG c (Cr c (4 - n) ck) ∗ Fut ck n)

theorem fut_step {j : ℕ} (hj : j < 5) (ck : Fin 2) : Fut (F := F) c ck (5 - j) = iprop(GG c (Tok c j ck) ∗ GG c (Cr c j ck) ∗ Fut c ck (5 - (j + 1))) := by
  have e : 5 - j = (5 - (j + 1)) + 1 := by omega
  rw [e, Fut, show 4 - (5 - (j + 1)) = j by omega]

/-- Ready for exchange `j` of chunk `ck`, its source apart. -/
def Ready (j : ℕ) (ck : Fin 2) : sProp 𝕄 :=
  iprop(GG c (Idle c j ck) ∗ GG c (PermR c j ck) ∗ GG c (OwnR c j ck) ∗ slotA (bM j) c ck c ∗ slotA (bM (j + 1)) c ck c
    ∗ GG c (At c j ck) ∗ GG c (At c (j + 1) ck) ∗ Fut c ck (5 - j))
def Rest1 (j : ℕ) (ck : Fin 2) : sProp 𝕄 :=
  iprop(slotA (bM (j + 1)) c ck c ∗ GG c (KeepO c j ck) ∗ GG c (At c j ck) ∗ GG c (At c (j + 1) ck) ∗ GG c (Cr c j ck) ∗ Fut c ck (5 - (j + 1)))
def Rest2 (j : ℕ) (ck : Fin 2) : sProp 𝕄 :=
  iprop(Src m j c ck c ∗ GG c (Out c j ck) ∗ slotA (bM (j + 1)) c ck c ∗ GG c (KeepO c j ck) ∗ GG c (At c (j + 1) ck) ∗ Fut c ck (5 - (j + 1)))
/-- What arrived from `q`, the slot's contents apart. -/
def Nx (j : ℕ) (ck : Fin 2) (q : Dev nD) : sProp 𝕄 :=
  iprop(PermR c (j + 1) ck q ∗ atPos ER (rcvC c j ck q) (j / 2 + 1) ∅ 0 ∗ reached ER (rcvC c j ck q) (j / 2 + 1))
/-- Chunk `ck` of a buffer, holding something. -/
def CA (M : M4) (ck : Fin 2) : sProp 𝕄 := bigSep Finset.univ fun q : Dev nD => slotA M c ck q
def Rest3 (j : ℕ) (ck : Fin 2) : sProp 𝕄 :=
  iprop(slotA (bM (j + 1)) c ck c ∗ GG c (KeepO c j ck) ∗ GG c (At c (j + 1) ck) ∗ Fut c ck (5 - (j + 1)) ∗ GG c (Nx c j ck) ∗ CA c (bM j) ck)

/-- The sources of a chunk's sends. -/
def Srcs (j : ℕ) (ck : Fin 2) : sProp 𝕄 := bigSep Finset.univ fun q : Dev nD => Src m j c ck q
/-- What a chunk's slots hold once all have arrived. -/
def Arr (j : ℕ) (ck : Fin 2) : sProp 𝕄 := bigSep Finset.univ fun q : Dev nD => slotV (bM j) c ck q (srcV m j q ck c)

omit [FloatOps F] in
theorem univ_GG (Φ : Dev nD → sProp 𝕄) : bigSep Finset.univ Φ = iprop(Φ c ∗ GG c Φ) := bigSep_univ_at Φ c
omit [FloatOps F] in
theorem GG_sep (Φ Ψ : Dev nD → sProp 𝕄) : GG c (fun q => iprop(Φ q ∗ Ψ q)) = iprop(GG c Φ ∗ GG c Ψ) := bigSep_sep' _ _ _
omit [FloatOps F] in
theorem GG_mono {Φ Ψ : Dev nD → sProp 𝕄} (h : ∀ q, q ≠ c → (Φ q ⊢ Ψ q)) : GG c Φ ⊢ GG c Ψ :=
  bigSep_mono fun q hq => h q (Finset.mem_erase.mp hq).1
omit [FloatOps F] in
theorem GG_congr {Φ Ψ : Dev nD → sProp 𝕄} (h : ∀ q, q ≠ c → Φ q = Ψ q) : GG c Φ = GG c Ψ :=
  bigSep_congr fun q hq => h q (Finset.mem_erase.mp hq).1

theorem own_split (j : ℕ) (ck : Fin 2) (q : Dev nD) : OwnR (F := F) c j ck q ⊢ iprop(Own c j ck q ∗ KeepO c j ck q) := by
  unfold Own KeepO Perm OwnR
  by_cases h : j < 4
  · rw [if_pos h, if_pos h]
    iintro ⟨H1, H2⟩
    iframe
  · rw [if_neg h, if_neg h]
    iintro ⟨H1, H2⟩
    iframe

theorem ready_send {j : ℕ} (hj : j < 5) (ck : Fin 2) :
    iprop(Srcs m c j ck ∗ Ready c j ck) ⊢ iprop(loop (AftS m c j ck) (BefS m c j ck) 0 ∗ Rest1 c j ck) := by
  have e : bigSep Finset.univ (BefS m c j ck) = iprop((Src m j c ck c ∗ slotA (bM j) c ck c)
      ∗ GG c (Src m j c ck) ∗ GG c (Idle c j ck) ∗ GG c (PermR c j ck) ∗ GG c (Tok c j ck) ∗ GG c (Own c j ck)) := by
    rw [univ_GG c (BefS m c j ck), show BefS m c j ck c = _ from if_pos rfl, ← GG_sep, ← GG_sep, ← GG_sep, ← GG_sep]
    congr 1
    refine GG_congr c fun q hq => ?_
    unfold BefS PermR
    rw [if_neg hq, if_pos hj]
  have hO : GG (F := F) c (OwnR c j ck) ⊢ iprop(GG c (Own c j ck) ∗ GG c (KeepO c j ck)) := by
    rw [← GG_sep]
    exact GG_mono c fun q _ => own_split c j ck q
  rw [loop_zero, e]
  unfold Srcs Ready Rest1
  rw [fut_step c hj ck, univ_GG c (fun q => Src m j c ck q)]
  iintro ⟨⟨H1, H2⟩, H3, H4, H5, H6, H7, H8, H9, H10, H11, H12⟩
  ihave ⟨H5, H5'⟩ := hO $$ H5
  isplitl [H1 H2 H3 H4 H5 H6 H10]
  · isplitl [H1 H6]
    · isplitl [H1]; · iexact H1
      iexact H6
    isplitl [H2]; · iexact H2
    isplitl [H3]; · iexact H3
    isplitl [H4]; · iexact H4
    isplitl [H10]; · iexact H10
    iexact H5
  · isplitl [H7]; · iexact H7
    isplitl [H5']; · iexact H5'
    isplitl [H8]; · iexact H8
    isplitl [H9]; · iexact H9
    isplitl [H11]; · iexact H11
    iexact H12

theorem sent_wait {j : ℕ} (ck : Fin 2) :
    iprop(loop (AftS m c j ck) (BefS m c j ck) 16 ∗ Rest1 c j ck) ⊢ iprop(loop (AftW m c j ck) (BefW m c j ck) 0 ∗ Rest2 m c j ck) := by
  have e : bigSep Finset.univ (AftS m c j ck) = iprop((Src m j c ck c ∗ slotV (bM j) c ck c (srcV m j c ck c)) ∗ GG c (Out c j ck)) := by
    rw [univ_GG c (AftS m c j ck), show AftS m c j ck c = _ from if_pos rfl]
    congr 1
    exact GG_congr c fun q hq => if_neg hq
  have e2 : bigSep Finset.univ (BefW m c j ck) = iprop(slotV (bM j) c ck c (srcV m j c ck c) ∗ GG c (Cr c j ck) ∗ GG c (At c j ck)) := by
    rw [univ_GG c (BefW m c j ck), show BefW m c j ck c = _ from if_pos rfl, ← GG_sep]
    congr 1
    exact GG_congr c fun q hq => if_neg hq
  rw [loop_zero, loop_end, e, e2]
  unfold Rest1 Rest2
  iintro ⟨⟨⟨H1, H2⟩, H3⟩, H4, H5, H6, H7, H8, H9⟩
  isplitl [H2 H8 H6]
  · isplitl [H2]; · iexact H2
    isplitl [H8]; · iexact H8
    iexact H6
  · isplitl [H1]; · iexact H1
    isplitl [H3]; · iexact H3
    isplitl [H4]; · iexact H4
    isplitl [H5]; · iexact H5
    isplitl [H7]; · iexact H7
    iexact H9

theorem wait_end {j : ℕ} (ck : Fin 2) : loop (AftW m c j ck) (BefW m c j ck) 16 ⊢ iprop(Arr m c j ck ∗ GG c (Nx c j ck)) := by
  have e : bigSep Finset.univ (AftW m c j ck) ⊢ iprop(slotV (bM j) c ck c (srcV m j c ck c) ∗ GG c (fun q => slotV (bM j) c ck q (srcV m j q ck c)) ∗ GG c (Nx c j ck)) := by
    rw [univ_GG c (AftW m c j ck), show AftW m c j ck c = _ from if_pos rfl, ← GG_sep]
    refine Idealize.SL.BI.Laws.sep_mono_right (GG_mono c fun q hq => ?_)
    unfold AftW recvPay Nx PermR
    rw [if_neg hq]
    by_cases h : j < 4
    · rw [if_pos h, if_pos (by omega)]
      iintro ⟨⟨H1, H2⟩, H3, H4⟩
      iframe
    · rw [if_neg h, if_neg (by omega)]
      iintro ⟨⟨H1, H2⟩, H3, H4⟩
      iframe
  rw [loop_end]
  refine e.trans ?_
  unfold Arr
  rw [univ_GG c (fun q => slotV (bM j) c ck q (srcV m j q ck c))]
  iintro ⟨H1, H2, H3⟩
  iframe

theorem drain_start {j : ℕ} (ck : Fin 2) :
    iprop(Rest2 m c j ck ∗ GG c (Nx c j ck) ∗ CA c (bM j) ck) ⊢ iprop(loop (AftD m c j ck) (BefD m c j ck) 0 ∗ Rest3 c j ck) := by
  have e : bigSep Finset.univ (BefD m c j ck) = iprop(Src m j c ck c ∗ GG c (Out c j ck)) := by
    rw [univ_GG c (BefD m c j ck), show BefD m c j ck c = _ from if_pos rfl]
    congr 1
    exact GG_congr c fun q hq => if_neg hq
  rw [loop_zero, e]
  unfold Rest2 Rest3
  iintro ⟨⟨H1, H2, H3, H4, H5, H6⟩, H7, H8⟩
  isplitl [H1 H2]
  · isplitl [H1]; · iexact H1
    iexact H2
  · isplitl [H3]; · iexact H3
    isplitl [H4]; · iexact H4
    isplitl [H5]; · iexact H5
    isplitl [H6]; · iexact H6
    isplitl [H7]; · iexact H7
    iexact H8

omit [FloatOps F] in
theorem bM_two (j : ℕ) : bM (j + 1 + 1) = bM j := by
  unfold bM
  rw [show (j + 1 + 1) % 2 = j % 2 by omega]
omit [FloatOps F] in
theorem rcvC_two (j : ℕ) (ck : Fin 2) (q : Dev nD) : rcvC c (j + 1 + 1) ck q = rcvC c j ck q := by
  unfold rcvC jA
  rw [show (j + 1 + 1) % 2 = j % 2 by omega]

theorem drain_end {j : ℕ} (ck : Fin 2) :
    iprop(loop (AftD m c j ck) (BefD m c j ck) 16 ∗ Rest3 c j ck) ⊢ iprop(Srcs m c j ck ∗ Ready c (j + 1) ck ∗ GG c (KeepO c j ck)) := by
  have e : bigSep Finset.univ (AftD m c j ck) = iprop(Src m j c ck c ∗ GG c (Src m j c ck) ∗ GG c (Idle c (j + 1) ck)) := by
    rw [univ_GG c (AftD m c j ck), show AftD m c j ck c = _ from if_pos rfl, ← GG_sep]
    congr 1
    exact GG_congr c fun q hq => if_neg hq
  have hd : (j + 1 + 1) / 2 = j / 2 + 1 := by omega
  have eN : GG (F := F) c (Nx c j ck) = iprop(GG c (PermR c (j + 1) ck) ∗ GG c (At c (j + 1 + 1) ck) ∗ GG c (fun q => reached ER (rcvC c (j + 1 + 1) ck q) ((j + 1 + 1) / 2))) := by
    rw [← GG_sep, ← GG_sep]
    refine GG_congr c fun q _ => ?_
    unfold Nx At
    rw [rcvC_two, hd]
  have eC : CA (F := F) c (bM j) ck = iprop(slotA (bM (j + 1 + 1)) c ck c ∗ GG c (fun q => slotA (bM (j + 1 + 1)) c ck q)) := by
    rw [bM_two]
    exact univ_GG c _
  have eO : GG (F := F) c (OwnR c (j + 1) ck) = iprop(GG c (fun q => slotA (bM (j + 1 + 1)) c ck q) ∗ GG c (fun q => reached ER (rcvC c (j + 1 + 1) ck q) ((j + 1 + 1) / 2))) := by
    rw [← GG_sep]
    rfl
  rw [loop_end, e]
  unfold Rest3 Srcs Ready
  rw [eN, eC, eO, univ_GG c (fun q => Src m j c ck q)]
  iintro ⟨⟨H1, H2, H3⟩, H4, H5, H6, H7, ⟨H8, H9, H10⟩, H11, H12⟩
  isplitl [H1 H2]
  · isplitl [H1]; · iexact H1
    iexact H2
  isplitr [H5]
  · isplitl [H3]; · iexact H3
    isplitl [H8]; · iexact H8
    isplitl [H12 H10]
    · isplitl [H12]; · iexact H12
      iexact H10
    isplitl [H4]; · iexact H4
    isplitl [H11]; · iexact H11
    isplitl [H6]; · iexact H6
    isplitl [H9]; · iexact H9
    iexact H7
  · iexact H5

end Chain

/-! ### A chunk as a whole -/

section Chunk

variable (m : (ℓ : Loc nD τ sig) → Buf (Elt F) ℓ) (c : Dev nD) (M : M4) (ck : Fin 2)

theorem chunk_split (f : Buf (Elt F) (M.view.loc (c : Thread nD τ))) (v : Dev nD → SlotV F) (hv : ∀ z : S1x16x4x512.Idx, (M.access (cRect ck)).read (Elt F) f z = v (z 1) (tl z)) :
    ((M.view.loc (c : Thread nD τ) ↦[cSet M ck]{fullShare} f) : sProp 𝕄) ⊢ bigSep Finset.univ fun q : Dev nD => slotV M c ck q (v q) := by
  rw [cSet_eq]
  refine .trans (Q := bigSep Finset.univ fun q : Dev nD => M.view.loc (c : Thread nD τ) ↦[sSet M ck q]{fullShare} f) ?_ ?_
  · iintro H
    ihave H := (Entails.of_eq (pointsTo_biUnion (ℓ := M.view.loc (c : Thread nD τ)) (q := fullShare) (f := f) Finset.univ (fun q : Dev nD => sSet M ck q)
      fun q _ q' _ h => sSet_disjoint M fun e => h (congrArg Prod.snd e))) $$ H
    iexact H
  refine bigSep_mono fun q _ => ?_
  show ((M.view.loc (c : Thread nD τ) ↦[sSet M ck q]{fullShare} f) : sProp 𝕄) ⊢ slotV M c ck q (v q)
  unfold slotV
  iintro H
  iexists f
  isplitr
  · ipureintro
    rw [slot_read]
    funext x
    have := hv (mk1 q x)
    rw [chunk_read] at this
    exact this
  · iexact H

include m in
theorem chunk_join (v : Dev nD → SlotV F) :
    (bigSep Finset.univ fun q : Dev nD => slotV M c ck q (v q))
      ⊢ (iprop(∃ f : Buf (Elt F) (M.view.loc (c : Thread nD τ)), ⌜∀ z : S1x16x4x512.Idx, (M.access (cRect ck)).read (Elt F) f z = v (z 1) (tl z)⌝ ∗ M.view.loc (c : Thread nD τ) ↦[cSet M ck]{fullShare} f) : sProp 𝕄) := by
  haveI (q : Dev nD) : Nonempty {f : Buf (Elt F) (M.view.loc (c : Thread nD τ)) // (slot M ck q).view.read (Elt F) f = v q} :=
    ⟨⟨(slot M ck q).view.write (Elt F) (m ((slot M ck q).view.loc (c : Thread nD τ))) (v q) Finset.univ, View.read_write_univ _ _⟩⟩
  have h1 (q : Dev nD) : slotV M c ck q (v q)
      ⊢ (iprop(∃ f : {f : Buf (Elt F) (M.view.loc (c : Thread nD τ)) // (slot M ck q).view.read (Elt F) f = v q}, M.view.loc (c : Thread nD τ) ↦[sSet M ck q]{fullShare} f.1) : sProp 𝕄) := by
    unfold slotV
    iintro ⟨%f, %h, H⟩
    iexists (⟨f, h⟩ : {f : Buf (Elt F) (M.view.loc (c : Thread nD τ)) // (slot M ck q).view.read (Elt F) f = v q})
    iexact H
  refine (bigSep_mono fun q _ => h1 q).trans ?_
  refine (bigSep_exists_pi (Y := fun q : Dev nD => {f : Buf (Elt F) (M.view.loc (c : Thread nD τ)) // (slot M ck q).view.read (Elt F) f = v q}) Finset.univ
    (fun q f => (M.view.loc (c : Thread nD τ) ↦[sSet M ck q]{fullShare} f.1 : sProp 𝕄))).trans ?_
  iintro ⟨%fs', H⟩
  obtain ⟨fs, hfs, hfs'⟩ : ∃ fs : Dev nD → Buf (Elt F) (M.view.loc (c : Thread nD τ)), (∀ q, (slot M ck q).view.read (Elt F) (fs q) = v q) ∧ ∀ q, (fs' q).1 = fs q :=
    ⟨fun q => (fs' q).1, fun q => (fs' q).2, fun _ => rfl⟩
  ihave H := (Entails.of_eq (show (bigSep Finset.univ fun q : Dev nD => (M.view.loc (c : Thread nD τ) ↦[sSet M ck q]{fullShare} (fs' q).1 : sProp 𝕄))
    = bigSep Finset.univ fun q : Dev nD => (M.view.loc (c : Thread nD τ) ↦[sSet M ck q]{fullShare} fs q : sProp 𝕄) from bigSep_congr fun q _ => by rw [hfs' q])) $$ H
  ihave ⟨%g, %hg, H⟩ := (pointsTo_biUnion_join Finset.univ (fun q => sSet M ck q) fs (fs c) fun q _ q' _ h => sSet_disjoint M fun e => h (congrArg Prod.snd e)) $$ H
  iexists g
  isplitr
  · ipureintro
    intro z
    refine (congrFun (chunk_read M ck g) z).trans ?_
    refine (congrArg (M.view.read (Elt F) g) (mk4_tl ck z).symm).trans ?_
    refine Eq.trans ?_ (congrFun ((slot_read M ck (z 1) (fs (z 1))).symm.trans (hfs (z 1))) (tl z))
    show M.view.read (Elt F) g _ = M.view.read (Elt F) (fs (z 1)) _
    rw [View.read_apply, View.read_apply]
    exact congrArg _ (hg (z 1) (Finset.mem_univ _) _ (mem_sSet.2 ⟨tl z, rfl⟩))
  · rw [cSet_eq]
    iexact H

omit [FloatOps F] in
theorem slotV_any (q : Dev nD) (v : SlotV F) : slotV M c ck q v ⊢ slotA M c ck q := by
  unfold slotV slotA
  iintro ⟨%f, %h, H⟩
  iexists f
  iexact H
omit [FloatOps F] in
theorem slotA_val (q : Dev nD) : slotA (F := F) M c ck q ⊢ iprop(∃ v, slotV M c ck q v) := by
  unfold slotV slotA
  iintro ⟨%f, H⟩
  iexists (slot M ck q).view.read (Elt F) f
  iexists f
  isplitr
  · ipureintro; rfl
  · iexact H
include m in
theorem CA_vals : CA (F := F) c M ck ⊢ iprop(∃ v : Dev nD → SlotV F, bigSep Finset.univ fun q : Dev nD => slotV M c ck q (v q)) := by
  unfold CA
  haveI : Nonempty (SlotV F) := ⟨(slot M ck c).view.read (Elt F) (m ((slot M ck c).view.loc (c : Thread nD τ)))⟩
  exact (bigSep_mono fun q _ => slotA_val c M ck q).trans (bigSep_exists_pi (Y := fun _ : Dev nD => SlotV F) Finset.univ (fun q v => slotV M c ck q v))

end Chunk

end Cert.KernelIdeal.Mlp
-- ==== Proof.Ops.lean ====
/-
The loads and stores of a chunk, of the sums, of the input and of the result, each as a step of the run.
-/
module

public import proofs.«01_k».proof.Proof.Chain

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Ops

variable (m : (ℓ : Loc nD τ sig) → Buf (Elt F) ℓ) (K : Dev nD × Fin 99 → ℕ) (c : Dev nD)

/-- Regrouping what is held. -/
theorem turn {n : ℕ} {X X' R R' G : sProp 𝕄} (h : iprop(X ∗ R) ⊢ iprop(X' ∗ R')) (H : iprop(Ctx m K ∗ Debt c n ∗ X' ∗ R') ⊢ G) :
    iprop(Ctx m K ∗ Debt c n ∗ X ∗ R) ⊢ G := by
  refine .trans ?_ H
  iintro ⟨#HC, HD, HX⟩
  isplitr; · iexact HC
  isplitl [HD]; · iexact HD
  iapply h $$ HX

/-! ### Chunks -/

/-- What a chunk's slots hold once all have arrived, as one array. -/
def arrV (j : ℕ) (ck : Fin 2) : ChunkV F := fun z => srcV m j (z 1) ck c (tl z)

theorem arrV_even {j : ℕ} (hj : j % 2 = 0) (ck : Fin 2) : arrV m c j ck = rsV m (j / 2) c ck := by
  funext z
  unfold arrV srcV
  rw [if_pos hj]
  rfl
theorem arrV_odd {j : ℕ} (hj : j % 2 ≠ 0) (ck : Fin 2) : arrV m c j ck = agV m (j / 2) ck := by
  funext z
  unfold arrV srcV
  rw [if_neg hj]
  rfl

theorem chunk_any (M : M4) (ck : Fin 2) (f : Buf (Elt F) (M.view.loc (c : Thread nD τ))) :
    ((M.view.loc (c : Thread nD τ) ↦[cSet M ck]{fullShare} f) : sProp 𝕄) ⊢ CA c M ck := by
  refine (chunk_split c M ck f (fun q x => (M.access (cRect ck)).read (Elt F) f (mk1 q x)) fun z => ?_).trans ?_
  · exact congrArg _ (by
      funext i
      match i with
      | ⟨0, _⟩ => exact Subsingleton.elim (α := Fin 1) _ _
      | ⟨1, _⟩ => rfl
      | ⟨2, _⟩ => rfl
      | ⟨3, _⟩ => rfl)
  · unfold CA
    exact bigSep_mono fun q _ => slotV_any c M ck q _

/-- A whole chunk is read once everything has arrived. -/
theorem load_arr {j n : ℕ} {ck : Fin 2} {M : M4} (hM : bM j = M) {v : ChunkV F} (hv : arrV m c j ck = v) {hl : M.view.LoadsAt (cRect ck).toLoadRect}
    {R : sProp 𝕄} {α : Type} {Q : α → sProp 𝕄} {k : Vec F S1x16x4x512 .bf16 → Prog (TpuEff nD τ sig (Elt F) Λ₀ .tc) α}
    (H : iprop(Ctx m K ∗ Debt c n ∗ CA c (bM j) ck ∗ R) ⊢ WP c (k v) Q) :
    iprop(Ctx m K ∗ Debt c n ∗ Arr m c j ck ∗ R) ⊢ WP c (Prog.lift (.load M (cRect ck).toLoadRect hl) >>= k) Q := by
  subst hM hv
  simp only [Prog.lift, Prog.bind_op, Prog.bind_ret, Prog.pure_eq_ret]
  iintro ⟨#HC, HD, HA, HR⟩
  ihave ⟨%f, %hf, HA⟩ := (show Arr m c j ck ⊢ _ from chunk_join m c (bM j) ck fun q => srcV m j q ck c) $$ HA
  iapply (wp_load_rect 𝒱₀ (c : Thread nD τ) none Set.univ (m := bM j) (r := cRect ck) (S := cSet (bM j) ck) subset_rfl) $$ [HA]
  · iexact HA
  iintro HA
  rw [show ((bM j).access (cRect ck)).read (Elt F) f = arrV m c j ck from funext hf]
  iapply H
  isplitr; · iexact HC
  isplitl [HD]; · iexact HD
  isplitl [HA]
  · iapply (chunk_any c (bM j) ck f) $$ HA
  · iexact HR

theorem srcs_even {j : ℕ} (hj : j % 2 = 0) (ck : Fin 2) : Srcs m c j ck ⊢ CA c pM ck := by
  unfold Srcs CA
  refine bigSep_mono fun q _ => ?_
  unfold Src
  rw [if_pos hj]
  exact slotV_any c pM ck q _

theorem srcs_part {j : ℕ} (hj : j % 2 = 0) (ck : Fin 2) : Srcs m c j ck = bigSep Finset.univ fun q : Dev nD => slotV pM c ck q (partV m (j / 2) c ck q) := by
  unfold Srcs
  refine bigSep_congr fun q _ => ?_
  unfold Src
  rw [if_pos hj]

/-- A chunk of partial products is stored, what the chunk held having been looked at and dropped. -/
theorem put_part {j n : ℕ} {ck : Fin 2} (hj : j % 2 = 0) {w : ChunkV F} (hw : w = partP ck (hid m (j / 2) c) (woutOf m (j / 2) c)) {hl : (pM : M4).view.LoadsAt (cRect ck).toLoadRect}
    {hx : ((pM : M4).access (cRect ck)).Stores Finset.univ} {hm : Or ((Finset.univ : Finset (cRect ck).shape.Idx) = Finset.univ) (∀ a, (cRect ck).stride a = 1)}
    {R : sProp 𝕄} {α : Type} {Q : α → sProp 𝕄} {k : PUnit → Prog (TpuEff nD τ sig (Elt F) Λ₀ .tc) α}
    (H : iprop(Ctx m K ∗ Debt c n ∗ Srcs m c j ck ∗ R) ⊢ WP c (k ⟨⟩) Q) :
    iprop(Ctx m K ∗ Debt c n ∗ CA c pM ck ∗ R)
      ⊢ WP c (Prog.lift (.load pM (cRect ck).toLoadRect hl) >>= fun _ => Prog.lift (.store pM (cRect ck) w Finset.univ hx hm) >>= k) Q := by
  subst hw
  simp only [Prog.lift, Prog.bind_op, Prog.bind_ret, Prog.pure_eq_ret]
  iintro ⟨#HC, HD, HA, HR⟩
  ihave ⟨%v, HA⟩ := (CA_vals m c pM ck) $$ HA
  ihave ⟨%f, %hf, HA⟩ := (chunk_join m c pM ck v) $$ HA
  iapply (wp_load_rect 𝒱₀ (c : Thread nD τ) none Set.univ (m := pM) (r := cRect ck) (S := cSet pM ck) subset_rfl) $$ [HA]
  · iexact HA
  iintro HA
  iapply (wp_store 𝒱₀ (c : Thread nD τ) none Set.univ (m := pM) (r := cRect ck) (S := cSet pM ck) (by rw [View.setOn_univ])) $$ [HA]
  · iexact HA
  iintro HA
  iapply H
  isplitr; · iexact HC
  isplitl [HD]; · iexact HD
  isplitl [HA]
  · iapply (show _ ⊢ Srcs m c j ck from (chunk_split c pM ck (((pM : M4).access (cRect ck)).write (Elt F) f (partP ck (hid m (j / 2) c) (woutOf m (j / 2) c)) Finset.univ)
      (fun q => partV m (j / 2) c ck q) fun z => (congrFun (View.read_write_univ _ _) z).trans (congrArg _ (by
      funext i
      match i with
      | ⟨0, _⟩ => exact Subsingleton.elim (α := Fin 1) _ _
      | ⟨1, _⟩ => rfl
      | ⟨2, _⟩ => rfl
      | ⟨3, _⟩ => rfl))).trans (Entails.of_eq (srcs_part m c hj ck).symm)) $$ HA
  · iexact HR

/-! ### The sums -/

/-- A chunk of the sums, holding something. -/
def CY (ck : Fin 2) : sProp 𝕄 := iprop(∃ f, (ySl ck).view.loc (c : Thread nD τ) ↦[(ySl ck).view.set]{fullShare} f)

theorem srcs_odd {j : ℕ} (hj : j % 2 ≠ 0) (ck : Fin 2) : Srcs m c j ck = ((ySl ck).view.loc (c : Thread nD τ) ↦[(ySl ck).view.set]{fullShare} (yBuf m (j / 2) c) : sProp 𝕄) := by
  rw [Transfers.pointsTo_deal (Finset.univ : Finset (Dev nD)) ⟨c, Finset.mem_univ _⟩ fullShare]
  unfold Srcs
  refine bigSep_congr fun q _ => ?_
  unfold Src yPts piece
  rw [if_neg hj]

theorem srcs_CY {j : ℕ} (hj : j % 2 ≠ 0) (ck : Fin 2) : Srcs m c j ck ⊢ CY c ck := by
  rw [srcs_odd m c hj]
  unfold CY
  iintro H
  iexists (yBuf m (j / 2) c)
  iexact H

omit [FloatOps F] in
theorem reshape_cons (x : S4x512.Idx) : Shape.reshapeEquiv (s := S1x4x512) (by decide : S4x512.numel = S1x4x512.numel) x = Fin.cons (α := fun i => Fin (S1x4x512.size i)) (0 : Fin 1) x := by
  refine Shape.reshapeEquiv_eq_of_rowMajor _ ?_
  rw [Shape.rowMajor_val_three, Shape.rowMajor_val_two]
  show (0 * _ + (x 0).val) * _ + (x 1).val = _
  rw [Nat.zero_mul, Nat.zero_add]
  rfl

omit [FloatOps F] in
theorem eq_of_cast {α β : Type} (h : α = β) {a b : α} (e : _root_.cast h a = _root_.cast h b) : a = b := by
  subst h
  exact e

theorem y_at (l : ℕ) (ck : Fin 2) (x : S4x512.Idx) : yV m l c ck x = sumP (rsV m l c ck) (Fin.cons (α := fun i => Fin (S1x4x512.size i)) (0 : Fin 1) x) := rfl

theorem y_written {l : ℕ} {ck : Fin 2} (f : (yM : Memref sig .tc .vmem S2x4x512 .bf16).view.ref.ty.Contents (Elt F)) (w : Vec F S1x4x512 .bf16)
    (hw : ∀ x : S4x512.Idx, w (Fin.cons (α := fun i => Fin (S1x4x512.size i)) (0 : Fin 1) x) = yV m l c ck x) :
    ∀ i ∈ (ySl ck).view.set, (yM.access (yRect ck)).write (Elt F) f w Finset.univ i = yBuf m l c i := by
  have h1 (x : S4x512.Idx) : (ySl ck).view.read (Elt F) ((yM.access (yRect ck)).write (Elt F) f w Finset.univ) x = (ySl ck).view.read (Elt F) (yBuf m l c) x := by
    rw [y_read m l c ck _ rfl]
    refine (y_access ck ((yM.access (yRect ck)).write (Elt F) f w Finset.univ) x).trans ?_
    rw [View.read_write_univ, reshape_cons]
    exact hw x
  intro i hi
  obtain ⟨x, -, hx⟩ := Finset.mem_map.1 hi
  have h2 := h1 x
  rw [View.read_apply, View.read_apply] at h2
  rw [← hx]
  exact eq_of_cast _ h2

/-- A chunk of sums is stored. -/
theorem put_y {j n : ℕ} {ck : Fin 2} (hj : j % 2 ≠ 0) {w : FVec F S1x4x512 .bf16} (hw : w = sumP (rsV m (j / 2) c ck)) {hl : (yM : Memref sig .tc .vmem S2x4x512 .bf16).view.LoadsAt (yRect ck).toLoadRect}
    {hx : ((yM : Memref sig .tc .vmem S2x4x512 .bf16).access (yRect ck)).Stores Finset.univ} {hm : Or ((Finset.univ : Finset (yRect ck).shape.Idx) = Finset.univ) (∀ a, (yRect ck).stride a = 1)}
    {R : sProp 𝕄} {α : Type} {Q : α → sProp 𝕄} {k : PUnit → Prog (TpuEff nD τ sig (Elt F) Λ₀ .tc) α}
    (H : iprop(Ctx m K ∗ Debt c n ∗ Srcs m c j ck ∗ R) ⊢ WP c (k ⟨⟩) Q) :
    iprop(Ctx m K ∗ Debt c n ∗ CY c ck ∗ R)
      ⊢ WP c (Prog.lift (.load yM (yRect ck).toLoadRect hl) >>= fun _ => Prog.lift (.store yM (yRect ck) w Finset.univ hx hm) >>= k) Q := by
  subst hw
  simp only [Prog.lift, Prog.bind_op, Prog.bind_ret, Prog.pure_eq_ret]
  unfold CY
  iintro ⟨#HC, HD, ⟨%f, HA⟩, HR⟩
  iapply (wp_load_rect 𝒱₀ (c : Thread nD τ) none Set.univ (m := yM) (r := yRect ck) (S := (ySl ck).view.set) (by rw [y_set])) $$ [HA]
  · iexact HA
  iintro HA
  iapply (wp_store 𝒱₀ (c : Thread nD τ) none Set.univ (m := yM) (r := yRect ck) (S := (ySl ck).view.set) (by rw [y_set, View.setOn_univ])) $$ [HA]
  · iexact HA
  iintro HA
  iapply H
  isplitr; · iexact HC
  isplitl [HD]; · iexact HD
  isplitl [HA]
  · rw [srcs_odd m c hj]
    iapply (Entails.of_eq (pointsTo_congr (y_written m c (l := j / 2) (ck := ck) f (sumP (rsV m (j / 2) c ck)) fun x => (y_at m c (j / 2) ck x).symm))) $$ HA
  · iexact HR

/-! ### The result and the input -/

abbrev oRect (ck : Fin 2) : Rect S4x1024 := Rect.unit (s := S4x1024) ![0, 512 * ck.val] S4x512.size (by
  have h1 := ck.isLt
  intro i
  match i with
  | ⟨0, _⟩ => exact le_rfl
  | ⟨1, _⟩ => show 512 * ck.val + 512 ≤ 1024; omega)

/-- The result buffer, holding `f`. -/
def CO (f : Vec F S4x1024 .f32) : sProp 𝕄 := ((c : Thread nD τ).loc cc0_stg1_0) ↦{fullShare} (f : Buf (Elt F) ((c : Thread nD τ).loc cc0_stg1_0))
/-- The input, held in its window. -/
def CX : sProp 𝕄 := ((c : Thread nD τ).loc cc0_stg0_0) ↦{fullShare} (xIn m c : Buf (Elt F) ((c : Thread nD τ).loc cc0_stg0_0))

/-- Half of the result is stored. -/
theorem put_out {n : ℕ} {ck : Fin 2} {f : Vec F S4x1024 .f32} {w : FVec F S4x512 .f32} (hw : w = outV m c ck) {hl : (oM : Memref sig .tc .vmem S4x1024 .f32).view.LoadsAt (oRect ck).toLoadRect}
    {hx : ((oM : Memref sig .tc .vmem S4x1024 .f32).access (oRect ck)).Stores Finset.univ} {hm : Or ((Finset.univ : Finset (oRect ck).shape.Idx) = Finset.univ) (∀ a, (oRect ck).stride a = 1)}
    {R : sProp 𝕄} {α : Type} {Q : α → sProp 𝕄} {k : PUnit → Prog (TpuEff nD τ sig (Elt F) Λ₀ .tc) α}
    (H : iprop(Ctx m K ∗ Debt c n ∗ CO c ((oM.access (oRect ck)).write (Elt F) f (outV m c ck) Finset.univ) ∗ R) ⊢ WP c (k ⟨⟩) Q) :
    iprop(Ctx m K ∗ Debt c n ∗ CO c f ∗ R)
      ⊢ WP c (Prog.lift (.load oM (oRect ck).toLoadRect hl) >>= fun _ => Prog.lift (.store oM (oRect ck) w Finset.univ hx hm) >>= k) Q := by
  subst hw
  simp only [Prog.lift, Prog.bind_op, Prog.bind_ret, Prog.pure_eq_ret]
  unfold CO at *
  iintro ⟨#HC, HD, HA, HR⟩
  iapply (wp_load_rect 𝒱₀ (c : Thread nD τ) none Set.univ (m := oM) (r := oRect ck) (S := Finset.univ) (Finset.subset_univ _)) $$ [HA]
  · iexact HA
  iintro HA
  iapply (wp_store 𝒱₀ (c : Thread nD τ) none Set.univ (m := oM) (r := oRect ck) (S := Finset.univ) (Finset.subset_univ _)) $$ [HA]
  · iexact HA
  iintro HA
  iapply H
  isplitr; · iexact HC
  isplitl [HD]; · iexact HD
  isplitl [HA]; · iexact HA
  iexact HR

abbrev xRect (ck : Fin 2) : Rect S64x1024 := Rect.unit (s := S64x1024) ![0, 512 * ck.val] S64x512.size (by
  have h1 := ck.isLt
  intro i
  match i with
  | ⟨0, _⟩ => exact le_rfl
  | ⟨1, _⟩ => show 512 * ck.val + 512 ≤ 1024; omega)

theorem load_x {n : ℕ} {ck : Fin 2} {v : Vec F S64x512 .f32} (hv : (xM.access (xRect ck)).read (Elt F) (xIn m c) = v) {hl : (xM : Memref sig .tc .vmem S64x1024 .f32).view.LoadsAt (xRect ck).toLoadRect}
    {R : sProp 𝕄} {α : Type} {Q : α → sProp 𝕄} {k : Vec F S64x512 .f32 → Prog (TpuEff nD τ sig (Elt F) Λ₀ .tc) α}
    (H : iprop(Ctx m K ∗ Debt c n ∗ CX m c ∗ R) ⊢ WP c (k v) Q) :
    iprop(Ctx m K ∗ Debt c n ∗ CX m c ∗ R) ⊢ WP c (Prog.lift (.load xM (xRect ck).toLoadRect hl) >>= k) Q := by
  subst hv
  simp only [Prog.lift, Prog.bind_op, Prog.bind_ret, Prog.pure_eq_ret]
  unfold CX at *
  iintro ⟨#HC, HD, HA, HR⟩
  iapply (wp_load_rect 𝒱₀ (c : Thread nD τ) none Set.univ (m := xM) (r := xRect ck) (S := Finset.univ) (Finset.subset_univ _)) $$ [HA]
  · iexact HA
  iintro HA
  iapply H
  isplitr; · iexact HC
  isplitl [HD]; · iexact HD
  isplitl [HA]; · iexact HA
  iexact HR

end Ops

end Cert.KernelIdeal.Mlp
-- ==== Proof.Fetch.lean ====
/-
The weight loads and the opening barrier, each as a step of the run.
-/
module

public import proofs.«01_k».proof.Proof.Ops

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem whole_read_wi (f : Vec F S1024x2048 .f32) : (wiM.access (Rect.unit (s := S1024x2048) ![0, 0] S1024x2048.size inb_S1024x2048_S1024x2048_0_0)).read (Elt F) f = f :=
  Memref.readAt_unit_zero (Elt F) cc0_scratch0 (by funext i; match i with | ⟨0, _⟩ => rfl | ⟨1, _⟩ => rfl) _ f
theorem whole_read_wo (f : Vec F S2048x1024 .f32) : (woM.access (Rect.unit (s := S2048x1024) ![0, 0] S2048x1024.size inb_S2048x1024_S2048x1024_0_0)).read (Elt F) f = f :=
  Memref.readAt_unit_zero (Elt F) cc0_scratch1 (by funext i; match i with | ⟨0, _⟩ => rfl | ⟨1, _⟩ => rfl) _ f

section Fetch

variable (m : (ℓ : Loc nD τ sig) → Buf (Elt F) ℓ) (K : Dev nD × Fin 99 → ℕ) (c : Dev nD)

/-! ### The weight loads -/

/-- The buffer of the weight loads of kind `i`, holding something; the weights to load. -/
def LdBuf (i : Fin 2) : sProp 𝕄 :=
  match i with
  | 0 => iprop(∃ f, wiM.view.loc (c : Thread nD τ) ↦[wiM.view.set]{fullShare} f)
  | 1 => iprop(∃ f, woM.view.loc (c : Thread nD τ) ↦[woM.view.set]{fullShare} f)
def LdSrc (i : Fin 2) (l : ℕ) : sProp 𝕄 :=
  match i with
  | 0 => winPts m l c
  | 1 => woutPts m l c
def LdPts (i : Fin 2) (l : ℕ) : sProp 𝕄 :=
  match i with
  | 0 => wiPts m l c
  | 1 => woPts m l c
def LdAt (i : Fin 2) (l : ℕ) : sProp 𝕄 := iprop(atPos ER (ldC c i) l ∅ 0 ∗ reached ER (ldC c i) l)
/-- Layer `l`'s load may start; is under way; has ended. -/
def LdReady (i : Fin 2) (l : ℕ) : sProp 𝕄 := iprop(LdBuf c i ∗ LdAt c i l ∗ LdSrc m c i l ∗ dutyTok ER (ldC c i) l 0)
def LdOut (i : Fin 2) (l : ℕ) : sProp 𝕄 := iprop(cred (tallyAt (ldC c i) 0 (NW i)) ∗ atPos ER (ldC c i) l ∅ 0)
def LdIn (i : Fin 2) (l : ℕ) : sProp 𝕄 := iprop(LdPts m c i l ∗ LdSrc m c i l ∗ LdAt c i (l + 1))

theorem ld_next (i : Fin 2) (l : ℕ) : iprop(LdIn m c i l ∗ LdSrc m c i (l + 1) ∗ dutyTok ER (ldC c i) (l + 1) 0) ⊢ iprop(LdReady m c i (l + 1) ∗ LdSrc m c i l) := by
  unfold LdIn LdReady
  have h : LdPts m c i l ⊢ LdBuf c i := by
    match i with
    | 0 =>
      show wiPts m l c ⊢ iprop(∃ f, wiM.view.loc (c : Thread nD τ) ↦[wiM.view.set]{fullShare} f)
      unfold wiPts
      iintro H
      iexists (winOf m l c : Buf (Elt F) ((c : Thread nD τ).loc cc0_scratch0))
      rw [View.set_whole]
      iexact H
    | 1 =>
      show woPts m l c ⊢ iprop(∃ f, woM.view.loc (c : Thread nD τ) ↦[woM.view.set]{fullShare} f)
      unfold woPts
      iintro H
      iexists (woutOf m l c : Buf (Elt F) ((c : Thread nD τ).loc cc0_scratch1))
      rw [View.set_whole]
      iexact H
  iintro ⟨⟨H1, H2, H3⟩, H4, H5⟩
  ihave H1 := h $$ H1
  isplitr [H2]
  · isplitl [H1]; · iexact H1
    isplitl [H3]; · iexact H3
    isplitl [H4]; · iexact H4
    iexact H5
  · iexact H2

/-- A load of the next weights starts: `src` holds `v`. -/
theorem ld_start {i : Fin 2} {l n : ℕ} (hl : l < 3) {S : Shape} {src : Memref sig .tc .hbm S .f32} {dst : Memref sig .tc .vmem S .f32} {sm : DmaSem sig} (hsm : sm = wS i)
    (hb : LdBuf (F := F) c i = iprop(∃ f, dst.view.loc (c : Thread nD τ) ↦[dst.view.set]{fullShare} f))
    {fs : Buf (Elt F) (src.view.loc (c : Thread nD τ))} (hs : LdSrc m c i l = (src.view.loc (c : Thread nD τ) ↦[src.view.set]{fullShare} fs : sProp 𝕄))
    (hp : ∀ fd, (dst.view.loc (c : Thread nD τ) ↦[dst.view.set]{fullShare} (dst.view.write (Elt F) fd (src.view.read (Elt F) fs) Finset.univ) : sProp 𝕄) = LdPts m c i l)
    (hN : dst.view.dmaCredit = NW i)
    {hsrc : src.view.WordExact} {hdst : dst.view.WordExact} {hsem : DmaTarget.Typed .hbm (.dma sm) (DmaTarget.here dst : DmaTarget nD τ sig .tc .vmem S .f32)}
    {R : sProp 𝕄} {α : Type} {Q : α → sProp 𝕄} {k : PUnit → Prog (TpuEff nD τ sig (Elt F) Λ₀ .tc) α}
    (H : iprop(Ctx m K ∗ Debt c n ∗ LdOut c i l ∗ R) ⊢ WP c (k ⟨⟩) Q) :
    iprop(Ctx m K ∗ Debt c n ∗ LdReady m c i l ∗ R) ⊢ WP c (Prog.lift (.enqueueDma src (.here dst) (.dma sm) hsrc hdst hsem) >>= k) Q := by
  subst hsm
  simp only [Prog.lift, Prog.bind_op, Prog.bind_ret, Prog.pure_eq_ret]
  unfold LdReady LdAt
  rw [hb, hs]
  iintro ⟨#HC, HD, ⟨⟨%fd, Hd⟩, ⟨Hat, #Hr⟩, Hs, Ht⟩, HR⟩
  ihave ⟨%κ, #HI⟩ := (inv_w m K c i) $$ HC
  iapply (Rounds.wp_copy_pointsTo 𝒱₀ ER (Rd m) (c : Thread nD τ) none (κ := κ) (src := src) (dst := dst) (sem := .dma (wS i)) (q := fullShare) (fs := fs) (fd := fd) (r := l) (d := 0)
    (by rw [duties_w m c i hl]; exact Finset.mem_singleton_self _) 0 (NW i) hN (amount_w m c i l 0)
    (by
      rw [payload_w, hp fd, ← hs]
      unfold loadPay LdPts LdSrc
      match i with
      | 0 => exact Idealize.SL.BI.BIBase.Entails.of_eq rfl
      | 1 => exact Idealize.SL.BI.BIBase.Entails.of_eq rfl)) $$ [Hs Hd Ht]
  · isplitr; · iexact HI
    isplitl [Hs]; · iexact Hs
    isplitl [Hd]; · iexact Hd
    isplitl [Ht]; · iexact Ht
    iexact Hr
  iintro HC'
  iapply H
  isplitr; · iexact HC
  isplitl [HD]; · iexact HD
  isplitr [HR]
  · unfold LdOut
    isplitl [HC']; · iexact HC'
    iexact Hat
  · iexact HR

/-- The wait for a load. -/
theorem ld_wait {i : Fin 2} {l n : ℕ} (hl : l < 3) {S : Shape} {src : Memref sig .tc .hbm S .f32} {dst : Memref sig .tc .vmem S .f32} {sm : DmaSem sig} (hsm : sm = wS i)
    (hN : dst.view.dmaCredit = NW i) (hn : 0 < lvl n)
    {hsrc : src.view.WordExact} {hdst : dst.view.WordExact}
    {R : sProp 𝕄} {α : Type} {Q : α → sProp 𝕄} {k : PUnit → Prog (TpuEff nD τ sig (Elt F) Λ₀ .tc) α}
    (H : iprop(Ctx m K ∗ Debt c n ∗ LdIn m c i l ∗ R) ⊢ WP c (k ⟨⟩) Q) :
    iprop(Ctx m K ∗ Debt c n ∗ LdOut c i l ∗ R) ⊢ WP c (Prog.lift (.waitDma2 sm src dst hsrc hdst) >>= k) Q := by
  subst hsm
  simp only [Prog.lift, Prog.bind_op, Prog.bind_ret, Prog.pure_eq_ret]
  unfold Debt LdOut at *
  iintro ⟨#HC, ⟨%W, HO⟩, ⟨HC1, Hat⟩, HR⟩
  ihave ⟨%κ, #HI⟩ := (inv_w m K c i) $$ HC
  iapply (Rounds.wp_wait_rest_token 𝒱₀ ER (Rd m) (c : Thread nD τ) none (κ := κ)
      (wpE_waitDma2_eq 𝒱₀ (c : Thread nD τ) none Set.univ) (Set.mem_univ _) 0 (O := owed c n) (W := W) (R := l) (m := 0) (T := ∅)
      (by rw [Nat.zero_add, expect_w m c i hl, hN])) $$ [HC1 HO Hat]
  · isplitr; · iexact HI
    isplitl [HC1]; · rw [hN]; iexact HC1
    isplitl [HO]; · iexact HO
    isplitr; · iapply (ctx_may m K c _ 0 n (by decide) hn); iexact HC
    iexact Hat
  iintro ⟨HO, Hat, #Hr, Hpay⟩
  ihave Hp := (Entails.of_eq (rest_w m c i hl)) $$ Hpay
  ihave Hp := (show loadPay m i l c ⊢ iprop(LdPts m c i l ∗ LdSrc m c i l) by
    unfold loadPay LdPts LdSrc
    match i with
    | 0 => exact Idealize.SL.BI.BIBase.Entails.of_eq rfl
    | 1 => exact Idealize.SL.BI.BIBase.Entails.of_eq rfl) $$ Hp
  icases Hp with ⟨Hp1, Hp2⟩
  iapply H
  isplitr; · iexact HC
  isplitl [HO]; · iexists _; iexact HO
  isplitr [HR]
  · unfold LdIn LdAt
    isplitl [Hp1]; · iexact Hp1
    isplitl [Hp2]; · iexact Hp2
    isplitl [Hat]; · iexact Hat
    iexact Hr
  · iexact HR

/-- The loaded weights are read. -/
theorem ld_read0 {l n : ℕ} {v : Vec F S1024x2048 .f32} (hv : v = winOf m l c) {hl : (wiM : Memref sig .tc .vmem S1024x2048 .f32).view.LoadsAt (Rect.unit (s := S1024x2048) ![0, 0] S1024x2048.size inb_S1024x2048_S1024x2048_0_0).toLoadRect}
    {R : sProp 𝕄} {α : Type} {Q : α → sProp 𝕄} {k : Vec F S1024x2048 .f32 → Prog (TpuEff nD τ sig (Elt F) Λ₀ .tc) α}
    (H : iprop(Ctx m K ∗ Debt c n ∗ LdIn m c 0 l ∗ R) ⊢ WP c (k v) Q) :
    iprop(Ctx m K ∗ Debt c n ∗ LdIn m c 0 l ∗ R)
      ⊢ WP c (Prog.lift (.load wiM (Rect.unit (s := S1024x2048) ![0, 0] S1024x2048.size inb_S1024x2048_S1024x2048_0_0).toLoadRect hl) >>= k) Q := by
  subst hv
  simp only [Prog.lift, Prog.bind_op, Prog.bind_ret, Prog.pure_eq_ret]
  unfold LdIn LdPts wiPts at *
  iintro ⟨#HC, HD, ⟨HA, HA2⟩, HR⟩
  iapply (wp_load_rect 𝒱₀ (c : Thread nD τ) none Set.univ (m := wiM) (r := Rect.unit (s := S1024x2048) ![0, 0] S1024x2048.size inb_S1024x2048_S1024x2048_0_0) (S := Finset.univ) (Finset.subset_univ _)) $$ [HA]
  · iexact HA
  iintro HA
  rw [show (wiM.access (Rect.unit (s := S1024x2048) ![0, 0] S1024x2048.size inb_S1024x2048_S1024x2048_0_0)).read (Elt F) (winOf m l c) = winOf m l c from whole_read_wi _]
  iapply H
  isplitr; · iexact HC
  isplitl [HD]; · iexact HD
  isplitr [HR]
  · isplitl [HA]; · iexact HA
    iexact HA2
  · iexact HR

theorem ld_read1 {l n : ℕ} {v : Vec F S2048x1024 .f32} (hv : v = woutOf m l c) {hl : (woM : Memref sig .tc .vmem S2048x1024 .f32).view.LoadsAt (Rect.unit (s := S2048x1024) ![0, 0] S2048x1024.size inb_S2048x1024_S2048x1024_0_0).toLoadRect}
    {R : sProp 𝕄} {α : Type} {Q : α → sProp 𝕄} {k : Vec F S2048x1024 .f32 → Prog (TpuEff nD τ sig (Elt F) Λ₀ .tc) α}
    (H : iprop(Ctx m K ∗ Debt c n ∗ LdIn m c 1 l ∗ R) ⊢ WP c (k v) Q) :
    iprop(Ctx m K ∗ Debt c n ∗ LdIn m c 1 l ∗ R)
      ⊢ WP c (Prog.lift (.load woM (Rect.unit (s := S2048x1024) ![0, 0] S2048x1024.size inb_S2048x1024_S2048x1024_0_0).toLoadRect hl) >>= k) Q := by
  subst hv
  simp only [Prog.lift, Prog.bind_op, Prog.bind_ret, Prog.pure_eq_ret]
  unfold LdIn LdPts woPts at *
  iintro ⟨#HC, HD, ⟨HA, HA2⟩, HR⟩
  iapply (wp_load_rect 𝒱₀ (c : Thread nD τ) none Set.univ (m := woM) (r := Rect.unit (s := S2048x1024) ![0, 0] S2048x1024.size inb_S2048x1024_S2048x1024_0_0) (S := Finset.univ) (Finset.subset_univ _)) $$ [HA]
  · iexact HA
  iintro HA
  rw [show (woM.access (Rect.unit (s := S2048x1024) ![0, 0] S2048x1024.size inb_S2048x1024_S2048x1024_0_0)).read (Elt F) (woutOf m l c) = woutOf m l c from whole_read_wo _]
  iapply H
  isplitr; · iexact HC
  isplitl [HD]; · iexact HD
  isplitr [HR]
  · isplitl [HA]; · iexact HA
    iexact HA2
  · iexact HR

/-! ### The barrier -/

/-- Before device `c`'s signal to device `q`: what the signal brings. -/
def BefB (q : Dev nD) : sProp 𝕄 := if q = c then iprop(emp) else iprop(barPay q c ∗ dutyTok ER (barC q) 0 c ∗ reached ER (barC q) 0)
def AftB (_ : Dev nD) : sProp 𝕄 := iprop(emp)

theorem sig_step {p : ℕ} (hp : p < 16) {b : BitVec 1} (hb : Iff (b = 1#1) ((⟨p, hp⟩ : Dev nD) ≠ c)) {dev : b = 1#1 → Dev nD} (hdev : ∀ h, dev h = ⟨p, hp⟩)
    {sm : Sem sig} (hsm : sm = barS)
    {R : sProp 𝕄} {α : Type} {Q : α → sProp 𝕄} {k : Prog (TpuEff nD τ sig (Elt F) Λ₀ .tc) α}
    (H : iprop(Ctx m K ∗ Debt c (p + 1) ∗ loop (AftB (F := F)) (BefB c) (p + 1) ∗ R) ⊢ WP c k Q) :
    iprop(Ctx m K ∗ Debt c p ∗ loop (AftB (F := F)) (BefB c) p ∗ R)
      ⊢ WP c (if h : b = 1#1 then (do
          semSignalWord (dev h) sm 1#32
          k) else k) Q := by
  subst hsm
  by_cases h : b = 1#1
  · rw [dif_pos h]
    have hc : (⟨p, hp⟩ : Dev nD) ≠ c := hb.mp h
    rw [hdev h]
    simp only [semSignalWord, Prog.lift, Prog.bind_op, Prog.bind_ret, Prog.pure_eq_ret]
    have hB : BefB (F := F) c ⟨p, hp⟩ ⊢ iprop(barPay ⟨p, hp⟩ c ∗ dutyTok ER (barC ⟨p, hp⟩) 0 c ∗ reached ER (barC ⟨p, hp⟩) 0) := by
      unfold BefB
      rw [if_neg hc]
    unfold Debt at *
    iintro ⟨#HC, ⟨%W, HO⟩, HL, HR⟩
    ihave ⟨HB, HL⟩ := (loop_step (AftB (F := F)) (BefB c) ⟨p, hp⟩) $$ HL
    ihave ⟨HP, Ht, #Hr⟩ := hB $$ HB
    ihave ⟨%κ, #HI⟩ := (inv_bar m K ⟨p, hp⟩) $$ HC
    iapply (Rounds.wp_signal 𝒱₀ ER (Rd m) (c : Thread nD τ) none (dst := ((⟨p, hp⟩ : Dev nD) : Thread nD τ)) (κ := κ) (d := c)
      (by rw [duties_bar]; exact Finset.mem_erase.mpr ⟨Ne.symm hc, Finset.mem_univ _⟩) ((amount_bar m ⟨p, hp⟩ 0 c).trans (by decide)) 1 (O₀ := owed c p) (owed c (p + 1))
      (by rw [owed_step c (show p < 176 by omega)]; exact congrArg _ (unit_bar c ⟨p, hp⟩ hc))) $$ [HO Ht HP]
    · isplitr; · iexact HI
      isplitl [HO]; · iexact HO
      isplitl [Ht]; · iexact Ht
      isplitl [HP]; · rw [payload_bar]; iexact HP
      iexact Hr
    iintro HO
    iapply H
    isplitr; · iexact HC
    isplitl [HO]; · iexists W; iexact HO
    isplitr [HR]
    · iapply HL
      unfold AftB
      iempintro
    · iexact HR
  · rw [dif_neg h]
    have hc : (⟨p, hp⟩ : Dev nD) = c := by_contra fun e => h (hb.mpr e)
    iintro ⟨#HC, HD, HL, HR⟩
    ihave ⟨-, HL⟩ := (loop_step (AftB (F := F)) (BefB c) ⟨p, hp⟩) $$ HL
    ihave HD := (debt_self c (n := p) (show p < 176 by omega) (by rw [← hc]; exact Nat.mod_eq_of_lt hp)) $$ HD
    iapply H
    isplitr; · iexact HC
    isplitl [HD]; · iexact HD
    isplitr [HR]
    · iapply HL
      unfold AftB
      iempintro
    · iexact HR

/-- The wait for everyone's signal. -/
theorem bar_wait {sm : Sem sig} (hsm : sm = barS) {R : sProp 𝕄} {α : Type} {Q : α → sProp 𝕄} {k : PUnit → Prog (TpuEff nD τ sig (Elt F) Λ₀ .tc) α}
    (H : iprop(Ctx m K ∗ Debt c 16 ∗ (GG c (barPay c) ∗ atPos ER (barC c) 1 ∅ 0) ∗ R) ⊢ WP c (k ⟨⟩) Q) :
    iprop(Ctx m K ∗ Debt c 16 ∗ (cred (tallyAt (barC c) 1 15) ∗ atPos ER (barC c) 0 ∅ 0) ∗ R)
      ⊢ WP c (semWaitWord sm 15#32 >>= k) Q := by
  subst hsm
  simp only [semWaitWord, Prog.lift, Prog.bind_op, Prog.bind_ret, Prog.pure_eq_ret]
  unfold Debt at *
  iintro ⟨#HC, ⟨%W, HO⟩, ⟨HC1, Hat⟩, HR⟩
  ihave ⟨%κ, #HI⟩ := (inv_bar m K c) $$ HC
  iapply (Rounds.wp_wait_rest_token 𝒱₀ ER (Rd m) (c : Thread nD τ) none (κ := κ)
      (wpE_semWait_eq 𝒱₀ (c : Thread nD τ) none Set.univ) (Set.mem_univ _) 1 (O := owed c 16) (W := W) (R := 0) (m := 0) (T := ∅)
      (by rw [expect_bar]; decide)) $$ [HC1 HO Hat]
  · isplitr; · iexact HI
    isplitl [HC1]; · iexact HC1
    isplitl [HO]; · iexact HO
    isplitr; · iapply (ctx_may m K c _ 1 16 (by decide) (by decide)); iexact HC
    iexact Hat
  iintro ⟨HO, Hat, -, Hpay⟩
  ihave Hp := (Entails.of_eq (rest_bar m c)) $$ Hpay
  iapply H
  isplitr; · iexact HC
  isplitl [HO]; · iexists _; iexact HO
  isplitr [HR]
  · isplitl [Hp]
    · unfold GG
      iexact Hp
    iexact Hat
  · iexact HR

end Fetch

end Cert.KernelIdeal.Mlp
-- ==== Proof.Glue.lean ====
/-
The pieces a run of the whole kernel is put together with: regrouping of what a device holds, the ends of the kernel's parts, what the
barrier turns into, and the values of the partial products.
-/
module

public import proofs.«01_k».proof.Proof.Fetch

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### Regrouping what a device holds -/

omit [FloatOps F] in
theorem swap2 {A B R : sProp 𝕄} : iprop(A ∗ B ∗ R) ⊢ iprop(B ∗ A ∗ R) := by
  iintro ⟨HA, HB, HR⟩
  isplitl [HB]; · iexact HB
  isplitl [HA]; · iexact HA
  iexact HR
omit [FloatOps F] in
theorem assoc2 {A B R : sProp 𝕄} : iprop(A ∗ B ∗ R) ⊢ iprop((A ∗ B) ∗ R) := by
  iintro ⟨HA, HB, HR⟩
  isplitr [HR]
  · isplitl [HA]; · iexact HA
    iexact HB
  · iexact HR
omit [FloatOps F] in
theorem assoc2' {A B R : sProp 𝕄} : iprop((A ∗ B) ∗ R) ⊢ iprop(A ∗ B ∗ R) := by
  iintro ⟨⟨HA, HB⟩, HR⟩
  isplitl [HA]; · iexact HA
  isplitl [HB]; · iexact HB
  iexact HR
omit [FloatOps F] in
theorem assoc3 {A B C R : sProp 𝕄} : iprop(A ∗ B ∗ C ∗ R) ⊢ iprop((A ∗ B ∗ C) ∗ R) := (sep_mono_right assoc2).trans assoc2
omit [FloatOps F] in
theorem assoc3' {A B C R : sProp 𝕄} : iprop((A ∗ B ∗ C) ∗ R) ⊢ iprop(A ∗ B ∗ C ∗ R) := assoc2'.trans (sep_mono_right assoc2')

omit [FloatOps F] in
theorem pick1 {A0 A1 R : sProp 𝕄} : iprop(A0 ∗ A1 ∗ R) ⊢ iprop(A1 ∗ A0 ∗ R) :=
  swap2
omit [FloatOps F] in
theorem pick2 {A0 A1 A2 R : sProp 𝕄} : iprop(A0 ∗ A1 ∗ A2 ∗ R) ⊢ iprop(A2 ∗ A0 ∗ A1 ∗ R) :=
  (sep_mono_right pick1).trans swap2
omit [FloatOps F] in
theorem pick3 {A0 A1 A2 A3 R : sProp 𝕄} : iprop(A0 ∗ A1 ∗ A2 ∗ A3 ∗ R) ⊢ iprop(A3 ∗ A0 ∗ A1 ∗ A2 ∗ R) :=
  (sep_mono_right pick2).trans swap2
omit [FloatOps F] in
theorem pick4 {A0 A1 A2 A3 A4 R : sProp 𝕄} : iprop(A0 ∗ A1 ∗ A2 ∗ A3 ∗ A4 ∗ R) ⊢ iprop(A4 ∗ A0 ∗ A1 ∗ A2 ∗ A3 ∗ R) :=
  (sep_mono_right pick3).trans swap2
omit [FloatOps F] in
theorem pick5 {A0 A1 A2 A3 A4 A5 R : sProp 𝕄} : iprop(A0 ∗ A1 ∗ A2 ∗ A3 ∗ A4 ∗ A5 ∗ R) ⊢ iprop(A5 ∗ A0 ∗ A1 ∗ A2 ∗ A3 ∗ A4 ∗ R) :=
  (sep_mono_right pick4).trans swap2
omit [FloatOps F] in
theorem pick6 {A0 A1 A2 A3 A4 A5 A6 R : sProp 𝕄} : iprop(A0 ∗ A1 ∗ A2 ∗ A3 ∗ A4 ∗ A5 ∗ A6 ∗ R) ⊢ iprop(A6 ∗ A0 ∗ A1 ∗ A2 ∗ A3 ∗ A4 ∗ A5 ∗ R) :=
  (sep_mono_right pick5).trans swap2
omit [FloatOps F] in
theorem pick7 {A0 A1 A2 A3 A4 A5 A6 A7 R : sProp 𝕄} : iprop(A0 ∗ A1 ∗ A2 ∗ A3 ∗ A4 ∗ A5 ∗ A6 ∗ A7 ∗ R) ⊢ iprop(A7 ∗ A0 ∗ A1 ∗ A2 ∗ A3 ∗ A4 ∗ A5 ∗ A6 ∗ R) :=
  (sep_mono_right pick6).trans swap2
omit [FloatOps F] in
theorem pick8 {A0 A1 A2 A3 A4 A5 A6 A7 A8 R : sProp 𝕄} : iprop(A0 ∗ A1 ∗ A2 ∗ A3 ∗ A4 ∗ A5 ∗ A6 ∗ A7 ∗ A8 ∗ R) ⊢ iprop(A8 ∗ A0 ∗ A1 ∗ A2 ∗ A3 ∗ A4 ∗ A5 ∗ A6 ∗ A7 ∗ R) :=
  (sep_mono_right pick7).trans swap2
omit [FloatOps F] in
theorem pick9 {A0 A1 A2 A3 A4 A5 A6 A7 A8 A9 R : sProp 𝕄} : iprop(A0 ∗ A1 ∗ A2 ∗ A3 ∗ A4 ∗ A5 ∗ A6 ∗ A7 ∗ A8 ∗ A9 ∗ R) ⊢ iprop(A9 ∗ A0 ∗ A1 ∗ A2 ∗ A3 ∗ A4 ∗ A5 ∗ A6 ∗ A7 ∗ A8 ∗ R) :=
  (sep_mono_right pick8).trans swap2
omit [FloatOps F] in
theorem pick10 {A0 A1 A2 A3 A4 A5 A6 A7 A8 A9 A10 R : sProp 𝕄} : iprop(A0 ∗ A1 ∗ A2 ∗ A3 ∗ A4 ∗ A5 ∗ A6 ∗ A7 ∗ A8 ∗ A9 ∗ A10 ∗ R) ⊢ iprop(A10 ∗ A0 ∗ A1 ∗ A2 ∗ A3 ∗ A4 ∗ A5 ∗ A6 ∗ A7 ∗ A8 ∗ A9 ∗ R) :=
  (sep_mono_right pick9).trans swap2
omit [FloatOps F] in
theorem pick11 {A0 A1 A2 A3 A4 A5 A6 A7 A8 A9 A10 A11 R : sProp 𝕄} : iprop(A0 ∗ A1 ∗ A2 ∗ A3 ∗ A4 ∗ A5 ∗ A6 ∗ A7 ∗ A8 ∗ A9 ∗ A10 ∗ A11 ∗ R) ⊢ iprop(A11 ∗ A0 ∗ A1 ∗ A2 ∗ A3 ∗ A4 ∗ A5 ∗ A6 ∗ A7 ∗ A8 ∗ A9 ∗ A10 ∗ R) :=
  (sep_mono_right pick10).trans swap2
omit [FloatOps F] in
theorem pick12 {A0 A1 A2 A3 A4 A5 A6 A7 A8 A9 A10 A11 A12 R : sProp 𝕄} : iprop(A0 ∗ A1 ∗ A2 ∗ A3 ∗ A4 ∗ A5 ∗ A6 ∗ A7 ∗ A8 ∗ A9 ∗ A10 ∗ A11 ∗ A12 ∗ R) ⊢ iprop(A12 ∗ A0 ∗ A1 ∗ A2 ∗ A3 ∗ A4 ∗ A5 ∗ A6 ∗ A7 ∗ A8 ∗ A9 ∗ A10 ∗ A11 ∗ R) :=
  (sep_mono_right pick11).trans swap2
omit [FloatOps F] in
theorem pick13 {A0 A1 A2 A3 A4 A5 A6 A7 A8 A9 A10 A11 A12 A13 R : sProp 𝕄} : iprop(A0 ∗ A1 ∗ A2 ∗ A3 ∗ A4 ∗ A5 ∗ A6 ∗ A7 ∗ A8 ∗ A9 ∗ A10 ∗ A11 ∗ A12 ∗ A13 ∗ R) ⊢ iprop(A13 ∗ A0 ∗ A1 ∗ A2 ∗ A3 ∗ A4 ∗ A5 ∗ A6 ∗ A7 ∗ A8 ∗ A9 ∗ A10 ∗ A11 ∗ A12 ∗ R) :=
  (sep_mono_right pick12).trans swap2
omit [FloatOps F] in
theorem pick14 {A0 A1 A2 A3 A4 A5 A6 A7 A8 A9 A10 A11 A12 A13 A14 R : sProp 𝕄} : iprop(A0 ∗ A1 ∗ A2 ∗ A3 ∗ A4 ∗ A5 ∗ A6 ∗ A7 ∗ A8 ∗ A9 ∗ A10 ∗ A11 ∗ A12 ∗ A13 ∗ A14 ∗ R) ⊢ iprop(A14 ∗ A0 ∗ A1 ∗ A2 ∗ A3 ∗ A4 ∗ A5 ∗ A6 ∗ A7 ∗ A8 ∗ A9 ∗ A10 ∗ A11 ∗ A12 ∗ A13 ∗ R) :=
  (sep_mono_right pick13).trans swap2
omit [FloatOps F] in
theorem pick15 {A0 A1 A2 A3 A4 A5 A6 A7 A8 A9 A10 A11 A12 A13 A14 A15 R : sProp 𝕄} : iprop(A0 ∗ A1 ∗ A2 ∗ A3 ∗ A4 ∗ A5 ∗ A6 ∗ A7 ∗ A8 ∗ A9 ∗ A10 ∗ A11 ∗ A12 ∗ A13 ∗ A14 ∗ A15 ∗ R) ⊢ iprop(A15 ∗ A0 ∗ A1 ∗ A2 ∗ A3 ∗ A4 ∗ A5 ∗ A6 ∗ A7 ∗ A8 ∗ A9 ∗ A10 ∗ A11 ∗ A12 ∗ A13 ∗ A14 ∗ R) :=
  (sep_mono_right pick14).trans swap2
omit [FloatOps F] in
theorem pick16 {A0 A1 A2 A3 A4 A5 A6 A7 A8 A9 A10 A11 A12 A13 A14 A15 A16 R : sProp 𝕄} : iprop(A0 ∗ A1 ∗ A2 ∗ A3 ∗ A4 ∗ A5 ∗ A6 ∗ A7 ∗ A8 ∗ A9 ∗ A10 ∗ A11 ∗ A12 ∗ A13 ∗ A14 ∗ A15 ∗ A16 ∗ R) ⊢ iprop(A16 ∗ A0 ∗ A1 ∗ A2 ∗ A3 ∗ A4 ∗ A5 ∗ A6 ∗ A7 ∗ A8 ∗ A9 ∗ A10 ∗ A11 ∗ A12 ∗ A13 ∗ A14 ∗ A15 ∗ R) :=
  (sep_mono_right pick15).trans swap2
omit [FloatOps F] in
theorem pick17 {A0 A1 A2 A3 A4 A5 A6 A7 A8 A9 A10 A11 A12 A13 A14 A15 A16 A17 R : sProp 𝕄} : iprop(A0 ∗ A1 ∗ A2 ∗ A3 ∗ A4 ∗ A5 ∗ A6 ∗ A7 ∗ A8 ∗ A9 ∗ A10 ∗ A11 ∗ A12 ∗ A13 ∗ A14 ∗ A15 ∗ A16 ∗ A17 ∗ R) ⊢ iprop(A17 ∗ A0 ∗ A1 ∗ A2 ∗ A3 ∗ A4 ∗ A5 ∗ A6 ∗ A7 ∗ A8 ∗ A9 ∗ A10 ∗ A11 ∗ A12 ∗ A13 ∗ A14 ∗ A15 ∗ A16 ∗ R) :=
  (sep_mono_right pick16).trans swap2
omit [FloatOps F] in
theorem pick18 {A0 A1 A2 A3 A4 A5 A6 A7 A8 A9 A10 A11 A12 A13 A14 A15 A16 A17 A18 R : sProp 𝕄} : iprop(A0 ∗ A1 ∗ A2 ∗ A3 ∗ A4 ∗ A5 ∗ A6 ∗ A7 ∗ A8 ∗ A9 ∗ A10 ∗ A11 ∗ A12 ∗ A13 ∗ A14 ∗ A15 ∗ A16 ∗ A17 ∗ A18 ∗ R) ⊢ iprop(A18 ∗ A0 ∗ A1 ∗ A2 ∗ A3 ∗ A4 ∗ A5 ∗ A6 ∗ A7 ∗ A8 ∗ A9 ∗ A10 ∗ A11 ∗ A12 ∗ A13 ∗ A14 ∗ A15 ∗ A16 ∗ A17 ∗ R) :=
  (sep_mono_right pick17).trans swap2

omit [FloatOps F] in
theorem pack11 {A X R : sProp 𝕄} (h : A ⊢ X) : iprop(A ∗ R) ⊢ iprop(X ∗ R) := sep_mono_left h
omit [FloatOps F] in
theorem pack12 {A X Y R : sProp 𝕄} (h : A ⊢ iprop(X ∗ Y)) : iprop(A ∗ R) ⊢ iprop(X ∗ Y ∗ R) := (sep_mono_left h).trans assoc2'
omit [FloatOps F] in
theorem pack22 {A B X Y R : sProp 𝕄} (h : iprop(A ∗ B) ⊢ iprop(X ∗ Y)) : iprop(A ∗ B ∗ R) ⊢ iprop(X ∗ Y ∗ R) := assoc2.trans (pack12 h)
omit [FloatOps F] in
theorem pack32 {A B C X Y R : sProp 𝕄} (h : iprop(A ∗ B ∗ C) ⊢ iprop(X ∗ Y)) : iprop(A ∗ B ∗ C ∗ R) ⊢ iprop(X ∗ Y ∗ R) := assoc3.trans (pack12 h)
omit [FloatOps F] in
theorem pack23 {A B X Y Z R : sProp 𝕄} (h : iprop(A ∗ B) ⊢ iprop(X ∗ Y ∗ Z)) : iprop(A ∗ B ∗ R) ⊢ iprop(X ∗ Y ∗ Z ∗ R) := (assoc2.trans (sep_mono_left h)).trans assoc3'
omit [FloatOps F] in
theorem pack33 {A B C X Y Z R : sProp 𝕄} (h : iprop(A ∗ B ∗ C) ⊢ iprop(X ∗ Y ∗ Z)) : iprop(A ∗ B ∗ C ∗ R) ⊢ iprop(X ∗ Y ∗ Z ∗ R) := (assoc3.trans (sep_mono_left h)).trans assoc3'

omit [FloatOps F] in
theorem drop3 {X Y Z : sProp 𝕄} : iprop(X ∗ Y ∗ Z) ⊢ iprop(X ∗ Y) := by
  iintro ⟨HX, HY, HZ⟩
  isplitl [HX]; · iexact HX
  iexact HY

section Glue

variable (m : (ℓ : Loc nD τ sig) → Buf (Elt F) ℓ) (K : Dev nD × Fin 99 → ℕ) (c : Dev nD)

theorem redebt {n n' : ℕ} (h : n = n') {R G : sProp 𝕄} (H : iprop(Ctx m K ∗ Debt c n' ∗ R) ⊢ G) : iprop(Ctx m K ∗ Debt c n ∗ R) ⊢ G := by
  subst h
  exact H

theorem WP_bind {α β : Type} {p : Prog (TpuEff nD τ sig (Elt F) Λ₀ .tc) α} {k : α → Prog (TpuEff nD τ sig (Elt F) Λ₀ .tc) β} {Q : β → sProp 𝕄} :
    WP c (p >>= k) Q = WP c p (fun a => WP c (k a) Q) := wp_bind _ _ _ _ _ _

/-- A part of the kernel ends: what follows goes on with what it returns. -/
theorem part_end {α β : Type} {v : α} {k : α → Prog (TpuEff nD τ sig (Elt F) Λ₀ .tc) β} {Q : β → sProp 𝕄} {P : sProp 𝕄} (H : P ⊢ WP c (k v) Q) :
    P ⊢ WP c (pure v) (fun a => WP c (k a) Q) := by
  refine H.trans ?_
  unfold WP
  rw [Prog.pure_eq_ret, wp_ret]
  iintro H
  imodintro
  iexact H

theorem dev_step {n : ℕ} {R : sProp 𝕄} {α : Type} {Q : α → sProp 𝕄} {k : Dev nD → Prog (TpuEff nD τ sig (Elt F) Λ₀ .tc) α}
    (H : iprop(Ctx m K ∗ Debt c n ∗ R) ⊢ WP c (k c) Q) : iprop(Ctx m K ∗ Debt c n ∗ R) ⊢ WP c (Prog.lift .deviceId >>= k) Q := by
  refine H.trans ?_
  unfold WP
  simp only [Prog.lift, Prog.bind_op, Prog.bind_ret, Prog.pure_eq_ret]
  rw [wp_deviceId]

/-- What one chunk's exchanges use, before the barrier has brought the other devices' slots. -/
def Pre (ck : Fin 2) : sProp 𝕄 :=
  iprop(GG c (Idle c 0 ck) ∗ GG c (OwnR c 0 ck) ∗ slotA (bM 0) c ck c ∗ slotA (bM (0 + 1)) c ck c ∗ GG c (At c 0 ck) ∗ GG c (At c (0 + 1) ck) ∗ Fut c ck 5)

omit [FloatOps F] in
theorem bar_ready : iprop((GG c (barPay (F := F) c) ∗ atPos ER (barC c) 1 ∅ 0) ∗ Pre c 0 ∗ Pre c 1) ⊢ iprop(Ready c 0 0 ∗ Ready c 0 1 ∗ atPos ER (barC c) 1 ∅ 0) := by
  have e : GG c (barPay (F := F) c) = iprop(GG c (PermR c 0 0) ∗ GG c (PermR c 0 1)) := by
    rw [← GG_sep]
    rfl
  rw [e]
  unfold Pre Ready
  iintro ⟨⟨⟨HP0, HP1⟩, Hat⟩, ⟨HI0, HO0, HA0, HB0, HT0, HU0, HF0⟩, ⟨HI1, HO1, HA1, HB1, HT1, HU1, HF1⟩⟩
  isplitl [HP0 HI0 HO0 HA0 HB0 HT0 HU0 HF0]
  · isplitl [HI0]; · iexact HI0
    isplitl [HP0]; · iexact HP0
    isplitl [HO0]; · iexact HO0
    isplitl [HA0]; · iexact HA0
    isplitl [HB0]; · iexact HB0
    isplitl [HT0]; · iexact HT0
    isplitl [HU0]; · iexact HU0
    iexact HF0
  isplitl [HP1 HI1 HO1 HA1 HB1 HT1 HU1 HF1]
  · isplitl [HI1]; · iexact HI1
    isplitl [HP1]; · iexact HP1
    isplitl [HO1]; · iexact HO1
    isplitl [HA1]; · iexact HA1
    isplitl [HB1]; · iexact HB1
    isplitl [HT1]; · iexact HT1
    isplitl [HU1]; · iexact HU1
    iexact HF1
  iexact Hat

/-! ### The weights as they land -/

theorem whole_pts (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  rw [show (Memref.whole b).view.set = Finset.univ from View.set_whole b]

theorem wload0 (l : ℕ) (fd f : Vec F S1024x2048 .f32) (h : f = winOf m l c) :
    (wiM.view.loc (c : Thread nD τ) ↦[wiM.view.set]{fullShare} (wiM.view.write (Elt F) fd f Finset.univ) : sProp 𝕄) = LdPts m c 0 l := by
  subst h
  exact (congrArg (fun g => (wiM.view.loc (c : Thread nD τ) ↦[wiM.view.set]{fullShare} g : sProp 𝕄)) (View.write_whole_univ (Val := Elt F) cc0_scratch0 fd _)).trans (whole_pts c cc0_scratch0 (winOf m l c)).symm

theorem wload1 (l : ℕ) (fd f : Vec F S2048x1024 .f32) (h : f = woutOf m l c) :
    (woM.view.loc (c : Thread nD τ) ↦[woM.view.set]{fullShare} (woM.view.write (Elt F) fd f Finset.univ) : sProp 𝕄) = LdPts m c 1 l := by
  subst h
  exact (congrArg (fun g => (woM.view.loc (c : Thread nD τ) ↦[woM.view.set]{fullShare} g : sProp 𝕄)) (View.write_whole_univ (Val := Elt F) cc0_scratch1 fd _)).trans (whole_pts c cc0_scratch1 (woutOf m l c)).symm

/-! ### The partial products the program computes -/

theorem part0_0 : k0_pay4 (k0_pay1 (xHalf m c 0)) (xHalf m c 1) (winOf m 0 c) (woutOf m 0 c) = partP 0 (hid m (0 / 2) c) (woutOf m (0 / 2) c) := by
  show _ = partP 0 (hid m 0 c) (woutOf m 0 c)
  rw [hid_zero]
  rfl
theorem part1_0 : k0_pay21 (k0_pay2 (k0_pay1 (xHalf m c 0)) (xHalf m c 1) (winOf m 0 c)) (k0_pay3 (woutOf m 0 c)) = partP 1 (hid m (0 / 2) c) (woutOf m (0 / 2) c) := by
  show _ = partP 1 (hid m 0 c) (woutOf m 0 c)
  rw [hid_zero]
  rfl
theorem part0_1 : k0_pay78 (k0_pay77 ((k0_pay73 (winOf m 1 c))) (k0_pay74 ((k0_pay73 (winOf m 1 c))) (agV m 0 0)) (agV m 0 1) (woutOf m 1 c)) = partP 0 (hid m (2 / 2) c) (woutOf m (2 / 2) c) := by
  show _ = partP 0 (hid m (0 + 1) c) (woutOf m 1 c)
  rw [hid_succ]
  rfl
theorem part1_1 : k0_pay96 ((k0_pay95 (k0_pay75 ((k0_pay73 (winOf m 1 c))) (k0_pay74 ((k0_pay73 (winOf m 1 c))) (agV m 0 0)) (agV m 0 1)) (k0_pay76 (woutOf m 1 c)))) = partP 1 (hid m (2 / 2) c) (woutOf m (2 / 2) c) := by
  show _ = partP 1 (hid m (0 + 1) c) (woutOf m 1 c)
  rw [hid_succ]
  rfl
theorem part0_2 : k0_pay152 ((k0_pay149 (k0_pay147 (winOf m 2 c)) (k0_pay148 (k0_pay147 (winOf m 2 c)) (agV m 1 0)) (agV m 1 1))) (woutOf m 2 c) = partP 0 (hid m (4 / 2) c) (woutOf m (4 / 2) c) := by
  show _ = partP 0 (hid m (1 + 1) c) (woutOf m 2 c)
  rw [hid_succ]
  rfl
theorem part1_2 : k0_pay169 (k0_pay150 ((k0_pay149 (k0_pay147 (winOf m 2 c)) (k0_pay148 (k0_pay147 (winOf m 2 c)) (agV m 1 0)) (agV m 1 1)))) (k0_pay151 (woutOf m 2 c)) = partP 1 (hid m (4 / 2) c) (woutOf m (4 / 2) c) := by
  show _ = partP 1 (hid m (1 + 1) c) (woutOf m 2 c)
  rw [hid_succ]
  rfl

end Glue

end Cert.KernelIdeal.Mlp
-- ==== Proof.RunA.lean ====
/-
Parts 1 to 23 of the kernel, each run once at a symbolic device: what the device holds before the part, and what it holds after.
-/
module

public import proofs.«01_k».proof.Proof.Glue

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

attribute [local irreducible] Scalar.divsi Scalar.remsi

variable (m : (ℓ : Loc nD τ sig) → Buf (Elt F) ℓ) (K : Dev nD × Fin 99 → ℕ) (c : Dev nD)

theorem run1 {R : sProp 𝕄} {α : Type} {Q : α → sProp 𝕄} {k : _ → Prog (TpuEff nD τ sig (Elt F) Λ₀ .tc) α}
    (H : iprop(Ctx m K ∗ Debt c (7) ∗ loop (AftB (F := F)) (BefB c) 7 ∗ LdOut c 1 0 ∗ LdOut c 0 0 ∗ R) ⊢ WP c (k ⟨c, (myW c), (SemArray.scalar (sig.barrier 0 rfl) : Sems sig S_), (Scalar.extui (Scalar.cmpi .ne (myW c) 7#32 : BitVec 1) : BitVec 32)⟩) Q) :
    iprop(Ctx m K ∗ Debt c (0) ∗ LdReady m c 0 0 ∗ LdReady m c 1 0 ∗ loop (AftB (F := F)) (BefB c) 0 ∗ R)
      ⊢ WP c (k0_part1 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 >>= k) Q := by
  rw [WP_bind, k0_part1_eq_skeleton]
  unfold k0_part1_skel
  refine dev_step m K c ?_
  refine ld_start m K c (i := 0) (l := 0) (by decide) rfl rfl (whole_pts c main_arg1 _) (fun fd => wload0 m c 0 fd _ rfl) rfl ?_
  refine turn m K c pick1 ?_
  refine ld_start m K c (i := 1) (l := 0) (by decide) rfl rfl (whole_pts c main_arg2 _) (fun fd => wload1 m c 0 fd _ rfl) rfl ?_
  refine turn m K c pick2 ?_
  iterate 7
    refine sig_step m K c (by decide) (cond_ne c ⟨_, _⟩) (fun _ => rfl) rfl ?_
  exact part_end c H

theorem run2 {R : sProp 𝕄} {α : Type} {Q : α → sProp 𝕄} {k : _ → Prog (TpuEff nD τ sig (Elt F) Λ₀ .tc) α}
    (H : iprop(Ctx m K ∗ Debt c (16) ∗ CX m c ∗ Ready c 0 0 ∗ Ready c 0 1 ∗ atPos ER (barC c) 1 ∅ 0 ∗ loop (AftB (F := F)) (BefB c) 16 ∗ R) ⊢ WP c (k ((k0_pay1 (xHalf m c 0)))) Q) :
    iprop(Ctx m K ∗ Debt c (7) ∗ loop (AftB (F := F)) (BefB c) 7 ∗ (cred (tallyAt (barC c) 1 15) ∗ atPos ER (barC c) 0 ∅ 0) ∗ Pre c 1 ∗ Pre c 0 ∗ CX m c ∗ R)
      ⊢ WP c (k0_part2 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (SemArray.scalar (sig.barrier 0 rfl) : Sems sig S_) (Scalar.extui (Scalar.cmpi .ne (myW c) 7#32 : BitVec 1) : BitVec 32) >>= k) Q := by
  rw [WP_bind, k0_part2_eq_skeleton]
  unfold k0_part2_skel
  iterate 9
    refine sig_step m K c (by decide) (cond_ne c ⟨_, _⟩) (fun _ => rfl) rfl ?_
  refine turn m K c pick1 ?_
  refine bar_wait m K c rfl ?_
  refine turn m K c pick2 ?_
  refine turn m K c pick3 ?_
  refine turn m K c pick2 ?_
  refine turn m K c (pack33 (bar_ready c)) ?_
  refine turn m K c pick4 ?_
  refine load_x m K c (ck := 0) (v := xHalf m c 0) rfl ?_
  exact part_end c H

theorem run3 {R : sProp 𝕄} {α : Type} {Q : α → sProp 𝕄} {k : _ → Prog (TpuEff nD τ sig (Elt F) Λ₀ .tc) α}
    (H : iprop(Ctx m K ∗ Debt c (nOf 0 0 0) ∗ loopM (AftS m c 0 0) (MidS m c 0 0) (BefS m c 0 0) 0 ∗ Rest1 c 0 0 ∗ LdIn m c 1 0 ∗ LdOut c 0 1 ∗ LdSrc m c 0 0 ∗ CX m c ∗ R) ⊢ WP c (k ⟨k0_pay2 ((k0_pay1 (xHalf m c 0))) (xHalf m c 1) (winOf m 0 c), k0_pay3 (woutOf m 0 c), (Scalar.extui (Scalar.cmpi .ne (myW c) 0#32 : BitVec 1) : BitVec 32)⟩) Q) :
    iprop(Ctx m K ∗ Debt c (16) ∗ CX m c ∗ LdOut c 0 0 ∗ dutyTok ER (ldC c 0) 1 0 ∗ LdSrc m c 0 1 ∗ LdOut c 1 0 ∗ CA c pM 0 ∗ Ready c 0 0 ∗ R)
      ⊢ WP c (k0_part3 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) ((k0_pay1 (xHalf m c 0))) >>= k) Q := by
  rw [WP_bind, k0_part3_eq_skeleton]
  unfold k0_part3_skel
  refine load_x m K c (ck := 1) (v := xHalf m c 1) rfl ?_
  refine turn m K c pick1 ?_
  refine ld_wait m K c (i := 0) (l := 0) (by decide) rfl rfl (by decide) ?_
  refine ld_read0 m K c rfl ?_
  refine turn m K c pick2 ?_
  refine turn m K c pick3 ?_
  refine turn m K c pick2 ?_
  refine turn m K c (pack32 (ld_next m c 0 0)) ?_
  refine ld_start m K c (i := 0) (l := 1) (by decide) rfl rfl (whole_pts c main_arg3 _) (fun fd => wload0 m c 1 fd _ rfl) rfl ?_
  refine turn m K c pick3 ?_
  refine ld_wait m K c (i := 1) (l := 0) (by decide) rfl rfl (by decide) ?_
  refine ld_read1 m K c rfl ?_
  refine turn m K c pick4 ?_
  refine put_part m K c (j := 0) (ck := 0) rfl (part0_0 m c) ?_
  refine turn m K c pick5 ?_
  refine turn m K c pick1 ?_
  refine turn m K c (pack22 (ready_send m c (by decide) _)) ?_
  refine redebt m K c (n' := nOf 0 0 0) rfl ?_
  refine self_rs m K c (by decide) rfl (cond_eq c ⟨_, _⟩) (fun _ => rfl) ?_
  exact part_end c H

theorem run4 {R : sProp 𝕄} {α : Type} {Q : α → sProp 𝕄} {k : _ → Prog (TpuEff nD τ sig (Elt F) Λ₀ .tc) α}
    (H : iprop(Ctx m K ∗ Debt c (nOf 0 0 5) ∗ loopM (AftS m c 0 0) (MidS m c 0 0) (BefS m c 0 0) 5 ∗ R) ⊢ WP c (k ((Scalar.extui (Scalar.cmpi .ne (myW c) 5#32 : BitVec 1) : BitVec 32))) Q) :
    iprop(Ctx m K ∗ Debt c (nOf 0 0 0) ∗ loopM (AftS m c 0 0) (MidS m c 0 0) (BefS m c 0 0) 0 ∗ R)
      ⊢ WP c (k0_part4 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 0#32 : BitVec 1) : BitVec 32) >>= k) Q := by
  rw [WP_bind, k0_part4_eq_skeleton]
  unfold k0_part4_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run5 {R : sProp 𝕄} {α : Type} {Q : α → sProp 𝕄} {k : _ → Prog (TpuEff nD τ sig (Elt F) Λ₀ .tc) α}
    (H : iprop(Ctx m K ∗ Debt c (nOf 0 0 10) ∗ loopM (AftS m c 0 0) (MidS m c 0 0) (BefS m c 0 0) 10 ∗ R) ⊢ WP c (k ((Scalar.extui (Scalar.cmpi .ne (myW c) 10#32 : BitVec 1) : BitVec 32))) Q) :
    iprop(Ctx m K ∗ Debt c (nOf 0 0 5) ∗ loopM (AftS m c 0 0) (MidS m c 0 0) (BefS m c 0 0) 5 ∗ R)
      ⊢ WP c (k0_part5 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 5#32 : BitVec 1) : BitVec 32) >>= k) Q := by
  rw [WP_bind, k0_part5_eq_skeleton]
  unfold k0_part5_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run6 {R : sProp 𝕄} {α : Type} {Q : α → sProp 𝕄} {k : _ → Prog (TpuEff nD τ sig (Elt F) Λ₀ .tc) α}
    (H : iprop(Ctx m K ∗ Debt c (nOf 0 0 15) ∗ loopM (AftS m c 0 0) (MidS m c 0 0) (BefS m c 0 0) 15 ∗ R) ⊢ WP c (k ((Scalar.extui (Scalar.cmpi .ne (myW c) 15#32 : BitVec 1) : BitVec 32))) Q) :
    iprop(Ctx m K ∗ Debt c (nOf 0 0 10) ∗ loopM (AftS m c 0 0) (MidS m c 0 0) (BefS m c 0 0) 10 ∗ R)
      ⊢ WP c (k0_part6 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 10#32 : BitVec 1) : BitVec 32) >>= k) Q := by
  rw [WP_bind, k0_part6_eq_skeleton]
  unfold k0_part6_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run7 {R : sProp 𝕄} {α : Type} {Q : α → sProp 𝕄} {k : _ → Prog (TpuEff nD τ sig (Elt F) Λ₀ .tc) α}
    (H : iprop(Ctx m K ∗ Debt c (nOf 0 1 3) ∗ loopM (AftS m c 0 1) (MidS m c 0 1) (BefS m c 0 1) 3 ∗ Rest1 c 0 1 ∗ loop (AftW m c 0 0) (BefW m c 0 0) 0 ∗ Rest2 m c 0 0 ∗ R) ⊢ WP c (k ((Scalar.cmpi .ne (myW c) 3#32 : BitVec 1))) Q) :
    iprop(Ctx m K ∗ Debt c (nOf 0 0 15) ∗ loopM (AftS m c 0 0) (MidS m c 0 0) (BefS m c 0 0) 15 ∗ Rest1 c 0 0 ∗ CA c pM 1 ∗ Ready c 0 1 ∗ R)
      ⊢ WP c (k0_part7 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (k0_pay2 ((k0_pay1 (xHalf m c 0))) (xHalf m c 1) (winOf m 0 c)) (k0_pay3 (woutOf m 0 c)) (Scalar.extui (Scalar.cmpi .ne (myW c) 15#32 : BitVec 1) : BitVec 32) >>= k) Q := by
  rw [WP_bind, k0_part7_eq_skeleton]
  unfold k0_part7_skel
  refine send_rs m K c (by decide) (by decide) rfl (cond_ne c ⟨_, _⟩) rfl rfl (ClosedOff.eq.trans rfl) (ClosedOff.eq.trans rfl) rfl ?_
  refine turn m K c (pack22 (sent_wait m c _)) ?_
  refine turn m K c pick2 ?_
  refine put_part m K c (j := 0) (ck := 1) rfl (part1_0 m c) ?_
  refine turn m K c pick3 ?_
  refine turn m K c pick1 ?_
  refine turn m K c (pack22 (ready_send m c (by decide) _)) ?_
  refine redebt m K c (n' := nOf 0 1 0) rfl ?_
  iterate 3
    refine self_rs m K c (by decide) rfl (cond_eq c ⟨_, _⟩) (fun _ => rfl) ?_
    refine send_rs m K c (by decide) (by decide) rfl (cond_ne c ⟨_, _⟩) rfl rfl (ClosedOff.eq.trans rfl) (ClosedOff.eq.trans rfl) rfl ?_
  refine self_rs m K c (by decide) rfl (cond_eq c ⟨_, _⟩) (fun _ => rfl) ?_
  exact part_end c H

theorem run8 {R : sProp 𝕄} {α : Type} {Q : α → sProp 𝕄} {k : _ → Prog (TpuEff nD τ sig (Elt F) Λ₀ .tc) α}
    (H : iprop(Ctx m K ∗ Debt c (nOf 0 1 8) ∗ loopM (AftS m c 0 1) (MidS m c 0 1) (BefS m c 0 1) 8 ∗ R) ⊢ WP c (k ((Scalar.cmpi .ne (myW c) 8#32 : BitVec 1))) Q) :
    iprop(Ctx m K ∗ Debt c (nOf 0 1 3) ∗ loopM (AftS m c 0 1) (MidS m c 0 1) (BefS m c 0 1) 3 ∗ R)
      ⊢ WP c (k0_part8 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (myW c) 3#32 : BitVec 1) >>= k) Q := by
  rw [WP_bind, k0_part8_eq_skeleton]
  unfold k0_part8_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run9 {R : sProp 𝕄} {α : Type} {Q : α → sProp 𝕄} {k : _ → Prog (TpuEff nD τ sig (Elt F) Λ₀ .tc) α}
    (H : iprop(Ctx m K ∗ Debt c (nOf 0 1 13) ∗ loopM (AftS m c 0 1) (MidS m c 0 1) (BefS m c 0 1) 13 ∗ R) ⊢ WP c (k ((Scalar.cmpi .ne (myW c) 13#32 : BitVec 1))) Q) :
    iprop(Ctx m K ∗ Debt c (nOf 0 1 8) ∗ loopM (AftS m c 0 1) (MidS m c 0 1) (BefS m c 0 1) 8 ∗ R)
      ⊢ WP c (k0_part9 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (myW c) 8#32 : BitVec 1) >>= k) Q := by
  rw [WP_bind, k0_part9_eq_skeleton]
  unfold k0_part9_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run10 {R : sProp 𝕄} {α : Type} {Q : α → sProp 𝕄} {k : _ → Prog (TpuEff nD τ sig (Elt F) Λ₀ .tc) α}
    (H : iprop(Ctx m K ∗ Debt c (nOf 0 1 16) ∗ loop (AftW m c 0 0) (BefW m c 0 0) 4 ∗ LdOut c 1 1 ∗ LdSrc m c 1 0 ∗ loop (AftW m c 0 1) (BefW m c 0 1) 0 ∗ Rest2 m c 0 1 ∗ R) ⊢ WP c (k ⟨(Scalar.extui (Scalar.cmpi .ne (myW c) 4#32 : BitVec 1) : BitVec 32), 0#32⟩) Q) :
    iprop(Ctx m K ∗ Debt c (nOf 0 1 13) ∗ loopM (AftS m c 0 1) (MidS m c 0 1) (BefS m c 0 1) 13 ∗ Rest1 c 0 1 ∗ dutyTok ER (ldC c 1) 1 0 ∗ LdSrc m c 1 1 ∗ LdIn m c 1 0 ∗ loop (AftW m c 0 0) (BefW m c 0 0) 0 ∗ R)
      ⊢ WP c (k0_part10 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (myW c) 13#32 : BitVec 1) >>= k) Q := by
  rw [WP_bind, k0_part10_eq_skeleton]
  unfold k0_part10_skel
  iterate 2
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  refine send_rs m K c (by decide) (by decide) rfl (cond_ne c ⟨_, _⟩) rfl rfl (ClosedOff.eq.trans rfl) (ClosedOff.eq.trans rfl) rfl ?_
  refine turn m K c (pack22 (sent_wait m c _)) ?_
  refine turn m K c pick2 ?_
  refine turn m K c pick3 ?_
  refine turn m K c pick4 ?_
  refine turn m K c (pack32 (ld_next m c 1 0)) ?_
  refine ld_start m K c (i := 1) (l := 1) (by decide) rfl rfl (whole_pts c main_arg4 _) (fun fd => wload1 m c 1 fd _ rfl) rfl ?_
  refine turn m K c pick4 ?_
  iterate 4
    refine wait_step m K c (j := 0) (ck := 0) (by decide) (by decide) (by decide) (cond_ne c ⟨_, _⟩) (by exact fun _ => rfl) (by exact fun _ => rfl) ?_
  exact part_end c H

theorem run11 {R : sProp 𝕄} {α : Type} {Q : α → sProp 𝕄} {k : _ → Prog (TpuEff nD τ sig (Elt F) Λ₀ .tc) α}
    (H : iprop(Ctx m K ∗ Debt c (nOf 0 1 16) ∗ loop (AftW m c 0 0) (BefW m c 0 0) 14 ∗ R) ⊢ WP c (k ⟨(Scalar.extui (Scalar.cmpi .ne (myW c) 14#32 : BitVec 1) : BitVec 32), 0#32⟩) Q) :
    iprop(Ctx m K ∗ Debt c (nOf 0 1 16) ∗ loop (AftW m c 0 0) (BefW m c 0 0) 4 ∗ R)
      ⊢ WP c (k0_part11 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 4#32 : BitVec 1) : BitVec 32) (0#32) >>= k) Q := by
  rw [WP_bind, k0_part11_eq_skeleton]
  unfold k0_part11_skel
  iterate 10
    refine wait_step m K c (j := 0) (ck := 0) (by decide) (by decide) (by decide) (cond_ne c ⟨_, _⟩) (by exact fun _ => rfl) (by exact fun _ => rfl) ?_
  exact part_end c H

theorem run12 {R : sProp 𝕄} {α : Type} {Q : α → sProp 𝕄} {k : _ → Prog (TpuEff nD τ sig (Elt F) Λ₀ .tc) α}
    (H : iprop(Ctx m K ∗ Debt c (nOf 0 1 16) ∗ loop (AftD m c 0 0) (BefD m c 0 0) 5 ∗ Srcs m c 1 0 ∗ Rest3 c 0 0 ∗ R) ⊢ WP c (k ((Scalar.cmpi .ne (Scalar.extui (Scalar.cmpi .ne (myW c) 5#32 : BitVec 1) : BitVec 32) 0#32 : BitVec 1))) Q) :
    iprop(Ctx m K ∗ Debt c (nOf 0 1 16) ∗ loop (AftW m c 0 0) (BefW m c 0 0) 14 ∗ Rest2 m c 0 0 ∗ CY c 0 ∗ R)
      ⊢ WP c (k0_part12 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 14#32 : BitVec 1) : BitVec 32) (0#32) >>= k) Q := by
  rw [WP_bind, k0_part12_eq_skeleton]
  unfold k0_part12_skel
  iterate 2
    refine wait_step m K c (j := 0) (ck := 0) (by decide) (by decide) (by decide) (cond_ne c ⟨_, _⟩) (by exact fun _ => rfl) (by exact fun _ => rfl) ?_
  refine turn m K c (pack12 (wait_end m c _)) ?_
  refine load_arr m K c (j := 0) (ck := 0) rfl (arrV_even m c (by decide) _) ?_
  refine turn m K c pick1 ?_
  refine turn m K c pick2 ?_
  refine turn m K c (pack32 (drain_start m c _)) ?_
  refine turn m K c pick2 ?_
  refine put_y m K c (j := 1) (ck := 0) (by decide) rfl ?_
  refine turn m K c pick1 ?_
  iterate 5
    refine drain_step m K c (j := 0) (ck := 0) (by decide) (by decide) (cond_ne c ⟨_, _⟩) (by exact fun _ => rfl) (by exact fun _ => rfl) ?_
  exact part_end c H

theorem run13 {R : sProp 𝕄} {α : Type} {Q : α → sProp 𝕄} {k : _ → Prog (TpuEff nD τ sig (Elt F) Λ₀ .tc) α}
    (H : iprop(Ctx m K ∗ Debt c (nOf 0 1 16) ∗ loop (AftD m c 0 0) (BefD m c 0 0) 15 ∗ R) ⊢ WP c (k ((Scalar.cmpi .ne (Scalar.extui (Scalar.cmpi .ne (myW c) 15#32 : BitVec 1) : BitVec 32) 0#32 : BitVec 1))) Q) :
    iprop(Ctx m K ∗ Debt c (nOf 0 1 16) ∗ loop (AftD m c 0 0) (BefD m c 0 0) 5 ∗ R)
      ⊢ WP c (k0_part13 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.cmpi .ne (Scalar.extui (Scalar.cmpi .ne (myW c) 5#32 : BitVec 1) : BitVec 32) 0#32 : BitVec 1) >>= k) Q := by
  rw [WP_bind, k0_part13_eq_skeleton]
  unfold k0_part13_skel
  iterate 10
    refine drain_step m K c (j := 0) (ck := 0) (by decide) (by decide) (cond_ne c ⟨_, _⟩) (by exact fun _ => rfl) (by exact fun _ => rfl) ?_
  exact part_end c H

theorem run14 {R : sProp 𝕄} {α : Type} {Q : α → sProp 𝕄} {k : _ → Prog (TpuEff nD τ sig (Elt F) Λ₀ .tc) α}
    (H : iprop(Ctx m K ∗ Debt c (nOf 1 0 4) ∗ loopM (AftS m c 1 0) (MidS m c 1 0) (BefS m c 1 0) 4 ∗ Rest1 c 1 0 ∗ CA c pM 0 ∗ R) ⊢ WP c (k ⟨⟩) Q) :
    iprop(Ctx m K ∗ Debt c (nOf 0 1 16) ∗ loop (AftD m c 0 0) (BefD m c 0 0) 15 ∗ Rest3 c 0 0 ∗ Srcs m c 1 0 ∗ R)
      ⊢ WP c (k0_part14 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (Scalar.extui (Scalar.cmpi .ne (myW c) 15#32 : BitVec 1) : BitVec 32) 0#32 : BitVec 1) >>= k) Q := by
  rw [WP_bind, k0_part14_eq_skeleton]
  unfold k0_part14_skel
  refine drain_step m K c (j := 0) (ck := 0) (by decide) (by decide) (cond_ne c ⟨_, _⟩) (by exact fun _ => rfl) (by exact fun _ => rfl) ?_
  refine turn m K c (pack22 ((drain_end m c _).trans drop3)) ?_
  refine turn m K c (pack11 (srcs_even m c rfl _)) ?_
  refine turn m K c pick1 ?_
  refine turn m K c pick2 ?_
  refine turn m K c (pack22 (ready_send m c (by decide) _)) ?_
  refine redebt m K c (n' := nOf 1 0 0) rfl ?_
  iterate 4
    refine self_ag m K c (by decide) (by decide) (cond_eq c ⟨_, _⟩) (fun _ => rfl) ?_
    refine send_ag m K c (by decide) (by decide) (by decide) (cond_ne c ⟨_, _⟩) rfl rfl (ClosedOff.eq.trans rfl) (ClosedOff.eq.trans rfl) rfl ?_
  refine self_ag m K c (by decide) (by decide) (cond_eq c ⟨_, _⟩) (fun _ => rfl) ?_
  exact part_end c H

theorem run15 {R : sProp 𝕄} {α : Type} {Q : α → sProp 𝕄} {k : _ → Prog (TpuEff nD τ sig (Elt F) Λ₀ .tc) α}
    (H : iprop(Ctx m K ∗ Debt c (nOf 1 0 9) ∗ loopM (AftS m c 1 0) (MidS m c 1 0) (BefS m c 1 0) 9 ∗ R) ⊢ WP c (k ⟨⟩) Q) :
    iprop(Ctx m K ∗ Debt c (nOf 1 0 4) ∗ loopM (AftS m c 1 0) (MidS m c 1 0) (BefS m c 1 0) 4 ∗ R)
      ⊢ WP c (k0_part15 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part15_eq_skeleton]
  unfold k0_part15_skel
  iterate 5
    refine send_ag m K c (by decide) (by decide) (by decide) (cond_ne c ⟨_, _⟩) rfl rfl (ClosedOff.eq.trans rfl) (ClosedOff.eq.trans rfl) rfl ?_
    refine self_ag m K c (by decide) (by decide) (cond_eq c ⟨_, _⟩) (fun _ => rfl) ?_
  exact part_end c H

theorem run16 {R : sProp 𝕄} {α : Type} {Q : α → sProp 𝕄} {k : _ → Prog (TpuEff nD τ sig (Elt F) Λ₀ .tc) α}
    (H : iprop(Ctx m K ∗ Debt c (nOf 1 0 14) ∗ loopM (AftS m c 1 0) (MidS m c 1 0) (BefS m c 1 0) 14 ∗ R) ⊢ WP c (k ⟨⟩) Q) :
    iprop(Ctx m K ∗ Debt c (nOf 1 0 9) ∗ loopM (AftS m c 1 0) (MidS m c 1 0) (BefS m c 1 0) 9 ∗ R)
      ⊢ WP c (k0_part16 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part16_eq_skeleton]
  unfold k0_part16_skel
  iterate 5
    refine send_ag m K c (by decide) (by decide) (by decide) (cond_ne c ⟨_, _⟩) rfl rfl (ClosedOff.eq.trans rfl) (ClosedOff.eq.trans rfl) rfl ?_
    refine self_ag m K c (by decide) (by decide) (cond_eq c ⟨_, _⟩) (fun _ => rfl) ?_
  exact part_end c H

theorem run17 {R : sProp 𝕄} {α : Type} {Q : α → sProp 𝕄} {k : _ → Prog (TpuEff nD τ sig (Elt F) Λ₀ .tc) α}
    (H : iprop(Ctx m K ∗ Debt c (nOf 1 0 16) ∗ loop (AftW m c 0 1) (BefW m c 0 1) 7 ∗ loop (AftW m c 1 0) (BefW m c 1 0) 0 ∗ Rest2 m c 1 0 ∗ R) ⊢ WP c (k ((Scalar.cmpi .ne (Scalar.extui (Scalar.cmpi .ne (myW c) 7#32 : BitVec 1) : BitVec 32) 0#32 : BitVec 1))) Q) :
    iprop(Ctx m K ∗ Debt c (nOf 1 0 14) ∗ loopM (AftS m c 1 0) (MidS m c 1 0) (BefS m c 1 0) 14 ∗ Rest1 c 1 0 ∗ loop (AftW m c 0 1) (BefW m c 0 1) 0 ∗ R)
      ⊢ WP c (k0_part17 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part17_eq_skeleton]
  unfold k0_part17_skel
  refine send_ag m K c (by decide) (by decide) (by decide) (cond_ne c ⟨_, _⟩) rfl rfl (ClosedOff.eq.trans rfl) (ClosedOff.eq.trans rfl) rfl ?_
  refine self_ag m K c (by decide) (by decide) (cond_eq c ⟨_, _⟩) (fun _ => rfl) ?_
  refine send_ag m K c (by decide) (by decide) (by decide) (cond_ne c ⟨_, _⟩) rfl rfl (ClosedOff.eq.trans rfl) (ClosedOff.eq.trans rfl) rfl ?_
  refine turn m K c (pack22 (sent_wait m c _)) ?_
  refine turn m K c pick2 ?_
  iterate 7
    refine wait_step m K c (j := 0) (ck := 1) (by decide) (by decide) (by decide) (cond_ne c ⟨_, _⟩) (by exact fun _ => rfl) (by exact fun _ => rfl) ?_
  exact part_end c H

theorem run18 {R : sProp 𝕄} {α : Type} {Q : α → sProp 𝕄} {k : _ → Prog (TpuEff nD τ sig (Elt F) Λ₀ .tc) α}
    (H : iprop(Ctx m K ∗ Debt c (nOf 1 0 16) ∗ loop (AftD m c 0 1) (BefD m c 0 1) 0 ∗ Rest3 c 0 1 ∗ R) ⊢ WP c (k ((k0_pay55 (rsV m 0 c 1)))) Q) :
    iprop(Ctx m K ∗ Debt c (nOf 1 0 16) ∗ loop (AftW m c 0 1) (BefW m c 0 1) 7 ∗ Rest2 m c 0 1 ∗ R)
      ⊢ WP c (k0_part18 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.cmpi .ne (Scalar.extui (Scalar.cmpi .ne (myW c) 7#32 : BitVec 1) : BitVec 32) 0#32 : BitVec 1) >>= k) Q := by
  rw [WP_bind, k0_part18_eq_skeleton]
  unfold k0_part18_skel
  iterate 9
    refine wait_step m K c (j := 0) (ck := 1) (by decide) (by decide) (by decide) (cond_ne c ⟨_, _⟩) (by exact fun _ => rfl) (by exact fun _ => rfl) ?_
  refine turn m K c (pack12 (wait_end m c _)) ?_
  refine load_arr m K c (j := 0) (ck := 1) rfl (arrV_even m c (by decide) _) ?_
  refine turn m K c pick1 ?_
  refine turn m K c pick2 ?_
  refine turn m K c (pack32 (drain_start m c _)) ?_
  exact part_end c H

theorem run19 {R : sProp 𝕄} {α : Type} {Q : α → sProp 𝕄} {k : _ → Prog (TpuEff nD τ sig (Elt F) Λ₀ .tc) α}
    (H : iprop(Ctx m K ∗ Debt c (nOf 1 0 16) ∗ loop (AftD m c 0 1) (BefD m c 0 1) 9 ∗ Srcs m c 1 1 ∗ R) ⊢ WP c (k ⟨⟩) Q) :
    iprop(Ctx m K ∗ Debt c (nOf 1 0 16) ∗ CY c 1 ∗ loop (AftD m c 0 1) (BefD m c 0 1) 0 ∗ R)
      ⊢ WP c (k0_part19 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) ((k0_pay55 (rsV m 0 c 1))) >>= k) Q := by
  rw [WP_bind, k0_part19_eq_skeleton]
  unfold k0_part19_skel
  refine put_y m K c (j := 1) (ck := 1) (by decide) rfl ?_
  refine turn m K c pick1 ?_
  iterate 9
    refine drain_step m K c (j := 0) (ck := 1) (by decide) (by decide) (cond_ne c ⟨_, _⟩) (by exact fun _ => rfl) (by exact fun _ => rfl) ?_
  exact part_end c H

theorem run20 {R : sProp 𝕄} {α : Type} {Q : α → sProp 𝕄} {k : _ → Prog (TpuEff nD τ sig (Elt F) Λ₀ .tc) α}
    (H : iprop(Ctx m K ∗ Debt c (nOf 1 1 1) ∗ loopM (AftS m c 1 1) (MidS m c 1 1) (BefS m c 1 1) 1 ∗ Rest1 c 1 1 ∗ CA c pM 1 ∗ R) ⊢ WP c (k ⟨⟩) Q) :
    iprop(Ctx m K ∗ Debt c (nOf 1 0 16) ∗ loop (AftD m c 0 1) (BefD m c 0 1) 9 ∗ Rest3 c 0 1 ∗ Srcs m c 1 1 ∗ R)
      ⊢ WP c (k0_part20 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part20_eq_skeleton]
  unfold k0_part20_skel
  iterate 7
    refine drain_step m K c (j := 0) (ck := 1) (by decide) (by decide) (cond_ne c ⟨_, _⟩) (by exact fun _ => rfl) (by exact fun _ => rfl) ?_
  refine turn m K c (pack22 ((drain_end m c _).trans drop3)) ?_
  refine turn m K c (pack11 (srcs_even m c rfl _)) ?_
  refine turn m K c pick1 ?_
  refine turn m K c pick2 ?_
  refine turn m K c (pack22 (ready_send m c (by decide) _)) ?_
  refine redebt m K c (n' := nOf 1 1 0) rfl ?_
  refine self_ag m K c (by decide) (by decide) (cond_eq c ⟨_, _⟩) (fun _ => rfl) ?_
  refine send_ag m K c (by decide) (by decide) (by decide) (cond_ne c ⟨_, _⟩) rfl rfl (ClosedOff.eq.trans rfl) (ClosedOff.eq.trans rfl) rfl ?_
  refine self_ag m K c (by decide) (by decide) (cond_eq c ⟨_, _⟩) (fun _ => rfl) ?_
  exact part_end c H

theorem run21 {R : sProp 𝕄} {α : Type} {Q : α → sProp 𝕄} {k : _ → Prog (TpuEff nD τ sig (Elt F) Λ₀ .tc) α}
    (H : iprop(Ctx m K ∗ Debt c (nOf 1 1 6) ∗ loopM (AftS m c 1 1) (MidS m c 1 1) (BefS m c 1 1) 6 ∗ R) ⊢ WP c (k ⟨⟩) Q) :
    iprop(Ctx m K ∗ Debt c (nOf 1 1 1) ∗ loopM (AftS m c 1 1) (MidS m c 1 1) (BefS m c 1 1) 1 ∗ R)
      ⊢ WP c (k0_part21 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part21_eq_skeleton]
  unfold k0_part21_skel
  iterate 5
    refine send_ag m K c (by decide) (by decide) (by decide) (cond_ne c ⟨_, _⟩) rfl rfl (ClosedOff.eq.trans rfl) (ClosedOff.eq.trans rfl) rfl ?_
    refine self_ag m K c (by decide) (by decide) (cond_eq c ⟨_, _⟩) (fun _ => rfl) ?_
  exact part_end c H

theorem run22 {R : sProp 𝕄} {α : Type} {Q : α → sProp 𝕄} {k : _ → Prog (TpuEff nD τ sig (Elt F) Λ₀ .tc) α}
    (H : iprop(Ctx m K ∗ Debt c (nOf 1 1 11) ∗ loopM (AftS m c 1 1) (MidS m c 1 1) (BefS m c 1 1) 11 ∗ R) ⊢ WP c (k ⟨⟩) Q) :
    iprop(Ctx m K ∗ Debt c (nOf 1 1 6) ∗ loopM (AftS m c 1 1) (MidS m c 1 1) (BefS m c 1 1) 6 ∗ R)
      ⊢ WP c (k0_part22 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part22_eq_skeleton]
  unfold k0_part22_skel
  iterate 5
    refine send_ag m K c (by decide) (by decide) (by decide) (cond_ne c ⟨_, _⟩) rfl rfl (ClosedOff.eq.trans rfl) (ClosedOff.eq.trans rfl) rfl ?_
    refine self_ag m K c (by decide) (by decide) (cond_eq c ⟨_, _⟩) (fun _ => rfl) ?_
  exact part_end c H

theorem run23 {R : sProp 𝕄} {α : Type} {Q : α → sProp 𝕄} {k : _ → Prog (TpuEff nD τ sig (Elt F) Λ₀ .tc) α}
    (H : iprop(Ctx m K ∗ Debt c (nOf 1 1 16) ∗ LdIn m c 0 1 ∗ loop (AftW m c 1 1) (BefW m c 1 1) 0 ∗ Rest2 m c 1 1 ∗ R) ⊢ WP c (k ⟨⟩) Q) :
    iprop(Ctx m K ∗ Debt c (nOf 1 1 11) ∗ loopM (AftS m c 1 1) (MidS m c 1 1) (BefS m c 1 1) 11 ∗ Rest1 c 1 1 ∗ LdOut c 0 1 ∗ R)
      ⊢ WP c (k0_part23 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part23_eq_skeleton]
  unfold k0_part23_skel
  iterate 4
    refine send_ag m K c (by decide) (by decide) (by decide) (cond_ne c ⟨_, _⟩) rfl rfl (ClosedOff.eq.trans rfl) (ClosedOff.eq.trans rfl) rfl ?_
    refine self_ag m K c (by decide) (by decide) (cond_eq c ⟨_, _⟩) (fun _ => rfl) ?_
  refine send_ag m K c (by decide) (by decide) (by decide) (cond_ne c ⟨_, _⟩) rfl rfl (ClosedOff.eq.trans rfl) (ClosedOff.eq.trans rfl) rfl ?_
  refine turn m K c (pack22 (sent_wait m c _)) ?_
  refine turn m K c pick2 ?_
  refine ld_wait m K c (i := 0) (l := 1) (by decide) rfl rfl (by decide) ?_
  exact part_end c H

end Cert.KernelIdeal.Mlp
-- ==== Proof.RunB.lean ====
/-
Parts 24 to 40 of the kernel, each run once at a symbolic device: what the device holds before the part, and what it holds after.
-/
module

public import proofs.«01_k».proof.Proof.Glue

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

attribute [local irreducible] Scalar.divsi Scalar.remsi

variable (m : (ℓ : Loc nD τ sig) → Buf (Elt F) ℓ) (K : Dev nD × Fin 99 → ℕ) (c : Dev nD)

theorem run24 {R : sProp 𝕄} {α : Type} {Q : α → sProp 𝕄} {k : _ → Prog (TpuEff nD τ sig (Elt F) Λ₀ .tc) α}
    (H : iprop(Ctx m K ∗ Debt c (nOf 1 1 16) ∗ loop (AftW m c 1 0) (BefW m c 1 0) 9 ∗ LdOut c 0 2 ∗ LdSrc m c 0 1 ∗ R) ⊢ WP c (k ((k0_pay73 (winOf m 1 c)))) Q) :
    iprop(Ctx m K ∗ Debt c (nOf 1 1 16) ∗ LdIn m c 0 1 ∗ dutyTok ER (ldC c 0) 2 0 ∗ LdSrc m c 0 2 ∗ loop (AftW m c 1 0) (BefW m c 1 0) 0 ∗ R)
      ⊢ WP c (k0_part24 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) >>= k) Q := by
  rw [WP_bind, k0_part24_eq_skeleton]
  unfold k0_part24_skel
  refine ld_read0 m K c rfl ?_
  refine turn m K c pick1 ?_
  iterate 2
    refine turn m K c pick2 ?_
  refine turn m K c (pack32 (ld_next m c 0 1)) ?_
  refine ld_start m K c (i := 0) (l := 2) (by decide) rfl rfl (whole_pts c main_arg5 _) (fun fd => wload0 m c 2 fd _ rfl) rfl ?_
  refine turn m K c pick2 ?_
  iterate 9
    refine wait_step m K c (j := 1) (ck := 0) (by decide) (by decide) (by decide) (cond_ne c ⟨_, _⟩) (by exact fun _ => rfl) (by exact fun _ => rfl) ?_
  exact part_end c H

theorem run25 {R : sProp 𝕄} {α : Type} {Q : α → sProp 𝕄} {k : _ → Prog (TpuEff nD τ sig (Elt F) Λ₀ .tc) α}
    (H : iprop(Ctx m K ∗ Debt c (nOf 1 1 16) ∗ loop (AftW m c 1 1) (BefW m c 1 1) 1 ∗ loop (AftD m c 1 0) (BefD m c 1 0) 0 ∗ Rest3 c 1 0 ∗ R) ⊢ WP c (k ⟨k0_pay74 ((k0_pay73 (winOf m 1 c))) (agV m 0 0), (Scalar.cmpi .ne (myW c) 1#32 : BitVec 1)⟩) Q) :
    iprop(Ctx m K ∗ Debt c (nOf 1 1 16) ∗ loop (AftW m c 1 0) (BefW m c 1 0) 9 ∗ Rest2 m c 1 0 ∗ loop (AftW m c 1 1) (BefW m c 1 1) 0 ∗ R)
      ⊢ WP c (k0_part25 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) ((k0_pay73 (winOf m 1 c))) >>= k) Q := by
  rw [WP_bind, k0_part25_eq_skeleton]
  unfold k0_part25_skel
  iterate 7
    refine wait_step m K c (j := 1) (ck := 0) (by decide) (by decide) (by decide) (cond_ne c ⟨_, _⟩) (by exact fun _ => rfl) (by exact fun _ => rfl) ?_
  refine turn m K c (pack12 (wait_end m c _)) ?_
  refine load_arr m K c (j := 1) (ck := 0) rfl (arrV_odd m c (by decide) _) ?_
  refine turn m K c pick1 ?_
  refine turn m K c pick2 ?_
  refine turn m K c (pack32 (drain_start m c _)) ?_
  refine turn m K c pick2 ?_
  refine wait_step m K c (j := 1) (ck := 1) (by decide) (by decide) (by decide) (cond_ne c ⟨_, _⟩) (by exact fun _ => rfl) (by exact fun _ => rfl) ?_
  exact part_end c H

theorem run26 {R : sProp 𝕄} {α : Type} {Q : α → sProp 𝕄} {k : _ → Prog (TpuEff nD τ sig (Elt F) Λ₀ .tc) α}
    (H : iprop(Ctx m K ∗ Debt c (nOf 1 1 16) ∗ loop (AftW m c 1 1) (BefW m c 1 1) 11 ∗ R) ⊢ WP c (k ((Scalar.cmpi .ne (myW c) 11#32 : BitVec 1))) Q) :
    iprop(Ctx m K ∗ Debt c (nOf 1 1 16) ∗ loop (AftW m c 1 1) (BefW m c 1 1) 1 ∗ R)
      ⊢ WP c (k0_part26 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.cmpi .ne (myW c) 1#32 : BitVec 1) >>= k) Q := by
  rw [WP_bind, k0_part26_eq_skeleton]
  unfold k0_part26_skel
  iterate 10
    refine wait_step m K c (j := 1) (ck := 1) (by decide) (by decide) (by decide) (cond_ne c ⟨_, _⟩) (by exact fun _ => rfl) (by exact fun _ => rfl) ?_
  exact part_end c H

theorem run27 {R : sProp 𝕄} {α : Type} {Q : α → sProp 𝕄} {k : _ → Prog (TpuEff nD τ sig (Elt F) Λ₀ .tc) α}
    (H : iprop(Ctx m K ∗ Debt c (nOf 1 1 16) ∗ LdIn m c 1 1 ∗ loop (AftD m c 1 1) (BefD m c 1 1) 0 ∗ Rest3 c 1 1 ∗ R) ⊢ WP c (k ⟨k0_pay75 ((k0_pay73 (winOf m 1 c))) (k0_pay74 ((k0_pay73 (winOf m 1 c))) (agV m 0 0)) (agV m 0 1), k0_pay76 (woutOf m 1 c), k0_pay77 ((k0_pay73 (winOf m 1 c))) (k0_pay74 ((k0_pay73 (winOf m 1 c))) (agV m 0 0)) (agV m 0 1) (woutOf m 1 c)⟩) Q) :
    iprop(Ctx m K ∗ Debt c (nOf 1 1 16) ∗ loop (AftW m c 1 1) (BefW m c 1 1) 11 ∗ Rest2 m c 1 1 ∗ LdOut c 1 1 ∗ R)
      ⊢ WP c (k0_part27 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) ((k0_pay73 (winOf m 1 c))) (k0_pay74 ((k0_pay73 (winOf m 1 c))) (agV m 0 0)) (Scalar.cmpi .ne (myW c) 11#32 : BitVec 1) >>= k) Q := by
  rw [WP_bind, k0_part27_eq_skeleton]
  unfold k0_part27_skel
  iterate 5
    refine wait_step m K c (j := 1) (ck := 1) (by decide) (by decide) (by decide) (cond_ne c ⟨_, _⟩) (by exact fun _ => rfl) (by exact fun _ => rfl) ?_
  refine turn m K c (pack12 (wait_end m c _)) ?_
  refine load_arr m K c (j := 1) (ck := 1) rfl (arrV_odd m c (by decide) _) ?_
  refine turn m K c pick1 ?_
  refine turn m K c pick2 ?_
  refine turn m K c (pack32 (drain_start m c _)) ?_
  refine turn m K c pick2 ?_
  refine ld_wait m K c (i := 1) (l := 1) (by decide) rfl rfl (by decide) ?_
  refine ld_read1 m K c rfl ?_
  exact part_end c H

theorem run28 {R : sProp 𝕄} {α : Type} {Q : α → sProp 𝕄} {k : _ → Prog (TpuEff nD τ sig (Elt F) Λ₀ .tc) α}
    (H : iprop(Ctx m K ∗ Debt c (nOf 1 1 16) ∗ loop (AftD m c 1 0) (BefD m c 1 0) 9 ∗ Srcs m c 2 0 ∗ R) ⊢ WP c (k ((Scalar.cmpi .ne (myW c) 9#32 : BitVec 1))) Q) :
    iprop(Ctx m K ∗ Debt c (nOf 1 1 16) ∗ CA c pM 0 ∗ loop (AftD m c 1 0) (BefD m c 1 0) 0 ∗ R)
      ⊢ WP c (k0_part28 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (k0_pay77 ((k0_pay73 (winOf m 1 c))) (k0_pay74 ((k0_pay73 (winOf m 1 c))) (agV m 0 0)) (agV m 0 1) (woutOf m 1 c)) >>= k) Q := by
  rw [WP_bind, k0_part28_eq_skeleton]
  unfold k0_part28_skel
  refine put_part m K c (j := 2) (ck := 0) rfl (part0_1 m c) ?_
  refine turn m K c pick1 ?_
  iterate 9
    refine drain_step m K c (j := 1) (ck := 0) (by decide) (by decide) (cond_ne c ⟨_, _⟩) (by exact fun _ => rfl) (by exact fun _ => rfl) ?_
  exact part_end c H

theorem run29 {R : sProp 𝕄} {α : Type} {Q : α → sProp 𝕄} {k : _ → Prog (TpuEff nD τ sig (Elt F) Λ₀ .tc) α}
    (H : iprop(Ctx m K ∗ Debt c (nOf 2 0 1) ∗ loopM (AftS m c 2 0) (MidS m c 2 0) (BefS m c 2 0) 1 ∗ Rest1 c 2 0 ∗ CY c 0 ∗ R) ⊢ WP c (k ((Scalar.cmpi .ne (myW c) 1#32 : BitVec 1))) Q) :
    iprop(Ctx m K ∗ Debt c (nOf 1 1 16) ∗ loop (AftD m c 1 0) (BefD m c 1 0) 9 ∗ Rest3 c 1 0 ∗ Srcs m c 2 0 ∗ R)
      ⊢ WP c (k0_part29 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (myW c) 9#32 : BitVec 1) >>= k) Q := by
  rw [WP_bind, k0_part29_eq_skeleton]
  unfold k0_part29_skel
  iterate 7
    refine drain_step m K c (j := 1) (ck := 0) (by decide) (by decide) (cond_ne c ⟨_, _⟩) (by exact fun _ => rfl) (by exact fun _ => rfl) ?_
  refine turn m K c (pack22 ((drain_end m c _).trans drop3)) ?_
  refine turn m K c (pack11 (srcs_CY m c (by decide) _)) ?_
  refine turn m K c pick1 ?_
  refine turn m K c pick2 ?_
  refine turn m K c (pack22 (ready_send m c (by decide) _)) ?_
  refine redebt m K c (n' := nOf 2 0 0) rfl ?_
  refine self_rs m K c (by decide) rfl (cond_eq c ⟨_, _⟩) (fun _ => rfl) ?_
  refine send_rs m K c (by decide) (by decide) rfl (cond_ne c ⟨_, _⟩) rfl rfl (ClosedOff.eq.trans rfl) (ClosedOff.eq.trans rfl) rfl ?_
  refine self_rs m K c (by decide) rfl (cond_eq c ⟨_, _⟩) (fun _ => rfl) ?_
  exact part_end c H

theorem run30 {R : sProp 𝕄} {α : Type} {Q : α → sProp 𝕄} {k : _ → Prog (TpuEff nD τ sig (Elt F) Λ₀ .tc) α}
    (H : iprop(Ctx m K ∗ Debt c (nOf 2 0 6) ∗ loopM (AftS m c 2 0) (MidS m c 2 0) (BefS m c 2 0) 6 ∗ R) ⊢ WP c (k ((Scalar.cmpi .ne (myW c) 6#32 : BitVec 1))) Q) :
    iprop(Ctx m K ∗ Debt c (nOf 2 0 1) ∗ loopM (AftS m c 2 0) (MidS m c 2 0) (BefS m c 2 0) 1 ∗ R)
      ⊢ WP c (k0_part30 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (myW c) 1#32 : BitVec 1) >>= k) Q := by
  rw [WP_bind, k0_part30_eq_skeleton]
  unfold k0_part30_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run31 {R : sProp 𝕄} {α : Type} {Q : α → sProp 𝕄} {k : _ → Prog (TpuEff nD τ sig (Elt F) Λ₀ .tc) α}
    (H : iprop(Ctx m K ∗ Debt c (nOf 2 0 11) ∗ loopM (AftS m c 2 0) (MidS m c 2 0) (BefS m c 2 0) 11 ∗ R) ⊢ WP c (k ((Scalar.cmpi .ne (myW c) 11#32 : BitVec 1))) Q) :
    iprop(Ctx m K ∗ Debt c (nOf 2 0 6) ∗ loopM (AftS m c 2 0) (MidS m c 2 0) (BefS m c 2 0) 6 ∗ R)
      ⊢ WP c (k0_part31 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (myW c) 6#32 : BitVec 1) >>= k) Q := by
  rw [WP_bind, k0_part31_eq_skeleton]
  unfold k0_part31_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run32 {R : sProp 𝕄} {α : Type} {Q : α → sProp 𝕄} {k : _ → Prog (TpuEff nD τ sig (Elt F) Λ₀ .tc) α}
    (H : iprop(Ctx m K ∗ Debt c (nOf 2 0 16) ∗ loop (AftW m c 2 0) (BefW m c 2 0) 0 ∗ Rest2 m c 2 0 ∗ R) ⊢ WP c (k ((k0_pay95 (k0_pay75 ((k0_pay73 (winOf m 1 c))) (k0_pay74 ((k0_pay73 (winOf m 1 c))) (agV m 0 0)) (agV m 0 1)) (k0_pay76 (woutOf m 1 c))))) Q) :
    iprop(Ctx m K ∗ Debt c (nOf 2 0 11) ∗ loopM (AftS m c 2 0) (MidS m c 2 0) (BefS m c 2 0) 11 ∗ Rest1 c 2 0 ∗ R)
      ⊢ WP c (k0_part32 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (k0_pay75 ((k0_pay73 (winOf m 1 c))) (k0_pay74 ((k0_pay73 (winOf m 1 c))) (agV m 0 0)) (agV m 0 1)) (k0_pay76 (woutOf m 1 c)) (Scalar.cmpi .ne (myW c) 11#32 : BitVec 1) >>= k) Q := by
  rw [WP_bind, k0_part32_eq_skeleton]
  unfold k0_part32_skel
  iterate 4
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  refine send_rs m K c (by decide) (by decide) rfl (cond_ne c ⟨_, _⟩) rfl rfl (ClosedOff.eq.trans rfl) (ClosedOff.eq.trans rfl) rfl ?_
  refine turn m K c (pack22 (sent_wait m c _)) ?_
  exact part_end c H

theorem run33 {R : sProp 𝕄} {α : Type} {Q : α → sProp 𝕄} {k : _ → Prog (TpuEff nD τ sig (Elt F) Λ₀ .tc) α}
    (H : iprop(Ctx m K ∗ Debt c (nOf 2 0 16) ∗ loop (AftD m c 1 1) (BefD m c 1 1) 9 ∗ Srcs m c 2 1 ∗ R) ⊢ WP c (k (9#32)) Q) :
    iprop(Ctx m K ∗ Debt c (nOf 2 0 16) ∗ CA c pM 1 ∗ loop (AftD m c 1 1) (BefD m c 1 1) 0 ∗ R)
      ⊢ WP c (k0_part33 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) ((k0_pay95 (k0_pay75 ((k0_pay73 (winOf m 1 c))) (k0_pay74 ((k0_pay73 (winOf m 1 c))) (agV m 0 0)) (agV m 0 1)) (k0_pay76 (woutOf m 1 c)))) >>= k) Q := by
  rw [WP_bind, k0_part33_eq_skeleton]
  unfold k0_part33_skel
  refine put_part m K c (j := 2) (ck := 1) rfl (part1_1 m c) ?_
  refine turn m K c pick1 ?_
  iterate 9
    refine drain_step m K c (j := 1) (ck := 1) (by decide) (by decide) (cond_ne c ⟨_, _⟩) (by exact fun _ => rfl) (by exact fun _ => rfl) ?_
  exact part_end c H

theorem run34 {R : sProp 𝕄} {α : Type} {Q : α → sProp 𝕄} {k : _ → Prog (TpuEff nD τ sig (Elt F) Λ₀ .tc) α}
    (H : iprop(Ctx m K ∗ Debt c (nOf 2 1 1) ∗ loopM (AftS m c 2 1) (MidS m c 2 1) (BefS m c 2 1) 1 ∗ Rest1 c 2 1 ∗ CY c 1 ∗ R) ⊢ WP c (k (1#32)) Q) :
    iprop(Ctx m K ∗ Debt c (nOf 2 0 16) ∗ loop (AftD m c 1 1) (BefD m c 1 1) 9 ∗ Rest3 c 1 1 ∗ Srcs m c 2 1 ∗ R)
      ⊢ WP c (k0_part34 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (9#32) >>= k) Q := by
  rw [WP_bind, k0_part34_eq_skeleton]
  unfold k0_part34_skel
  iterate 7
    refine drain_step m K c (j := 1) (ck := 1) (by decide) (by decide) (cond_ne c ⟨_, _⟩) (by exact fun _ => rfl) (by exact fun _ => rfl) ?_
  refine turn m K c (pack22 ((drain_end m c _).trans drop3)) ?_
  refine turn m K c (pack11 (srcs_CY m c (by decide) _)) ?_
  refine turn m K c pick1 ?_
  refine turn m K c pick2 ?_
  refine turn m K c (pack22 (ready_send m c (by decide) _)) ?_
  refine redebt m K c (n' := nOf 2 1 0) rfl ?_
  refine self_rs m K c (by decide) rfl (cond_eq c ⟨_, _⟩) (fun _ => rfl) ?_
  refine send_rs m K c (by decide) (by decide) rfl (cond_ne c ⟨_, _⟩) rfl rfl (ClosedOff.eq.trans rfl) (ClosedOff.eq.trans rfl) rfl ?_
  refine self_rs m K c (by decide) rfl (cond_eq c ⟨_, _⟩) (fun _ => rfl) ?_
  exact part_end c H

theorem run35 {R : sProp 𝕄} {α : Type} {Q : α → sProp 𝕄} {k : _ → Prog (TpuEff nD τ sig (Elt F) Λ₀ .tc) α}
    (H : iprop(Ctx m K ∗ Debt c (nOf 2 1 6) ∗ loopM (AftS m c 2 1) (MidS m c 2 1) (BefS m c 2 1) 6 ∗ R) ⊢ WP c (k (6#32)) Q) :
    iprop(Ctx m K ∗ Debt c (nOf 2 1 1) ∗ loopM (AftS m c 2 1) (MidS m c 2 1) (BefS m c 2 1) 1 ∗ R)
      ⊢ WP c (k0_part35 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (1#32) >>= k) Q := by
  rw [WP_bind, k0_part35_eq_skeleton]
  unfold k0_part35_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run36 {R : sProp 𝕄} {α : Type} {Q : α → sProp 𝕄} {k : _ → Prog (TpuEff nD τ sig (Elt F) Λ₀ .tc) α}
    (H : iprop(Ctx m K ∗ Debt c (nOf 2 1 11) ∗ loopM (AftS m c 2 1) (MidS m c 2 1) (BefS m c 2 1) 11 ∗ R) ⊢ WP c (k (11#32)) Q) :
    iprop(Ctx m K ∗ Debt c (nOf 2 1 6) ∗ loopM (AftS m c 2 1) (MidS m c 2 1) (BefS m c 2 1) 6 ∗ R)
      ⊢ WP c (k0_part36 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (6#32) >>= k) Q := by
  rw [WP_bind, k0_part36_eq_skeleton]
  unfold k0_part36_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run37 {R : sProp 𝕄} {α : Type} {Q : α → sProp 𝕄} {k : _ → Prog (TpuEff nD τ sig (Elt F) Λ₀ .tc) α}
    (H : iprop(Ctx m K ∗ Debt c (nOf 2 1 16) ∗ LdOut c 1 2 ∗ LdSrc m c 1 1 ∗ loop (AftW m c 2 1) (BefW m c 2 1) 0 ∗ Rest2 m c 2 1 ∗ R) ⊢ WP c (k ((Scalar.extui (Scalar.cmpi .ne (myW c) 0#32 : BitVec 1) : BitVec 32))) Q) :
    iprop(Ctx m K ∗ Debt c (nOf 2 1 11) ∗ loopM (AftS m c 2 1) (MidS m c 2 1) (BefS m c 2 1) 11 ∗ Rest1 c 2 1 ∗ dutyTok ER (ldC c 1) 2 0 ∗ LdSrc m c 1 2 ∗ LdIn m c 1 1 ∗ R)
      ⊢ WP c (k0_part37 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (11#32) >>= k) Q := by
  rw [WP_bind, k0_part37_eq_skeleton]
  unfold k0_part37_skel
  iterate 4
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  refine send_rs m K c (by decide) (by decide) rfl (cond_ne c ⟨_, _⟩) rfl rfl (ClosedOff.eq.trans rfl) (ClosedOff.eq.trans rfl) rfl ?_
  refine turn m K c (pack22 (sent_wait m c _)) ?_
  refine turn m K c pick2 ?_
  refine turn m K c pick3 ?_
  refine turn m K c pick4 ?_
  refine turn m K c (pack32 (ld_next m c 1 1)) ?_
  refine ld_start m K c (i := 1) (l := 2) (by decide) rfl rfl (whole_pts c main_arg6 _) (fun fd => wload1 m c 2 fd _ rfl) rfl ?_
  exact part_end c H

theorem run38 {R : sProp 𝕄} {α : Type} {Q : α → sProp 𝕄} {k : _ → Prog (TpuEff nD τ sig (Elt F) Λ₀ .tc) α}
    (H : iprop(Ctx m K ∗ Debt c (nOf 2 1 16) ∗ loop (AftW m c 2 0) (BefW m c 2 0) 10 ∗ R) ⊢ WP c (k ((Scalar.extui (Scalar.cmpi .ne (myW c) 10#32 : BitVec 1) : BitVec 32))) Q) :
    iprop(Ctx m K ∗ Debt c (nOf 2 1 16) ∗ loop (AftW m c 2 0) (BefW m c 2 0) 0 ∗ R)
      ⊢ WP c (k0_part38 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 0#32 : BitVec 1) : BitVec 32) >>= k) Q := by
  rw [WP_bind, k0_part38_eq_skeleton]
  unfold k0_part38_skel
  iterate 10
    refine wait_step m K c (j := 2) (ck := 0) (by decide) (by decide) (by decide) (cond_ne c ⟨_, _⟩) (by exact fun _ => rfl) (by exact fun _ => rfl) ?_
  exact part_end c H

theorem run39 {R : sProp 𝕄} {α : Type} {Q : α → sProp 𝕄} {k : _ → Prog (TpuEff nD τ sig (Elt F) Λ₀ .tc) α}
    (H : iprop(Ctx m K ∗ Debt c (nOf 2 1 16) ∗ loop (AftD m c 2 0) (BefD m c 2 0) 1 ∗ Srcs m c 3 0 ∗ Rest3 c 2 0 ∗ R) ⊢ WP c (k ⟨(Scalar.extui (Scalar.cmpi .ne (myW c) 1#32 : BitVec 1) : BitVec 32), 0#32⟩) Q) :
    iprop(Ctx m K ∗ Debt c (nOf 2 1 16) ∗ loop (AftW m c 2 0) (BefW m c 2 0) 10 ∗ Rest2 m c 2 0 ∗ CY c 0 ∗ R)
      ⊢ WP c (k0_part39 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 10#32 : BitVec 1) : BitVec 32) >>= k) Q := by
  rw [WP_bind, k0_part39_eq_skeleton]
  unfold k0_part39_skel
  iterate 6
    refine wait_step m K c (j := 2) (ck := 0) (by decide) (by decide) (by decide) (cond_ne c ⟨_, _⟩) (by exact fun _ => rfl) (by exact fun _ => rfl) ?_
  refine turn m K c (pack12 (wait_end m c _)) ?_
  refine load_arr m K c (j := 2) (ck := 0) rfl (arrV_even m c (by decide) _) ?_
  refine turn m K c pick1 ?_
  refine turn m K c pick2 ?_
  refine turn m K c (pack32 (drain_start m c _)) ?_
  refine turn m K c pick2 ?_
  refine put_y m K c (j := 3) (ck := 0) (by decide) rfl ?_
  refine turn m K c pick1 ?_
  refine drain_step m K c (j := 2) (ck := 0) (by decide) (by decide) (cond_ne c ⟨_, _⟩) (by exact fun _ => rfl) (by exact fun _ => rfl) ?_
  exact part_end c H

theorem run40 {R : sProp 𝕄} {α : Type} {Q : α → sProp 𝕄} {k : _ → Prog (TpuEff nD τ sig (Elt F) Λ₀ .tc) α}
    (H : iprop(Ctx m K ∗ Debt c (nOf 2 1 16) ∗ loop (AftD m c 2 0) (BefD m c 2 0) 11 ∗ R) ⊢ WP c (k ⟨(Scalar.extui (Scalar.cmpi .ne (myW c) 11#32 : BitVec 1) : BitVec 32), 0#32⟩) Q) :
    iprop(Ctx m K ∗ Debt c (nOf 2 1 16) ∗ loop (AftD m c 2 0) (BefD m c 2 0) 1 ∗ R)
      ⊢ WP c (k0_part40 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 1#32 : BitVec 1) : BitVec 32) (0#32) >>= k) Q := by
  rw [WP_bind, k0_part40_eq_skeleton]
  unfold k0_part40_skel
  iterate 10
    refine drain_step m K c (j := 2) (ck := 0) (by decide) (by decide) (cond_ne c ⟨_, _⟩) (by exact fun _ => rfl) (by exact fun _ => rfl) ?_
  exact part_end c H

end Cert.KernelIdeal.Mlp
-- ==== Proof.RunC.lean ====
/-
Parts 41 to 58 of the kernel, each run once at a symbolic device: what the device holds before the part, and what it holds after.
-/
module

public import proofs.«01_k».proof.Proof.Glue

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

attribute [local irreducible] Scalar.divsi Scalar.remsi

variable (m : (ℓ : Loc nD τ sig) → Buf (Elt F) ℓ) (K : Dev nD × Fin 99 → ℕ) (c : Dev nD)

theorem run41 {R : sProp 𝕄} {α : Type} {Q : α → sProp 𝕄} {k : _ → Prog (TpuEff nD τ sig (Elt F) Λ₀ .tc) α}
    (H : iprop(Ctx m K ∗ Debt c (nOf 3 0 2) ∗ loopM (AftS m c 3 0) (MidS m c 3 0) (BefS m c 3 0) 2 ∗ Rest1 c 3 0 ∗ CA c pM 0 ∗ R) ⊢ WP c (k ⟨(Scalar.extui (Scalar.cmpi .ne (myW c) 2#32 : BitVec 1) : BitVec 32), 0#32⟩) Q) :
    iprop(Ctx m K ∗ Debt c (nOf 2 1 16) ∗ loop (AftD m c 2 0) (BefD m c 2 0) 11 ∗ Rest3 c 2 0 ∗ Srcs m c 3 0 ∗ R)
      ⊢ WP c (k0_part41 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 11#32 : BitVec 1) : BitVec 32) (0#32) >>= k) Q := by
  rw [WP_bind, k0_part41_eq_skeleton]
  unfold k0_part41_skel
  iterate 5
    refine drain_step m K c (j := 2) (ck := 0) (by decide) (by decide) (cond_ne c ⟨_, _⟩) (by exact fun _ => rfl) (by exact fun _ => rfl) ?_
  refine turn m K c (pack22 ((drain_end m c _).trans drop3)) ?_
  refine turn m K c (pack11 (srcs_even m c rfl _)) ?_
  refine turn m K c pick1 ?_
  refine turn m K c pick2 ?_
  refine turn m K c (pack22 (ready_send m c (by decide) _)) ?_
  refine redebt m K c (n' := nOf 3 0 0) rfl ?_
  iterate 2
    refine self_ag m K c (by decide) (by decide) (cond_eq c ⟨_, _⟩) (fun _ => rfl) ?_
    refine send_ag m K c (by decide) (by decide) (by decide) (cond_ne c ⟨_, _⟩) rfl rfl (ClosedOff.eq.trans rfl) (ClosedOff.eq.trans rfl) rfl ?_
  refine self_ag m K c (by decide) (by decide) (cond_eq c ⟨_, _⟩) (fun _ => rfl) ?_
  exact part_end c H

theorem run42 {R : sProp 𝕄} {α : Type} {Q : α → sProp 𝕄} {k : _ → Prog (TpuEff nD τ sig (Elt F) Λ₀ .tc) α}
    (H : iprop(Ctx m K ∗ Debt c (nOf 3 0 7) ∗ loopM (AftS m c 3 0) (MidS m c 3 0) (BefS m c 3 0) 7 ∗ R) ⊢ WP c (k ⟨(Scalar.extui (Scalar.cmpi .ne (myW c) 7#32 : BitVec 1) : BitVec 32), 0#32⟩) Q) :
    iprop(Ctx m K ∗ Debt c (nOf 3 0 2) ∗ loopM (AftS m c 3 0) (MidS m c 3 0) (BefS m c 3 0) 2 ∗ R)
      ⊢ WP c (k0_part42 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 2#32 : BitVec 1) : BitVec 32) (0#32) >>= k) Q := by
  rw [WP_bind, k0_part42_eq_skeleton]
  unfold k0_part42_skel
  iterate 5
    refine send_ag m K c (by decide) (by decide) (by decide) (cond_ne c ⟨_, _⟩) rfl rfl (ClosedOff.eq.trans rfl) (ClosedOff.eq.trans rfl) rfl ?_
    refine self_ag m K c (by decide) (by decide) (cond_eq c ⟨_, _⟩) (fun _ => rfl) ?_
  exact part_end c H

theorem run43 {R : sProp 𝕄} {α : Type} {Q : α → sProp 𝕄} {k : _ → Prog (TpuEff nD τ sig (Elt F) Λ₀ .tc) α}
    (H : iprop(Ctx m K ∗ Debt c (nOf 3 0 12) ∗ loopM (AftS m c 3 0) (MidS m c 3 0) (BefS m c 3 0) 12 ∗ R) ⊢ WP c (k ⟨(Scalar.extui (Scalar.cmpi .ne (myW c) 12#32 : BitVec 1) : BitVec 32), 0#32⟩) Q) :
    iprop(Ctx m K ∗ Debt c (nOf 3 0 7) ∗ loopM (AftS m c 3 0) (MidS m c 3 0) (BefS m c 3 0) 7 ∗ R)
      ⊢ WP c (k0_part43 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 7#32 : BitVec 1) : BitVec 32) (0#32) >>= k) Q := by
  rw [WP_bind, k0_part43_eq_skeleton]
  unfold k0_part43_skel
  iterate 5
    refine send_ag m K c (by decide) (by decide) (by decide) (cond_ne c ⟨_, _⟩) rfl rfl (ClosedOff.eq.trans rfl) (ClosedOff.eq.trans rfl) rfl ?_
    refine self_ag m K c (by decide) (by decide) (cond_eq c ⟨_, _⟩) (fun _ => rfl) ?_
  exact part_end c H

theorem run44 {R : sProp 𝕄} {α : Type} {Q : α → sProp 𝕄} {k : _ → Prog (TpuEff nD τ sig (Elt F) Λ₀ .tc) α}
    (H : iprop(Ctx m K ∗ Debt c (nOf 3 0 16) ∗ loop (AftW m c 2 1) (BefW m c 2 1) 3 ∗ loop (AftW m c 3 0) (BefW m c 3 0) 0 ∗ Rest2 m c 3 0 ∗ R) ⊢ WP c (k ⟨(Scalar.extui (Scalar.cmpi .ne (myW c) 3#32 : BitVec 1) : BitVec 32), 0#32⟩) Q) :
    iprop(Ctx m K ∗ Debt c (nOf 3 0 12) ∗ loopM (AftS m c 3 0) (MidS m c 3 0) (BefS m c 3 0) 12 ∗ Rest1 c 3 0 ∗ loop (AftW m c 2 1) (BefW m c 2 1) 0 ∗ R)
      ⊢ WP c (k0_part44 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 12#32 : BitVec 1) : BitVec 32) (0#32) >>= k) Q := by
  rw [WP_bind, k0_part44_eq_skeleton]
  unfold k0_part44_skel
  iterate 3
    refine send_ag m K c (by decide) (by decide) (by decide) (cond_ne c ⟨_, _⟩) rfl rfl (ClosedOff.eq.trans rfl) (ClosedOff.eq.trans rfl) rfl ?_
    refine self_ag m K c (by decide) (by decide) (cond_eq c ⟨_, _⟩) (fun _ => rfl) ?_
  refine send_ag m K c (by decide) (by decide) (by decide) (cond_ne c ⟨_, _⟩) rfl rfl (ClosedOff.eq.trans rfl) (ClosedOff.eq.trans rfl) rfl ?_
  refine turn m K c (pack22 (sent_wait m c _)) ?_
  refine turn m K c pick2 ?_
  iterate 3
    refine wait_step m K c (j := 2) (ck := 1) (by decide) (by decide) (by decide) (cond_ne c ⟨_, _⟩) (by exact fun _ => rfl) (by exact fun _ => rfl) ?_
  exact part_end c H

theorem run45 {R : sProp 𝕄} {α : Type} {Q : α → sProp 𝕄} {k : _ → Prog (TpuEff nD τ sig (Elt F) Λ₀ .tc) α}
    (H : iprop(Ctx m K ∗ Debt c (nOf 3 0 16) ∗ loop (AftW m c 2 1) (BefW m c 2 1) 13 ∗ R) ⊢ WP c (k ⟨(Scalar.extui (Scalar.cmpi .ne (myW c) 13#32 : BitVec 1) : BitVec 32), 0#32⟩) Q) :
    iprop(Ctx m K ∗ Debt c (nOf 3 0 16) ∗ loop (AftW m c 2 1) (BefW m c 2 1) 3 ∗ R)
      ⊢ WP c (k0_part45 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 3#32 : BitVec 1) : BitVec 32) (0#32) >>= k) Q := by
  rw [WP_bind, k0_part45_eq_skeleton]
  unfold k0_part45_skel
  iterate 10
    refine wait_step m K c (j := 2) (ck := 1) (by decide) (by decide) (by decide) (cond_ne c ⟨_, _⟩) (by exact fun _ => rfl) (by exact fun _ => rfl) ?_
  exact part_end c H

theorem run46 {R : sProp 𝕄} {α : Type} {Q : α → sProp 𝕄} {k : _ → Prog (TpuEff nD τ sig (Elt F) Λ₀ .tc) α}
    (H : iprop(Ctx m K ∗ Debt c (nOf 3 0 16) ∗ loop (AftD m c 2 1) (BefD m c 2 1) 4 ∗ Srcs m c 3 1 ∗ Rest3 c 2 1 ∗ R) ⊢ WP c (k ((Scalar.cmpi .ne (Scalar.extui (Scalar.cmpi .ne (myW c) 4#32 : BitVec 1) : BitVec 32) 0#32 : BitVec 1))) Q) :
    iprop(Ctx m K ∗ Debt c (nOf 3 0 16) ∗ loop (AftW m c 2 1) (BefW m c 2 1) 13 ∗ Rest2 m c 2 1 ∗ CY c 1 ∗ R)
      ⊢ WP c (k0_part46 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 13#32 : BitVec 1) : BitVec 32) (0#32) >>= k) Q := by
  rw [WP_bind, k0_part46_eq_skeleton]
  unfold k0_part46_skel
  iterate 3
    refine wait_step m K c (j := 2) (ck := 1) (by decide) (by decide) (by decide) (cond_ne c ⟨_, _⟩) (by exact fun _ => rfl) (by exact fun _ => rfl) ?_
  refine turn m K c (pack12 (wait_end m c _)) ?_
  refine load_arr m K c (j := 2) (ck := 1) rfl (arrV_even m c (by decide) _) ?_
  refine turn m K c pick1 ?_
  refine turn m K c pick2 ?_
  refine turn m K c (pack32 (drain_start m c _)) ?_
  refine turn m K c pick2 ?_
  refine put_y m K c (j := 3) (ck := 1) (by decide) rfl ?_
  refine turn m K c pick1 ?_
  iterate 4
    refine drain_step m K c (j := 2) (ck := 1) (by decide) (by decide) (cond_ne c ⟨_, _⟩) (by exact fun _ => rfl) (by exact fun _ => rfl) ?_
  exact part_end c H

theorem run47 {R : sProp 𝕄} {α : Type} {Q : α → sProp 𝕄} {k : _ → Prog (TpuEff nD τ sig (Elt F) Λ₀ .tc) α}
    (H : iprop(Ctx m K ∗ Debt c (nOf 3 0 16) ∗ loop (AftD m c 2 1) (BefD m c 2 1) 14 ∗ R) ⊢ WP c (k ((Scalar.cmpi .ne (Scalar.extui (Scalar.cmpi .ne (myW c) 14#32 : BitVec 1) : BitVec 32) 0#32 : BitVec 1))) Q) :
    iprop(Ctx m K ∗ Debt c (nOf 3 0 16) ∗ loop (AftD m c 2 1) (BefD m c 2 1) 4 ∗ R)
      ⊢ WP c (k0_part47 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.cmpi .ne (Scalar.extui (Scalar.cmpi .ne (myW c) 4#32 : BitVec 1) : BitVec 32) 0#32 : BitVec 1) >>= k) Q := by
  rw [WP_bind, k0_part47_eq_skeleton]
  unfold k0_part47_skel
  iterate 10
    refine drain_step m K c (j := 2) (ck := 1) (by decide) (by decide) (cond_ne c ⟨_, _⟩) (by exact fun _ => rfl) (by exact fun _ => rfl) ?_
  exact part_end c H

theorem run48 {R : sProp 𝕄} {α : Type} {Q : α → sProp 𝕄} {k : _ → Prog (TpuEff nD τ sig (Elt F) Λ₀ .tc) α}
    (H : iprop(Ctx m K ∗ Debt c (nOf 3 1 4) ∗ loop (AftS m c 3 1) (BefS m c 3 1) 4 ∗ Rest1 c 3 1 ∗ CA c pM 1 ∗ R) ⊢ WP c (k ((Scalar.cmpi .ne (Scalar.extui (Scalar.cmpi .eq (myW c) 4#32 : BitVec 1) : BitVec 32) 0#32 : BitVec 1))) Q) :
    iprop(Ctx m K ∗ Debt c (nOf 3 0 16) ∗ loop (AftD m c 2 1) (BefD m c 2 1) 14 ∗ Rest3 c 2 1 ∗ Srcs m c 3 1 ∗ R)
      ⊢ WP c (k0_part48 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (Scalar.extui (Scalar.cmpi .ne (myW c) 14#32 : BitVec 1) : BitVec 32) 0#32 : BitVec 1) >>= k) Q := by
  rw [WP_bind, k0_part48_eq_skeleton]
  unfold k0_part48_skel
  iterate 2
    refine drain_step m K c (j := 2) (ck := 1) (by decide) (by decide) (cond_ne c ⟨_, _⟩) (by exact fun _ => rfl) (by exact fun _ => rfl) ?_
  refine turn m K c (pack22 ((drain_end m c _).trans drop3)) ?_
  refine turn m K c (pack11 (srcs_even m c rfl _)) ?_
  refine turn m K c pick1 ?_
  refine turn m K c pick2 ?_
  refine turn m K c (pack22 (ready_send m c (by decide) _)) ?_
  refine redebt m K c (n' := nOf 3 1 0) rfl ?_
  iterate 4
    refine self_ag m K c (by decide) (by decide) (cond_eq c ⟨_, _⟩) (fun _ => rfl) ?_
    refine send_ag m K c (by decide) (by decide) (by decide) (cond_ne c ⟨_, _⟩) rfl rfl (ClosedOff.eq.trans rfl) (ClosedOff.eq.trans rfl) rfl ?_
  exact part_end c H

theorem run49 {R : sProp 𝕄} {α : Type} {Q : α → sProp 𝕄} {k : _ → Prog (TpuEff nD τ sig (Elt F) Λ₀ .tc) α}
    (H : iprop(Ctx m K ∗ Debt c (nOf 3 1 9) ∗ loop (AftS m c 3 1) (BefS m c 3 1) 9 ∗ R) ⊢ WP c (k ((Scalar.cmpi .ne (Scalar.extui (Scalar.cmpi .eq (myW c) 9#32 : BitVec 1) : BitVec 32) 0#32 : BitVec 1))) Q) :
    iprop(Ctx m K ∗ Debt c (nOf 3 1 4) ∗ loop (AftS m c 3 1) (BefS m c 3 1) 4 ∗ R)
      ⊢ WP c (k0_part49 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (Scalar.extui (Scalar.cmpi .eq (myW c) 4#32 : BitVec 1) : BitVec 32) 0#32 : BitVec 1) >>= k) Q := by
  rw [WP_bind, k0_part49_eq_skeleton]
  unfold k0_part49_skel
  iterate 5
    refine self_ag m K c (by decide) (by decide) (cond_eq c ⟨_, _⟩) (fun _ => rfl) ?_
    refine send_ag m K c (by decide) (by decide) (by decide) (cond_ne c ⟨_, _⟩) rfl rfl (ClosedOff.eq.trans rfl) (ClosedOff.eq.trans rfl) rfl ?_
  exact part_end c H

theorem run50 {R : sProp 𝕄} {α : Type} {Q : α → sProp 𝕄} {k : _ → Prog (TpuEff nD τ sig (Elt F) Λ₀ .tc) α}
    (H : iprop(Ctx m K ∗ Debt c (nOf 3 1 14) ∗ loop (AftS m c 3 1) (BefS m c 3 1) 14 ∗ R) ⊢ WP c (k ((Scalar.cmpi .ne (Scalar.extui (Scalar.cmpi .eq (myW c) 14#32 : BitVec 1) : BitVec 32) 0#32 : BitVec 1))) Q) :
    iprop(Ctx m K ∗ Debt c (nOf 3 1 9) ∗ loop (AftS m c 3 1) (BefS m c 3 1) 9 ∗ R)
      ⊢ WP c (k0_part50 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (Scalar.extui (Scalar.cmpi .eq (myW c) 9#32 : BitVec 1) : BitVec 32) 0#32 : BitVec 1) >>= k) Q := by
  rw [WP_bind, k0_part50_eq_skeleton]
  unfold k0_part50_skel
  iterate 5
    refine self_ag m K c (by decide) (by decide) (cond_eq c ⟨_, _⟩) (fun _ => rfl) ?_
    refine send_ag m K c (by decide) (by decide) (by decide) (cond_ne c ⟨_, _⟩) rfl rfl (ClosedOff.eq.trans rfl) (ClosedOff.eq.trans rfl) rfl ?_
  exact part_end c H

theorem run51 {R : sProp 𝕄} {α : Type} {Q : α → sProp 𝕄} {k : _ → Prog (TpuEff nD τ sig (Elt F) Λ₀ .tc) α}
    (H : iprop(Ctx m K ∗ Debt c (nOf 3 1 16) ∗ loop (AftW m c 3 0) (BefW m c 3 0) 5 ∗ LdIn m c 0 2 ∗ loop (AftW m c 3 1) (BefW m c 3 1) 0 ∗ Rest2 m c 3 1 ∗ R) ⊢ WP c (k ⟨k0_pay147 (winOf m 2 c), (Scalar.extui (Scalar.cmpi .ne (myW c) 5#32 : BitVec 1) : BitVec 32)⟩) Q) :
    iprop(Ctx m K ∗ Debt c (nOf 3 1 14) ∗ loop (AftS m c 3 1) (BefS m c 3 1) 14 ∗ Rest1 c 3 1 ∗ LdOut c 0 2 ∗ loop (AftW m c 3 0) (BefW m c 3 0) 0 ∗ R)
      ⊢ WP c (k0_part51 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (Scalar.extui (Scalar.cmpi .eq (myW c) 14#32 : BitVec 1) : BitVec 32) 0#32 : BitVec 1) >>= k) Q := by
  rw [WP_bind, k0_part51_eq_skeleton]
  unfold k0_part51_skel
  iterate 2
    refine self_ag m K c (by decide) (by decide) (cond_eq c ⟨_, _⟩) (fun _ => rfl) ?_
    refine send_ag m K c (by decide) (by decide) (by decide) (cond_ne c ⟨_, _⟩) rfl rfl (ClosedOff.eq.trans rfl) (ClosedOff.eq.trans rfl) rfl ?_
  refine turn m K c (pack22 (sent_wait m c _)) ?_
  refine turn m K c pick2 ?_
  refine ld_wait m K c (i := 0) (l := 2) (by decide) rfl rfl (by decide) ?_
  refine ld_read0 m K c rfl ?_
  refine turn m K c pick3 ?_
  iterate 5
    refine wait_step m K c (j := 3) (ck := 0) (by decide) (by decide) (by decide) (cond_ne c ⟨_, _⟩) (by exact fun _ => rfl) (by exact fun _ => rfl) ?_
  exact part_end c H

theorem run52 {R : sProp 𝕄} {α : Type} {Q : α → sProp 𝕄} {k : _ → Prog (TpuEff nD τ sig (Elt F) Λ₀ .tc) α}
    (H : iprop(Ctx m K ∗ Debt c (nOf 3 1 16) ∗ loop (AftW m c 3 0) (BefW m c 3 0) 15 ∗ R) ⊢ WP c (k ((Scalar.extui (Scalar.cmpi .ne (myW c) 15#32 : BitVec 1) : BitVec 32))) Q) :
    iprop(Ctx m K ∗ Debt c (nOf 3 1 16) ∗ loop (AftW m c 3 0) (BefW m c 3 0) 5 ∗ R)
      ⊢ WP c (k0_part52 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 5#32 : BitVec 1) : BitVec 32) >>= k) Q := by
  rw [WP_bind, k0_part52_eq_skeleton]
  unfold k0_part52_skel
  iterate 10
    refine wait_step m K c (j := 3) (ck := 0) (by decide) (by decide) (by decide) (cond_ne c ⟨_, _⟩) (by exact fun _ => rfl) (by exact fun _ => rfl) ?_
  exact part_end c H

theorem run53 {R : sProp 𝕄} {α : Type} {Q : α → sProp 𝕄} {k : _ → Prog (TpuEff nD τ sig (Elt F) Λ₀ .tc) α}
    (H : iprop(Ctx m K ∗ Debt c (nOf 3 1 16) ∗ loop (AftW m c 3 1) (BefW m c 3 1) 7 ∗ loop (AftD m c 3 0) (BefD m c 3 0) 0 ∗ Rest3 c 3 0 ∗ R) ⊢ WP c (k ⟨k0_pay148 (k0_pay147 (winOf m 2 c)) (agV m 1 0), (Scalar.cmpi .ne (Scalar.extui (Scalar.cmpi .ne (myW c) 7#32 : BitVec 1) : BitVec 32) 0#32 : BitVec 1)⟩) Q) :
    iprop(Ctx m K ∗ Debt c (nOf 3 1 16) ∗ loop (AftW m c 3 0) (BefW m c 3 0) 15 ∗ Rest2 m c 3 0 ∗ loop (AftW m c 3 1) (BefW m c 3 1) 0 ∗ R)
      ⊢ WP c (k0_part53 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (k0_pay147 (winOf m 2 c)) (Scalar.extui (Scalar.cmpi .ne (myW c) 15#32 : BitVec 1) : BitVec 32) >>= k) Q := by
  rw [WP_bind, k0_part53_eq_skeleton]
  unfold k0_part53_skel
  refine wait_step m K c (j := 3) (ck := 0) (by decide) (by decide) (by decide) (cond_ne c ⟨_, _⟩) (by exact fun _ => rfl) (by exact fun _ => rfl) ?_
  refine turn m K c (pack12 (wait_end m c _)) ?_
  refine load_arr m K c (j := 3) (ck := 0) rfl (arrV_odd m c (by decide) _) ?_
  refine turn m K c pick1 ?_
  refine turn m K c pick2 ?_
  refine turn m K c (pack32 (drain_start m c _)) ?_
  refine turn m K c pick2 ?_
  iterate 7
    refine wait_step m K c (j := 3) (ck := 1) (by decide) (by decide) (by decide) (cond_ne c ⟨_, _⟩) (by exact fun _ => rfl) (by exact fun _ => rfl) ?_
  exact part_end c H

theorem run54 {R : sProp 𝕄} {α : Type} {Q : α → sProp 𝕄} {k : _ → Prog (TpuEff nD τ sig (Elt F) Λ₀ .tc) α}
    (H : iprop(Ctx m K ∗ Debt c (nOf 3 1 16) ∗ loop (AftD m c 3 1) (BefD m c 3 1) 0 ∗ Rest3 c 3 1 ∗ R) ⊢ WP c (k ((k0_pay149 (k0_pay147 (winOf m 2 c)) (k0_pay148 (k0_pay147 (winOf m 2 c)) (agV m 1 0)) (agV m 1 1)))) Q) :
    iprop(Ctx m K ∗ Debt c (nOf 3 1 16) ∗ loop (AftW m c 3 1) (BefW m c 3 1) 7 ∗ Rest2 m c 3 1 ∗ R)
      ⊢ WP c (k0_part54 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (k0_pay147 (winOf m 2 c)) (k0_pay148 (k0_pay147 (winOf m 2 c)) (agV m 1 0)) (Scalar.cmpi .ne (Scalar.extui (Scalar.cmpi .ne (myW c) 7#32 : BitVec 1) : BitVec 32) 0#32 : BitVec 1) >>= k) Q := by
  rw [WP_bind, k0_part54_eq_skeleton]
  unfold k0_part54_skel
  iterate 9
    refine wait_step m K c (j := 3) (ck := 1) (by decide) (by decide) (by decide) (cond_ne c ⟨_, _⟩) (by exact fun _ => rfl) (by exact fun _ => rfl) ?_
  refine turn m K c (pack12 (wait_end m c _)) ?_
  refine load_arr m K c (j := 3) (ck := 1) rfl (arrV_odd m c (by decide) _) ?_
  refine turn m K c pick1 ?_
  refine turn m K c pick2 ?_
  refine turn m K c (pack32 (drain_start m c _)) ?_
  exact part_end c H

theorem run55 {R : sProp 𝕄} {α : Type} {Q : α → sProp 𝕄} {k : _ → Prog (TpuEff nD τ sig (Elt F) Λ₀ .tc) α}
    (H : iprop(Ctx m K ∗ Debt c (nOf 3 1 16) ∗ loop (AftD m c 3 0) (BefD m c 3 0) 5 ∗ Srcs m c 4 0 ∗ LdIn m c 1 2 ∗ R) ⊢ WP c (k ⟨k0_pay150 ((k0_pay149 (k0_pay147 (winOf m 2 c)) (k0_pay148 (k0_pay147 (winOf m 2 c)) (agV m 1 0)) (agV m 1 1))), k0_pay151 (woutOf m 2 c), (Scalar.cmpi .ne (Scalar.extui (Scalar.cmpi .ne (myW c) 5#32 : BitVec 1) : BitVec 32) 0#32 : BitVec 1)⟩) Q) :
    iprop(Ctx m K ∗ Debt c (nOf 3 1 16) ∗ LdOut c 1 2 ∗ CA c pM 0 ∗ loop (AftD m c 3 0) (BefD m c 3 0) 0 ∗ R)
      ⊢ WP c (k0_part55 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) ((k0_pay149 (k0_pay147 (winOf m 2 c)) (k0_pay148 (k0_pay147 (winOf m 2 c)) (agV m 1 0)) (agV m 1 1))) >>= k) Q := by
  rw [WP_bind, k0_part55_eq_skeleton]
  unfold k0_part55_skel
  refine ld_wait m K c (i := 1) (l := 2) (by decide) rfl rfl (by decide) ?_
  refine ld_read1 m K c rfl ?_
  refine turn m K c pick1 ?_
  refine put_part m K c (j := 4) (ck := 0) rfl (part0_2 m c) ?_
  refine turn m K c pick2 ?_
  iterate 5
    refine drain_step m K c (j := 3) (ck := 0) (by decide) (by decide) (cond_ne c ⟨_, _⟩) (by exact fun _ => rfl) (by exact fun _ => rfl) ?_
  exact part_end c H

theorem run56 {R : sProp 𝕄} {α : Type} {Q : α → sProp 𝕄} {k : _ → Prog (TpuEff nD τ sig (Elt F) Λ₀ .tc) α}
    (H : iprop(Ctx m K ∗ Debt c (nOf 3 1 16) ∗ loop (AftD m c 3 0) (BefD m c 3 0) 15 ∗ R) ⊢ WP c (k ((Scalar.cmpi .ne (Scalar.extui (Scalar.cmpi .ne (myW c) 15#32 : BitVec 1) : BitVec 32) 0#32 : BitVec 1))) Q) :
    iprop(Ctx m K ∗ Debt c (nOf 3 1 16) ∗ loop (AftD m c 3 0) (BefD m c 3 0) 5 ∗ R)
      ⊢ WP c (k0_part56 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.cmpi .ne (Scalar.extui (Scalar.cmpi .ne (myW c) 5#32 : BitVec 1) : BitVec 32) 0#32 : BitVec 1) >>= k) Q := by
  rw [WP_bind, k0_part56_eq_skeleton]
  unfold k0_part56_skel
  iterate 10
    refine drain_step m K c (j := 3) (ck := 0) (by decide) (by decide) (cond_ne c ⟨_, _⟩) (by exact fun _ => rfl) (by exact fun _ => rfl) ?_
  exact part_end c H

theorem run57 {R : sProp 𝕄} {α : Type} {Q : α → sProp 𝕄} {k : _ → Prog (TpuEff nD τ sig (Elt F) Λ₀ .tc) α}
    (H : iprop(Ctx m K ∗ Debt c (nOf 4 0 4) ∗ loopM (AftS m c 4 0) (MidS m c 4 0) (BefS m c 4 0) 4 ∗ Rest1 c 4 0 ∗ CY c 0 ∗ R) ⊢ WP c (k ⟨⟩) Q) :
    iprop(Ctx m K ∗ Debt c (nOf 3 1 16) ∗ loop (AftD m c 3 0) (BefD m c 3 0) 15 ∗ Rest3 c 3 0 ∗ Srcs m c 4 0 ∗ R)
      ⊢ WP c (k0_part57 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.cmpi .ne (Scalar.extui (Scalar.cmpi .ne (myW c) 15#32 : BitVec 1) : BitVec 32) 0#32 : BitVec 1) >>= k) Q := by
  rw [WP_bind, k0_part57_eq_skeleton]
  unfold k0_part57_skel
  refine drain_step m K c (j := 3) (ck := 0) (by decide) (by decide) (cond_ne c ⟨_, _⟩) (by exact fun _ => rfl) (by exact fun _ => rfl) ?_
  refine turn m K c (pack22 ((drain_end m c _).trans drop3)) ?_
  refine turn m K c (pack11 (srcs_CY m c (by decide) _)) ?_
  refine turn m K c pick1 ?_
  refine turn m K c pick2 ?_
  refine turn m K c (pack22 (ready_send m c (by decide) _)) ?_
  refine redebt m K c (n' := nOf 4 0 0) rfl ?_
  iterate 4
    refine self_rs m K c (by decide) rfl (cond_eq c ⟨_, _⟩) (fun _ => rfl) ?_
    refine send_rs m K c (by decide) (by decide) rfl (cond_ne c ⟨_, _⟩) rfl rfl (ClosedOff.eq.trans rfl) (ClosedOff.eq.trans rfl) rfl ?_
  refine self_rs m K c (by decide) rfl (cond_eq c ⟨_, _⟩) (fun _ => rfl) ?_
  exact part_end c H

theorem run58 {R : sProp 𝕄} {α : Type} {Q : α → sProp 𝕄} {k : _ → Prog (TpuEff nD τ sig (Elt F) Λ₀ .tc) α}
    (H : iprop(Ctx m K ∗ Debt c (nOf 4 0 9) ∗ loopM (AftS m c 4 0) (MidS m c 4 0) (BefS m c 4 0) 9 ∗ R) ⊢ WP c (k ⟨⟩) Q) :
    iprop(Ctx m K ∗ Debt c (nOf 4 0 4) ∗ loopM (AftS m c 4 0) (MidS m c 4 0) (BefS m c 4 0) 4 ∗ R)
      ⊢ WP c (k0_part58 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part58_eq_skeleton]
  unfold k0_part58_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

end Cert.KernelIdeal.Mlp
-- ==== Proof.RunD.lean ====
/-
Parts 59 to 71 of the kernel, each run once at a symbolic device: what the device holds before the part, and what it holds after.
-/
module

public import proofs.«01_k».proof.Proof.Glue

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

attribute [local irreducible] Scalar.divsi Scalar.remsi

variable (m : (ℓ : Loc nD τ sig) → Buf (Elt F) ℓ) (K : Dev nD × Fin 99 → ℕ) (c : Dev nD)

theorem run59 {R : sProp 𝕄} {α : Type} {Q : α → sProp 𝕄} {k : _ → Prog (TpuEff nD τ sig (Elt F) Λ₀ .tc) α}
    (H : iprop(Ctx m K ∗ Debt c (nOf 4 0 14) ∗ loopM (AftS m c 4 0) (MidS m c 4 0) (BefS m c 4 0) 14 ∗ R) ⊢ WP c (k ⟨⟩) Q) :
    iprop(Ctx m K ∗ Debt c (nOf 4 0 9) ∗ loopM (AftS m c 4 0) (MidS m c 4 0) (BefS m c 4 0) 9 ∗ R)
      ⊢ WP c (k0_part59 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) >>= k) Q := by
  rw [WP_bind, k0_part59_eq_skeleton]
  unfold k0_part59_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run60 {R : sProp 𝕄} {α : Type} {Q : α → sProp 𝕄} {k : _ → Prog (TpuEff nD τ sig (Elt F) Λ₀ .tc) α}
    (H : iprop(Ctx m K ∗ Debt c (nOf 4 0 16) ∗ loop (AftD m c 3 1) (BefD m c 3 1) 5 ∗ Srcs m c 4 1 ∗ loop (AftW m c 4 0) (BefW m c 4 0) 0 ∗ Rest2 m c 4 0 ∗ R) ⊢ WP c (k ⟨(Scalar.extui (Scalar.cmpi .ne (myW c) 5#32 : BitVec 1) : BitVec 32), 0#32⟩) Q) :
    iprop(Ctx m K ∗ Debt c (nOf 4 0 14) ∗ loopM (AftS m c 4 0) (MidS m c 4 0) (BefS m c 4 0) 14 ∗ Rest1 c 4 0 ∗ CA c pM 1 ∗ loop (AftD m c 3 1) (BefD m c 3 1) 0 ∗ R)
      ⊢ WP c (k0_part60 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (k0_pay150 ((k0_pay149 (k0_pay147 (winOf m 2 c)) (k0_pay148 (k0_pay147 (winOf m 2 c)) (agV m 1 0)) (agV m 1 1)))) (k0_pay151 (woutOf m 2 c)) >>= k) Q := by
  rw [WP_bind, k0_part60_eq_skeleton]
  unfold k0_part60_skel
  refine send_rs m K c (by decide) (by decide) rfl (cond_ne c ⟨_, _⟩) rfl rfl (ClosedOff.eq.trans rfl) (ClosedOff.eq.trans rfl) rfl ?_
  refine self_rs m K c (by decide) rfl (cond_eq c ⟨_, _⟩) (fun _ => rfl) ?_
  refine send_rs m K c (by decide) (by decide) rfl (cond_ne c ⟨_, _⟩) rfl rfl (ClosedOff.eq.trans rfl) (ClosedOff.eq.trans rfl) rfl ?_
  refine turn m K c (pack22 (sent_wait m c _)) ?_
  refine turn m K c pick2 ?_
  refine put_part m K c (j := 4) (ck := 1) rfl (part1_2 m c) ?_
  refine turn m K c pick3 ?_
  iterate 5
    refine drain_step m K c (j := 3) (ck := 1) (by decide) (by decide) (cond_ne c ⟨_, _⟩) (by exact fun _ => rfl) (by exact fun _ => rfl) ?_
  exact part_end c H

theorem run61 {R : sProp 𝕄} {α : Type} {Q : α → sProp 𝕄} {k : _ → Prog (TpuEff nD τ sig (Elt F) Λ₀ .tc) α}
    (H : iprop(Ctx m K ∗ Debt c (nOf 4 0 16) ∗ loop (AftD m c 3 1) (BefD m c 3 1) 15 ∗ R) ⊢ WP c (k ⟨(Scalar.extui (Scalar.cmpi .ne (myW c) 15#32 : BitVec 1) : BitVec 32), 0#32⟩) Q) :
    iprop(Ctx m K ∗ Debt c (nOf 4 0 16) ∗ loop (AftD m c 3 1) (BefD m c 3 1) 5 ∗ R)
      ⊢ WP c (k0_part61 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 5#32 : BitVec 1) : BitVec 32) (0#32) >>= k) Q := by
  rw [WP_bind, k0_part61_eq_skeleton]
  unfold k0_part61_skel
  iterate 10
    refine drain_step m K c (j := 3) (ck := 1) (by decide) (by decide) (cond_ne c ⟨_, _⟩) (by exact fun _ => rfl) (by exact fun _ => rfl) ?_
  exact part_end c H

theorem run62 {R : sProp 𝕄} {α : Type} {Q : α → sProp 𝕄} {k : _ → Prog (TpuEff nD τ sig (Elt F) Λ₀ .tc) α}
    (H : iprop(Ctx m K ∗ Debt c (nOf 4 1 4) ∗ loopM (AftS m c 4 1) (MidS m c 4 1) (BefS m c 4 1) 4 ∗ Rest1 c 4 1 ∗ CY c 1 ∗ R) ⊢ WP c (k ⟨(Scalar.extui (Scalar.cmpi .ne (myW c) 4#32 : BitVec 1) : BitVec 32), 0#32⟩) Q) :
    iprop(Ctx m K ∗ Debt c (nOf 4 0 16) ∗ loop (AftD m c 3 1) (BefD m c 3 1) 15 ∗ Rest3 c 3 1 ∗ Srcs m c 4 1 ∗ R)
      ⊢ WP c (k0_part62 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 15#32 : BitVec 1) : BitVec 32) (0#32) >>= k) Q := by
  rw [WP_bind, k0_part62_eq_skeleton]
  unfold k0_part62_skel
  refine drain_step m K c (j := 3) (ck := 1) (by decide) (by decide) (cond_ne c ⟨_, _⟩) (by exact fun _ => rfl) (by exact fun _ => rfl) ?_
  refine turn m K c (pack22 ((drain_end m c _).trans drop3)) ?_
  refine turn m K c (pack11 (srcs_CY m c (by decide) _)) ?_
  refine turn m K c pick1 ?_
  refine turn m K c pick2 ?_
  refine turn m K c (pack22 (ready_send m c (by decide) _)) ?_
  refine redebt m K c (n' := nOf 4 1 0) rfl ?_
  iterate 4
    refine self_rs m K c (by decide) rfl (cond_eq c ⟨_, _⟩) (fun _ => rfl) ?_
    refine send_rs m K c (by decide) (by decide) rfl (cond_ne c ⟨_, _⟩) rfl rfl (ClosedOff.eq.trans rfl) (ClosedOff.eq.trans rfl) rfl ?_
  refine self_rs m K c (by decide) rfl (cond_eq c ⟨_, _⟩) (fun _ => rfl) ?_
  exact part_end c H

theorem run63 {R : sProp 𝕄} {α : Type} {Q : α → sProp 𝕄} {k : _ → Prog (TpuEff nD τ sig (Elt F) Λ₀ .tc) α}
    (H : iprop(Ctx m K ∗ Debt c (nOf 4 1 9) ∗ loopM (AftS m c 4 1) (MidS m c 4 1) (BefS m c 4 1) 9 ∗ R) ⊢ WP c (k ⟨(Scalar.extui (Scalar.cmpi .ne (myW c) 9#32 : BitVec 1) : BitVec 32), 0#32⟩) Q) :
    iprop(Ctx m K ∗ Debt c (nOf 4 1 4) ∗ loopM (AftS m c 4 1) (MidS m c 4 1) (BefS m c 4 1) 4 ∗ R)
      ⊢ WP c (k0_part63 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 4#32 : BitVec 1) : BitVec 32) (0#32) >>= k) Q := by
  rw [WP_bind, k0_part63_eq_skeleton]
  unfold k0_part63_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run64 {R : sProp 𝕄} {α : Type} {Q : α → sProp 𝕄} {k : _ → Prog (TpuEff nD τ sig (Elt F) Λ₀ .tc) α}
    (H : iprop(Ctx m K ∗ Debt c (nOf 4 1 14) ∗ loopM (AftS m c 4 1) (MidS m c 4 1) (BefS m c 4 1) 14 ∗ R) ⊢ WP c (k ⟨(Scalar.extui (Scalar.cmpi .ne (myW c) 14#32 : BitVec 1) : BitVec 32), 0#32⟩) Q) :
    iprop(Ctx m K ∗ Debt c (nOf 4 1 9) ∗ loopM (AftS m c 4 1) (MidS m c 4 1) (BefS m c 4 1) 9 ∗ R)
      ⊢ WP c (k0_part64 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 9#32 : BitVec 1) : BitVec 32) (0#32) >>= k) Q := by
  rw [WP_bind, k0_part64_eq_skeleton]
  unfold k0_part64_skel
  iterate 5
    refine send_rs m K c (by decide) (by decide) rfl (cond_ne c ⟨_, _⟩) rfl rfl (ClosedOff.eq.trans rfl) (ClosedOff.eq.trans rfl) rfl ?_
    refine self_rs m K c (by decide) rfl (cond_eq c ⟨_, _⟩) (fun _ => rfl) ?_
  exact part_end c H

theorem run65 {R : sProp 𝕄} {α : Type} {Q : α → sProp 𝕄} {k : _ → Prog (TpuEff nD τ sig (Elt F) Λ₀ .tc) α}
    (H : iprop(Ctx m K ∗ Debt c (nOf 4 1 16) ∗ loop (AftW m c 4 0) (BefW m c 4 0) 7 ∗ loop (AftW m c 4 1) (BefW m c 4 1) 0 ∗ Rest2 m c 4 1 ∗ R) ⊢ WP c (k ⟨(Scalar.extui (Scalar.cmpi .ne (myW c) 7#32 : BitVec 1) : BitVec 32), 0#32⟩) Q) :
    iprop(Ctx m K ∗ Debt c (nOf 4 1 14) ∗ loopM (AftS m c 4 1) (MidS m c 4 1) (BefS m c 4 1) 14 ∗ Rest1 c 4 1 ∗ loop (AftW m c 4 0) (BefW m c 4 0) 0 ∗ R)
      ⊢ WP c (k0_part65 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 c (myW c) (Scalar.extui (Scalar.cmpi .ne (myW c) 14#32 : BitVec 1) : BitVec 32) (0#32) >>= k) Q := by
  rw [WP_bind, k0_part65_eq_skeleton]
  unfold k0_part65_skel
  refine send_rs m K c (by decide) (by decide) rfl (cond_ne c ⟨_, _⟩) rfl rfl (ClosedOff.eq.trans rfl) (ClosedOff.eq.trans rfl) rfl ?_
  refine self_rs m K c (by decide) rfl (cond_eq c ⟨_, _⟩) (fun _ => rfl) ?_
  refine send_rs m K c (by decide) (by decide) rfl (cond_ne c ⟨_, _⟩) rfl rfl (ClosedOff.eq.trans rfl) (ClosedOff.eq.trans rfl) rfl ?_
  refine turn m K c (pack22 (sent_wait m c _)) ?_
  refine turn m K c pick2 ?_
  iterate 7
    refine wait_step m K c (j := 4) (ck := 0) (by decide) (by decide) (by decide) (cond_ne c ⟨_, _⟩) (by exact fun _ => rfl) (by exact fun _ => rfl) ?_
  exact part_end c H

theorem run66 {R : sProp 𝕄} {α : Type} {Q : α → sProp 𝕄} {k : _ → Prog (TpuEff nD τ sig (Elt F) Λ₀ .tc) α}
    (H : iprop(Ctx m K ∗ Debt c (nOf 4 1 16) ∗ loop (AftD m c 4 0) (BefD m c 4 0) 0 ∗ Rest3 c 4 0 ∗ R) ⊢ WP c (k ((k0_pay186 (rsV m 2 c 0)))) Q) :
    iprop(Ctx m K ∗ Debt c (nOf 4 1 16) ∗ loop (AftW m c 4 0) (BefW m c 4 0) 7 ∗ Rest2 m c 4 0 ∗ R)
      ⊢ WP c (k0_part66 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 7#32 : BitVec 1) : BitVec 32) (0#32) >>= k) Q := by
  rw [WP_bind, k0_part66_eq_skeleton]
  unfold k0_part66_skel
  iterate 9
    refine wait_step m K c (j := 4) (ck := 0) (by decide) (by decide) (by decide) (cond_ne c ⟨_, _⟩) (by exact fun _ => rfl) (by exact fun _ => rfl) ?_
  refine turn m K c (pack12 (wait_end m c _)) ?_
  refine load_arr m K c (j := 4) (ck := 0) rfl (arrV_even m c (by decide) _) ?_
  refine turn m K c pick1 ?_
  refine turn m K c pick2 ?_
  refine turn m K c (pack32 (drain_start m c _)) ?_
  exact part_end c H

theorem run67 (f0 : Vec F S4x1024 .f32) {R : sProp 𝕄} {α : Type} {Q : α → sProp 𝕄} {k : _ → Prog (TpuEff nD τ sig (Elt F) Λ₀ .tc) α}
    (H : iprop(Ctx m K ∗ Debt c (nOf 4 1 16) ∗ loop (AftW m c 4 1) (BefW m c 4 1) 9 ∗ CO c ((oM.access (oRect 0)).write (Elt F) f0 (outV m c 0) Finset.univ) ∗ R) ⊢ WP c (k ((Scalar.extui (Scalar.cmpi .ne (myW c) 9#32 : BitVec 1) : BitVec 32))) Q) :
    iprop(Ctx m K ∗ Debt c (nOf 4 1 16) ∗ CO c f0 ∗ loop (AftW m c 4 1) (BefW m c 4 1) 0 ∗ R)
      ⊢ WP c (k0_part67 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) ((k0_pay186 (rsV m 2 c 0))) >>= k) Q := by
  rw [WP_bind, k0_part67_eq_skeleton]
  unfold k0_part67_skel
  refine put_out m K c (ck := 0) rfl ?_
  refine turn m K c pick1 ?_
  iterate 9
    refine wait_step m K c (j := 4) (ck := 1) (by decide) (by decide) (by decide) (cond_ne c ⟨_, _⟩) (by exact fun _ => rfl) (by exact fun _ => rfl) ?_
  exact part_end c H

theorem run68 (f0 : Vec F S4x1024 .f32) {R : sProp 𝕄} {α : Type} {Q : α → sProp 𝕄} {k : _ → Prog (TpuEff nD τ sig (Elt F) Λ₀ .tc) α}
    (H : iprop(Ctx m K ∗ Debt c (nOf 4 1 16) ∗ loop (AftD m c 4 0) (BefD m c 4 0) 1 ∗ CO c ((oM.access (oRect 1)).write (Elt F) ((oM.access (oRect 0)).write (Elt F) f0 (outV m c 0) Finset.univ) (outV m c 1) Finset.univ) ∗ loop (AftD m c 4 1) (BefD m c 4 1) 0 ∗ Rest3 c 4 1 ∗ R) ⊢ WP c (k ((Scalar.cmpi .ne (myW c) 1#32 : BitVec 1))) Q) :
    iprop(Ctx m K ∗ Debt c (nOf 4 1 16) ∗ loop (AftW m c 4 1) (BefW m c 4 1) 9 ∗ Rest2 m c 4 1 ∗ CO c ((oM.access (oRect 0)).write (Elt F) f0 (outV m c 0) Finset.univ) ∗ loop (AftD m c 4 0) (BefD m c 4 0) 0 ∗ R)
      ⊢ WP c (k0_part68 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.extui (Scalar.cmpi .ne (myW c) 9#32 : BitVec 1) : BitVec 32) >>= k) Q := by
  rw [WP_bind, k0_part68_eq_skeleton]
  unfold k0_part68_skel
  iterate 7
    refine wait_step m K c (j := 4) (ck := 1) (by decide) (by decide) (by decide) (cond_ne c ⟨_, _⟩) (by exact fun _ => rfl) (by exact fun _ => rfl) ?_
  refine turn m K c (pack12 (wait_end m c _)) ?_
  refine load_arr m K c (j := 4) (ck := 1) rfl (arrV_even m c (by decide) _) ?_
  refine turn m K c pick1 ?_
  refine turn m K c pick2 ?_
  refine turn m K c (pack32 (drain_start m c _)) ?_
  refine turn m K c pick2 ?_
  refine put_out m K c (ck := 1) rfl ?_
  refine turn m K c pick3 ?_
  refine drain_step m K c (j := 4) (ck := 0) (by decide) (by decide) (cond_ne c ⟨_, _⟩) (by exact fun _ => rfl) (by exact fun _ => rfl) ?_
  exact part_end c H

theorem run69 {R : sProp 𝕄} {α : Type} {Q : α → sProp 𝕄} {k : _ → Prog (TpuEff nD τ sig (Elt F) Λ₀ .tc) α}
    (H : iprop(Ctx m K ∗ Debt c (nOf 4 1 16) ∗ loop (AftD m c 4 0) (BefD m c 4 0) 11 ∗ R) ⊢ WP c (k ((Scalar.cmpi .ne (myW c) 11#32 : BitVec 1))) Q) :
    iprop(Ctx m K ∗ Debt c (nOf 4 1 16) ∗ loop (AftD m c 4 0) (BefD m c 4 0) 1 ∗ R)
      ⊢ WP c (k0_part69 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.cmpi .ne (myW c) 1#32 : BitVec 1) >>= k) Q := by
  rw [WP_bind, k0_part69_eq_skeleton]
  unfold k0_part69_skel
  iterate 10
    refine drain_step m K c (j := 4) (ck := 0) (by decide) (by decide) (cond_ne c ⟨_, _⟩) (by exact fun _ => rfl) (by exact fun _ => rfl) ?_
  exact part_end c H

theorem run70 {R : sProp 𝕄} {α : Type} {Q : α → sProp 𝕄} {k : _ → Prog (TpuEff nD τ sig (Elt F) Λ₀ .tc) α}
    (H : iprop(Ctx m K ∗ Debt c (nOf 4 1 16) ∗ loop (AftD m c 4 1) (BefD m c 4 1) 5 ∗ CA c pM 0 ∗ Ready c 5 0 ∗ GG c (KeepO c 4 0) ∗ R) ⊢ WP c (k ((Scalar.cmpi .ne (myW c) 5#32 : BitVec 1))) Q) :
    iprop(Ctx m K ∗ Debt c (nOf 4 1 16) ∗ loop (AftD m c 4 0) (BefD m c 4 0) 11 ∗ Rest3 c 4 0 ∗ loop (AftD m c 4 1) (BefD m c 4 1) 0 ∗ R)
      ⊢ WP c (k0_part70 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.cmpi .ne (myW c) 11#32 : BitVec 1) >>= k) Q := by
  rw [WP_bind, k0_part70_eq_skeleton]
  unfold k0_part70_skel
  iterate 5
    refine drain_step m K c (j := 4) (ck := 0) (by decide) (by decide) (cond_ne c ⟨_, _⟩) (by exact fun _ => rfl) (by exact fun _ => rfl) ?_
  refine turn m K c (pack23 (drain_end m c _)) ?_
  refine turn m K c (pack11 (srcs_even m c rfl _)) ?_
  refine turn m K c pick3 ?_
  iterate 5
    refine drain_step m K c (j := 4) (ck := 1) (by decide) (by decide) (cond_ne c ⟨_, _⟩) (by exact fun _ => rfl) (by exact fun _ => rfl) ?_
  exact part_end c H

theorem run71 {R : sProp 𝕄} {α : Type} {Q : α → sProp 𝕄} {k : _ → Prog (TpuEff nD τ sig (Elt F) Λ₀ .tc) α}
    (H : iprop(Ctx m K ∗ Debt c (nOf 4 1 16) ∗ loop (AftD m c 4 1) (BefD m c 4 1) 15 ∗ R) ⊢ WP c (k ((Scalar.cmpi .ne (myW c) 15#32 : BitVec 1))) Q) :
    iprop(Ctx m K ∗ Debt c (nOf 4 1 16) ∗ loop (AftD m c 4 1) (BefD m c 4 1) 5 ∗ R)
      ⊢ WP c (k0_part71 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9 (myW c) (Scalar.cmpi .ne (myW c) 5#32 : BitVec 1) >>= k) Q := by
  rw [WP_bind, k0_part71_eq_skeleton]
  unfold k0_part71_skel
  iterate 10
    refine drain_step m K c (j := 4) (ck := 1) (by decide) (by decide) (cond_ne c ⟨_, _⟩) (by exact fun _ => rfl) (by exact fun _ => rfl) ?_
  exact part_end c H

end Cert.KernelIdeal.Mlp
-- ==== Proof.Body.lean ====
/-
The kernel's body as a whole: its parts one after the other.
-/
module

public import proofs.«01_k».proof.Proof.RunA
public import proofs.«01_k».proof.Proof.RunB
public import proofs.«01_k».proof.Proof.RunC
public import proofs.«01_k».proof.Proof.RunD

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

attribute [local irreducible] Scalar.divsi Scalar.remsi

variable (m : (ℓ : Loc nD τ sig) → Buf (Elt F) ℓ) (K : Dev nD × Fin 99 → ℕ) (c : Dev nD)

/-- The whole kernel, run once at a symbolic device. -/
theorem run_all (f0 : Vec F S4x1024 .f32) {R : sProp 𝕄} {Q : PUnit → sProp 𝕄}
    (H : iprop(Ctx m K ∗ Debt c (nOf 4 1 16) ∗ CA c pM 1 ∗ Ready c 5 1 ∗ GG c (KeepO c 4 1) ∗ CA c pM 0 ∗ Ready c 5 0 ∗ GG c (KeepO c 4 0) ∗ CO c ((oM.access (oRect 1)).write (Elt F) ((oM.access (oRect 0)).write (Elt F) f0 (outV m c 0) Finset.univ) (outV m c 1) Finset.univ) ∗ CY c 1 ∗ CY c 0 ∗ LdIn m c 1 2 ∗ LdIn m c 0 2 ∗ LdSrc m c 1 1 ∗ LdSrc m c 0 1 ∗ LdSrc m c 1 0 ∗ LdSrc m c 0 0 ∗ CX m c ∗ atPos ER (barC c) 1 ∅ 0 ∗ loop (AftB (F := F)) (BefB c) 16 ∗ R) ⊢ Q ⟨⟩) :
    iprop(Ctx m K ∗ Debt c 0 ∗ loop (AftB (F := F)) (BefB c) 0 ∗ LdReady m c 1 0 ∗ LdReady m c 0 0 ∗ CX m c ∗ Pre c 0 ∗ Pre c 1 ∗ (cred (tallyAt (barC c) 1 15) ∗ atPos ER (barC c) 0 ∅ 0) ∗ CA c pM 0 ∗ LdSrc m c 0 1 ∗ dutyTok ER (ldC c 0) 1 0 ∗ CA c pM 1 ∗ LdSrc m c 1 1 ∗ dutyTok ER (ldC c 1) 1 0 ∗ CY c 0 ∗ CY c 1 ∗ LdSrc m c 0 2 ∗ dutyTok ER (ldC c 0) 2 0 ∗ LdSrc m c 1 2 ∗ dutyTok ER (ldC c 1) 2 0 ∗ CO c f0 ∗ R)
      ⊢ WP c (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9) Q := by
  rw [cc0_body_eq_skeleton]
  unfold cc0_body_skel
  rw [WP_bind, k0_part72_eq_skeleton]
  unfold k0_part72_skel
  refine turn m K c pick1 ?_
  refine turn m K c pick2 ?_
  refine run1 m K c ?_
  refine turn m K c pick3 ?_
  refine turn m K c pick4 ?_
  refine turn m K c pick5 ?_
  refine turn m K c pick6 ?_
  refine turn m K c pick4 ?_
  refine run2 m K c ?_
  refine turn m K c pick1 ?_
  refine turn m K c pick7 ?_
  refine turn m K c pick6 ?_
  refine turn m K c pick8 ?_
  refine turn m K c pick9 ?_
  refine turn m K c pick9 ?_
  refine turn m K c pick6 ?_
  refine run3 m K c ?_
  refine run4 m K c ?_
  refine run5 m K c ?_
  refine run6 m K c ?_
  refine turn m K c pick6 ?_
  refine turn m K c pick9 ?_
  refine turn m K c pick3 ?_
  refine turn m K c pick3 ?_
  refine run7 m K c ?_
  refine run8 m K c ?_
  refine run9 m K c ?_
  refine turn m K c pick2 ?_
  refine turn m K c pick4 ?_
  refine turn m K c pick10 ?_
  refine turn m K c pick11 ?_
  refine turn m K c pick5 ?_
  refine turn m K c pick5 ?_
  refine run10 m K c ?_
  refine run11 m K c ?_
  refine turn m K c pick11 ?_
  refine turn m K c pick6 ?_
  refine turn m K c pick2 ?_
  refine run12 m K c ?_
  refine run13 m K c ?_
  refine turn m K c pick1 ?_
  refine turn m K c pick2 ?_
  refine turn m K c pick2 ?_
  refine run14 m K c ?_
  refine run15 m K c ?_
  refine run16 m K c ?_
  refine turn m K c pick5 ?_
  refine turn m K c pick2 ?_
  refine turn m K c pick2 ?_
  refine run17 m K c ?_
  refine turn m K c pick6 ?_
  refine turn m K c pick1 ?_
  refine run18 m K c ?_
  refine turn m K c pick12 ?_
  refine run19 m K c ?_
  refine turn m K c pick1 ?_
  refine turn m K c pick2 ?_
  refine turn m K c pick2 ?_
  refine run20 m K c ?_
  refine run21 m K c ?_
  refine run22 m K c ?_
  refine turn m K c pick8 ?_
  refine turn m K c pick2 ?_
  refine turn m K c pick2 ?_
  refine run23 m K c ?_
  refine turn m K c pick4 ?_
  refine turn m K c pick13 ?_
  refine turn m K c pick14 ?_
  refine turn m K c pick3 ?_
  refine run24 m K c ?_
  refine turn m K c pick3 ?_
  refine turn m K c pick6 ?_
  refine turn m K c pick2 ?_
  refine run25 m K c ?_
  refine run26 m K c ?_
  refine turn m K c pick8 ?_
  refine turn m K c pick6 ?_
  refine turn m K c pick2 ?_
  refine run27 m K c ?_
  refine turn m K c pick3 ?_
  refine turn m K c pick8 ?_
  refine run28 m K c ?_
  refine turn m K c pick1 ?_
  refine turn m K c pick5 ?_
  refine turn m K c pick2 ?_
  refine run29 m K c ?_
  refine run30 m K c ?_
  refine run31 m K c ?_
  refine run32 m K c ?_
  refine turn m K c pick4 ?_
  refine turn m K c pick8 ?_
  refine run33 m K c ?_
  refine turn m K c pick1 ?_
  refine turn m K c pick6 ?_
  refine turn m K c pick2 ?_
  refine run34 m K c ?_
  refine run35 m K c ?_
  refine run36 m K c ?_
  refine turn m K c pick6 ?_
  refine turn m K c pick14 ?_
  refine turn m K c pick15 ?_
  refine turn m K c pick4 ?_
  refine turn m K c pick4 ?_
  refine run37 m K c ?_
  refine turn m K c pick5 ?_
  refine run38 m K c ?_
  refine turn m K c pick7 ?_
  refine turn m K c pick7 ?_
  refine turn m K c pick2 ?_
  refine run39 m K c ?_
  refine run40 m K c ?_
  refine turn m K c pick1 ?_
  refine turn m K c pick2 ?_
  refine turn m K c pick2 ?_
  refine run41 m K c ?_
  refine run42 m K c ?_
  refine run43 m K c ?_
  refine turn m K c pick5 ?_
  refine turn m K c pick2 ?_
  refine turn m K c pick2 ?_
  refine run44 m K c ?_
  refine run45 m K c ?_
  refine turn m K c pick7 ?_
  refine turn m K c pick7 ?_
  refine turn m K c pick2 ?_
  refine run46 m K c ?_
  refine run47 m K c ?_
  refine turn m K c pick1 ?_
  refine turn m K c pick2 ?_
  refine turn m K c pick2 ?_
  refine run48 m K c ?_
  refine run49 m K c ?_
  refine run50 m K c ?_
  refine turn m K c pick3 ?_
  refine turn m K c pick8 ?_
  refine turn m K c pick3 ?_
  refine turn m K c pick3 ?_
  refine run51 m K c ?_
  refine run52 m K c ?_
  refine turn m K c pick2 ?_
  refine turn m K c pick5 ?_
  refine turn m K c pick2 ?_
  refine run53 m K c ?_
  refine turn m K c pick4 ?_
  refine turn m K c pick1 ?_
  refine run54 m K c ?_
  refine turn m K c pick2 ?_
  refine turn m K c pick6 ?_
  refine turn m K c pick7 ?_
  refine run55 m K c ?_
  refine run56 m K c ?_
  refine turn m K c pick1 ?_
  refine turn m K c pick5 ?_
  refine turn m K c pick2 ?_
  refine run57 m K c ?_
  refine run58 m K c ?_
  refine run59 m K c ?_
  refine turn m K c pick4 ?_
  refine turn m K c pick7 ?_
  refine turn m K c pick3 ?_
  refine turn m K c pick3 ?_
  refine run60 m K c ?_
  refine part_end c ?_
  refine run61 m K c ?_
  refine turn m K c pick1 ?_
  refine turn m K c pick6 ?_
  refine turn m K c pick2 ?_
  refine run62 m K c ?_
  refine run63 m K c ?_
  refine run64 m K c ?_
  refine turn m K c pick3 ?_
  refine turn m K c pick2 ?_
  refine turn m K c pick2 ?_
  refine run65 m K c ?_
  refine turn m K c pick4 ?_
  refine turn m K c pick1 ?_
  refine run66 m K c ?_
  refine turn m K c pick2 ?_
  refine turn m K c pick15 ?_
  refine run67 m K c f0 ?_
  refine turn m K c pick2 ?_
  refine turn m K c pick2 ?_
  refine turn m K c pick4 ?_
  refine turn m K c pick3 ?_
  refine run68 m K c f0 ?_
  refine run69 m K c ?_
  refine turn m K c pick2 ?_
  refine turn m K c pick4 ?_
  refine turn m K c pick2 ?_
  refine run70 m K c ?_
  refine run71 m K c ?_
  refine drain_step m K c (j := 4) (ck := 1) (by decide) (by decide) (cond_ne c ⟨_, _⟩) (by exact fun _ => rfl) (by exact fun _ => rfl) ?_
  refine turn m K c pick5 ?_
  refine turn m K c pick1 ?_
  refine turn m K c (pack23 (drain_end m c _)) ?_
  refine turn m K c (pack11 (srcs_even m c rfl _)) ?_
  refine H.trans ?_
  unfold WP
  rw [Prog.pure_eq_ret, wp_ret]
  iintro H
  imodintro
  iexact H

end Cert.KernelIdeal.Mlp
-- ==== Proof.Cells.lean ====
/-
The shared semaphores, payments and credit of a device, as the launch deals them.
-/
module

public import proofs.«01_k».proof.Proof.Glue

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### Small things about big conjunctions -/

omit [FloatOps F] in
theorem with_ctx {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (bigSep_of_persistent S R)).trans (by rw [← bigSep_sep' S (fun _ => R) Φ]; exact bigSep_mono h)

omit [FloatOps F] in
theorem two_sep (Φ : Fin 2 → sProp 𝕄) : bigSep Finset.univ Φ = iprop(Φ 0 ∗ Φ 1) := bigSep_univ_eq_bigSepL [0, 1] (by decide) (by decide) Φ
omit [FloatOps F] in
theorem three_sep (Φ : Fin 3 → sProp 𝕄) : bigSep Finset.univ Φ = iprop(Φ 0 ∗ Φ 1 ∗ Φ 2) := bigSep_univ_eq_bigSepL [0, 1, 2] (by decide) (by decide) Φ
omit [FloatOps F] in
theorem five_sep (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem fsum_cred {α : Type} (s : Finset α) (f : α → CellTallies nD τ sig ℕ) :
    (cred (∑ x ∈ s, f x) : sProp 𝕄) = bigSep s fun x => cred (f x) := by
  classical
  induction s using Finset.induction_on with
  | empty => rw [Finset.sum_empty, cred_zero, bigSep_empty]; rfl
  | insert a s ha ih =>
    rw [Finset.sum_insert ha, bigSep_insert ha, ← ih]
    exact Entails.antisymm (cred_add _ _).1 (cred_add _ _).2

omit [FloatOps F] in
theorem drop_left (A B : sProp 𝕄) : iprop(A ∗ B) ⊢ B := by
  iintro ⟨-, H⟩
  iexact H

/-! ### The shared semaphores of a device, by their use -/

/-- The barrier; the exchanges'; the loads'. -/
abbrev CI : Type := Unit ⊕ (Fin 3 × Fin 2 × Dev nD) ⊕ Fin 2

def ciNum : CI → Fin 99
  | .inl _ => 0
  | .inr (.inl x) => ⟨1 + 32 * x.1.val + 16 * x.2.1.val + x.2.2.val, by
      have h1 := x.1.isLt; have h2 := x.2.1.isLt; have h3 : x.2.2.val < 16 := x.2.2.isLt; omega⟩
  | .inr (.inr i) => ⟨97 + i.val, by have h := i.isLt; omega⟩

theorem ciNum_inj : Function.Injective ciNum := by
  intro x y h
  have h := congrArg Fin.val h
  match x, y, h with
  | .inl _, .inl _, _ => rfl
  | .inl _, .inr (.inl y), h => change 0 = 1 + 32 * y.1.val + 16 * y.2.1.val + y.2.2.val at h; omega
  | .inl _, .inr (.inr i), h => change 0 = 97 + i.val at h; omega
  | .inr (.inl y), .inl _, h => change 1 + 32 * y.1.val + 16 * y.2.1.val + y.2.2.val = 0 at h; omega
  | .inr (.inr i), .inl _, h => change 97 + i.val = 0 at h; omega
  | .inr (.inl (a, k, q)), .inr (.inl (a', k', q')), h =>
    change 1 + 32 * a.val + 16 * k.val + q.val = 1 + 32 * a'.val + 16 * k'.val + q'.val at h
    have h1 := k.isLt; have h2 := k'.isLt; have h3 : q.val < 16 := q.isLt; have h4 : q'.val < 16 := q'.isLt
    have e1 : a = a' := Fin.ext (by omega)
    have e2 : k = k' := Fin.ext (by omega)
    have e3 : q = q' := Fin.ext (by omega)
    rw [e1, e2, e3]
  | .inr (.inl (a, k, q)), .inr (.inr i), h =>
    change 1 + 32 * a.val + 16 * k.val + q.val = 97 + i.val at h
    have h0 := a.isLt; have h1 := k.isLt; have h3 : q.val < 16 := q.isLt
    omega
  | .inr (.inr i), .inr (.inl (a, k, q)), h =>
    change 97 + i.val = 1 + 32 * a.val + 16 * k.val + q.val at h
    have h0 := a.isLt; have h1 := k.isLt; have h3 : q.val < 16 := q.isLt
    omega
  | .inr (.inr i), .inr (.inr i'), h =>
    change 97 + i.val = 97 + i'.val at h
    rw [show i = i' from Fin.ext (by omega)]

theorem ciNum_bij : Function.Bijective ciNum := (Fintype.bijective_iff_injective_and_card ciNum).2 ⟨ciNum_inj, by
  rw [Fintype.card_sum, Fintype.card_sum, Fintype.card_prod, Fintype.card_prod, Fintype.card_fin, Fintype.card_fin, Fintype.card_fin, Fintype.card_fin]
  rfl⟩

def ciCell (c : Dev nD) : CI → GSem nD τ sig
  | .inl _ => barC c
  | .inr (.inl x) => ((c : Thread nD τ), .dma (xS x.1 x.2.1 x.2.2))
  | .inr (.inr i) => ldC c i

theorem kcell_ci (c : Dev nD) (x : CI) : kcell (c, ciNum x) = ciCell c x := by
  match x with
  | .inl _ => rfl
  | .inr (.inl x) => unfold kcell ciNum ciCell; dsimp only; rw [csem_x]
  | .inr (.inr i) => unfold kcell ciNum ciCell; dsimp only; rw [csem_w]

theorem csem_inj : Function.Injective csem := by
  intro k k' h
  unfold csem at h
  apply Fin.ext
  split at h
  · split at h
    · omega
    · cases h
  · split at h
    · cases h
    · have := congrArg Fin.val (SemLoc.dma.inj h)
      change k.val + 1 = k'.val + 1 at this
      omega

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

section Cells

variable (c : Dev nD)

/-- The cell of chunk `ck` and device `q` of array `a`. -/
abbrev xC (a : Fin 3) (ck : Fin 2) (q : Dev nD) : GSem nD τ sig := ((c : Thread nD τ), .dma (xS a ck q))

omit [FloatOps F] in
/-- One of each for the shared semaphores of device `c`, sorted. -/
theorem cells_split (Φ : GSem nD τ sig → sProp 𝕄) :
    (bigSep Finset.univ fun k : Fin 99 => Φ (kcell (c, k)))
      = iprop(Φ (barC c) ∗ (bigSep Finset.univ fun a : Fin 3 => bigSep Finset.univ fun ck : Fin 2 => iprop(Φ (xC c a ck c) ∗ GG c fun q => Φ (xC c a ck q)))
          ∗ Φ (ldC c 0) ∗ Φ (ldC c 1)) := by
  rw [bigSep_univ_equiv (Equiv.ofBijective ciNum ciNum_bij) (fun k : Fin 99 => Φ (kcell (c, k))),
    show (fun x : CI => Φ (kcell (c, Equiv.ofBijective ciNum ciNum_bij x))) = (fun x : CI => Φ (ciCell c x)) from
      funext fun x => congrArg Φ (kcell_ci c x),
    bigSep_univ_sum, bigSep_univ_sum, bigSep_univ_prod, two_sep]
  have e1 : (bigSep Finset.univ fun a : Unit => Φ (ciCell c (.inl a))) = Φ (barC c) := bigSep_singleton
  have e2 : (bigSep Finset.univ fun a : Fin 3 => bigSep Finset.univ fun b : Fin 2 × Dev nD => Φ (ciCell c (.inr (.inl (a, b)))))
      = bigSep Finset.univ fun a : Fin 3 => bigSep Finset.univ fun ck : Fin 2 => iprop(Φ (xC c a ck c) ∗ GG c fun q => Φ (xC c a ck q)) :=
    bigSep_congr fun a _ => by
      rw [bigSep_univ_prod]
      exact bigSep_congr fun ck _ => univ_GG c _
  rw [e1, e2]
  rfl

/-! ### Payments -/

/-- The payments a device makes: barrier signals, the two sides of its sends, its loads. -/
abbrev TI : Type := Dev nD ⊕ ((Fin 5 × Fin 2) × Dev nD) ⊕ ((Fin 5 × Fin 2) × Dev nD) ⊕ (Fin 2 × Fin 3)

def tokOf : Dev nD × TI → GSem nD τ sig × ℕ × D
  | (c, .inl q) => (barC q, 0, c)
  | (c, .inr (.inl x)) => (sndC c x.1.2 x.2, x.1.1.val, 0)
  | (c, .inr (.inr (.inl x))) => (rcvC x.2 x.1.1.val x.1.2 c, x.1.1.val / 2, 0)
  | (c, .inr (.inr (.inr x))) => (ldC c x.1, x.2.val, 0)

theorem jA_ne (j : ℕ) : (0 : Fin 3) ≠ jA j := by unfold jA; split <;> decide
theorem jA_eq {j j' : ℕ} (h : jA j = jA j') : j % 2 = j' % 2 := by
  have := congrArg Fin.val h
  rw [jA_val, jA_val] at this
  omega
theorem wS_inj {i i' : Fin 2} (h : wS i = wS i') : i = i' := by
  have := congrArg Fin.val h
  rw [wS_val, wS_val] at this
  exact Fin.ext (by omega)

theorem tokOf_inj : Function.Injective tokOf := by
  rintro ⟨c, x⟩ ⟨c', x'⟩ h
  have hd : (tokOf (c, x)).1.1.1 = (tokOf (c', x')).1.1.1 := by rw [h]
  have hs : (tokOf (c, x)).1.2 = (tokOf (c', x')).1.2 := by rw [h]
  have hr : (tokOf (c, x)).2.1 = (tokOf (c', x')).2.1 := by rw [h]
  have hq : (tokOf (c, x)).2.2 = (tokOf (c', x')).2.2 := by rw [h]
  match x, x' with
  | .inl q, .inl q' =>
    have e1 : q = q' := hd
    have e2 : c = c' := hq
    rw [e1, e2]
  | .inl q, .inr (.inl y) => cases hs
  | .inl q, .inr (.inr (.inl y)) => cases hs
  | .inl q, .inr (.inr (.inr y)) => cases hs
  | .inr (.inl y), .inl q => cases hs
  | .inr (.inr (.inl y)), .inl q => cases hs
  | .inr (.inr (.inr y)), .inl q => cases hs
  | .inr (.inl ((j, k), q)), .inr (.inl ((j', k'), q')) =>
    have e := xS_inj (SemLoc.dma.inj hs)
    have e1 : c = c' := hd
    have e2 : j = j' := Fin.ext hr
    have e3 : k = k' := e.2.1
    have e4 : q = q' := e.2.2
    rw [e1, e2, e3, e4]
  | .inr (.inl ((j, k), q)), .inr (.inr (.inl ((j', k'), q'))) => exact absurd (xS_inj (SemLoc.dma.inj hs)).1 (jA_ne _)
  | .inr (.inl ((j, k), q)), .inr (.inr (.inr y)) => exact absurd (SemLoc.dma.inj hs) (xS_ne_wS _ _ _ _)
  | .inr (.inr (.inl ((j, k), q))), .inr (.inl ((j', k'), q')) => exact absurd (xS_inj (SemLoc.dma.inj hs)).1.symm (jA_ne _)
  | .inr (.inr (.inr y)), .inr (.inl ((j', k'), q')) => exact absurd (SemLoc.dma.inj hs).symm (xS_ne_wS _ _ _ _)
  | .inr (.inr (.inl ((j, k), q))), .inr (.inr (.inl ((j', k'), q'))) =>
    have e := xS_inj (SemLoc.dma.inj hs)
    have e1 : q = q' := hd
    have e0 : j.val % 2 = j'.val % 2 := jA_eq e.1
    have e5 : j.val / 2 = j'.val / 2 := hr
    have e2 : j = j' := Fin.ext (by omega)
    have e3 : k = k' := e.2.1
    have e4 : c = c' := e.2.2
    rw [e1, e2, e3, e4]
  | .inr (.inr (.inl ((j, k), q))), .inr (.inr (.inr y)) => exact absurd (SemLoc.dma.inj hs) (xS_ne_wS _ _ _ _)
  | .inr (.inr (.inr y)), .inr (.inr (.inl ((j', k'), q'))) => exact absurd (SemLoc.dma.inj hs).symm (xS_ne_wS _ _ _ _)
  | .inr (.inr (.inr (i, l))), .inr (.inr (.inr (i', l'))) =>
    have e1 : c = c' := hd
    have e2 : i = i' := wS_inj (SemLoc.dma.inj hs)
    have e3 : l = l' := Fin.ext hr
    rw [e1, e2, e3]

def allCells : Finset (GSem nD τ sig) := Finset.univ.map ⟨kcell, kcell_inj⟩
def allToks : Finset (GSem nD τ sig × ℕ × D) := Finset.univ.map ⟨tokOf, tokOf_inj⟩

/-- What device `c` pays with. -/
def payToks : sProp 𝕄 :=
  iprop((bigSep Finset.univ fun q : Dev nD => dutyTok ER (barC q) 0 c)
    ∗ (bigSep Finset.univ fun x : Fin 5 × Fin 2 => bigSep Finset.univ fun q : Dev nD => dutyTok ER (sndC c x.2 q) x.1.val 0)
    ∗ (bigSep Finset.univ fun x : Fin 5 × Fin 2 => bigSep Finset.univ fun q : Dev nD => dutyTok ER (rcvC q x.1.val x.2 c) (x.1.val / 2) 0)
    ∗ (bigSep Finset.univ fun i : Fin 2 => bigSep Finset.univ fun l : Fin 3 => dutyTok ER (ldC c i) l.val 0))

omit [FloatOps F] in
theorem toks_split : bigSep allToks (fun x => (dutyTok ER x.1 x.2.1 x.2.2 : sProp 𝕄)) = bigSep Finset.univ fun c : Dev nD => payToks c := by
  unfold allToks
  rw [bigSep_map, bigSep_univ_prod]
  refine bigSep_congr fun c _ => ?_
  unfold payToks
  rw [bigSep_univ_sum, bigSep_univ_sum, bigSep_univ_sum]
  exact congrArg₂ BI.sep rfl (congrArg₂ BI.sep (bigSep_univ_prod _) (congrArg₂ BI.sep (bigSep_univ_prod _) (bigSep_univ_prod _)))

/-! ### Credit -/

def unitIx : Dev nD ⊕ ((Fin 5 × Fin 2) × Dev nD) → Fin 176
  | .inl q => ⟨q.val, by have h : q.val < 16 := q.isLt; omega⟩
  | .inr x => ⟨nOf x.1.1.val x.1.2 x.2.val, by
      have h1 := x.1.1.isLt; have h2 := x.1.2.isLt; have h3 : x.2.val < 16 := x.2.isLt; unfold nOf; omega⟩

theorem unitIx_bij : Function.Bijective unitIx := (Fintype.bijective_iff_injective_and_card unitIx).2 ⟨by
  intro x y h
  have h := congrArg Fin.val h
  match x, y, h with
  | .inl q, .inl q', h => rw [show q = q' from Fin.ext h]
  | .inl q, .inr ((j, k), q'), h =>
    change q.val = 16 * (2 * j.val + k.val + 1) + q'.val at h
    have h3 : q.val < 16 := q.isLt
    omega
  | .inr ((j, k), q'), .inl q, h =>
    change 16 * (2 * j.val + k.val + 1) + q'.val = q.val at h
    have h3 : q.val < 16 := q.isLt
    omega
  | .inr ((j, k), q), .inr ((j', k'), q'), h =>
    change 16 * (2 * j.val + k.val + 1) + q.val = 16 * (2 * j'.val + k'.val + 1) + q'.val at h
    have h1 := k.isLt; have h2 := k'.isLt; have h3 : q.val < 16 := q.isLt; have h4 : q'.val < 16 := q'.isLt
    have e1 : j = j' := Fin.ext (by omega)
    have e2 : k = k' := Fin.ext (by omega)
    have e3 : q = q' := Fin.ext (by omega)
    rw [e1, e2, e3], by
  rw [Fintype.card_sum, Fintype.card_prod, Fintype.card_prod, Fintype.card_fin, Fintype.card_fin, Fintype.card_fin, Fintype.card_fin]
  rfl⟩

theorem owed_all (d : Dev nD) :
    owed d 0 = ∑ q : Dev nD, unitOf d q.val + ∑ x : Fin 5 × Fin 2, ∑ q : Dev nD, unitOf d (nOf x.1.val x.2 q.val) := by
  unfold owed
  rw [← Finset.range_eq_Ico, Finset.sum_range, ← unitIx_bij.sum_comp, Fintype.sum_sum_type, Fintype.sum_prod_type]
  rfl

/-- What the others owe device `c`. -/
def dueTo : CellTallies nD τ sig ℕ :=
  ∑ d : Dev nD, unitOf d c.val + ∑ x : Fin 5 × Fin 2, ∑ d : Dev nD, unitOf d (nOf x.1.val x.2 c.val)

theorem owed_dueTo : (∑ d : Dev nD, owed d 0) = ∑ c : Dev nD, dueTo c := by
  have hB : (∑ d : Dev nD, ∑ x : Fin 5 × Fin 2, ∑ q : Dev nD, unitOf d (nOf x.1.val x.2 q.val))
      = ∑ q : Dev nD, ∑ x : Fin 5 × Fin 2, ∑ d : Dev nD, unitOf d (nOf x.1.val x.2 q.val) := by
    rw [Finset.sum_comm]
    exact (Finset.sum_congr rfl fun x _ => Finset.sum_comm).trans Finset.sum_comm
  have hA : (∑ d : Dev nD, ∑ q : Dev nD, unitOf d q.val) = ∑ q : Dev nD, ∑ d : Dev nD, unitOf d q.val := Finset.sum_comm
  calc (∑ d : Dev nD, owed d 0) = _ := Finset.sum_congr rfl fun d _ => owed_all d
    _ = _ := Finset.sum_add_distrib
    _ = _ := by rw [hA, hB]
    _ = ∑ c : Dev nD, dueTo c := Finset.sum_add_distrib.symm

theorem unit_bar_at (d q : Dev nD) {g : GSem nD τ sig} (h : g.1 ≠ (q : Thread nD τ)) : unitOf d q.val g = 0 := by
  by_cases e : q = d
  · subst e
    rw [unit_self q (Nat.mod_eq_of_lt q.isLt)]
    rfl
  · rw [unit_bar d q e]
    exact tallyAt_ne_cell (fun e => h (congrArg Prod.fst e)) _ _
theorem unit_snd_at (d q : Dev nD) (j : ℕ) (ck : Fin 2) {g : GSem nD τ sig} (h : g.1 ≠ (q : Thread nD τ)) : unitOf d (nOf j ck q.val) g = 0 := by
  have hq : q.val < 16 := q.isLt
  by_cases e : q = d
  · subst e
    rw [unit_self q (by unfold nOf; omega)]
    rfl
  · rw [unit_snd d j ck q e]
    exact tallyAt_ne_cell (fun e => h (congrArg Prod.fst e)) _ _

theorem dueTo_own (d : Dev nD) (g : GSem nD τ sig) (h : dueTo d g ≠ 0) : g.1 = (d : Thread nD τ) := by
  by_contra hne
  apply h
  unfold dueTo
  rw [Pi.add_apply, Finset.sum_apply, Finset.sum_apply, Finset.sum_eq_zero fun d' _ => unit_bar_at d' d hne, zero_add]
  exact Finset.sum_eq_zero fun x _ => by rw [Finset.sum_apply]; exact Finset.sum_eq_zero fun d' _ => unit_snd_at d' d x.1.val x.2 hne

theorem sum_tally {α : Type} [DecidableEq α] (s : Finset α) (g : GSem nD τ sig) : (∑ _x ∈ s, (tallyAt g 1 1 : CellTallies nD τ sig ℕ)) = tallyAt g 1 s.card := by
  induction s using Finset.induction_on with
  | empty => rw [Finset.sum_empty, Finset.card_empty, tallyAt_zero]
  | insert a s ha ih => rw [Finset.sum_insert ha, ih, Finset.card_insert_of_notMem ha, tallyAt_add, Nat.add_comm]

theorem bar_due : (∑ d : Dev nD, unitOf d c.val) = tallyAt (barC c) 1 15 := by
  rw [← Finset.sum_erase (a := c) Finset.univ (unit_self c (Nat.mod_eq_of_lt c.isLt)),
    Finset.sum_congr rfl fun d hd => unit_bar d c (Ne.symm (Finset.ne_of_mem_erase hd)), sum_tally,
    Finset.card_erase_of_mem (Finset.mem_univ _), Finset.card_univ]
  rfl

omit [FloatOps F] in
/-- The launch's credit, sorted. -/
theorem credit_split :
    (Pipeline.launchCred (fun d => owed d 0) c : sProp 𝕄)
      ⊢ iprop(cred (tallyAt (barC c) 1 15) ∗ bigSep Finset.univ fun x : Fin 5 × Fin 2 => GG c (Cr c x.1.val x.2)) := by
  rw [Pipeline.launchCred_of_sum (fun d => owed d 0) dueTo owed_dueTo dueTo_own c]
  unfold dueTo
  refine (cred_add _ _).1.trans ?_
  rw [bar_due, fsum_cred]
  refine sep_mono_right (bigSep_mono fun x _ => ?_)
  rw [fsum_cred, univ_GG c]
  have h : GG c (fun d => (cred (unitOf d (nOf x.1.val x.2 c.val)) : sProp 𝕄)) = GG c (Cr c x.1.val x.2) :=
    GG_congr c fun d hd => by unfold Cr; rw [unit_snd d x.1.val x.2 c (Ne.symm hd)]
  rw [h]
  exact drop_left _ _

/-- What the exchanges of one chunk will use, from all of its parts. -/
theorem fut_intro (ck : Fin 2) : (bigSep Finset.univ fun j : Fin 5 => iprop(GG c (Tok (F := F) c j.val ck) ∗ GG c (Cr c j.val ck))) ⊢ Fut c ck 5 := by
  have h : Fut (F := F) c ck 5 = iprop(GG c (Tok c 0 ck) ∗ GG c (Cr c 0 ck) ∗ GG c (Tok c 1 ck) ∗ GG c (Cr c 1 ck) ∗ GG c (Tok c 2 ck) ∗ GG c (Cr c 2 ck)
      ∗ GG c (Tok c 3 ck) ∗ GG c (Cr c 3 ck) ∗ GG c (Tok c 4 ck) ∗ GG c (Cr c 4 ck) ∗ emp) := rfl
  rw [five_sep, h]
  iintro ⟨⟨H0, G0⟩, ⟨H1, G1⟩, ⟨H2, G2⟩, ⟨H3, G3⟩, ⟨H4, G4⟩⟩
  isplitl [H0]; · iexact H0
  isplitl [G0]; · iexact G0
  isplitl [H1]; · iexact H1
  isplitl [G1]; · iexact G1
  isplitl [H2]; · iexact H2
  isplitl [G2]; · iexact G2
  isplitl [H3]; · iexact H3
  isplitl [G3]; · iexact G3
  isplitl [H4]; · iexact H4
  isplitl [G4]; · iexact G4
  iempintro

end Cells

end Cert.KernelIdeal.Mlp
-- ==== Proof.Deal.lean ====
/-
What a device starts with, cut as the kernel uses it, and what it ends with, put together again.
-/
module

public import proofs.«01_k».proof.Proof.Cells

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 99 → ℕ) (c : Dev nD)

/-! ### Buffers -/

theorem buf_split (M : M4) (f : Buf (Elt F) (M.view.loc (c : Thread nD τ))) :
    (M.view.loc (c : Thread nD τ) ↦[M.view.set]{fullShare} f : sProp 𝕄) ⊢ iprop(CA c M 0 ∗ CA c M 1) := by
  have e : M.view.set = cSet M 0 ∪ cSet M 1 := by
    rw [set_eq M, show (Finset.univ : Finset (Fin 2)) = {0, 1} from by decide, Finset.biUnion_insert, Finset.singleton_biUnion]
  rw [e]
  exact (pointsTo_union (cSet_disjoint M (by decide))).1.trans (BI.sep_mono (chunk_any c M 0 f) (chunk_any c M 1 f))

include m in
theorem buf_join (M : M4) : iprop(CA (F := F) c M 0 ∗ CA c M 1) ⊢ iprop(∃ f, M.view.loc (c : Thread nD τ) ↦[M.view.set]{fullShare} f) := by
  have e : M.view.set = cSet M 0 ∪ cSet M 1 := by
    rw [set_eq M, show (Finset.univ : Finset (Fin 2)) = {0, 1} from by decide, Finset.biUnion_insert, Finset.singleton_biUnion]
  rw [e]
  iintro ⟨H0, H1⟩
  ihave ⟨%v0, G0⟩ := (CA_vals m c M 0) $$ H0
  ihave ⟨%v1, G1⟩ := (CA_vals m c M 1) $$ H1
  ihave ⟨%f0, -, J0⟩ := (chunk_join m c M 0 v0) $$ G0
  ihave ⟨%f1, -, J1⟩ := (chunk_join m c M 1 v1) $$ G1
  iexists ((cSet M 1).piecewise f1 f0)
  iapply (pointsTo_join (cSet_disjoint M (by decide))) $$ [J0 J1]
  isplitl [J0]
  · iexact J0
  · iexact J1

theorem mem_y {ck : Fin 2} {i : S2x4x512.Idx} : i ∈ (ySl ck).view.set ↔ (i 0).val = ck.val := by
  rw [y_set]
  show i ∈ Finset.univ.map _ ↔ _
  simp only [Finset.mem_map, Finset.mem_univ, true_and]
  constructor
  · rintro ⟨z, hz⟩
    rw [← hz]
    have h0 : (z 0).val = 0 := by have := (z 0).isLt; change (z 0).val < 1 at this; omega
    show ck.val + 1 * (z 0).val = ck.val
    omega
  · intro h
    refine ⟨Fin.cons (α := fun i => Fin (S1x4x512.size i)) (0 : Fin 1) (fun a : Fin 2 => i a.succ), ?_⟩
    show (yRect ck).emb _ = i
    funext a
    apply Fin.ext
    rw [Rect.emb_apply]
    match a with
    | ⟨0, _⟩ => show ck.val + 1 * 0 = (i 0).val; omega
    | ⟨1, _⟩ => show 0 + 1 * (i 1).val = (i 1).val; omega
    | ⟨2, _⟩ => show 0 + 1 * (i 2).val = (i 2).val; omega

theorem y_all : (Finset.univ : Finset S2x4x512.Idx) = (ySl 0).view.set ∪ (ySl 1).view.set := by
  ext i
  refine ⟨fun _ => ?_, fun _ => Finset.mem_univ _⟩
  refine Finset.mem_union.2 ?_
  have h : (i 0).val < 2 := (i 0).isLt
  rcases Nat.lt_or_ge (i 0).val 1 with h1 | h1
  · exact Or.inl (mem_y.2 (show (i 0).val = 0 by omega))
  · exact Or.inr (mem_y.2 (show (i 0).val = 1 by omega))
theorem y_disj : Disjoint ((ySl 0).view.set : Finset S2x4x512.Idx) (ySl 1).view.set := by
  rw [Finset.disjoint_left]
  intro i h h'
  exact absurd ((mem_y.1 h).symm.trans (mem_y.1 h')) (by show ¬ (0 : ℕ) = 1; omega)

theorem y_split (f : Buf (Elt F) ((c : Thread nD τ).loc cc0_scratch3)) : ((c : Thread nD τ).loc cc0_scratch3 ↦{fullShare} f : sProp 𝕄) ⊢ iprop(CY c 0 ∗ CY c 1) := by
  have h : ((c : Thread nD τ).loc cc0_scratch3 ↦{fullShare} f : sProp 𝕄)
      = ((ySl 0).view.loc (c : Thread nD τ) ↦[(ySl 0).view.set ∪ (ySl 1).view.set]{fullShare} f) := congrArg (fun S => ((c : Thread nD τ).loc cc0_scratch3 ↦[S]{fullShare} f : sProp 𝕄)) y_all
  rw [h]
  refine (pointsTo_union y_disj).1.trans ?_
  unfold CY
  iintro ⟨H0, H1⟩
  isplitl [H0]
  · iexists f
    iexact H0
  · iexists f
    iexact H1

theorem y_join : iprop(CY (F := F) c 0 ∗ CY c 1) ⊢ iprop(∃ f : Buf (Elt F) ((c : Thread nD τ).loc cc0_scratch3), (c : Thread nD τ).loc cc0_scratch3 ↦{fullShare} f) := by
  unfold CY
  iintro ⟨⟨%f0, H0⟩, ⟨%f1, H1⟩⟩
  iexists (((ySl 1).view.set : Finset S2x4x512.Idx).piecewise f1 f0)
  have h : iprop(((ySl 0).view.loc (c : Thread nD τ) ↦[(ySl 0).view.set]{fullShare} f0) ∗ (ySl 1).view.loc (c : Thread nD τ) ↦[(ySl 1).view.set]{fullShare} f1)
      ⊢ ((c : Thread nD τ).loc cc0_scratch3 ↦{fullShare} (((ySl 1).view.set : Finset S2x4x512.Idx).piecewise f1 f0) : sProp 𝕄) :=
    (pointsTo_join (ℓ := (c : Thread nD τ).loc cc0_scratch3) y_disj).trans
      (Entails.of_eq (congrArg (fun S => ((c : Thread nD τ).loc cc0_scratch3 ↦[S]{fullShare} (((ySl 1).view.set : Finset S2x4x512.Idx).piecewise f1 f0) : sProp 𝕄)) y_all.symm))
  iapply h
  isplitl [H0]
  · iexact H0
  · iexact H1

/-- The device's buffers, cut as the kernel uses them. -/
def Bufs : sProp 𝕄 :=
  iprop(LdBuf c 0 ∗ LdBuf c 1 ∗ (CA c pM 0 ∗ CA c pM 1) ∗ (CY c 0 ∗ CY c 1) ∗ (CA c rM 0 ∗ CA c rM 1) ∗ (CA c aM 0 ∗ CA c aM 1))

theorem bufs_intro : (Pipeline.scopedRest cfg0.spec c : sProp 𝕄) ⊢ Bufs (F := F) c := by
  rw [show (Pipeline.scopedRest cfg0.spec c : sProp 𝕄) = _ from scopedRest0_eq c]
  unfold Bufs
  iintro ⟨⟨%f0, H0⟩, ⟨%f1, H1⟩, ⟨%f2, H2⟩, ⟨%f3, H3⟩, ⟨%f4, H4⟩, ⟨%f5, H5⟩⟩
  isplitl [H0]
  · unfold LdBuf
    iexists f0
    iapply (Entails.of_eq (whole_pts c cc0_scratch0 f0)) $$ H0
  isplitl [H1]
  · unfold LdBuf
    iexists f1
    iapply (Entails.of_eq (whole_pts c cc0_scratch1 f1)) $$ H1
  isplitl [H2]
  · iapply ((Entails.of_eq (whole_pts c cc0_scratch2 f2)).trans (buf_split c pM f2)) $$ H2
  isplitl [H3]
  · iapply (y_split c f3) $$ H3
  isplitl [H4]
  · iapply ((Entails.of_eq (whole_pts c cc0_scratch4 f4)).trans (buf_split c rM f4)) $$ H4
  · iapply ((Entails.of_eq (whole_pts c cc0_scratch5 f5)).trans (buf_split c aM f5)) $$ H5

theorem whole_ex (b : Ref sig .tc) :
    (iprop(∃ f, (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  iintro ⟨%f, H⟩
  iexists f
  iapply (Entails.of_eq (whole_pts c b f).symm) $$ H

include m in
theorem bufs_elim : Bufs (F := F) c ⊢ (Pipeline.scopedRest cfg0.spec c : sProp 𝕄) := by
  rw [show (Pipeline.scopedRest cfg0.spec c : sProp 𝕄) = _ from scopedRest0_eq c]
  unfold Bufs LdBuf
  iintro ⟨H0, H1, H2, H3, H4, H5⟩
  isplitl [H0]
  · iapply (whole_ex c cc0_scratch0) $$ H0
  isplitl [H1]
  · iapply (whole_ex c cc0_scratch1) $$ H1
  isplitl [H2]
  · iapply ((buf_join m c pM).trans (whole_ex c cc0_scratch2)) $$ H2
  isplitl [H3]
  · iapply (y_join c) $$ H3
  isplitl [H4]
  · iapply ((buf_join m c rM).trans (whole_ex c cc0_scratch4)) $$ H4
  · iapply ((buf_join m c aM).trans (whole_ex c cc0_scratch5)) $$ H5

/-- The device's weights. -/
def Wts : sProp 𝕄 := iprop(LdSrc m c 0 0 ∗ LdSrc m c 1 0 ∗ LdSrc m c 0 1 ∗ LdSrc m c 1 1 ∗ LdSrc m c 0 2 ∗ LdSrc m c 1 2)

theorem wts_eq : (Pipeline.unscopedRest cfg0.spec c (fun b => m ((c : Thread nD τ).loc b)) : sProp 𝕄) = Wts m c :=
  (unscopedRest0_eq c _).trans rfl

/-! ### Opening -/

/-- All cells have begun. -/
def Rch : sProp 𝕄 := bigSep Finset.univ fun x : Dev nD × Fin 99 => reached ER (kcell x) 0
instance : Persistent (Rch (F := F)) := by unfold Rch; infer_instance

theorem rch_at (x : CI) : Rch (F := F) ⊢ reached ER (ciCell c x) 0 := by
  rw [← kcell_ci c x]
  exact bigSep_elim (Finset.mem_univ (c, ciNum x))
theorem rch_x (a : Fin 3) (ck : Fin 2) (q : Dev nD) : Rch (F := F) ⊢ reached ER (xC c a ck q) 0 := rch_at c (.inr (.inl (a, ck, q)))

theorem idle_intro (ck : Fin 2) : iprop(Rch ∗ GG c fun q => atPos ER (xC c 0 ck q) 0 ∅ 0) ⊢ GG (F := F) c (Idle c 0 ck) :=
  with_ctx fun q _ => by
    iintro ⟨#H, G⟩
    ihave R := (rch_x c 0 ck q) $$ H
    unfold Idle
    isplitl [G]
    · iexact G
    · iexact R
theorem own_intro (ck : Fin 2) : iprop(Rch ∗ GG c (slotA (F := F) aM c ck)) ⊢ GG (F := F) c (OwnR c 0 ck) :=
  with_ctx fun q _ => by
    iintro ⟨#H, G⟩
    ihave R := (rch_x c 2 ck q) $$ H
    unfold OwnR
    isplitl [G]
    · iexact G
    · iexact R

theorem bef_intro :
    iprop(Rch ∗ (bigSep Finset.univ fun q : Dev nD => dutyTok ER (barC q) 0 c) ∗ GG c (slotA (F := F) rM c 0) ∗ GG c (slotA (F := F) rM c 1))
      ⊢ loop (AftB (F := F)) (BefB c) 0 := by
  rw [loop_zero, univ_GG c, univ_GG c (BefB c)]
  have h0 : (iprop(emp) : sProp 𝕄) ⊢ BefB (F := F) c c := by unfold BefB; rw [if_pos rfl]
  have h1 : iprop(Rch ∗ GG c fun q => iprop(dutyTok ER (barC q) 0 c ∗ slotA (F := F) rM c 0 q ∗ slotA (F := F) rM c 1 q)) ⊢ GG c (BefB c) :=
    with_ctx fun q hq => by
      unfold BefB barPay Perm
      rw [if_neg (Finset.ne_of_mem_erase hq)]
      iintro ⟨#H, G, S0, S1⟩
      ihave R0 := (rch_x c 1 0 q) $$ H
      ihave R1 := (rch_x c 1 1 q) $$ H
      ihave RB := (rch_at q (.inl ())) $$ H
      isplitl [S0 S1 R0 R1]
      · isplitl [S0 R0]
        · isplitl [S0]
          · iexact S0
          · iexact R0
        · isplitl [S1]
          · iexact S1
          · iexact R1
      isplitl [G]
      · iexact G
      · iexact RB
  rw [GG_sep, GG_sep] at h1
  iintro ⟨HR, ⟨-, HT⟩, S0, S1⟩
  isplitl []
  · iapply h0
    iempintro
  iapply h1
  isplitl [HR]
  · iexact HR
  isplitl [HT]
  · iexact HT
  isplitl [S0]
  · iexact S0
  · iexact S1

theorem sep_flip {α β : Type} [Fintype α] [Fintype β] (Φ : α → β → sProp 𝕄) :
    (bigSep Finset.univ fun a => bigSep Finset.univ fun b => Φ a b) = bigSep Finset.univ fun b => bigSep Finset.univ fun a => Φ a b :=
  Pipeline.bigSep_univ_comm Φ

theorem fut_all :
    iprop((bigSep Finset.univ fun x : Fin 5 × Fin 2 => bigSep Finset.univ fun q : Dev nD => dutyTok ER (sndC c x.2 q) x.1.val 0)
      ∗ (bigSep Finset.univ fun x : Fin 5 × Fin 2 => bigSep Finset.univ fun q : Dev nD => dutyTok ER (rcvC q x.1.val x.2 c) (x.1.val / 2) 0)
      ∗ bigSep Finset.univ fun x : Fin 5 × Fin 2 => GG c (Cr c x.1.val x.2))
      ⊢ iprop(Fut (F := F) c 0 5 ∗ Fut c 1 5) := by
  rw [← bigSep_sep', ← bigSep_sep']
  have h (x : Fin 5 × Fin 2) :
      iprop((bigSep Finset.univ fun q : Dev nD => dutyTok ER (sndC c x.2 q) x.1.val 0)
        ∗ (bigSep Finset.univ fun q : Dev nD => dutyTok ER (rcvC q x.1.val x.2 c) (x.1.val / 2) 0) ∗ GG c (Cr c x.1.val x.2))
        ⊢ iprop(GG (F := F) c (Tok c x.1.val x.2) ∗ GG c (Cr c x.1.val x.2)) := by
    unfold Tok
    rw [GG_sep, univ_GG c, univ_GG c (fun q => dutyTok ER (rcvC q x.1.val x.2 c) (x.1.val / 2) 0)]
    iintro ⟨⟨-, H1⟩, ⟨-, H2⟩, H3⟩
    isplitl [H1 H2]
    · isplitl [H1]
      · iexact H1
      · iexact H2
    · iexact H3
  refine (bigSep_mono fun x _ => h x).trans ?_
  rw [bigSep_univ_prod, sep_flip, two_sep]
  exact BI.sep_mono (fut_intro c 0) (fut_intro c 1)

/-- A device's semaphores no one pays. -/
def Selfs : sProp 𝕄 := bigSep Finset.univ fun a : Fin 3 => bigSep Finset.univ fun ck : Fin 2 => atPos ER (xC c a ck c) 0 ∅ 0

/-- The device's positions, sorted. -/
theorem pos_split :
    (bigSep Finset.univ fun k : Fin 99 => (atPos ER (kcell (c, k)) 0 ∅ 0 : sProp 𝕄))
      ⊢ iprop(atPos ER (barC c) 0 ∅ 0 ∗ Selfs c
          ∗ ((GG c fun q => atPos ER (xC c 0 0 q) 0 ∅ 0) ∗ (GG c fun q => atPos ER (xC c 0 1 q) 0 ∅ 0))
          ∗ ((GG c fun q => atPos ER (xC c 1 0 q) 0 ∅ 0) ∗ (GG c fun q => atPos ER (xC c 1 1 q) 0 ∅ 0))
          ∗ ((GG c fun q => atPos ER (xC c 2 0 q) 0 ∅ 0) ∗ (GG c fun q => atPos ER (xC c 2 1 q) 0 ∅ 0))
          ∗ atPos ER (ldC c 0) 0 ∅ 0 ∗ atPos ER (ldC c 1) 0 ∅ 0) := by
  rw [cells_split c (fun g => (atPos ER g 0 ∅ 0 : sProp 𝕄))]
  unfold Selfs
  rw [three_sep, three_sep, two_sep, two_sep, two_sep, two_sep, two_sep, two_sep]
  iintro ⟨HB, ⟨⟨⟨S00, G00⟩, ⟨S01, G01⟩⟩, ⟨⟨S10, G10⟩, ⟨S11, G11⟩⟩, ⟨⟨S20, G20⟩, ⟨S21, G21⟩⟩⟩, L0, L1⟩
  isplitl [HB]; · iexact HB
  isplitl [S00 S01 S10 S11 S20 S21]
  · isplitl [S00 S01]
    · isplitl [S00]; · iexact S00
      iexact S01
    isplitl [S10 S11]
    · isplitl [S10]; · iexact S10
      iexact S11
    isplitl [S20]; · iexact S20
    iexact S21
  isplitl [G00 G01]
  · isplitl [G00]; · iexact G00
    iexact G01
  isplitl [G10 G11]
  · isplitl [G10]; · iexact G10
    iexact G11
  isplitl [G20 G21]
  · isplitl [G20]; · iexact G20
    iexact G21
  isplitl [L0]; · iexact L0
  iexact L1

/-! ### Closing -/

/-- The device has used the semaphore of cell `g` for the last time. -/
def Done (g : GSem nD τ sig) : sProp 𝕄 := iprop(∃ r : ℕ, ⌜∀ r', r ≤ r' → (Rd m).duties g r' = ∅⌝ ∗ atPos ER g r ∅ 0)

theorem done_intro {g : GSem nD τ sig} (r : ℕ) (h : ∀ r', r ≤ r' → (Rd m).duties g r' = ∅) : (atPos ER g r ∅ 0 : sProp 𝕄) ⊢ Done m g := by
  unfold Done
  iintro H
  iexists r
  isplitr
  · ipureintro; exact h
  · iexact H

theorem done_selfs : Selfs c ⊢ bigSep Finset.univ fun a : Fin 3 => bigSep Finset.univ fun ck : Fin 2 => Done m (xC c a ck c) :=
  bigSep_mono fun a _ => bigSep_mono fun ck _ => done_intro m 0 fun r _ => duties_x_self m c a ck r

theorem done_idle (ck : Fin 2) : GG c (Idle c 5 ck) ⊢ GG c fun q => Done m (xC c 0 ck q) :=
  GG_mono c fun q _ => by
    unfold Idle
    iintro ⟨H, -⟩
    iapply (done_intro m (g := xC c 0 ck q) 5 fun r hr => duties_x_done m c 0 ck q hr) $$ H
theorem done_two (ck : Fin 2) : GG c (At c 5 ck) ⊢ GG c fun q => Done m (xC c 2 ck q) :=
  GG_mono c fun q _ => done_intro m (g := xC c 2 ck q) 2 fun r hr => duties_x_done m c 2 ck q hr
theorem done_one (ck : Fin 2) : GG c (At c (5 + 1) ck) ⊢ GG c fun q => Done m (xC c 1 ck q) :=
  GG_mono c fun q _ => done_intro m (g := xC c 1 ck q) 3 fun r hr => duties_x_done m c 1 ck q hr

/-- What is left of a chunk. -/
theorem close_chunk (ck : Fin 2) :
    iprop(Ready c 5 ck ∗ GG c (KeepO c 4 ck))
      ⊢ iprop((CA c rM ck ∗ CA c aM ck) ∗ (GG c fun q => Done m (xC c 0 ck q)) ∗ (GG c fun q => Done m (xC c 1 ck q)) ∗ (GG c fun q => Done m (xC c 2 ck q))) := by
  have hK : GG c (KeepO c 4 ck) ⊢ GG c (slotA (F := F) aM c ck) := GG_mono c fun q _ => by
    unfold KeepO OwnR
    rw [if_neg (by decide)]
    iintro ⟨H, -⟩
    iexact H
  have hO : GG c (OwnR c 5 ck) ⊢ GG c (slotA (F := F) rM c ck) := GG_mono c fun q _ => by
    unfold OwnR
    iintro ⟨H, -⟩
    iexact H
  unfold Ready CA
  rw [univ_GG c (fun q => slotA (F := F) rM c ck q), univ_GG c (fun q => slotA (F := F) aM c ck q)]
  iintro ⟨⟨HI, -, HO, SA, SR, H5, H6, -⟩, HK⟩
  ihave GI := (done_idle m c ck) $$ HI
  ihave G5 := (done_two m c ck) $$ H5
  ihave G6 := (done_one m c ck) $$ H6
  ihave GA := (hK) $$ HK
  ihave GR := (hO) $$ HO
  isplitl [SA SR GA GR]
  · isplitl [SR GR]
    · isplitl [SR]; · iexact SR
      iexact GR
    · isplitl [SA]; · iexact SA
      iexact GA
  isplitl [GI]; · iexact GI
  isplitl [G6]; · iexact G6
  iexact G5

/-- All semaphores of the device, done with. -/
theorem done_all :
    iprop(atPos ER (barC c) 1 ∅ 0 ∗ Selfs c
        ∗ ((GG c fun q => Done m (xC c 0 0 q)) ∗ (GG c fun q => Done m (xC c 1 0 q)) ∗ (GG c fun q => Done m (xC c 2 0 q)))
        ∗ ((GG c fun q => Done m (xC c 0 1 q)) ∗ (GG c fun q => Done m (xC c 1 1 q)) ∗ (GG c fun q => Done m (xC c 2 1 q)))
        ∗ atPos ER (ldC c 0) 3 ∅ 0 ∗ atPos ER (ldC c 1) 3 ∅ 0)
      ⊢ bigSep Finset.univ fun k : Fin 99 => Done m (kcell (c, k)) := by
  rw [cells_split c (Done m)]
  refine (sep_mono_right (sep_mono_left (done_selfs m c))).trans ?_
  rw [three_sep, three_sep, two_sep, two_sep, two_sep, two_sep, two_sep, two_sep]
  iintro ⟨HB, ⟨⟨S00, S01⟩, ⟨S10, S11⟩, ⟨S20, S21⟩⟩, ⟨G00, G10, G20⟩, ⟨G01, G11, G21⟩, L0, L1⟩
  isplitl [HB]
  · iapply (done_intro m (g := barC c) 1 fun r hr => duties_bar_done m c hr) $$ HB
  isplitl [S00 S01 S10 S11 S20 S21 G00 G01 G10 G11 G20 G21]
  · isplitl [S00 S01 G00 G01]
    · isplitl [S00 G00]
      · isplitl [S00]; · iexact S00
        iexact G00
      · isplitl [S01]; · iexact S01
        iexact G01
    isplitl [S10 S11 G10 G11]
    · isplitl [S10 G10]
      · isplitl [S10]; · iexact S10
        iexact G10
      · isplitl [S11]; · iexact S11
        iexact G11
    · isplitl [S20 G20]
      · isplitl [S20]; · iexact S20
        iexact G20
      · isplitl [S21]; · iexact S21
        iexact G21
  isplitl [L0]
  · iapply (done_intro m (g := ldC c 0) 3 fun r hr => duties_w_done m c 0 hr) $$ L0
  · iapply (done_intro m (g := ldC c 1) 3 fun r hr => duties_w_done m c 1 hr) $$ L1

theorem inv_cell (x : Dev nD × Fin 99) : Inv m K ⊢ cellInv ER (Rd m) (K x) (kcell x) := bigSep_elim (Finset.mem_univ x)

theorem close_all : iprop(Inv m K ∗ bigSep Finset.univ fun k : Fin 99 => Done m (kcell (c, k))) ⊢ (iprop(|={Set.univ}=> bigSep Finset.univ fun k : Fin 99 => semVal (kcell (c, k)) 0) : sProp 𝕄) :=
  (with_ctx fun k _ => by
    unfold Done
    iintro ⟨HI, %r, %h, H⟩
    iapply (Rounds.cell_close ER (Rd m) (Set.mem_univ (K (c, k))) (fun h => h) h)
    isplitl [HI]
    · iapply (inv_cell m K (c, k)) $$ HI
    · iexact H).trans (bigSep_fupd _ _)

end Cert.KernelIdeal.Mlp
-- ==== Proof.Launch.lean ====
/-
The launch: every device's run put together, the arrays at the end.
-/
module

public import proofs.«01_k».proof.Proof.Body
public import proofs.«01_k».proof.Proof.Deal
public import Idealize.ShloMosaic.Lib.Pipeline.Launch
public import Idealize.ShloMosaic.Lib.Pipeline.Kit
public import Idealize.ShloMosaic.Lib.Pipeline.Value
public import Idealize.ShloMosaic.Lib.Pipeline.CollectiveSegs
public import Idealize.ShloMosaic.Lib.Tactic

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

section Body

variable (K : Dev nD × Fin 99 → ℕ) (c : Dev nD)

/-! ### One device's run, from what the launch deals to what it takes back -/

theorem pre_intro (ck : Fin 2) :
    iprop(Rch ∗ (GG c fun q => atPos ER (xC c 0 ck q) 0 ∅ 0) ∗ (GG c fun q => atPos ER (xC c 1 ck q) 0 ∅ 0) ∗ (GG c fun q => atPos ER (xC c 2 ck q) 0 ∅ 0)
      ∗ CA c aM ck ∗ slotA rM c ck c ∗ Fut c ck 5) ⊢ Pre (F := F) c ck := by
  have h : CA (F := F) c aM ck = iprop(slotA aM c ck c ∗ GG c (fun q => slotA aM c ck q)) := univ_GG c (fun q => slotA (F := F) aM c ck q)
  rw [h]
  unfold Pre
  iintro ⟨#HR, G0, G1, G2, ⟨SA, GA⟩, SR, HF⟩
  ihave HI := (idle_intro c ck) $$ [G0]
  · isplitr; · iexact HR
    iexact G0
  ihave HO := (own_intro c ck) $$ [GA]
  · isplitr; · iexact HR
    iexact GA
  isplitl [HI]; · iexact HI
  isplitl [HO]; · iexact HO
  isplitl [SR]; · iexact SR
  isplitl [SA]; · iexact SA
  isplitl [G1]; · iexact G1
  isplitl [G2]; · iexact G2
  iexact HF

/-- What the kernel works with, besides the input and the result. -/
def Ghost : sProp 𝕄 :=
  iprop(Rch ∗ (bigSep Finset.univ fun k : Fin 99 => atPos ER (kcell (c, k)) 0 ∅ 0) ∗ payToks c
    ∗ (cred (tallyAt (barC c) 1 15) ∗ bigSep Finset.univ fun x : Fin 5 × Fin 2 => GG c (Cr c x.1.val x.2)))

set_option maxHeartbeats 1000000 in
theorem open_all {f0 : Vec F S4x1024 .f32} :
    iprop(Ctx m K ∗ Debt c 0 ∗ Ghost c ∗ Bufs c ∗ Wts m c ∗ CX m c ∗ CO c f0)
      ⊢ iprop(Ctx m K ∗ Debt c 0 ∗ loop (AftB (F := F)) (BefB c) 0 ∗ LdReady m c 1 0 ∗ LdReady m c 0 0 ∗ CX m c ∗ Pre c 0 ∗ Pre c 1 ∗ (cred (tallyAt (barC c) 1 15) ∗ atPos ER (barC c) 0 ∅ 0) ∗ CA c pM 0 ∗ LdSrc m c 0 1 ∗ dutyTok ER (ldC c 0) 1 0 ∗ CA c pM 1 ∗ LdSrc m c 1 1 ∗ dutyTok ER (ldC c 1) 1 0 ∗ CY c 0 ∗ CY c 1 ∗ LdSrc m c 0 2 ∗ dutyTok ER (ldC c 0) 2 0 ∗ LdSrc m c 1 2 ∗ dutyTok ER (ldC c 1) 2 0 ∗ CO c f0 ∗ Selfs c) := by
  have h (ck : Fin 2) : CA (F := F) c rM ck = iprop(slotA rM c ck c ∗ GG c (fun q => slotA rM c ck q)) := univ_GG c (fun q => slotA (F := F) rM c ck q)
  unfold Ghost payToks Bufs Wts
  rw [h 0, h 1, two_sep, three_sep, three_sep]
  iintro ⟨#HC, HD, ⟨#HR, HP, ⟨TB, TS, TR, ⟨T00, T01, T02⟩, ⟨T10, T11, T12⟩⟩, CB, CR⟩, ⟨B0, B1, ⟨P0, P1⟩, ⟨Y0, Y1⟩, ⟨⟨R0c, R0⟩, ⟨R1c, R1⟩⟩, A0, A1⟩, ⟨W00, W10, W01, W11, W02, W12⟩, HX, HO⟩
  ihave ⟨PB, PS, ⟨G00, G01⟩, ⟨G10, G11⟩, ⟨G20, G21⟩, L0, L1⟩ := (pos_split c) $$ HP
  ihave ⟨F0, F1⟩ := (fut_all c) $$ [TS TR CR]
  · isplitl [TS]; · iexact TS
    isplitl [TR]; · iexact TR
    iexact CR
  ihave HB := (bef_intro c) $$ [TB R0 R1]
  · isplitr; · iexact HR
    isplitl [TB]; · iexact TB
    isplitl [R0]; · iexact R0
    iexact R1
  ihave HP0 := (pre_intro c 0) $$ [G00 G10 G20 A0 R0c F0]
  · isplitr; · iexact HR
    isplitl [G00]; · iexact G00
    isplitl [G10]; · iexact G10
    isplitl [G20]; · iexact G20
    isplitl [A0]; · iexact A0
    isplitl [R0c]; · iexact R0c
    iexact F0
  ihave HP1 := (pre_intro c 1) $$ [G01 G11 G21 A1 R1c F1]
  · isplitr; · iexact HR
    isplitl [G01]; · iexact G01
    isplitl [G11]; · iexact G11
    isplitl [G21]; · iexact G21
    isplitl [A1]; · iexact A1
    isplitl [R1c]; · iexact R1c
    iexact F1
  ihave RL0 := (rch_at c (.inr (.inr 0))) $$ HR
  ihave RL1 := (rch_at c (.inr (.inr 1))) $$ HR
  isplitr; · iexact HC
  isplitl [HD]; · iexact HD
  isplitl [HB]; · iexact HB
  isplitl [B1 L1 RL1 W10 T10]
  · unfold LdReady LdAt
    isplitl [B1]; · iexact B1
    isplitl [L1 RL1]
    · isplitl [L1]; · iexact L1
      iexact RL1
    isplitl [W10]; · iexact W10
    iexact T10
  isplitl [B0 L0 RL0 W00 T00]
  · unfold LdReady LdAt
    isplitl [B0]; · iexact B0
    isplitl [L0 RL0]
    · isplitl [L0]; · iexact L0
      iexact RL0
    isplitl [W00]; · iexact W00
    iexact T00
  isplitl [HX]; · iexact HX
  isplitl [HP0]; · iexact HP0
  isplitl [HP1]; · iexact HP1
  isplitl [CB PB]
  · isplitl [CB]; · iexact CB
    iexact PB
  isplitl [P0]; · iexact P0
  isplitl [W01]; · iexact W01
  isplitl [T01]; · iexact T01
  isplitl [P1]; · iexact P1
  isplitl [W11]; · iexact W11
  isplitl [T11]; · iexact T11
  isplitl [Y0]; · iexact Y0
  isplitl [Y1]; · iexact Y1
  isplitl [W02]; · iexact W02
  isplitl [T02]; · iexact T02
  isplitl [W12]; · iexact W12
  isplitl [T12]; · iexact T12
  isplitl [HO]; · iexact HO
  iexact PS

/-- What the device has at the end. -/
def Fin1 : sProp 𝕄 := iprop((bigSep Finset.univ fun k : Fin 99 => semVal (kcell (c, k)) 0) ∗ Bufs c ∗ Wts m c)

theorem out_all (f0 : Vec F S4x1024 .f32) :
    (oM.access (oRect 1)).write (Elt F) ((oM.access (oRect 0)).write (Elt F) f0 (outV m c 0) Finset.univ) (outV m c 1) Finset.univ = resV m c := by
  funext i
  have hb : (i 1).val < 1024 := (i 1).isLt
  have he (ck : Fin 2) (h : (i 1).val / 512 = ck.val) :
      (oM.access (oRect ck)).emb (fun a : Fin 2 => match a with | ⟨0, _⟩ => (i 0 : Fin 4) | ⟨1, _⟩ => (⟨(i 1).val % 512, Nat.mod_lt _ (by decide)⟩ : Fin 512)) = i := by
    show (oRect ck).emb _ = i
    funext a
    apply Fin.ext
    rw [Rect.emb_apply]
    match a with
    | ⟨0, _⟩ => show 0 + 1 * (i 0).val = (i 0).val; omega
    | ⟨1, _⟩ => show 512 * ck.val + 1 * ((i 1).val % 512) = (i 1).val; omega
  unfold resV
  by_cases h : (i 1).val < 512
  · rw [if_pos h, View.write_of_not_mem]
    · conv_lhs => rw [← he 0 (by show _ = 0; omega)]
      exact View.write_emb_of_mem _ _ (Finset.mem_univ _)
    · rintro hm
      obtain ⟨z, -, hz⟩ := Finset.mem_map.1 hm
      have e := congrArg (fun j : S4x1024.Idx => (j 1).val) hz
      change 512 * 1 + 1 * (z 1).val = (i 1).val at e
      omega
  · rw [if_neg h]
    conv_lhs => rw [← he 1 (by show _ = 1; omega)]
    exact View.write_emb_of_mem _ _ (Finset.mem_univ _)

set_option maxHeartbeats 1000000 in
theorem shut_all {f1 : Vec F S4x1024 .f32} (hf : f1 = resV m c) :
    iprop(Ctx m K ∗ Debt c (nOf 4 1 16) ∗ CA c pM 1 ∗ Ready c 5 1 ∗ GG c (KeepO c 4 1) ∗ CA c pM 0 ∗ Ready c 5 0 ∗ GG c (KeepO c 4 0) ∗ CO c f1 ∗ CY c 1 ∗ CY c 0 ∗ LdIn m c 1 2 ∗ LdIn m c 0 2 ∗ LdSrc m c 1 1 ∗ LdSrc m c 0 1 ∗ LdSrc m c 1 0 ∗ LdSrc m c 0 0 ∗ CX m c ∗ atPos ER (barC c) 1 ∅ 0 ∗ loop (AftB (F := F)) (BefB c) 16 ∗ Selfs c)
      ⊢ (iprop(|={Set.univ}=> (Fin1 m c ∗ Debt c 176 ∗ CX m c ∗ CO c (resV m c))) : sProp 𝕄) := by
  subst hf
  unfold Ctx
  iintro ⟨⟨#HC, -⟩, HD, P1, R1, K1, P0, R0, K0, HO, Y1, Y0, I1, I0, W11, W01, W10, W00, HX, HB, -, HS⟩
  ihave ⟨⟨CR0, CA0⟩, D0⟩ := (close_chunk m c 0) $$ [R0 K0]
  · isplitl [R0]; · iexact R0
    iexact K0
  ihave ⟨⟨CR1, CA1⟩, D1⟩ := (close_chunk m c 1) $$ [R1 K1]
  · isplitl [R1]; · iexact R1
    iexact K1
  have hW (b : Ref sig .tc) (f : Buf (Elt F) ((c : Thread nD τ).loc b)) :
      (((c : Thread nD τ).loc b ↦{fullShare} f) : sProp 𝕄) ⊢ iprop(∃ f, (Memref.whole b).view.loc (c : Thread nD τ) ↦[(Memref.whole b).view.set]{fullShare} f) := by
    iintro H
    iexists f
    rw [View.set_whole]
    iexact H
  have hB (i : Fin 2) : LdPts m c i 2 ⊢ LdBuf c i := by
    match i with
    | 0 => exact hW cc0_scratch0 _
    | 1 => exact hW cc0_scratch1 _
  have hI (i : Fin 2) : LdIn m c i 2 ⊢ iprop(LdBuf c i ∗ LdSrc m c i 2 ∗ atPos ER (ldC c i) 3 ∅ 0) := by
    unfold LdIn LdAt
    iintro ⟨H1, H2, H3, -⟩
    isplitl [H1]
    · iapply (hB i) $$ H1
    isplitl [H2]; · iexact H2
    iexact H3
  ihave ⟨B0, W02, L0⟩ := (hI 0) $$ I0
  ihave ⟨B1, W12, L1⟩ := (hI 1) $$ I1
  ihave HA := (done_all m c) $$ [HB HS D0 D1 L0 L1]
  · isplitl [HB]; · iexact HB
    isplitl [HS]; · iexact HS
    isplitl [D0]; · iexact D0
    isplitl [D1]; · iexact D1
    isplitl [L0]; · iexact L0
    iexact L1
  imod (close_all m K c) $$ [HA] with HZ
  · isplitr; · iexact HC
    iexact HA
  imodintro
  unfold Fin1 Bufs Wts
  isplitr [HD HX HO]
  · isplitl [HZ]; · iexact HZ
    isplitl [B0 B1 P0 P1 Y0 Y1 CR0 CR1 CA0 CA1]
    · isplitl [B0]; · iexact B0
      isplitl [B1]; · iexact B1
      isplitl [P0 P1]
      · isplitl [P0]; · iexact P0
        iexact P1
      isplitl [Y0 Y1]
      · isplitl [Y0]; · iexact Y0
        iexact Y1
      isplitl [CR0 CR1]
      · isplitl [CR0]; · iexact CR0
        iexact CR1
      isplitl [CA0]; · iexact CA0
      iexact CA1
    isplitl [W00]; · iexact W00
    isplitl [W10]; · iexact W10
    isplitl [W01]; · iexact W01
    isplitl [W11]; · iexact W11
    isplitl [W02]; · iexact W02
    iexact W12
  isplitl [HD]; · iexact HD
  isplitl [HX]; · iexact HX
  iexact HO

theorem sound_body (f0 : Vec F S4x1024 .f32) {Q : PUnit → sProp 𝕄}
    (H : iprop(Fin1 m c ∗ Debt c 176 ∗ CX m c ∗ CO c (resV m c)) ⊢ Q ⟨⟩) :
    iprop(Ctx m K ∗ Debt c 0 ∗ Ghost c ∗ Bufs c ∗ Wts m c ∗ CX m c ∗ CO c f0)
      ⊢ WP c (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9) Q :=
  ((open_all m K c).trans (run_all m K c f0 (Q := fun a => iprop(|={Set.univ}=> Q a)) ((shut_all m K c (out_all m c f0)).trans (BI.fupd_mono H)))).trans
    (wp_fupd frame (wpE (defs₀ (F := F)) 𝒱₀ (c : Thread nD τ) none) Set.univ _ _)

end Body

/-! ### The launch's data -/

/-- What device `c` has of the shared state. -/
def G' (c : Dev nD) : sProp 𝕄 :=
  iprop(∃ K, Inv m K ∗ Rch ∗ (bigSep Finset.univ fun k : Fin 99 => atPos ER (kcell (c, k)) 0 ∅ 0) ∗ payToks c)
def G (c : Dev nD) : sProp 𝕄 :=
  iprop((bigSep Finset.univ fun k : Fin 99 => roundState ER (Rd m) (kcell (c, k)) 0)
    ∗ (bigSep Finset.univ fun k : Fin 99 => iprop(atPos ER (kcell (c, k)) 0 ∅ 0 ∗ reached ER (kcell (c, k)) 0)) ∗ payToks c)
def start (c : Dev nD) : sProp 𝕄 := iprop((∃ K, Ctx m K ∗ Ghost c) ∗ Wts m c)
def Φ₀ (c : Dev nD) : sProp 𝕄 := iprop(start m c ∗ Bufs c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xIn m c
    | ⟨1, _⟩ => resV m c
  Φ t := match t with
    | ⟨0, _⟩ => Φ₀ m c
    | ⟨_ + 1, _⟩ => Fin1 m c
  q _ := fullShare
  owed t := match t with
    | ⟨0, _⟩ => owed c 0
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The input's one block is the input. -/
theorem x_block (c : Dev nD) : ((cfg0.win 0).blk t0_0).view.read (Elt F) (m ((c : Thread nD τ).loc main_arg0)) = xIn m c := by
  funext i
  refine congrArg (m ((c : Thread nD τ).loc main_arg0)) (funext fun a => Fin.ext ?_)
  show (win0_0.rect t0_0).off a + 1 * (i a).val = (i a).val
  match a with
  | ⟨0, _⟩ => rw [show (win0_0.rect t0_0).off ⟨0, by decide⟩ = 0 by decide +kernel]; omega
  | ⟨1, _⟩ => rw [show (win0_0.rect t0_0).off ⟨1, by decide⟩ = 0 by decide +kernel]; omega

def bodyPre (c : Dev nD) : sProp 𝕄 :=
  iprop(Φ₀ m c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Fin1 m c ∗ (dats m ρ 0 c).owesAt 0 t0_0.succ ∗ stg c cc0_stg0_0 (xIn m c) ∗ stg c cc0_stg1_0 (resV m c))

theorem body_post (c : Dev nD) : iprop(Fin1 m c ∗ Debt c 176 ∗ CX m c ∗ CO c (resV m c)) ⊢ bodyPost m ρ c := by
  unfold bodyPost Debt CX CO Pipeline.Dat.owesAt Pipeline.owesWithin
  rw [owed_end, show (dats m ρ 0 c).owed t0_0.succ = 0 from rfl]
  iintro ⟨HF, ⟨%W, HO⟩, HX, HY⟩
  isplitl [HF]; · iexact HF
  isplitl [HO]
  · iexists W
    isplitr
    · ipureintro; exact fun _ _ => Or.inl trivial
    · iexact HO
  isplitl [HX]
  · iexists _; isplitr; · (ipureintro; rfl)
    iexact HX
  · iexists _; isplitr; · (ipureintro; rfl)
    iexact HY

theorem body_pre (c : Dev nD) : bodyPre m ρ c ⊢ iprop(∃ K f0, Ctx m K ∗ Debt c 0 ∗ Ghost c ∗ Bufs c ∗ Wts m c ∗ CX m c ∗ CO c f0) := by
  unfold bodyPre Φ₀ start
  iintro ⟨⟨⟨⟨%K, HC, HG⟩, HW⟩, HB⟩, Ho, ⟨%d0, %g0, %hg0, Hx⟩, ⟨%d1, %g1, %hg1, Hout⟩⟩
  have hx : g0 = xIn m c := by
    rw [hg0]; unfold Pipeline.Dat.before; rw [if_pos (fetch0_0 t0_0)]; exact x_block m c
  subst hx
  iexists K
  iexists g1
  unfold Debt Pipeline.Dat.owesAt Pipeline.owesWithin
  icases Ho with ⟨%W, %hW, HO⟩
  rw [show (dats m ρ 0 c).owed t0_0.castSucc = owed c 0 from rfl]
  isplitl [HC]; · iexact HC
  isplitl [HO]
  · iexists W
    iexact HO
  isplitl [HG]; · iexact HG
  isplitl [HB]; · iexact HB
  isplitl [HW]; · iexact HW
  unfold CX CO
  isplitl [Hx]; · iexact Hx
  iexact Hout

set_option maxRecDepth 4000 in
theorem body_obligation (c : Dev nD) : Pipeline.BodyObligation (dats (F := F) m ρ 0 c) (defs₀ (F := F)) 𝒱₀ 0 Set.univ := fun t => by
  rw [fin_N0 t]
  rw [bigSep_W0, bigSep_W0]
  simp only [owns_whole_eq]
  show bodyPre m ρ c ⊢ WP c (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wiM (Memref.isWhole_whole _) woM (Memref.isWhole_whole _) pM (Memref.isWhole_whole _) yM (Memref.isWhole_whole _) rM (Memref.isWhole_whole _) aM (Memref.isWhole_whole _) cc0_scratch6 cc0_scratch7 cc0_scratch8 cc0_scratch9) (fun _ => bodyPost m ρ c)
  refine (body_pre m ρ c).trans ?_
  iintro ⟨%K, %f0, H⟩
  iapply (sound_body m K c f0 (Q := fun _ => bodyPost m ρ c) (body_post m ρ c)) $$ H

/-! ### The launch -/

/-- The kernel's own semaphores; the barrier is the launch's. -/
def osem : Fin 98 → SemLoc sig := fun k => csem k.succ

theorem ownSemFacts : Pipeline.OwnSemFacts cfg0.spec osem := by decide

theorem share_eq (c : Dev nD) (w : Fin cfg0.W) : (dats m ρ 0 c).share w = fullShare := by unfold Pipeline.Dat.share; split <;> rfl

def u₀ : UU := (initOf (Pipeline.cells cfgs cellOf_inj) (Pipeline.launchToks cfgs cellOf_inj), initOf allCells allToks)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 99 => Φ (kcell (c, k)) := by
    unfold allCells; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_split) $$ Htok
  unfold G; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems_eq (c : Dev nD) :
    (bigSep Finset.univ fun k : Fin 99 => semVal (kcell (c, k)) 0 : sProp 𝕄)
      = iprop(unscopedSems0 c ∗ Pipeline.ownSems0 (Ix := ℕ) (Name := ℕ) (U := UU) (Lvl := ℕ) (Val := Elt F) (τ := τ) osem c) := by
  rw [unscopedSems0_eq, Fin.univ_succ, Finset.cons_eq_insert, bigSep_insert (by simp), bigSep_map]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ payToks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 99 => semVal (kcell (c, k)) 0) ∗ bigSep Finset.univ fun k : Fin 99 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 99 → ℕ) (c : Dev nD) :
    iprop((Inv m K ∗ Rch) ∗ (bigSep Finset.univ fun k : Fin 99 => atPos ER (kcell (c, k)) 0 ∅ 0) ∗ payToks c) ⊢ G' m c := by
  unfold G'
  iintro ⟨⟨HI, HR⟩, HA, HT⟩
  iexists K
  isplitl [HI]; · iexact HI
  isplitl [HR]; · iexact HR
  isplitl [HA]; · iexact HA
  iexact HT

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ payToks c) : sProp 𝕄)
      ⊢ bigSep Finset.univ (G' m) := by
  rw [bigSep_sep', bigSep_sep', ← bigSep_univ_prod (fun x : Dev nD × Fin 99 => iprop(∃ κ : ℕ, cellInv ER (Rd m) κ (kcell x))),
    bigSep_congr (s := Finset.univ) (fun (c : Dev nD) _ => bigSep_sep' Finset.univ (fun k : Fin 99 => (atPos ER (kcell (c, k)) 0 ∅ 0 : sProp 𝕄)) (fun k => reached ER (kcell (c, k)) 0)),
    bigSep_sep', ← bigSep_univ_prod (fun x : Dev nD × Fin 99 => (reached ER (kcell x) 0 : sProp 𝕄))]
  iintro ⟨HI, ⟨Hat, HR⟩, Htok⟩
  ihave HK := (bigSep_exists_pi Finset.univ (fun (x : Dev nD × Fin 99) (κ : ℕ) => (cellInv ER (Rd m) κ (kcell x) : sProp 𝕄))) $$ HI
  icases HK with ⟨%K, HI⟩
  iapply (with_ctx (R := iprop(Inv m K ∗ Rch)) fun c _ => ghost_intro m K c)
  isplitl [HI HR]
  · unfold Inv Rch
    isplitl [HI]; · iexact HI
    iexact HR
  · rw [bigSep_sep']
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  rw [Pipeline.unscopedRestP_none, wts_eq]
  unfold G' start Ctx Ghost
  iintro ⟨HW, Hlev, Hcr, -, %K, HI, HR, HA, HT⟩
  ihave Hc := (credit_split (F := F) c) $$ Hcr
  imodintro
  isplitl
  · isplitr [HW]
    · iexists K
      isplitl [HI Hlev]
      · isplitl [HI]; · iexact HI
        iexact Hlev
      isplitl [HR]; · iexact HR
      isplitl [HA]; · iexact HA
      isplitl [HT]; · iexact HT
      iexact Hc
    · iexact HW
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (bufs_intro c) $$ Hr

theorem phi1_exit (c : Dev nD) :
    (dats m ρ 0 c).Φ (Fin.last cfg0.N) ⊢ iprop((unscopedSems0 c ∗ Wts m c) ∗ Pipeline.ownSems0 osem c ∗ Pipeline.scopedRest cfg0.spec c) := by
  rw [show (dats m ρ 0 c).Φ (Fin.last cfg0.N) = Fin1 m c from rfl]
  unfold Fin1
  rw [sems_eq]
  iintro ⟨⟨HU, HO⟩, HB, HW⟩
  isplitl [HU HW]
  · isplitl [HU]; · iexact HU
    iexact HW
  isplitl [HO]; · iexact HO
  iapply (bufs_elim m c) $$ HB

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact may c _ 0 0 (by decide) (by decide)
    · show _ ⊢ MayWait _ _ _ 0
      rw [MayWait_zero]; iintro -; iempintro

/-! ### The run -/

/-- The weights are read off the memory at the end. -/
def wtsKept (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

theorem read_one (c : Dev nD) (b : Ref sig .tc) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  iintro ⟨Hi, HSI⟩
  icombine HSI Hi gives %h
  isplitr
  · ipureintro; exact Buf.eq_of_forall_mem_univ h
  · iexact HSI

theorem wts_read (c : Dev nD) (s' : Phys nD τ sig (Elt F)) : iprop(Wts m c ∗ SI s') ⊢ (iprop(⌜wtsKept m c s'.mem⌝ ∗ SI s') : sProp 𝕄) := by
  unfold Wts LdSrc winPts woutPts wtsKept
  dsimp only
  iintro ⟨⟨H1, H2, H3, H4, H5, H6⟩, HS⟩
  ihave ⟨%h1, HS⟩ := (read_one c main_arg1 _ s') $$ [H1 HS]
  · isplitl [H1]; · iexact H1
    iexact HS
  ihave ⟨%h2, HS⟩ := (read_one c main_arg2 _ s') $$ [H2 HS]
  · isplitl [H2]; · iexact H2
    iexact HS
  ihave ⟨%h3, HS⟩ := (read_one c main_arg3 _ s') $$ [H3 HS]
  · isplitl [H3]; · iexact H3
    iexact HS
  ihave ⟨%h4, HS⟩ := (read_one c main_arg4 _ s') $$ [H4 HS]
  · isplitl [H4]; · iexact H4
    iexact HS
  ihave ⟨%h5, HS⟩ := (read_one c main_arg5 _ s') $$ [H5 HS]
  · isplitl [H5]; · iexact H5
    iexact HS
  ihave ⟨%h6, HS⟩ := (read_one c main_arg6 _ s') $$ [H6 HS]
  · isplitl [H6]; · iexact H6
    iexact HS
  isplitr
  · ipureintro; exact ⟨h1, h2, h3, h4, h5, h6⟩
  · iexact HS

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ wtsKept m c r.2

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ Wts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ wtsKept m c s)
    (hY := fun c s' => by
      iintro ⟨⟨Hu, HW⟩, -, HSI⟩
      ihave ⟨%hw, HSI⟩ := (wts_read m c s') $$ [HW HSI]
      · isplitl [HW]; · iexact HW
        iexact HSI
      imod (Pipeline.unscopedSems0_read (X := unscopedSems0 c) (c := c) fupd_intro s') $$ [Hu HSI] with ⟨%hu, HSI⟩
      · isplitl [Hu] <;> iassumption
      imodintro
      isplitr
      · ipureintro; exact ⟨hu, hw⟩
      · iexact HSI)
    (hQ := fun _ h hs => ⟨fun c => ⟨fun w => (h c).1 w, (h c).2.2.2⟩, sem_eq_zero hs fun c => (h c).2.2.1⟩)

/-! ### The arrays at the end -/

theorem final_x (c : Dev nD) : finalA m ρ c (0 : Fin 2) = m ((c : Thread nD τ).loc main_arg0) := (dats (F := F) m ρ 0 c).arrAt_in (0 : Fin 2) rfl _

theorem out_off (a : Fin 2) : (win0_1.rect t0_0).off a = 0 := by revert a; decide +kernel
theorem out_size (a : Fin 2) : (win0_1.rect t0_0).size a = S4x1024.size a := by revert a; decide +kernel

theorem flushed_eq (c : Dev nD) (t : Fin cfg0.N) : (dats m ρ 0 c).flushed 1 t = ((cfg0.win 1).blk t).view.read (Elt F) (resV m c) := by
  obtain rfl := fin_N0 t
  funext i
  show resV m c _ = resV m c _
  refine congrArg (resV m c) (funext fun a => Fin.ext ?_)
  show (i a).val = (win0_1.rect t0_0).off a + 1 * (i a).val
  rw [out_off]
  omega

theorem cover (i : S4x1024.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  intro a
  have h1 := out_off a
  have h2 := out_size a
  have h3 := (i a).isLt
  constructor
  · exact le_of_eq_of_le h1 (Nat.zero_le _)
  · exact lt_of_lt_of_eq h3 (by rw [← h2]; exact (congrArg (· + (win0_1.rect t0_0).size a) h1 |>.trans (Nat.zero_add _)).symm)

/-- Device `c`'s result. -/
theorem final_out (c : Dev nD) : finalA m ρ c 1 = resV m c :=
  (dats m ρ 0 c).arrAt_eq_of_cover 1 (resV m c) (fun t _ => flushed_eq m ρ c t) cover

/-- The kernel ends, on every device, with its result and its arguments unchanged, and every semaphore at zero. -/
theorem run_ends : θ_run (defs (F := F)) (onTc (τ := τ) (main (F := F))) ⟨m, fun _ => 0, ρ⟩ (fun r =>
    (∀ c : Dev nD, r.2.mem ((c.tc : Thread nD τ).loc main_v1) = resV m c ∧ r.2.mem ((c.tc : Thread nD τ).loc main_arg0) = m ((c.tc : Thread nD τ).loc main_arg0) ∧ wtsKept m c r.2)
    ∧ r.2.sem = fun _ => 0) :=
  (θ_run defs _ _).mono (fun _ h => ⟨fun c => ⟨((h.1 c).1 1).trans (final_out m ρ c), ((h.1 c).1 0).trans (final_x m ρ c), (h.1 c).2⟩, h.2⟩) (run_main m ρ)

end Cert.KernelIdeal.Mlp
-- ==== Proof.Frames.lean ====
/-
The frames: each program ends with its arguments unchanged and every semaphore at zero. The kernel as printed is, definition by
definition, its idealized print read at the machine's floats, so one run serves both.
-/
module

public import proofs.«01_k».proof.Proof.Launch
public import proofs.«01_k».proof.Proof.Gen.Kernel
public import proofs.«01_k».proof.Proof.Gen.ReferenceIdeal.Run
public import Idealize.ShloMosaic.Lib.Quiescent
public import proofs.«01_k».proof.Defs

@[expose] public section

noncomputable section

namespace Cert.Frames

open Idealize.ShloMosaic Idealize.SL.Sem
open Idealize.ShloMosaic.TcCoe

section Same

variable {F : FTy → Type} [FloatOps F]

set_option maxRecDepth 10000 in
theorem table_eq : Cert.Kernel.defs₀ (F := F) = Cert.KernelIdeal.defs₀ (F := F) := by
  delta Cert.Kernel.defs₀ Cert.KernelIdeal.defs₀
  refine congrArg Defs.onTc ?_
  funext l a
  match l, a with
  | 0, (t, s) =>
    show Cert.Kernel.cc0_body (F := F) _ _ _ _ _ _ _ _ _ _ _ _ _ _ _ _ _ _ _ _ _ _ _ _ _ _ _ _ _ _ _ _
      = Cert.KernelIdeal.cc0_body (F := F) _ _ _ _ _ _ _ _ _ _ _ _ _ _ _ _ _ _ _ _ _ _ _ _ _ _ _ _ _ _ _ _
    delta Cert.Kernel.cc0_body Cert.KernelIdeal.cc0_body
    rfl

theorem defs_eq : Cert.Kernel.defs (F := F) = Cert.KernelIdeal.defs (F := F) := by
  delta Cert.Kernel.defs Cert.KernelIdeal.defs
  exact congrArg (Pipeline.defs (Cert.KernelIdeal.pcfgs (F := F))) table_eq

end Same

theorem kernelIdeal : Cert.quiescent_KernelIdeal := fun m g _ =>
  (θ_run (Cert.KernelIdeal.defs (F := Ideal)) _ _).mono (fun _ h => ⟨fun c => (h.1 c).2, h.2⟩) (Cert.KernelIdeal.Mlp.run_ends (F := Ideal) m g)

set_option maxRecDepth 10000 in
theorem kernel : Cert.quiescent_Kernel := fun m g _ => by
  rw [defs_eq]
  exact (θ_run (Cert.KernelIdeal.defs (F := Bits)) _ _).mono (fun _ h => ⟨fun c => (h.1 c).2, h.2⟩) (Cert.KernelIdeal.Mlp.run_ends (F := Bits) m g)

theorem referenceIdeal : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

end Cert.Frames
-- ==== Proof.Layer.lean ====
/-
What each pure step computes over the reals, at an index, and one whole layer: the devices' partial products, summed, are the layer's
product over all the hidden columns.
-/
module

public import proofs.«01_k».proof.Proof.Vals
public import Idealize.ShloMosaic.Lib.Pointwise
public import Idealize.ShloMosaic.PureOps.Ideal.Laws

@[expose] public section

noncomputable section

namespace Cert.KernelIdeal.Mlp

open Cert.KernelIdeal Cert.KernelIdeal.Gen
open Idealize.ShloMosaic

/-! ### The steps at an index -/

theorem hid0_apply (x0 x1 : Vec Ideal S64x512 .f32) (w : Vec Ideal S1024x2048 .f32) (r : Fin 64) (k : Fin 2048) :
    hid0 (F := Ideal) x0 x1 w (ix2 r k)
      = max ((∑ i : Fin 512, x0 (ix2 r i) * w (ix2 (⟨i.val, by omega⟩ : Fin 1024) k)) + ∑ i : Fin 512, x1 (ix2 r i) * w (ix2 (⟨512 + i.val, by omega⟩ : Fin 1024) k)) 0 := by
  pointwise [hid0, k0_pay2, k0_pay1]

theorem hidS_apply (w : Vec Ideal S1024x2048 .f32) (a0 a1 : ChunkV Ideal) (r : Fin 64) (k : Fin 2048) :
    hidS (F := Ideal) w a0 a1 (ix2 r k)
      = max ((∑ i : Fin 512, a0 (ix4 (0 : Fin 1) (⟨r.val / 4, by omega⟩ : Fin 16) (⟨r.val % 4, by omega⟩ : Fin 4) i) * w (ix2 (⟨i.val, by omega⟩ : Fin 1024) k))
          + ∑ i : Fin 512, a1 (ix4 (0 : Fin 1) (⟨r.val / 4, by omega⟩ : Fin 16) (⟨r.val % 4, by omega⟩ : Fin 4) i) * w (ix2 (⟨512 + i.val, by omega⟩ : Fin 1024) k)) 0 := by
  pointwise [hidS, k0_pay75, k0_pay73, k0_pay74]

theorem partP_apply (ck : Fin 2) (h : FVec Ideal S64x2048 .bf16) (w : Vec Ideal S2048x1024 .f32) (q : Fin 16) (s : Fin 4) (j : Fin 512) :
    partP (F := Ideal) ck h w (ix4 (0 : Fin 1) q s j)
      = ∑ k : Fin 2048, h (ix2 (⟨q.val * 4 + s.val, by omega⟩ : Fin 64) k) * w (ix2 k (⟨512 * ck.val + j.val, by omega⟩ : Fin 1024)) := by
  match ck with
  | 0 =>
    have e : (⟨512 * (0 : Fin 2).val + j.val, by omega⟩ : Fin 1024) = ⟨j.val, by omega⟩ := Fin.ext (Nat.zero_add _)
    rw [e]
    show part0 (F := Ideal) h w (ix4 (0 : Fin 1) q s j) = _
    pointwise [part0, k0_pay3]
  | 1 =>
    have e : (⟨512 * (1 : Fin 2).val + j.val, by omega⟩ : Fin 1024) = ⟨512 + j.val, by omega⟩ := rfl
    rw [e]
    show part1 (F := Ideal) h w (ix4 (0 : Fin 1) q s j) = _
    pointwise [part1, k0_pay3, k0_pay21]

theorem sumP_apply (v : ChunkV Ideal) (s : Fin 4) (j : Fin 512) : sumP (F := Ideal) v (ix3 (0 : Fin 1) s j) = ∑ q : Fin 16, v (ix4 (0 : Fin 1) q s j) := by
  pointwise [sumP, k0_pay38]

theorem outP_apply (v : ChunkV Ideal) (s : Fin 4) (j : Fin 512) : outP (F := Ideal) v (ix2 s j) = ∑ q : Fin 16, v (ix4 (0 : Fin 1) q s j) := by
  pointwise [outP, k0_pay186]

theorem tl_ix (q : Fin 16) (s : Fin 4) (j : Fin 512) : tl (ix4 (0 : Fin 1) q s j) = ix2 s j := by
  funext a; match a with
  | ⟨0, _⟩ => rfl
  | ⟨1, _⟩ => rfl

theorem mk1_ix (q : Fin 16) (s : Fin 4) (j : Fin 512) : mk1 q (ix2 s j) = ix4 (0 : Fin 1) q s j := by
  funext a; match a with
  | ⟨0, _⟩ => rfl
  | ⟨1, _⟩ => rfl
  | ⟨2, _⟩ => rfl
  | ⟨3, _⟩ => rfl

theorem cons_ix (s : Fin 4) (j : Fin 512) : (Fin.cons (α := fun i => Fin (S1x4x512.size i)) (0 : Fin 1) (ix2 s j : S4x512.Idx) : S1x4x512.Idx) = ix3 (0 : Fin 1) s j := by
  funext a; match a with
  | ⟨0, _⟩ => rfl
  | ⟨1, _⟩ => rfl
  | ⟨2, _⟩ => rfl

section Exchange

variable (h : Dev nD → FVec Ideal S64x2048 .bf16) (w : Dev nD → Vec Ideal S2048x1024 .f32)

/-- What the devices' partial products add up to, at row `r` and column `j`. -/
def total (r : Fin 64) (j : Fin 1024) : EReal := ∑ d : Fin 16, ∑ k : Fin 2048, h d (ix2 r k) * w d (ix2 k j)

theorem rsOf_apply (c : Fin 16) (ck : Fin 2) (s : Fin 4) (j : Fin 512) :
    ∑ q : Fin 16, rsOf (F := Ideal) h w c ck (ix4 (0 : Fin 1) q s j) = total h w ⟨c.val * 4 + s.val, by omega⟩ ⟨512 * ck.val + j.val, by omega⟩ := by
  refine Finset.sum_congr rfl fun q _ => ?_
  show partP ck (h q) (w q) (mk1 c (tl (ix4 (0 : Fin 1) q s j))) = _
  rw [tl_ix, mk1_ix, partP_apply]

theorem agOf_apply (ck : Fin 2) (p : Fin 16) (s : Fin 4) (j : Fin 512) :
    agOf (F := Ideal) h w ck (ix4 (0 : Fin 1) p s j) = total h w ⟨p.val * 4 + s.val, by omega⟩ ⟨512 * ck.val + j.val, by omega⟩ := by
  show sumP (rsOf h w p ck) (Fin.cons (α := fun i => Fin (S1x4x512.size i)) (0 : Fin 1) (tl (ix4 (0 : Fin 1) p s j))) = _
  rw [tl_ix, cons_ix, sumP_apply, rsOf_apply]

end Exchange

/-! ### A layer over the whole weights -/

/-- The hidden activations, and the layer's result. -/
def actR (X : S64x1024.Idx → EReal) (W : (⟨2, ![1024, 32768]⟩ : Shape).Idx → EReal) (r : Fin 64) (k : Fin 32768) : EReal :=
  max (∑ i : Fin 1024, X (ix2 r i) * W (ix2 i k)) 0
def layR (X : S64x1024.Idx → EReal) (W : (⟨2, ![1024, 32768]⟩ : Shape).Idx → EReal) (V : (⟨2, ![32768, 1024]⟩ : Shape).Idx → EReal) : S64x1024.Idx → EReal :=
  fun i => ∑ k : Fin 32768, actR X W (i 0) k * V (ix2 k (i 1))

/-- Column `k` of device `d`'s share. -/
def colOf (d : Fin 16) (k : Fin 2048) : Fin 32768 := ⟨d.val * 2048 + k.val, by omega⟩

theorem total_eq {h : Dev nD → FVec Ideal S64x2048 .bf16} {w : Dev nD → Vec Ideal S2048x1024 .f32}
    {X : S64x1024.Idx → EReal} {W : (⟨2, ![1024, 32768]⟩ : Shape).Idx → EReal} {V : (⟨2, ![32768, 1024]⟩ : Shape).Idx → EReal}
    (hh : ∀ (d : Fin 16) (r : Fin 64) (k : Fin 2048), h d (ix2 r k) = actR X W r (colOf d k))
    (hw : ∀ (d : Fin 16) (k : Fin 2048) (j : Fin 1024), w d (ix2 k j) = V (ix2 (colOf d k) j)) (r : Fin 64) (j : Fin 1024) :
    total h w r j = layR X W V (ix2 r j) := by
  show _ = ∑ k : Fin 32768, actR X W r k * V (ix2 k j)
  rw [Fin.sum_univ_tiles 16 2048 (by decide)]
  unfold total
  refine Finset.sum_congr rfl fun d _ => Finset.sum_congr rfl fun k _ => ?_
  rw [hh, hw]
  rfl

/-- The first layer's activations, from the two halves of the input. -/
theorem hid0_eq {x0 x1 : Vec Ideal S64x512 .f32} {w : Vec Ideal S1024x2048 .f32} {X : S64x1024.Idx → EReal} {W : (⟨2, ![1024, 32768]⟩ : Shape).Idx → EReal} {d : Fin 16}
    (h0 : ∀ (r : Fin 64) (i : Fin 512), x0 (ix2 r i) = X (ix2 r (⟨i.val, by omega⟩ : Fin 1024)))
    (h1 : ∀ (r : Fin 64) (i : Fin 512), x1 (ix2 r i) = X (ix2 r (⟨512 + i.val, by omega⟩ : Fin 1024)))
    (hw : ∀ (i : Fin 1024) (k : Fin 2048), w (ix2 i k) = W (ix2 i (colOf d k))) (r : Fin 64) (k : Fin 2048) :
    hid0 (F := Ideal) x0 x1 w (ix2 r k) = actR X W r (colOf d k) := by
  rw [hid0_apply]
  unfold actR
  rw [Fin.sum_univ_two_halves (N := 1024) 512 512 (by decide)]
  simp only [h0, h1, hw]

/-- A later layer's activations, from the two gathered chunks. -/
theorem hidS_eq {a0 a1 : ChunkV Ideal} {w : Vec Ideal S1024x2048 .f32} {X : S64x1024.Idx → EReal} {W : (⟨2, ![1024, 32768]⟩ : Shape).Idx → EReal} {d : Fin 16}
    (h0 : ∀ (p : Fin 16) (s : Fin 4) (i : Fin 512), a0 (ix4 (0 : Fin 1) p s i) = X (ix2 (⟨p.val * 4 + s.val, by omega⟩ : Fin 64) (⟨i.val, by omega⟩ : Fin 1024)))
    (h1 : ∀ (p : Fin 16) (s : Fin 4) (i : Fin 512), a1 (ix4 (0 : Fin 1) p s i) = X (ix2 (⟨p.val * 4 + s.val, by omega⟩ : Fin 64) (⟨512 + i.val, by omega⟩ : Fin 1024)))
    (hw : ∀ (i : Fin 1024) (k : Fin 2048), w (ix2 i k) = W (ix2 i (colOf d k))) (r : Fin 64) (k : Fin 2048) :
    hidS (F := Ideal) w a0 a1 (ix2 r k) = actR X W r (colOf d k) := by
  have hr : (⟨r.val / 4 * 4 + r.val % 4, by omega⟩ : Fin 64) = r := Fin.ext (by show r.val / 4 * 4 + r.val % 4 = r.val; omega)
  rw [hidS_apply]
  unfold actR
  rw [Fin.sum_univ_two_halves (N := 1024) 512 512 (by decide)]
  simp only [h0, h1, hw, hr]

/-! ### The whole run -/

section Run

variable (m : (ℓ : Loc nD τ sig) → Buf (Elt Ideal) ℓ)

/-- The two halves of the input are its columns. -/
theorem xHalf0_apply (c : Dev nD) (r : Fin 64) (i : Fin 512) : xHalf m c 0 (ix2 r i) = xIn m c (ix2 r (⟨i.val, by omega⟩ : Fin 1024)) := by
  refine congrArg (xIn m c) (funext fun a => Fin.ext ?_)
  match a with
  | ⟨0, _⟩ => show 0 + 1 * r.val = r.val; omega
  | ⟨1, _⟩ => show 0 + 1 * i.val = i.val; omega
theorem xHalf1_apply (c : Dev nD) (r : Fin 64) (i : Fin 512) : xHalf m c 1 (ix2 r i) = xIn m c (ix2 r (⟨512 + i.val, by omega⟩ : Fin 1024)) := by
  refine congrArg (xIn m c) (funext fun a => Fin.ext ?_)
  match a with
  | ⟨0, _⟩ => show 0 + 1 * r.val = r.val; omega
  | ⟨1, _⟩ => show 512 + 1 * i.val = 512 + i.val; omega

variable {X : S64x1024.Idx → EReal} {W : ℕ → (⟨2, ![1024, 32768]⟩ : Shape).Idx → EReal} {V : ℕ → (⟨2, ![32768, 1024]⟩ : Shape).Idx → EReal}

/-- The input of layer `l`. -/
def inR (X : S64x1024.Idx → EReal) (W : ℕ → (⟨2, ![1024, 32768]⟩ : Shape).Idx → EReal) (V : ℕ → (⟨2, ![32768, 1024]⟩ : Shape).Idx → EReal) : ℕ → S64x1024.Idx → EReal
  | 0 => X
  | l + 1 => layR (inR X W V l) (W l) (V l)

variable (hx : ∀ c : Dev nD, xIn m c = X)
  (hW : ∀ (l : ℕ) (d : Fin 16) (i : Fin 1024) (k : Fin 2048), winOf m l d (ix2 i k) = W l (ix2 i (colOf d k)))
  (hV : ∀ (l : ℕ) (d : Fin 16) (k : Fin 2048) (j : Fin 1024), woutOf m l d (ix2 k j) = V l (ix2 (colOf d k) j))

include hx hW hV

/-- Every device's activations are its share of the layer's. -/
theorem hid_eq (l : ℕ) (d : Fin 16) (r : Fin 64) (k : Fin 2048) : hid m l d (ix2 r k) = actR (inR X W V l) (W l) r (colOf d k) := by
  induction l generalizing d r k with
  | zero =>
    rw [hid_zero]
    exact hid0_eq (fun r i => by rw [xHalf0_apply, hx]; rfl) (fun r i => by rw [xHalf1_apply, hx]; rfl) (hW 0 d) r k
  | succ l ih =>
    rw [hid_succ]
    have ha (ck : Fin 2) (p : Fin 16) (s : Fin 4) (i : Fin 512) : agV m l ck (ix4 (0 : Fin 1) p s i)
        = inR X W V (l + 1) (ix2 (⟨p.val * 4 + s.val, by omega⟩ : Fin 64) (⟨512 * ck.val + i.val, by omega⟩ : Fin 1024)) :=
      (agOf_apply _ _ ck p s i).trans (total_eq ih (hV l) _ _)
    refine hidS_eq (fun p s i => (ha 0 p s i).trans ?_) (fun p s i => ha 1 p s i) (hW (l + 1) d) r k
    congr 2
    exact Fin.ext (Nat.zero_add _)

/-- Device `c`'s result is its rows of the last layer's. -/
theorem resV_apply (c : Fin 16) (s : Fin 4) (j : Fin 1024) : resV m c (ix2 s j) = inR X W V 3 (ix2 (⟨c.val * 4 + s.val, by omega⟩ : Fin 64) j) := by
  have ho (ck : Fin 2) (i : Fin 512) : outV m c ck (ix2 s i) = inR X W V 3 (ix2 (⟨c.val * 4 + s.val, by omega⟩ : Fin 64) (⟨512 * ck.val + i.val, by omega⟩ : Fin 1024)) := by
    unfold outV
    rw [outP_apply]
    exact (rsOf_apply _ _ c ck s i).trans (total_eq (hid_eq m hx hW hV 2) (hV 2) _ _)
  have he : resV m c (ix2 s j) = outV m c (if j.val < 512 then 0 else 1) (ix2 s (⟨j.val % 512, Nat.mod_lt _ (by decide)⟩ : Fin 512)) := by
    refine congrArg (outV m c (if j.val < 512 then 0 else 1)) (funext fun a => ?_)
    match a with
    | ⟨0, _⟩ => rfl
    | ⟨1, _⟩ => rfl
  rw [he, ho]
  congr 2
  apply Fin.ext
  show 512 * (if j.val < 512 then (0 : Fin 2) else 1).val + j.val % 512 = j.val
  split
  · show 512 * 0 + _ = _; omega
  · show 512 * 1 + _ = _; omega

end Run

end Cert.KernelIdeal.Mlp
-- ==== Proof.Value.lean ====
/-
The value claim: over the reals, each device ends with its rows of the reference's result.
-/
module

public import proofs.«01_k».proof.Proof.Layer
public import proofs.«01_k».proof.Proof.Launch
public import proofs.«01_k».proof.Proof.Gen.ReferenceIdeal.Run
public import proofs.«01_k».proof.Proof.Gen.ReferenceIdeal.Read
public import proofs.«01_k».proof.Defs

@[expose] public section

noncomputable section

namespace Cert.Value

open Idealize.ShloMosaic Idealize.SL.Sem
open Idealize.ShloMosaic.TcCoe
open Cert.KernelIdeal.Mlp (layR inR actR colOf)

/-! ### The reference, a layer at a time -/

section Ref

open Cert.ReferenceIdeal Cert.ReferenceIdeal.Gen Cert.ReferenceIdeal.Read

variable (x0 : (⟨S64x1024, .f32⟩ : BufTy).Contents (Elt Ideal)) (x1 x3 x5 : (⟨S1024x32768, .f32⟩ : BufTy).Contents (Elt Ideal))
  (x2 x4 x6 : (⟨S32768x1024, .f32⟩ : BufTy).Contents (Elt Ideal))

theorem ref1 : val_main_v3 (F := Ideal) x0 x1 x2 = layR x0 x1 x2 := by
  funext i
  pointwise [val_main_v3, val_main_v2, val_main_v1, val_main_cst, val_main_v0, layR, actR]
theorem ref2 : val_main_v7 (F := Ideal) x0 x1 x2 x3 x4 = layR (val_main_v3 (F := Ideal) x0 x1 x2) x3 x4 := by
  funext i
  pointwise [val_main_v7, val_main_v6, val_main_v5, val_main_cst_0, val_main_v4, layR, actR]
theorem ref3 : val_main_v11 (F := Ideal) x0 x1 x2 x3 x4 x5 x6 = layR (val_main_v7 (F := Ideal) x0 x1 x2 x3 x4) x5 x6 := by
  funext i
  pointwise [val_main_v11, val_main_v10, val_main_v9, val_main_cst_1, val_main_v8, layR, actR]

end Ref

/-! ### The two runs -/

section Match

variable (m' : (ℓ : Loc Cert.ReferenceIdeal.nD Cert.ReferenceIdeal.τ Cert.ReferenceIdeal.sig) → Buf (Elt Ideal) ℓ)

/-- The reference's weights, layer by layer. -/
def winR (l : ℕ) : (⟨2, ![1024, 32768]⟩ : Shape).Idx → EReal :=
  match l with
  | 0 => m' (((0 : Dev Cert.ReferenceIdeal.nD).tc : Thread Cert.ReferenceIdeal.nD Cert.ReferenceIdeal.τ).loc Cert.ReferenceIdeal.main_arg1)
  | 1 => m' (((0 : Dev Cert.ReferenceIdeal.nD).tc : Thread Cert.ReferenceIdeal.nD Cert.ReferenceIdeal.τ).loc Cert.ReferenceIdeal.main_arg3)
  | _ => m' (((0 : Dev Cert.ReferenceIdeal.nD).tc : Thread Cert.ReferenceIdeal.nD Cert.ReferenceIdeal.τ).loc Cert.ReferenceIdeal.main_arg5)
def woutR (l : ℕ) : (⟨2, ![32768, 1024]⟩ : Shape).Idx → EReal :=
  match l with
  | 0 => m' (((0 : Dev Cert.ReferenceIdeal.nD).tc : Thread Cert.ReferenceIdeal.nD Cert.ReferenceIdeal.τ).loc Cert.ReferenceIdeal.main_arg2)
  | 1 => m' (((0 : Dev Cert.ReferenceIdeal.nD).tc : Thread Cert.ReferenceIdeal.nD Cert.ReferenceIdeal.τ).loc Cert.ReferenceIdeal.main_arg4)
  | _ => m' (((0 : Dev Cert.ReferenceIdeal.nD).tc : Thread Cert.ReferenceIdeal.nD Cert.ReferenceIdeal.τ).loc Cert.ReferenceIdeal.main_arg6)

/-- The reference's result. -/
def outR : Cert.ReferenceIdeal.S64x1024.Idx → EReal :=
  inR (m' (((0 : Dev Cert.ReferenceIdeal.nD).tc : Thread Cert.ReferenceIdeal.nD Cert.ReferenceIdeal.τ).loc Cert.ReferenceIdeal.main_arg0)) (winR m') (woutR m') 3

theorem cols_apply (c : Fin 16) (f : (⟨2, ![1024, 32768]⟩ : Shape).Idx → EReal) (i : Fin 1024) (k : Fin 2048) :
    Layout.block ⟨2, ![1024, 2048]⟩ ⟨2, ![1024, 32768]⟩ 1 16 c f (by decide) (ix2 i k) = f (ix2 i (colOf c k)) := by
  rw [Layout.block_apply]
  refine congrArg f (funext fun a => Fin.ext ?_)
  match a with
  | ⟨0, _⟩ => rfl
  | ⟨1, _⟩ => rfl

theorem rows_apply (c : Fin 16) (f : (⟨2, ![32768, 1024]⟩ : Shape).Idx → EReal) (k : Fin 2048) (j : Fin 1024) :
    Layout.block ⟨2, ![2048, 1024]⟩ ⟨2, ![32768, 1024]⟩ 0 16 c f (by decide) (ix2 k j) = f (ix2 (colOf c k) j) := by
  rw [Layout.block_apply]
  refine congrArg f (funext fun a => Fin.ext ?_)
  match a with
  | ⟨0, _⟩ => rfl
  | ⟨1, _⟩ => rfl

theorem out_apply (c : Fin 16) (f : (⟨2, ![64, 1024]⟩ : Shape).Idx → EReal) (s : Fin 4) (j : Fin 1024) :
    Layout.block ⟨2, ![4, 1024]⟩ ⟨2, ![64, 1024]⟩ 0 16 c f (by decide) (ix2 s j) = f (ix2 (⟨c.val * 4 + s.val, by omega⟩ : Fin 64) j) := by
  rw [Layout.block_apply]
  refine congrArg f (funext fun a => Fin.ext ?_)
  match a with
  | ⟨0, _⟩ => rfl
  | ⟨1, _⟩ => rfl

end Match

theorem algebraic : Cert.algebraic_KernelIdeal_ReferenceIdeal := by
  intro m g m' g' _ hm
  refine ⟨outR m', ?_, ?_⟩
  · refine (θ_run (Cert.KernelIdeal.defs (F := Ideal)) _ _).mono (fun r h c => ?_) (Cert.KernelIdeal.Mlp.run_ends (F := Ideal) m g)
    obtain ⟨h1, h0, hw⟩ := h.1 c
    refine ⟨h1.trans ?_, h0, hw⟩
    have hx : ∀ c : Dev Cert.KernelIdeal.nD, Cert.KernelIdeal.Mlp.xIn m c = m' (((0 : Dev Cert.ReferenceIdeal.nD).tc : Thread Cert.ReferenceIdeal.nD Cert.ReferenceIdeal.τ).loc Cert.ReferenceIdeal.main_arg0) := fun c => (hm c).1
    have hW (l : ℕ) (d : Fin 16) (i : Fin 1024) (k : Fin 2048) : Cert.KernelIdeal.Mlp.winOf m l d (ix2 i k) = winR m' l (ix2 i (colOf d k)) := by
      obtain ⟨-, e1, e2, e3, e4, e5, e6⟩ := hm d
      match l with
      | 0 => exact (congrFun e1 _).trans (cols_apply d _ i k)
      | 1 => exact (congrFun e3 _).trans (cols_apply d _ i k)
      | _ + 2 => exact (congrFun e5 _).trans (cols_apply d _ i k)
    have hV (l : ℕ) (d : Fin 16) (k : Fin 2048) (j : Fin 1024) : Cert.KernelIdeal.Mlp.woutOf m l d (ix2 k j) = woutR m' l (ix2 (colOf d k) j) := by
      obtain ⟨-, e1, e2, e3, e4, e5, e6⟩ := hm d
      match l with
      | 0 => exact (congrFun e2 _).trans (rows_apply d _ k j)
      | 1 => exact (congrFun e4 _).trans (rows_apply d _ k j)
      | _ + 2 => exact (congrFun e6 _).trans (rows_apply d _ k j)
    funext i
    have hi : i = ix2 (i 0 : Fin 4) (i 1 : Fin 1024) := by
      funext a
      match a with
      | ⟨0, _⟩ => rfl
      | ⟨1, _⟩ => rfl
    rw [hi]
    exact (Cert.KernelIdeal.Mlp.resV_apply m hx hW hV c (i 0) (i 1)).trans (out_apply c (outR m') (i 0) (i 1)).symm
  · refine (θ_run (Cert.ReferenceIdeal.defs (F := Ideal)) _ _).mono (fun r h => ?_) (Cert.ReferenceIdeal.Value.run (F := Ideal) m' g')
    obtain ⟨h1, h2⟩ := h 0
    refine ⟨h1.trans ?_, h2⟩
    refine (Cert.ReferenceIdeal.Read.val_main_v11_eq (F := Ideal) _ _ _ _ _ _ _).trans ?_
    rw [ref3, ref2, ref1]
    rfl

end Cert.Value
-- ==== Proof.lean ====
module

public import proofs.«01_k».proof.Proof.Frames
public import proofs.«01_k».proof.Proof.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Frames.kernel, Cert.Frames.kernelIdeal, Cert.Frames.referenceIdeal, trivial,
    Cert.Value.algebraic⟩

end Cert.Proof

end
